-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_routable [hPre_routable : Cert.Pre_routable.Facts] (m : (ℓ : Loc Cert.RouteIdeal.nD Cert.RouteIdeal.τ Cert.RouteIdeal.sig) → Buf (Elt Ideal) ℓ) : Prop :=
  ∀ c : Dev Cert.RouteIdeal.nD,
    (Cert.Pre_routable.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_routable [hPre_routable : Cert.Pre_routable.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_routable.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteIdeal_pre_routable [hRouteIdeal : Cert.RouteIdeal.Facts] [hPre_routable : Cert.Pre_routable.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_routable m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_RouteRefIdeal_pre_routable [hRouteRefIdeal : Cert.RouteRefIdeal.Facts] [hPre_routable : Cert.Pre_routable.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_routable m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m ((c.tc : Thread Cert.FfnIdeal.nD Cert.FfnIdeal.τ).loc Cert.FfnIdeal.main_arg0) = Layout.block ⟨4, ![2, 4, 384, 2048]⟩ ⟨4, ![16, 4, 384, 2048]⟩ 0 8 c (m' (((0 : Dev Cert.FfnRefIdeal.nD).tc : Thread Cert.FfnRefIdeal.nD Cert.FfnRefIdeal.τ).loc Cert.FfnRefIdeal.main_arg0))
      ∧ m ((c.tc : Thread Cert.FfnIdeal.nD Cert.FfnIdeal.τ).loc Cert.FfnIdeal.main_arg1) = Layout.blockN ⟨3, ![4, 2048, 4096]⟩ ⟨3, ![8, 2048, 4096]⟩ (Layout.meshBlock [2, 2, 2] ![[2], [], []] c) (m' (((0 : Dev Cert.FfnRefIdeal.nD).tc : Thread Cert.FfnRefIdeal.nD Cert.FfnRefIdeal.τ).loc Cert.FfnRefIdeal.main_arg1))
      ∧ m ((c.tc : Thread Cert.FfnIdeal.nD Cert.FfnIdeal.τ).loc Cert.FfnIdeal.main_arg2) = Layout.blockN ⟨3, ![4, 4096, 2048]⟩ ⟨3, ![8, 4096, 2048]⟩ (Layout.meshBlock [2, 2, 2] ![[2], [], []] c) (m' (((0 : Dev Cert.FfnRefIdeal.nD).tc : Thread Cert.FfnRefIdeal.nD Cert.FfnRefIdeal.τ).loc Cert.FfnRefIdeal.main_arg2))) →
    ∃ (v0 : Buf (Elt Ideal) (((0 : Dev Cert.FfnRefIdeal.nD).tc : Thread Cert.FfnRefIdeal.nD Cert.FfnRefIdeal.τ).loc Cert.FfnRefIdeal.main_v21)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1_0) = Layout.block ⟨4, ![2, 4, 384, 2048]⟩ ⟨4, ![16, 4, 384, 2048]⟩ 0 8 c v0
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r =>
          r.2.mem (((0 : Dev Cert.FfnRefIdeal.nD).tc : Thread Cert.FfnRefIdeal.nD Cert.FfnRefIdeal.τ).loc Cert.FfnRefIdeal.main_v21) = v0
          ∧ r.2.mem (((0 : Dev Cert.FfnRefIdeal.nD).tc : Thread Cert.FfnRefIdeal.nD Cert.FfnRefIdeal.τ).loc Cert.FfnRefIdeal.main_arg0) = m' (((0 : Dev Cert.FfnRefIdeal.nD).tc : Thread Cert.FfnRefIdeal.nD Cert.FfnRefIdeal.τ).loc Cert.FfnRefIdeal.main_arg0)
          ∧ r.2.mem (((0 : Dev Cert.FfnRefIdeal.nD).tc : Thread Cert.FfnRefIdeal.nD Cert.FfnRefIdeal.τ).loc Cert.FfnRefIdeal.main_arg1) = m' (((0 : Dev Cert.FfnRefIdeal.nD).tc : Thread Cert.FfnRefIdeal.nD Cert.FfnRefIdeal.τ).loc Cert.FfnRefIdeal.main_arg1)
          ∧ r.2.mem (((0 : Dev Cert.FfnRefIdeal.nD).tc : Thread Cert.FfnRefIdeal.nD Cert.FfnRefIdeal.τ).loc Cert.FfnRefIdeal.main_arg2) = m' (((0 : Dev Cert.FfnRefIdeal.nD).tc : Thread Cert.FfnRefIdeal.nD Cert.FfnRefIdeal.τ).loc Cert.FfnRefIdeal.main_arg2))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.block ⟨2, ![1536, 2048]⟩ ⟨2, ![12288, 2048]⟩ 0 8 c (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.block ⟨2, ![1, 2048]⟩ ⟨2, ![8, 2048]⟩ 0 8 c (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.block ⟨2, ![2048, 2048]⟩ ⟨2, ![16384, 2048]⟩ 0 8 c (m' (((0 : Dev Cert.GatherRefIdeal.nD).tc : Thread Cert.GatherRefIdeal.nD Cert.GatherRefIdeal.τ).loc Cert.GatherRefIdeal.main_arg2))) →
    ∃ (v0 : Buf (Elt Ideal) (((0 : Dev Cert.GatherRefIdeal.nD).tc : Thread Cert.GatherRefIdeal.nD Cert.GatherRefIdeal.τ).loc Cert.GatherRefIdeal.main_v24)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = Layout.block ⟨2, ![4096, 2048]⟩ ⟨2, ![32768, 2048]⟩ 0 8 c v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v24) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![2, 1536, 2048]⟩ ⟨3, ![16, 1536, 2048]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨2, ![1, 2048]⟩ ⟨2, ![8, 2048]⟩ 0 8 c (m' (((0 : Dev Cert.SwapRefIdeal.nD).tc : Thread Cert.SwapRefIdeal.nD Cert.SwapRefIdeal.τ).loc Cert.SwapRefIdeal.main_arg1))) →
    ∃ (v0 : Buf (Elt Ideal) (((0 : Dev Cert.SwapRefIdeal.nD).tc : Thread Cert.SwapRefIdeal.nD Cert.SwapRefIdeal.τ).loc Cert.SwapRefIdeal.main_v14)) (v1 : Buf (Elt Ideal) (((0 : Dev Cert.SwapRefIdeal.nD).tc : Thread Cert.SwapRefIdeal.nD Cert.SwapRefIdeal.τ).loc Cert.SwapRefIdeal.main_v18)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨2, ![2048, 2048]⟩ ⟨2, ![16384, 2048]⟩ 0 8 c v0
          ∧ r.2.mem ((c.tc : Thread Cert.SwapIdeal.nD Cert.SwapIdeal.τ).loc Cert.SwapIdeal.main_v1_1) = Layout.block ⟨2, ![1536, 2048]⟩ ⟨2, ![12288, 2048]⟩ 0 8 c v1
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v14) = v0
          ∧ r.2.mem (((0 : Dev Cert.SwapRefIdeal.nD).tc : Thread Cert.SwapRefIdeal.nD Cert.SwapRefIdeal.τ).loc Cert.SwapRefIdeal.main_v18) = v1
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v15) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1))

def preserves_Route_RouteIdeal : Prop :=
  True

def algebraic_RouteIdeal_RouteRefIdeal_pre_routable [hRouteIdeal : Cert.RouteIdeal.Facts] [hRouteRefIdeal : Cert.RouteRefIdeal.Facts] [hPre_routable : Cert.Pre_routable.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_routable m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v53)) (v1 : (c : Dev Cert.RouteIdeal.nD) → Buf (Elt Ideal) ((c.tc : Thread Cert.RouteIdeal.nD Cert.RouteIdeal.τ).loc Cert.RouteIdeal.main_v38)) (v2 : (c : Dev Cert.RouteIdeal.nD) → Buf (Elt Ideal) ((c.tc : Thread Cert.RouteIdeal.nD Cert.RouteIdeal.τ).loc Cert.RouteIdeal.main_v44)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v53) = v0 c
          ∧ r.2.mem ((c.tc : Thread Cert.RouteIdeal.nD Cert.RouteIdeal.τ).loc Cert.RouteIdeal.main_v38) = v1 c
          ∧ r.2.mem ((c.tc : Thread Cert.RouteIdeal.nD Cert.RouteIdeal.τ).loc Cert.RouteIdeal.main_v44) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v54) = v0 c
          ∧ r.2.mem ((c.tc : Thread Cert.RouteRefIdeal.nD Cert.RouteRefIdeal.τ).loc Cert.RouteRefIdeal.main_v55) = v1 c
          ∧ r.2.mem ((c.tc : Thread Cert.RouteRefIdeal.nD Cert.RouteRefIdeal.τ).loc Cert.RouteRefIdeal.main_v56) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def Claim : Prop :=
  ∃ (hFfn : Cert.Ffn.Facts) (hFfnIdeal : Cert.FfnIdeal.Facts) (hFfnRefIdeal : Cert.FfnRefIdeal.Facts) (hGather : Cert.Gather.Facts) (hGatherIdeal : Cert.GatherIdeal.Facts) (hGatherRefIdeal : Cert.GatherRefIdeal.Facts) (hSwap : Cert.Swap.Facts) (hSwapIdeal : Cert.SwapIdeal.Facts) (hSwapRefIdeal : Cert.SwapRefIdeal.Facts) (hPack : Cert.Pack.Facts) (hPackIdeal : Cert.PackIdeal.Facts) (hPackRefIdeal : Cert.PackRefIdeal.Facts) (hRoute : Cert.Route.Facts) (hRouteIdeal : Cert.RouteIdeal.Facts) (hRouteRefIdeal : Cert.RouteRefIdeal.Facts) (hPre_routable : Cert.Pre_routable.Facts),
    quiescent_Ffn (hFfn := hFfn)
    ∧ quiescent_FfnIdeal (hFfnIdeal := hFfnIdeal)
    ∧ quiescent_FfnRefIdeal (hFfnRefIdeal := hFfnRefIdeal)
    ∧ quiescent_Gather (hGather := hGather)
    ∧ quiescent_GatherIdeal (hGatherIdeal := hGatherIdeal)
    ∧ quiescent_GatherRefIdeal (hGatherRefIdeal := hGatherRefIdeal)
    ∧ quiescent_Swap (hSwap := hSwap)
    ∧ quiescent_SwapIdeal (hSwapIdeal := hSwapIdeal)
    ∧ quiescent_SwapRefIdeal (hSwapRefIdeal := hSwapRefIdeal)
    ∧ quiescent_Pack (hPack := hPack)
    ∧ quiescent_PackIdeal (hPackIdeal := hPackIdeal)
    ∧ quiescent_PackRefIdeal (hPackRefIdeal := hPackRefIdeal)
    ∧ quiescent_Route (hRoute := hRoute)
    ∧ quiescent_RouteIdeal (hRouteIdeal := hRouteIdeal)
    ∧ quiescent_RouteIdeal_pre_routable (hRouteIdeal := hRouteIdeal) (hPre_routable := hPre_routable)
    ∧ quiescent_RouteRefIdeal (hRouteRefIdeal := hRouteRefIdeal)
    ∧ quiescent_RouteRefIdeal_pre_routable (hRouteRefIdeal := hRouteRefIdeal) (hPre_routable := hPre_routable)
    ∧ preserves_Ffn_FfnIdeal
    ∧ algebraic_FfnIdeal_FfnRefIdeal (hFfnIdeal := hFfnIdeal) (hFfnRefIdeal := hFfnRefIdeal)
    ∧ preserves_Gather_GatherIdeal
    ∧ algebraic_GatherIdeal_GatherRefIdeal (hGatherIdeal := hGatherIdeal) (hGatherRefIdeal := hGatherRefIdeal)
    ∧ preserves_Swap_SwapIdeal
    ∧ algebraic_SwapIdeal_SwapRefIdeal (hSwapIdeal := hSwapIdeal) (hSwapRefIdeal := hSwapRefIdeal)
    ∧ preserves_Pack_PackIdeal
    ∧ algebraic_PackIdeal_PackRefIdeal (hPackIdeal := hPackIdeal) (hPackRefIdeal := hPackRefIdeal)
    ∧ preserves_Route_RouteIdeal
    ∧ algebraic_RouteIdeal_RouteRefIdeal_pre_routable (hRouteIdeal := hRouteIdeal) (hRouteRefIdeal := hRouteRefIdeal) (hPre_routable := hPre_routable)
-- ==== Pre_routable.lean ====
abbrev S4096x2048 : Shape := ⟨2, ![4096, 2048]⟩
abbrev S4096 : Shape := ⟨1, ![4096]⟩
abbrev S_ : Shape := ⟨0, ![]⟩
abbrev S2048 : Shape := ⟨1, ![2048]⟩

class Facts : Prop where
  slices_S4096_S2048_0 : S4096.Slices ![0] S2048
  slices_S4096_S2048_2048 : S4096.Slices ![2048] S2048
  bcast_S_S2048 : S_.BroadcastsInDim S2048 (![] : Fin 0 → Fin S2048.rank)
  reducesTo_S2048_S_d0 : S2048.ReducesTo [0] S_
  h_S_ : 0 < S_.numel

variable [Facts]

def fn_where {F : FTy → Type} [FloatOps F] (arg0 : IVec S_ 1) (arg1 : IVec S2048 32) (arg2 : IVec S2048 32) : IVec S2048 32 :=
  let v0 : IVec S2048 32 := (fun p a b => select (broadcastInDim S2048 ![] bcast_S_S2048 p) a b) arg0 arg1 arg2
  v0

def fn_part1 {F : FTy → Type} [FloatOps F] (main_v13 : IVec S_ 1) (main_v14 : IVec S_ 1) (main_v15 : IVec S_ 1) : IVec S_ 1 :=
  let main_v16 : IVec S_ 1 := ori main_v14 main_v15
  let main_v17 : IVec S_ 1 := andi main_v13 main_v16
  main_v17

def fn {F : FTy → Type} [FloatOps F] (main_arg0 : FVec F S4096x2048 .f32) (main_arg1 : IVec S4096 32) (main_arg2 : IVec S_ 32) (main_arg3 : IVec S_ 32) : IVec S_ 1 :=
  let main_c : IVec S_ 32 := constantI S_ 32 0#32
  let main_v0 : IVec S_ 1 := cmpi .eq main_arg2 main_c
  let main_v1 : IVec S2048 32 := (extractStridedSlice S2048 ![0] · slices_S4096_S2048_0) main_arg1
  let main_v2 : IVec S2048 32 := (extractStridedSlice S2048 ![2048] · slices_S4096_S2048_2048) main_arg1
  let main_v3 : IVec S2048 32 := fn_where (F := F) main_v0 main_v1 main_v2
  let main_c_0 : IVec S_ 32 := constantI S_ 32 0#32
  let main_v4 : IVec S2048 32 := broadcastInDim S2048 ![] bcast_S_S2048 main_c_0
  let main_v5 : IVec S2048 1 := cmpi .sge main_v3 main_v4
  let main_c_1 : IVec S_ 32 := constantI S_ 32 8#32
  let main_v6 : IVec S2048 32 := broadcastInDim S2048 ![] bcast_S_S2048 main_c_1
  let main_v7 : IVec S2048 1 := cmpi .slt main_v3 main_v6
  let main_v8 : IVec S2048 1 := andi main_v5 main_v7
  let main_c_2 : IVec S_ 1 := constantI S_ 1 1#1
  let main_v9 : IVec S_ 1 := (fun x v => Host.reduce IntOp.andi x v reducesTo_S2048_S_d0 h_S_) main_v8 main_c_2
  let main_c_3 : IVec S_ 32 := constantI S_ 32 0#32
  let main_v10 : IVec S_ 1 := cmpi .eq main_arg2 main_c_3
  let main_c_4 : IVec S_ 32 := constantI S_ 32 1#32
  let main_v11 : IVec S_ 1 := cmpi .eq main_arg2 main_c_4
  let main_v12 : IVec S_ 1 := ori main_v10 main_v11
  let main_v13 : IVec S_ 1 := andi main_v9 main_v12
  let main_c_5 : IVec S_ 32 := constantI S_ 32 0#32
  let main_v14 : IVec S_ 1 := cmpi .eq main_arg3 main_c_5
  let main_c_6 : IVec S_ 32 := constantI S_ 32 1#32
  let main_v15 : IVec S_ 1 := cmpi .eq main_arg3 main_c_6
  fn_part1 (F := F) main_v13 main_v14 main_v15
-- ==== Ffn.lean ====
abbrev S2x4x384x2048 : Shape := ⟨4, ![2, 4, 384, 2048]⟩
abbrev S4x2048x4096 : Shape := ⟨3, ![4, 2048, 4096]⟩
abbrev S4x4096x2048 : Shape := ⟨3, ![4, 4096, 2048]⟩
abbrev S4x384x2048 : Shape := ⟨3, ![4, 384, 2048]⟩
abbrev S1x512x2048 : Shape := ⟨3, ![1, 512, 2048]⟩
abbrev S1x1x384x2048 : Shape := ⟨4, ![1, 1, 384, 2048]⟩
abbrev S384x2048 : Shape := ⟨2, ![384, 2048]⟩
abbrev S_ : Shape := ⟨0, ![]⟩
abbrev S1x4x384x2048 : Shape := ⟨4, ![1, 4, 384, 2048]⟩
abbrev S1x384x2048 : Shape := ⟨3, ![1, 384, 2048]⟩
abbrev S384x512 : Shape := ⟨2, ![384, 512]⟩
abbrev S512x2048 : Shape := ⟨2, ![512, 2048]⟩

abbrev nBuf : Space → Nat
  | .hbm => 5
  | .vmem => 8
  | .smem => 0
  | _ => 0

abbrev bufTy : (tb : Table) → Fin (tcTables nBuf tb) → BufTy
  | .hbm, ⟨0, _⟩ => ⟨S2x4x384x2048, .bf16⟩
  | .hbm, ⟨1, _⟩ => ⟨S4x2048x4096, .bf16⟩
  | .hbm, ⟨2, _⟩ => ⟨S4x4096x2048, .bf16⟩
  | .hbm, ⟨3, _⟩ => ⟨S2x4x384x2048, .bf16⟩
  | .hbm, ⟨4, _⟩ => ⟨S4x384x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x1x384x2048, .bf16⟩
  | .local _ .vmem, ⟨5, _⟩ => ⟨S1x1x384x2048, .bf16⟩
  | .local _ .vmem, ⟨6, _⟩ => ⟨S384x2048, .bf16⟩
  | .local _ .vmem, ⟨7, _⟩ => ⟨S384x2048, .bf16⟩
  | _, _ => ⟨S2x4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev barrier0 : Sem sig := 0

abbrev nD : Nat := 8
abbrev τ : Topo := Topo.v7x

variable {F : FTy → Type} [FloatOps F]

abbrev grid0 : Pipeline.Grid := ⟨3, ![2, 4, 16], ![false, false, false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let arg1 : BitVec 32 := BitVec.ofNat 32 (i 1).val
  let c0_i32_0 : BitVec 32 := 0#32
  let v2 : BitVec 1 := Scalar.cmpi .eq arg1 c0_i32_0
  let v3 : BitVec 1 := Scalar.andi v1 v2
  let arg2 : BitVec 32 := BitVec.ofNat 32 (i 2).val
  let c0_i32_1 : BitVec 32 := 0#32
  let v4 : BitVec 1 := Scalar.cmpi .eq arg2 c0_i32_1
  let v5 : BitVec 1 := Scalar.andi v3 v4
  let v6 : BitVec 32 := Scalar.extui v5
  let c0_i32_2 : BitVec 32 := 0#32
  let v7 : BitVec 1 := Scalar.cmpi .ne v6 c0_i32_2
  v7

def k0_dev1 (d24 : Dev nD) : Nat :=
  let c0_i32_19 : BitVec 32 := 0#32
  let v24 : BitVec 32 := Dev.word d24
  let c4_i32_11 : BitVec 32 := 4#32
  let v25 : BitVec 32 := Scalar.divsi v24 c4_i32_11
  let c2_i32 : BitVec 32 := 2#32
  let v26 : BitVec 32 := Scalar.remsi v25 c2_i32
  let c4_i32_18 : BitVec 32 := 4#32
  let v35 : BitVec 32 := Scalar.muli v26 c4_i32_18
  let v36 : BitVec 32 := Scalar.addi c0_i32_19 v35
  let v27 : BitVec 32 := Dev.word d24
  let c2_i32_13 : BitVec 32 := 2#32
  let v28 : BitVec 32 := Scalar.divsi v27 c2_i32_13
  let c2_i32_12 : BitVec 32 := 2#32
  let v29 : BitVec 32 := Scalar.remsi v28 c2_i32_12
  let c2_i32_20 : BitVec 32 := 2#32
  let v37 : BitVec 32 := Scalar.muli v29 c2_i32_20
  let v38 : BitVec 32 := Scalar.addi v36 v37
  let c1_i32_16 : BitVec 32 := 1#32
  let v30 : BitVec 32 := Dev.word d24
  let c1_i32_15 : BitVec 32 := 1#32
  let v31 : BitVec 32 := Scalar.divsi v30 c1_i32_15
  let c2_i32_14 : BitVec 32 := 2#32
  let v32 : BitVec 32 := Scalar.remsi v31 c2_i32_14
  let v33 : BitVec 32 := Scalar.subi c1_i32_16 v32
  let c1_i32_21 : BitVec 32 := 1#32
  let v39 : BitVec 32 := Scalar.muli v33 c1_i32_21
  let v40 : BitVec 32 := Scalar.addi v38 v39
  v40.toNat
def k0_dev2 (d24 : Dev nD) : Nat :=
  let c0_i32_32 : BitVec 32 := 0#32
  let v41 : BitVec 32 := Dev.word d24
  let c4_i32_24 : BitVec 32 := 4#32
  let v42 : BitVec 32 := Scalar.divsi v41 c4_i32_24
  let c2_i32_23 : BitVec 32 := 2#32
  let v43 : BitVec 32 := Scalar.remsi v42 c2_i32_23
  let c4_i32_31 : BitVec 32 := 4#32
  let v51 : BitVec 32 := Scalar.muli v43 c4_i32_31
  let v52 : BitVec 32 := Scalar.addi c0_i32_32 v51
  let v44 : BitVec 32 := Dev.word d24
  let c2_i32_26 : BitVec 32 := 2#32
  let v45 : BitVec 32 := Scalar.divsi v44 c2_i32_26
  let c2_i32_25 : BitVec 32 := 2#32
  let v46 : BitVec 32 := Scalar.remsi v45 c2_i32_25
  let c2_i32_33 : BitVec 32 := 2#32
  let v53 : BitVec 32 := Scalar.muli v46 c2_i32_33
  let v54 : BitVec 32 := Scalar.addi v52 v53
  let c1_i32_29 : BitVec 32 := 1#32
  let v47 : BitVec 32 := Dev.word d24
  let c1_i32_28 : BitVec 32 := 1#32
  let v48 : BitVec 32 := Scalar.divsi v47 c1_i32_28
  let c2_i32_27 : BitVec 32 := 2#32
  let v49 : BitVec 32 := Scalar.remsi v48 c2_i32_27
  let v50 : BitVec 32 := Scalar.subi c1_i32_29 v49
  let c1_i32_34 : BitVec 32 := 1#32
  let v55 : BitVec 32 := Scalar.muli v50 c1_i32_34
  let v56 : BitVec 32 := Scalar.addi v54 v55
  v56.toNat
def k0_cond3 (i : grid0.Coords) : BitVec 1 :=
  let arg2 : BitVec 32 := BitVec.ofNat 32 (i 2).val
  let c0_i32_6 : BitVec 32 := 0#32
  let v15 : BitVec 1 := Scalar.cmpi .eq arg2 c0_i32_6
  let v16 : BitVec 32 := Scalar.extui v15
  let c0_i32_7 : BitVec 32 := 0#32
  let v17 : BitVec 1 := Scalar.cmpi .ne v16 c0_i32_7
  v17

def k0_cond4 (i : grid0.Coords) : BitVec 1 :=
  let arg0 : BitVec 32 := BitVec.ofNat 32 (i 0).val
  let c0_i32_11 : BitVec 32 := 0#32
  let v24 : BitVec 1 := Scalar.cmpi .eq arg0 c0_i32_11
  let v25 : BitVec 32 := Scalar.extui v24
  let c0_i32_12 : BitVec 32 := 0#32
  let v26 : BitVec 1 := Scalar.cmpi .ne v25 c0_i32_12
  v26

def k0_off1 (i : grid0.Coords) : Fin 4 → Nat :=
  let c0_i32_15 : BitVec 32 := 0#32
  let arg1 : BitVec 32 := BitVec.ofNat 32 (i 1).val
  let c0_i32_16 : BitVec 32 := 0#32
  let c0_i32_17 : BitVec 32 := 0#32
  ![0, arg1.toNat, 0, 0]
def k0_cond5 (i : grid0.Coords) : BitVec 1 :=
  let arg0 : BitVec 32 := BitVec.ofNat 32 (i 0).val
  let c1_i32_13 : BitVec 32 := 1#32
  let v27 : BitVec 1 := Scalar.cmpi .eq arg0 c1_i32_13
  let v28 : BitVec 32 := Scalar.extui v27
  let c0_i32_14 : BitVec 32 := 0#32
  let v29 : BitVec 1 := Scalar.cmpi .ne v28 c0_i32_14
  v29

def k0_off2 (i : grid0.Coords) : Fin 3 → Nat :=
  let arg1 : BitVec 32 := BitVec.ofNat 32 (i 1).val
  let c0_i32_15 : BitVec 32 := 0#32
  let c0_i32_16 : BitVec 32 := 0#32
  ![arg1.toNat, 0, 0]
def k0_cond6 (i : grid0.Coords) : BitVec 1 :=
  let arg2 : BitVec 32 := BitVec.ofNat 32 (i 2).val
  let c8_i32 : BitVec 32 := 8#32
  let v0 : BitVec 32 := Scalar.remsi arg2 c8_i32
  let c4_i32 : BitVec 32 := 4#32
  let v18 : BitVec 1 := Scalar.cmpi .slt v0 c4_i32
  let v19 : BitVec 32 := Scalar.extui v18
  let c0_i32_8 : BitVec 32 := 0#32
  let v20 : BitVec 1 := Scalar.cmpi .ne v19 c0_i32_8
  v20

def k0_off3 (i : grid0.Coords) : Fin 2 → Nat :=
  let c0 : Index := 0#32
  let arg2 : BitVec 32 := BitVec.ofNat 32 (i 2).val
  let c8_i32 : BitVec 32 := 8#32
  let v0 : BitVec 32 := Scalar.remsi arg2 c8_i32
  let c512_i32 : BitVec 32 := 512#32
  let v24 : BitVec 32 := Scalar.muli v0 c512_i32
  let v25 : Index := Scalar.indexCast v24
  ![0, v25.toNat]
def k0_cond9 (i : grid0.Coords) : BitVec 1 :=
  let arg2 : BitVec 32 := BitVec.ofNat 32 (i 2).val
  let c8_i32 : BitVec 32 := 8#32
  let v0 : BitVec 32 := Scalar.remsi arg2 c8_i32
  let c4_i32_9 : BitVec 32 := 4#32
  let v21 : BitVec 1 := Scalar.cmpi .sge v0 c4_i32_9
  let v22 : BitVec 32 := Scalar.extui v21
  let c0_i32_10 : BitVec 32 := 0#32
  let v23 : BitVec 1 := Scalar.cmpi .ne v22 c0_i32_10
  v23

def k0_off4 (i : grid0.Coords) : Fin 2 → Nat :=
  let c0 : Index := 0#32
  let arg2 : BitVec 32 := BitVec.ofNat 32 (i 2).val
  let c8_i32 : BitVec 32 := 8#32
  let v0 : BitVec 32 := Scalar.remsi arg2 c8_i32
  let c4_i32_11 : BitVec 32 := 4#32
  let v24 : BitVec 32 := Scalar.subi v0 c4_i32_11
  let c512_i32 : BitVec 32 := 512#32
  let v25 : BitVec 32 := Scalar.muli v24 c512_i32
  let v26 : Index := Scalar.indexCast v25
  ![0, v26.toNat]
def k0_cond10 (i : grid0.Coords) : BitVec 1 :=
  let arg2 : BitVec 32 := BitVec.ofNat 32 (i 2).val
  let c4_i32_16 : BitVec 32 := 4#32
  let v33 : BitVec 1 := Scalar.cmpi .eq arg2 c4_i32_16
  let v34 : BitVec 32 := Scalar.extui v33
  let c0_i32_17 : BitVec 32 := 0#32
  let v35 : BitVec 1 := Scalar.cmpi .ne v34 c0_i32_17
  v35

def k0_cond11 (i : grid0.Coords) : BitVec 1 :=
  let arg2 : BitVec 32 := BitVec.ofNat 32 (i 2).val
  let c4_i32_18 : BitVec 32 := 4#32
  let v36 : BitVec 1 := Scalar.cmpi .ne arg2 c4_i32_18
  let v37 : BitVec 32 := Scalar.extui v36
  let c0_i32_19 : BitVec 32 := 0#32
  let v38 : BitVec 1 := Scalar.cmpi .ne v37 c0_i32_19
  v38

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.remsi arg2 c8_i32
  let c8_i32_0 : BitVec 32 := 8#32
  let v1 : BitVec 32 := Scalar.divsi arg2 c8_i32_0
  let c0_i32 : BitVec 32 := 0#32
  let v2 : BitVec 1 := Scalar.cmpi .sgt arg2 c0_i32
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi arg2 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3_i32 : BitVec 32 := 3#32
  let v18 : BitVec 32 := Scalar.minsi v0 c3_i32
  let c0_i32_5 : BitVec 32 := 0#32
  ![arg1.toNat, v18.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.remsi arg2 c8_i32
  let c8_i32_0 : BitVec 32 := 8#32
  let v1 : BitVec 32 := Scalar.divsi arg2 c8_i32_0
  let c0_i32 : BitVec 32 := 0#32
  let v2 : BitVec 1 := Scalar.cmpi .sgt arg2 c0_i32
  let v3 : BitVec 32 := Scalar.extui v2
  let c0_i32_1 : BitVec 32 := 0#32
  let v4 : BitVec 1 := Scalar.cmpi .slt arg2 c0_i32_1
  let v5 : BitVec 32 := Scalar.extui v4
  let v6 : BitVec 32 := Scalar.subi v3 v5
  let c0_i32_2 : BitVec 32 := 0#32
  let v7 : BitVec 1 := Scalar.cmpi .sgt c8_i32_0 c0_i32_2
  let v8 : BitVec 32 := Scalar.extui v7
  let c0_i32_3 : BitVec 32 := 0#32
  let v9 : BitVec 1 := Scalar.cmpi .slt c8_i32_0 c0_i32_3
  let v10 : BitVec 32 := Scalar.extui v9
  let v11 : BitVec 32 := Scalar.subi v8 v10
  let v12 : BitVec 1 := Scalar.cmpi .ne v6 v11
  let v13 : BitVec 32 := Scalar.remsi arg2 c8_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.muli v17 c4_i32
  let c4_i32_5 : BitVec 32 := 4#32
  let v19 : BitVec 32 := Scalar.subi v0 c4_i32_5
  let c0_i32_6 : BitVec 32 := 0#32
  let v20 : BitVec 32 := Scalar.maxsi v19 c0_i32_6
  let v21 : BitVec 32 := Scalar.addi v18 v20
  let c0_i32_7 : BitVec 32 := 0#32
  let c0_i32_8 : BitVec 32 := 0#32
  ![arg1.toNat, v21.toNat, c0_i32_7.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnRefIdeal.lean ====
abbrev S16x4x384x2048 : Shape := ⟨4, ![16, 4, 384, 2048]⟩
abbrev S8x2048x4096 : Shape := ⟨3, ![8, 2048, 4096]⟩
abbrev S8x4096x2048 : Shape := ⟨3, ![8, 4096, 2048]⟩
abbrev S4x2x2x4x384x2048 : Shape := ⟨6, ![4, 2, 2, 4, 384, 2048]⟩
abbrev S4x2x1x4x384x2048 : Shape := ⟨6, ![4, 2, 1, 4, 384, 2048]⟩
abbrev S4x2x4x384x2048 : Shape := ⟨5, ![4, 2, 4, 384, 2048]⟩
abbrev S2x4x2048x4096 : Shape := ⟨4, ![2, 4, 2048, 4096]⟩
abbrev S2x4x4096x2048 : Shape := ⟨4, ![2, 4, 4096, 2048]⟩
abbrev S2x4x4096x4x2x384 : Shape := ⟨6, ![2, 4, 4096, 4, 2, 384]⟩
abbrev S4x2x2x4x384x4096 : Shape := ⟨6, ![4, 2, 2, 4, 384, 4096]⟩
abbrev S_ : Shape := ⟨0, ![]⟩
abbrev S2x4x2048x4x2x384 : Shape := ⟨6, ![2, 4, 2048, 4, 2, 384]⟩

abbrev nBuf : Space → Nat
  | .hbm => 26
  | .vmem => 0
  | .smem => 0
  | _ => 0

abbrev bufTy : (tb : Table) → Fin (tcTables nBuf tb) → BufTy
  | .hbm, ⟨0, _⟩ => ⟨S16x4x384x2048, .bf16⟩
  | .hbm, ⟨1, _⟩ => ⟨S8x2048x4096, .bf16⟩
  | .hbm, ⟨2, _⟩ => ⟨S8x4096x2048, .bf16⟩
  | .hbm, ⟨3, _⟩ => ⟨S4x2x2x4x384x2048, .bf16⟩
  | .hbm, ⟨4, _⟩ => ⟨S4x2x1x4x384x2048, .bf16⟩
  | .hbm, ⟨5, _⟩ => ⟨S4x2x4x384x2048, .bf16⟩
  | .hbm, ⟨6, _⟩ => ⟨S4x2x1x4x384x2048, .bf16⟩
  | .hbm, ⟨7, _⟩ => ⟨S4x2x1x4x384x2048, .bf16⟩
  | .hbm, ⟨8, _⟩ => ⟨S4x2x4x384x2048, .bf16⟩
  | .hbm, ⟨9, _⟩ => ⟨S4x2x1x4x384x2048, .bf16⟩
  | .hbm, ⟨10, _⟩ => ⟨S4x2x1x4x384x2048, .bf16⟩
  | .hbm, ⟨11, _⟩ => ⟨S4x2x2x4x384x2048, .bf16⟩
  | .hbm, ⟨12, _⟩ => ⟨S4x2x2x4x384x2048, .f32⟩
  | .hbm, ⟨13, _⟩ => ⟨S2x4x2048x4096, .bf16⟩
  | .hbm, ⟨14, _⟩ => ⟨S2x4x2048x4096, .f32⟩
  | .hbm, ⟨15, _⟩ => ⟨S2x4x4096x2048, .bf16⟩
  | .hbm, ⟨16, _⟩ => ⟨S2x4x4096x2048, .f32⟩
  | .hbm, ⟨17, _⟩ => ⟨S2x4x4096x4x2x384, .f32⟩
  | .hbm, ⟨18, _⟩ => ⟨S4x2x2x4x384x4096, .f32⟩
  | .hbm, ⟨19, _⟩ => ⟨S_, .f32⟩
  | .hbm, ⟨20, _⟩ => ⟨S4x2x2x4x384x4096, .f32⟩
  | .hbm, ⟨21, _⟩ => ⟨S4x2x2x4x384x4096, .f32⟩
  | .hbm, ⟨22, _⟩ => ⟨S2x4x2048x4x2x384, .f32⟩
  | .hbm, ⟨23, _⟩ => ⟨S4x2x2x4x384x2048, .f32⟩
  | .hbm, ⟨24, _⟩ => ⟨S16x4x384x2048, .f32⟩
  | .hbm, ⟨25, _⟩ => ⟨S16x4x384x2048, .bf16⟩
  | _, _ => ⟨S16x4x384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Gather.lean ====
abbrev S1536x2048 : Shape := ⟨2, ![1536, 2048]⟩
abbrev S1x2048 : Shape := ⟨2, ![1, 2048]⟩
abbrev S2048x2048 : Shape := ⟨2, ![2048, 2048]⟩
abbrev S4096x2048 : Shape := ⟨2, ![4096, 2048]⟩
abbrev S512x2048 : Shape := ⟨2, ![512, 2048]⟩
abbrev S4 : Shape := ⟨1, ![4]⟩
abbrev S_ : Shape := ⟨0, ![]⟩
abbrev S1x512 : Shape := ⟨2, ![1, 512]⟩
abbrev S512 : Shape := ⟨1, ![512]⟩
abbrev S512x512 : Shape := ⟨2, ![512, 512]⟩
abbrev S512x1 : Shape := ⟨2, ![512, 1]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S1536x2048, .bf16⟩
  | .hbm, ⟨1, _⟩ => ⟨S1x2048, .i32⟩
  | .hbm, ⟨2, _⟩ => ⟨S2048x2048, .bf16⟩
  | .hbm, ⟨3, _⟩ => ⟨S4096x2048, .f32⟩
  | .hbm, ⟨4, _⟩ => ⟨S2048x2048, .bf16⟩
  | .local _ .vmem, ⟨0, _⟩ => ⟨S1x2048, .i32⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .bf16⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(2, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev barrier2 : Sem sig := 0

abbrev nD : Nat := 8
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_13 : BitVec 32 := 0#32
  let c1_i32 : BitVec 32 := 1#32
  let v15 : BitVec 32 := Dev.word d0
  let c4_i32_6 : BitVec 32 := 4#32
  let v16 : BitVec 32 := Scalar.divsi v15 c4_i32_6
  let c2_i32_5 : BitVec 32 := 2#32
  let v17 : BitVec 32 := Scalar.remsi v16 c2_i32_5
  let v18 : BitVec 32 := Scalar.subi c1_i32 v17
  let c4_i32_12 : BitVec 32 := 4#32
  let v26 : BitVec 32 := Scalar.muli v18 c4_i32_12
  let v27 : BitVec 32 := Scalar.addi c0_i32_13 v26
  let v19 : BitVec 32 := Dev.word d0
  let c2_i32_8 : BitVec 32 := 2#32
  let v20 : BitVec 32 := Scalar.divsi v19 c2_i32_8
  let c2_i32_7 : BitVec 32 := 2#32
  let v21 : BitVec 32 := Scalar.remsi v20 c2_i32_7
  let c2_i32_14 : BitVec 32 := 2#32
  let v28 : BitVec 32 := Scalar.muli v21 c2_i32_14
  let v29 : BitVec 32 := Scalar.addi v27 v28
  let v22 : BitVec 32 := Dev.word d0
  let c1_i32_10 : BitVec 32 := 1#32
  let v23 : BitVec 32 := Scalar.divsi v22 c1_i32_10
  let c2_i32_9 : BitVec 32 := 2#32
  let v24 : BitVec 32 := Scalar.remsi v23 c2_i32_9
  let c1_i32_15 : BitVec 32 := 1#32
  let v30 : BitVec 32 := Scalar.muli v24 c1_i32_15
  let v31 : BitVec 32 := Scalar.addi v29 v30
  v31.toNat
def k0_cond2 (i : grid0.Coords) : BitVec 1 :=
  let arg0 : BitVec 32 := BitVec.ofNat 32 (i 0).val
  let c12_i32 : BitVec 32 := 12#32
  let v6 : BitVec 1 := Scalar.cmpi .slt arg0 c12_i32
  let v7 : BitVec 32 := Scalar.extui v6
  let c0_i32_1 : BitVec 32 := 0#32
  let v8 : BitVec 1 := Scalar.cmpi .ne v7 c0_i32_1
  v8

def k0_off1 (i : grid0.Coords) : Fin 2 → Nat :=
  let c0 : Index := 0#32
  let arg0 : BitVec 32 := BitVec.ofNat 32 (i 0).val
  let c0_i32_5 : BitVec 32 := 0#32
  let v16 : BitVec 1 := Scalar.cmpi .sgt arg0 c0_i32_5
  let v17 : BitVec 32 := Scalar.extui v16
  let c0_i32_6 : BitVec 32 := 0#32
  let v18 : BitVec 1 := Scalar.cmpi .slt arg0 c0_i32_6
  let v19 : BitVec 32 := Scalar.extui v18
  let v20 : BitVec 32 := Scalar.subi v17 v19
  let c3_i32 : BitVec 32 := 3#32
  let c0_i32_7 : BitVec 32 := 0#32
  let v21 : BitVec 1 := Scalar.cmpi .sgt c3_i32 c0_i32_7
  let v22 : BitVec 32 := Scalar.extui v21
  let c0_i32_8 : BitVec 32 := 0#32
  let v23 : BitVec 1 := Scalar.cmpi .slt c3_i32 c0_i32_8
  let v24 : BitVec 32 := Scalar.extui v23
  let v25 : BitVec 32 := Scalar.subi v22 v24
  let v26 : BitVec 1 := Scalar.cmpi .ne v20 v25
  let v27 : BitVec 32 := Scalar.remsi arg0 c3_i32
  let c0_i32_9 : BitVec 32 := 0#32
  let v28 : BitVec 1 := Scalar.cmpi .ne v27 c0_i32_9
  let v29 : BitVec 1 := Scalar.andi v26 v28
  let v15 : BitVec 32 := Scalar.divsi arg0 c3_i32
  let c1_i32 : BitVec 32 := 1#32
  let v30 : BitVec 32 := Scalar.subi v15 c1_i32
  let v31 : BitVec 32 := Scalar.select v29 v30 v15
  let c512_i32 : BitVec 32 := 512#32
  let v33 : BitVec 32 := Scalar.muli v31 c512_i32
  let v34 : Index := Scalar.indexCast v33
  ![0, v34.toNat]
def k0_cond4 (i : grid0.Coords) : BitVec 1 :=
  let arg0 : BitVec 32 := BitVec.ofNat 32 (i 0).val
  let c3_i32_10 : BitVec 32 := 3#32
  let v32 : BitVec 32 := Scalar.remsi arg0 c3_i32_10
  let c2_i32_20 : BitVec 32 := 2#32
  let v58 : BitVec 1 := Scalar.cmpi .eq v32 c2_i32_20
  let v59 : BitVec 32 := Scalar.extui v58
  let c0_i32_21 : BitVec 32 := 0#32
  let v60 : BitVec 1 := Scalar.cmpi .ne v59 c0_i32_21
  v60

def k0_off2 (i : grid0.Coords) : Fin 2 → Nat :=
  let arg0 : BitVec 32 := BitVec.ofNat 32 (i 0).val
  let c0_i32_5 : BitVec 32 := 0#32
  let v16 : BitVec 1 := Scalar.cmpi .sgt arg0 c0_i32_5
  let v17 : BitVec 32 := Scalar.extui v16
  let c0_i32_6 : BitVec 32 := 0#32
  let v18 : BitVec 1 := Scalar.cmpi .slt arg0 c0_i32_6
  let v19 : BitVec 32 := Scalar.extui v18
  let v20 : BitVec 32 := Scalar.subi v17 v19
  let c3_i32 : BitVec 32 := 3#32
  let c0_i32_7 : BitVec 32 := 0#32
  let v21 : BitVec 1 := Scalar.cmpi .sgt c3_i32 c0_i32_7
  let v22 : BitVec 32 := Scalar.extui v21
  let c0_i32_8 : BitVec 32 := 0#32
  let v23 : BitVec 1 := Scalar.cmpi .slt c3_i32 c0_i32_8
  let v24 : BitVec 32 := Scalar.extui v23
  let v25 : BitVec 32 := Scalar.subi v22 v24
  let v26 : BitVec 1 := Scalar.cmpi .ne v20 v25
  let v27 : BitVec 32 := Scalar.remsi arg0 c3_i32
  let c0_i32_9 : BitVec 32 := 0#32
  let v28 : BitVec 1 := Scalar.cmpi .ne v27 c0_i32_9
  let v29 : BitVec 1 := Scalar.andi v26 v28
  let v15 : BitVec 32 := Scalar.divsi arg0 c3_i32
  let c1_i32 : BitVec 32 := 1#32
  let v30 : BitVec 32 := Scalar.subi v15 c1_i32
  let v31 : BitVec 32 := Scalar.select v29 v30 v15
  let c512_i32_26 : BitVec 32 := 512#32
  let v67 : BitVec 32 := Scalar.muli v31 c512_i32_26
  let v68 : Index := Scalar.indexCast v67
  let c0_27 : Index := 0#32
  ![v68.toNat, 0]
def k0_off3 (i : grid0.Coords) : Fin 1 → Nat :=
  let arg0 : BitVec 32 := BitVec.ofNat 32 (i 0).val
  let c0_i32_5 : BitVec 32 := 0#32
  let v16 : BitVec 1 := Scalar.cmpi .sgt arg0 c0_i32_5
  let v17 : BitVec 32 := Scalar.extui v16
  let c0_i32_6 : BitVec 32 := 0#32
  let v18 : BitVec 1 := Scalar.cmpi .slt arg0 c0_i32_6
  let v19 : BitVec 32 := Scalar.extui v18
  let v20 : BitVec 32 := Scalar.subi v17 v19
  let c3_i32 : BitVec 32 := 3#32
  let c0_i32_7 : BitVec 32 := 0#32
  let v21 : BitVec 1 := Scalar.cmpi .sgt c3_i32 c0_i32_7
  let v22 : BitVec 32 := Scalar.extui v21
  let c0_i32_8 : BitVec 32 := 0#32
  let v23 : BitVec 1 := Scalar.cmpi .slt c3_i32 c0_i32_8
  let v24 : BitVec 32 := Scalar.extui v23
  let v25 : BitVec 32 := Scalar.subi v22 v24
  let v26 : BitVec 1 := Scalar.cmpi .ne v20 v25
  let v27 : BitVec 32 := Scalar.remsi arg0 c3_i32
  let c0_i32_9 : BitVec 32 := 0#32
  let v28 : BitVec 1 := Scalar.cmpi .ne v27 c0_i32_9
  let v29 : BitVec 1 := Scalar.andi v26 v28
  let v15 : BitVec 32 := Scalar.divsi arg0 c3_i32
  let c1_i32 : BitVec 32 := 1#32
  let v30 : BitVec 32 := Scalar.subi v15 c1_i32
  let v31 : BitVec 32 := Scalar.select v29 v30 v15
  ![v31.toNat]
def k0_off4 (i : grid0.Coords) : Fin 2 → Nat :=
  let arg0 : BitVec 32 := BitVec.ofNat 32 (i 0).val
  let c0_i32_5 : BitVec 32 := 0#32
  let v16 : BitVec 1 := Scalar.cmpi .sgt arg0 c0_i32_5
  let v17 : BitVec 32 := Scalar.extui v16
  let c0_i32_6 : BitVec 32 := 0#32
  let v18 : BitVec 1 := Scalar.cmpi .slt arg0 c0_i32_6
  let v19 : BitVec 32 := Scalar.extui v18
  let v20 : BitVec 32 := Scalar.subi v17 v19
  let c3_i32 : BitVec 32 := 3#32
  let c0_i32_7 : BitVec 32 := 0#32
  let v21 : BitVec 1 := Scalar.cmpi .sgt c3_i32 c0_i32_7
  let v22 : BitVec 32 := Scalar.extui v21
  let c0_i32_8 : BitVec 32 := 0#32
  let v23 : BitVec 1 := Scalar.cmpi .slt c3_i32 c0_i32_8
  let v24 : BitVec 32 := Scalar.extui v23
  let v25 : BitVec 32 := Scalar.subi v22 v24
  let v26 : BitVec 1 := Scalar.cmpi .ne v20 v25
  let v27 : BitVec 32 := Scalar.remsi arg0 c3_i32
  let c0_i32_9 : BitVec 32 := 0#32
  let v28 : BitVec 1 := Scalar.cmpi .ne v27 c0_i32_9
  let v29 : BitVec 1 := Scalar.andi v26 v28
  let v15 : BitVec 32 := Scalar.divsi arg0 c3_i32
  let c1_i32 : BitVec 32 := 1#32
  let v30 : BitVec 32 := Scalar.subi v15 c1_i32
  let v31 : BitVec 32 := Scalar.select v29 v30 v15
  let c512_i32_29 : BitVec 32 := 512#32
  let v73 : BitVec 32 := Scalar.muli v31 c512_i32_29
  let c0_i32_41 : BitVec 32 := 0#32
  ![v73.toNat, 0]
def k0_dev2 (d0 : Dev nD) : Nat :=
  let c0_i32_38 : BitVec 32 := 0#32
  let c1_i32_32 : BitVec 32 := 1#32
  let v74 : BitVec 32 := Dev.word d0
  let c4_i32_31 : BitVec 32 := 4#32
  let v75 : BitVec 32 := Scalar.divsi v74 c4_i32_31
  let c2_i32_30 : BitVec 32 := 2#32
  let v76 : BitVec 32 := Scalar.remsi v75 c2_i32_30
  let v77 : BitVec 32 := Scalar.subi c1_i32_32 v76
  let c4_i32_37 : BitVec 32 := 4#32
  let v84 : BitVec 32 := Scalar.muli v77 c4_i32_37
  let v85 : BitVec 32 := Scalar.addi c0_i32_38 v84
  let v78 : BitVec 32 := Dev.word d0
  let c2_i32_34 : BitVec 32 := 2#32
  let v79 : BitVec 32 := Scalar.divsi v78 c2_i32_34
  let c2_i32_33 : BitVec 32 := 2#32
  let v80 : BitVec 32 := Scalar.remsi v79 c2_i32_33
  let c2_i32_39 : BitVec 32 := 2#32
  let v86 : BitVec 32 := Scalar.muli v80 c2_i32_39
  let v87 : BitVec 32 := Scalar.addi v85 v86
  let v81 : BitVec 32 := Dev.word d0
  let c1_i32_36 : BitVec 32 := 1#32
  let v82 : BitVec 32 := Scalar.divsi v81 c1_i32_36
  let c2_i32_35 : BitVec 32 := 2#32
  let v83 : BitVec 32 := Scalar.remsi v82 c2_i32_35
  let c1_i32_40 : BitVec 32 := 1#32
  let v88 : BitVec 32 := Scalar.muli v83 c1_i32_40
  let v89 : BitVec 32 := Scalar.addi v87 v88
  v89.toNat
def k0_cond5 (i : grid0.Coords) : BitVec 1 :=
  let arg0 : BitVec 32 := BitVec.ofNat 32 (i 0).val
  let c12_i32_2 : BitVec 32 := 12#32
  let v9 : BitVec 1 := Scalar.cmpi .sge arg0 c12_i32_2
  let v10 : BitVec 32 := Scalar.extui v9
  let c0_i32_3 : BitVec 32 := 0#32
  let v11 : BitVec 1 := Scalar.cmpi .ne v10 c0_i32_3
  v11

def k0_cond6 (i : grid0.Coords) (d0 : Dev nD) : BitVec 1 :=
  let arg0 : BitVec 32 := BitVec.ofNat 32 (i 0).val
  let c12_i32_5 : BitVec 32 := 12#32
  let v15 : BitVec 32 := Scalar.subi arg0 c12_i32_5
  let c0_i32_7 : BitVec 32 := 0#32
  let v17 : BitVec 1 := Scalar.cmpi .sgt v15 c0_i32_7
  let v18 : BitVec 32 := Scalar.extui v17
  let c0_i32_8 : BitVec 32 := 0#32
  let v19 : BitVec 1 := Scalar.cmpi .slt v15 c0_i32_8
  let v20 : BitVec 32 := Scalar.extui v19
  let v21 : BitVec 32 := Scalar.subi v18 v20
  let c4_i32_6 : BitVec 32 := 4#32
  let c0_i32_9 : BitVec 32 := 0#32
  let v22 : BitVec 1 := Scalar.cmpi .sgt c4_i32_6 c0_i32_9
  let v23 : BitVec 32 := Scalar.extui v22
  let c0_i32_10 : BitVec 32 := 0#32
  let v24 : BitVec 1 := Scalar.cmpi .slt c4_i32_6 c0_i32_10
  let v25 : BitVec 32 := Scalar.extui v24
  let v26 : BitVec 32 := Scalar.subi v23 v25
  let v27 : BitVec 1 := Scalar.cmpi .ne v21 v26
  let v28 : BitVec 32 := Scalar.remsi v15 c4_i32_6
  let c0_i32_11 : BitVec 32 := 0#32
  let v29 : BitVec 1 := Scalar.cmpi .ne v28 c0_i32_11
  let v30 : BitVec 1 := Scalar.andi v27 v29
  let v16 : BitVec 32 := Scalar.divsi v15 c4_i32_6
  let c1_i32 : BitVec 32 := 1#32
  let v31 : BitVec 32 := Scalar.subi v16 c1_i32
  let v32 : BitVec 32 := Scalar.select v30 v31 v16
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 1 := Scalar.cmpi .eq v32 v2
  let v35 : BitVec 32 := Scalar.extui v34
  let c0_i32_13 : BitVec 32 := 0#32
  let v36 : BitVec 1 := Scalar.cmpi .ne v35 c0_i32_13
  v36

def k0_off5 (i : grid0.Coords) : Fin 2 → Nat :=
  let arg0 : BitVec 32 := BitVec.ofNat 32 (i 0).val
  let c12_i32_5 : BitVec 32 := 12#32
  let v15 : BitVec 32 := Scalar.subi arg0 c12_i32_5
  let c4_i32_12 : BitVec 32 := 4#32
  let v33 : BitVec 32 := Scalar.remsi v15 c4_i32_12
  let c512_i32 : BitVec 32 := 512#32
  let v40 : BitVec 32 := Scalar.muli v33 c512_i32
  let v41 : Index := Scalar.indexCast v40
  let c0 : Index := 0#32
  ![v41.toNat, 0]
def k0_cond7 (i : grid0.Coords) (d0 : Dev nD) : BitVec 1 :=
  let arg0 : BitVec 32 := BitVec.ofNat 32 (i 0).val
  let c12_i32_5 : BitVec 32 := 12#32
  let v15 : BitVec 32 := Scalar.subi arg0 c12_i32_5
  let c0_i32_7 : BitVec 32 := 0#32
  let v17 : BitVec 1 := Scalar.cmpi .sgt v15 c0_i32_7
  let v18 : BitVec 32 := Scalar.extui v17
  let c0_i32_8 : BitVec 32 := 0#32
  let v19 : BitVec 1 := Scalar.cmpi .slt v15 c0_i32_8
  let v20 : BitVec 32 := Scalar.extui v19
  let v21 : BitVec 32 := Scalar.subi v18 v20
  let c4_i32_6 : BitVec 32 := 4#32
  let c0_i32_9 : BitVec 32 := 0#32
  let v22 : BitVec 1 := Scalar.cmpi .sgt c4_i32_6 c0_i32_9
  let v23 : BitVec 32 := Scalar.extui v22
  let c0_i32_10 : BitVec 32 := 0#32
  let v24 : BitVec 1 := Scalar.cmpi .slt c4_i32_6 c0_i32_10
  let v25 : BitVec 32 := Scalar.extui v24
  let v26 : BitVec 32 := Scalar.subi v23 v25
  let v27 : BitVec 1 := Scalar.cmpi .ne v21 v26
  let v28 : BitVec 32 := Scalar.remsi v15 c4_i32_6
  let c0_i32_11 : BitVec 32 := 0#32
  let v29 : BitVec 1 := Scalar.cmpi .ne v28 c0_i32_11
  let v30 : BitVec 1 := Scalar.andi v27 v29
  let v16 : BitVec 32 := Scalar.divsi v15 c4_i32_6
  let c1_i32 : BitVec 32 := 1#32
  let v31 : BitVec 32 := Scalar.subi v16 c1_i32
  let v32 : BitVec 32 := Scalar.select v30 v31 v16
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 1 := Scalar.cmpi .ne v32 v2
  let v38 : BitVec 32 := Scalar.extui v37
  let c0_i32_14 : BitVec 32 := 0#32
  let v39 : BitVec 1 := Scalar.cmpi .ne v38 c0_i32_14
  v39

def k0_off6 (i : grid0.Coords) : Fin 1 → Nat :=
  let arg0 : BitVec 32 := BitVec.ofNat 32 (i 0).val
  let c12_i32_5 : BitVec 32 := 12#32
  let v15 : BitVec 32 := Scalar.subi arg0 c12_i32_5
  let c4_i32_12 : BitVec 32 := 4#32
  let v33 : BitVec 32 := Scalar.remsi v15 c4_i32_12
  ![v33.toNat]
def k0_off7 (i : grid0.Coords) : Fin 2 → Nat :=
  let arg0 : BitVec 32 := BitVec.ofNat 32 (i 0).val
  let c12_i32_5 : BitVec 32 := 12#32
  let v15 : BitVec 32 := Scalar.subi arg0 c12_i32_5
  let c4_i32_12 : BitVec 32 := 4#32
  let v33 : BitVec 32 := Scalar.remsi v15 c4_i32_12
  let c512_i32_15 : BitVec 32 := 512#32
  let v41 : BitVec 32 := Scalar.muli v33 c512_i32_15
  let c0_i32_27 : BitVec 32 := 0#32
  ![v41.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c12_i32 : BitVec 32 := 12#32
  let v0 : BitVec 1 := Scalar.cmpi .slt arg0 c12_i32
  let c3_i32 : BitVec 32 := 3#32
  let v1 : BitVec 32 := Scalar.remsi arg0 c3_i32
  let c0_i32 : BitVec 32 := 0#32
  let v2 : BitVec 32 := Scalar.select v0 v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let v17 : BitVec 32 := Scalar.minsi v16 c3_i32_4
  let c0_i32_5 : BitVec 32 := 0#32
  let c0_i32_6 : BitVec 32 := 0#32
  ![v17.toNat, c0_i32_5.toNat]

def cc0_transform_3 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatherRefIdeal.lean ====
abbrev S12288x2048 : Shape := ⟨2, ![12288, 2048]⟩
abbrev S8x2048 : Shape := ⟨2, ![8, 2048]⟩
abbrev S16384x2048 : Shape := ⟨2, ![16384, 2048]⟩
abbrev S8x1536x2048 : Shape := ⟨3, ![8, 1536, 2048]⟩
abbrev S8x2048x2048 : Shape := ⟨3, ![8, 2048, 2048]⟩
abbrev S_ : Shape := ⟨0, ![]⟩
abbrev S8x2048x1 : Shape := ⟨3, ![8, 2048, 1]⟩
abbrev S2x4x2048x2048 : Shape := ⟨4, ![2, 4, 2048, 2048]⟩
abbrev S1x4x2048x2048 : Shape := ⟨4, ![1, 4, 2048, 2048]⟩
abbrev S4x2048x2048 : Shape := ⟨3, ![4, 2048, 2048]⟩
abbrev S4x4096x2048 : Shape := ⟨3, ![4, 4096, 2048]⟩
abbrev S8x4096x2048 : Shape := ⟨3, ![8, 4096, 2048]⟩
abbrev S32768x2048 : Shape := ⟨2, ![32768, 2048]⟩

abbrev nBuf : Space → Nat
  | .hbm => 48
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S8x2048, .i32⟩
  | .hbm, ⟨2, _⟩ => ⟨S16384x2048, .bf16⟩
  | .hbm, ⟨3, _⟩ => ⟨S8x1536x2048, .bf16⟩
  | .hbm, ⟨4, _⟩ => ⟨S8x1536x2048, .f32⟩
  | .hbm, ⟨5, _⟩ => ⟨S8x2048x2048, .bf16⟩
  | .hbm, ⟨6, _⟩ => ⟨S8x2048x2048, .f32⟩
  | .hbm, ⟨7, _⟩ => ⟨S_, .i32⟩
  | .hbm, ⟨8, _⟩ => ⟨S8x2048, .i32⟩
  | .hbm, ⟨9, _⟩ => ⟨S8x2048, .i1⟩
  | .hbm, ⟨10, _⟩ => ⟨S_, .i32⟩
  | .hbm, ⟨11, _⟩ => ⟨S8x2048, .i32⟩
  | .hbm, ⟨12, _⟩ => ⟨S8x2048, .i1⟩
  | .hbm, ⟨13, _⟩ => ⟨S8x2048, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S8x2048, .i32⟩
  | .hbm, ⟨18, _⟩ => ⟨S8x2048, .i32⟩
  | .hbm, ⟨19, _⟩ => ⟨S_, .i32⟩
  | .hbm, ⟨20, _⟩ => ⟨S8x2048, .i32⟩
  | .hbm, ⟨21, _⟩ => ⟨S8x2048, .i32⟩
  | .hbm, ⟨22, _⟩ => ⟨S8x2048x1, .i32⟩
  | .hbm, ⟨23, _⟩ => ⟨S_, .i32⟩
  | .hbm, ⟨24, _⟩ => ⟨S8x2048x1, .i32⟩
  | .hbm, ⟨25, _⟩ => ⟨S8x2048x1, .i1⟩
  | .hbm, ⟨26, _⟩ => ⟨S_, .i32⟩
  | .hbm, ⟨27, _⟩ => ⟨S8x2048x1, .i32⟩
  | .hbm, ⟨28, _⟩ => ⟨S8x2048x1, .i32⟩
  | .hbm, ⟨29, _⟩ => ⟨S8x2048x1, .i32⟩
  | .hbm, ⟨30, _⟩ => ⟨S8x2048x2048, .f32⟩
  | .hbm, ⟨31, _⟩ => ⟨S8x2048x1, .i1⟩
  | .hbm, ⟨32, _⟩ => ⟨S_, .f32⟩
  | .hbm, ⟨33, _⟩ => ⟨S_, .f32⟩
  | .hbm, ⟨34, _⟩ => ⟨S8x2048x2048, .i1⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .bf16⟩
  | .hbm, ⟨39, _⟩ => ⟨S8x2048x2048, .f32⟩
  | .hbm, ⟨40, _⟩ => ⟨S2x4x2048x2048, .f32⟩
  | .hbm, ⟨41, _⟩ => ⟨S1x4x2048x2048, .f32⟩
  | .hbm, ⟨42, _⟩ => ⟨S4x2048x2048, .f32⟩
  | .hbm, ⟨43, _⟩ => ⟨S1x4x2048x2048, .f32⟩
  | .hbm, ⟨44, _⟩ => ⟨S4x2048x2048, .f32⟩
  | .hbm, ⟨45, _⟩ => ⟨S4x4096x2048, .f32⟩
  | .hbm, ⟨46, _⟩ => ⟨S8x4096x2048, .f32⟩
  | .hbm, ⟨47, _⟩ => ⟨S32768x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_c_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]
-- ==== Swap.lean ====
abbrev S2x1536x2048 : Shape := ⟨3, ![2, 1536, 2048]⟩
abbrev S1x2048 : Shape := ⟨2, ![1, 2048]⟩
abbrev S2048x2048 : Shape := ⟨2, ![2048, 2048]⟩
abbrev S1536x2048 : Shape := ⟨2, ![1536, 2048]⟩
abbrev S1x512x2048 : Shape := ⟨3, ![1, 512, 2048]⟩
abbrev S512x2048 : Shape := ⟨2, ![512, 2048]⟩
abbrev S_ : Shape := ⟨0, ![]⟩
abbrev S1x1536x2048 : Shape := ⟨3, ![1, 1536, 2048]⟩
abbrev S1x512 : Shape := ⟨2, ![1, 512]⟩
abbrev S512 : Shape := ⟨1, ![512]⟩
abbrev S512x512 : Shape := ⟨2, ![512, 512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S2x1536x2048, .bf16⟩
  | .hbm, ⟨1, _⟩ => ⟨S1x2048, .i32⟩
  | .hbm, ⟨2, _⟩ => ⟨S2048x2048, .bf16⟩
  | .hbm, ⟨3, _⟩ => ⟨S1536x2048, .bf16⟩
  | .local _ .vmem, ⟨0, _⟩ => ⟨S1x2048, .i32⟩
  | .local _ .vmem, ⟨1, _⟩ => ⟨S1x512x2048, .bf16⟩
  | .local _ .vmem, ⟨2, _⟩ => ⟨S1x512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S2x1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(1, 0)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev barrier1 : Sem sig := 0

abbrev nD : Nat := 8
abbrev τ : Topo := Topo.v7x

variable {F : FTy → Type} [FloatOps F]

abbrev grid0 : Pipeline.Grid := ⟨2, ![4, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_dev1 (d38 : Dev nD) : Nat :=
  let c0_i32_22 : BitVec 32 := 0#32
  let v38 : BitVec 32 := Dev.word d38
  let c4_i32 : BitVec 32 := 4#32
  let v39 : BitVec 32 := Scalar.divsi v38 c4_i32
  let c2_i32_15 : BitVec 32 := 2#32
  let v40 : BitVec 32 := Scalar.remsi v39 c2_i32_15
  let c4_i32_21 : BitVec 32 := 4#32
  let v49 : BitVec 32 := Scalar.muli v40 c4_i32_21
  let v50 : BitVec 32 := Scalar.addi c0_i32_22 v49
  let v41 : BitVec 32 := Dev.word d38
  let c2_i32_17 : BitVec 32 := 2#32
  let v42 : BitVec 32 := Scalar.divsi v41 c2_i32_17
  let c2_i32_16 : BitVec 32 := 2#32
  let v43 : BitVec 32 := Scalar.remsi v42 c2_i32_16
  let c2_i32_23 : BitVec 32 := 2#32
  let v51 : BitVec 32 := Scalar.muli v43 c2_i32_23
  let v52 : BitVec 32 := Scalar.addi v50 v51
  let c1_i32_19 : BitVec 32 := 1#32
  let v44 : BitVec 32 := Dev.word d38
  let c1_i32 : BitVec 32 := 1#32
  let v45 : BitVec 32 := Scalar.divsi v44 c1_i32
  let c2_i32_18 : BitVec 32 := 2#32
  let v46 : BitVec 32 := Scalar.remsi v45 c2_i32_18
  let v47 : BitVec 32 := Scalar.subi c1_i32_19 v46
  let c1_i32_24 : BitVec 32 := 1#32
  let v53 : BitVec 32 := Scalar.muli v47 c1_i32_24
  let v54 : BitVec 32 := Scalar.addi v52 v53
  v54.toNat
def k0_dev2 (d38 : Dev nD) : Nat :=
  let c0_i32_35 : BitVec 32 := 0#32
  let v55 : BitVec 32 := Dev.word d38
  let c4_i32_27 : BitVec 32 := 4#32
  let v56 : BitVec 32 := Scalar.divsi v55 c4_i32_27
  let c2_i32_26 : BitVec 32 := 2#32
  let v57 : BitVec 32 := Scalar.remsi v56 c2_i32_26
  let c4_i32_34 : BitVec 32 := 4#32
  let v65 : BitVec 32 := Scalar.muli v57 c4_i32_34
  let v66 : BitVec 32 := Scalar.addi c0_i32_35 v65
  let v58 : BitVec 32 := Dev.word d38
  let c2_i32_29 : BitVec 32 := 2#32
  let v59 : BitVec 32 := Scalar.divsi v58 c2_i32_29
  let c2_i32_28 : BitVec 32 := 2#32
  let v60 : BitVec 32 := Scalar.remsi v59 c2_i32_28
  let c2_i32_36 : BitVec 32 := 2#32
  let v67 : BitVec 32 := Scalar.muli v60 c2_i32_36
  let v68 : BitVec 32 := Scalar.addi v66 v67
  let c1_i32_32 : BitVec 32 := 1#32
  let v61 : BitVec 32 := Dev.word d38
  let c1_i32_31 : BitVec 32 := 1#32
  let v62 : BitVec 32 := Scalar.divsi v61 c1_i32_31
  let c2_i32_30 : BitVec 32 := 2#32
  let v63 : BitVec 32 := Scalar.remsi v62 c2_i32_30
  let v64 : BitVec 32 := Scalar.subi c1_i32_32 v63
  let c1_i32_37 : BitVec 32 := 1#32
  let v69 : BitVec 32 := Scalar.muli v64 c1_i32_37
  let v70 : BitVec 32 := Scalar.addi v68 v69
  v70.toNat
def k0_off1 (i : grid0.Coords) : Fin 2 → Nat :=
  let c0 : Index := 0#32
  let arg0 : BitVec 32 := BitVec.ofNat 32 (i 0).val
  let c512_i32 : BitVec 32 := 512#32
  let v5 : BitVec 32 := Scalar.muli arg0 c512_i32
  let v6 : Index := Scalar.indexCast v5
  ![0, v6.toNat]
def k0_cond3 (i : grid0.Coords) : BitVec 1 :=
  let arg1 : BitVec 32 := BitVec.ofNat 32 (i 1).val
  let c2_i32 : BitVec 32 := 2#32
  let v30 : BitVec 1 := Scalar.cmpi .eq arg1 c2_i32
  let v31 : BitVec 32 := Scalar.extui v30
  let c0_i32_12 : BitVec 32 := 0#32
  let v32 : BitVec 1 := Scalar.cmpi .ne v31 c0_i32_12
  v32

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SwapRefIdeal.lean ====
abbrev S16x1536x2048 : Shape := ⟨3, ![16, 1536, 2048]⟩
abbrev S8x2048 : Shape := ⟨2, ![8, 2048]⟩
abbrev S4x2x2x1536x2048 : Shape := ⟨5, ![4, 2, 2, 1536, 2048]⟩
abbrev S_ : Shape := ⟨0, ![]⟩
abbrev S4x2x1x1536x2048 : Shape := ⟨5, ![4, 2, 1, 1536, 2048]⟩
abbrev S4x2x1536x2048 : Shape := ⟨4, ![4, 2, 1536, 2048]⟩
abbrev S8x1536x2048 : Shape := ⟨3, ![8, 1536, 2048]⟩
abbrev S8x2048x1 : Shape := ⟨3, ![8, 2048, 1]⟩
abbrev S8x2048x2048 : Shape := ⟨3, ![8, 2048, 2048]⟩
abbrev S16384x2048 : Shape := ⟨2, ![16384, 2048]⟩
abbrev S12288x2048 : Shape := ⟨2, ![12288, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16x1536x2048, .bf16⟩
  | .hbm, ⟨1, _⟩ => ⟨S8x2048, .i32⟩
  | .hbm, ⟨2, _⟩ => ⟨S4x2x2x1536x2048, .bf16⟩
  | .hbm, ⟨3, _⟩ => ⟨S_, .i32⟩
  | .hbm, ⟨4, _⟩ => ⟨S8x2048, .i32⟩
  | .hbm, ⟨5, _⟩ => ⟨S8x2048, .i1⟩
  | .hbm, ⟨6, _⟩ => ⟨S_, .i32⟩
  | .hbm, ⟨7, _⟩ => ⟨S8x2048, .i32⟩
  | .hbm, ⟨8, _⟩ => ⟨S8x2048, .i1⟩
  | .hbm, ⟨9, _⟩ => ⟨S8x2048, .i1⟩
  | .hbm, ⟨10, _⟩ => ⟨S4x2x1x1536x2048, .bf16⟩
  | .hbm, ⟨11, _⟩ => ⟨S4x2x1536x2048, .bf16⟩
  | .hbm, ⟨12, _⟩ => ⟨S8x1536x2048, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8x2048, .i32⟩
  | .hbm, ⟨17, _⟩ => ⟨S8x2048, .i32⟩
  | .hbm, ⟨18, _⟩ => ⟨S_, .i32⟩
  | .hbm, ⟨19, _⟩ => ⟨S8x2048, .i32⟩
  | .hbm, ⟨20, _⟩ => ⟨S8x2048, .i32⟩
  | .hbm, ⟨21, _⟩ => ⟨S8x2048x1, .i32⟩
  | .hbm, ⟨22, _⟩ => ⟨S_, .i32⟩
  | .hbm, ⟨23, _⟩ => ⟨S8x2048x1, .i32⟩
  | .hbm, ⟨24, _⟩ => ⟨S8x2048x1, .i1⟩
  | .hbm, ⟨25, _⟩ => ⟨S_, .i32⟩
  | .hbm, ⟨26, _⟩ => ⟨S8x2048x1, .i32⟩
  | .hbm, ⟨27, _⟩ => ⟨S8x2048x1, .i32⟩
  | .hbm, ⟨28, _⟩ => ⟨S8x2048x1, .i32⟩
  | .hbm, ⟨29, _⟩ => ⟨S8x2048x2048, .bf16⟩
  | .hbm, ⟨30, _⟩ => ⟨S8x2048x1, .i1⟩
  | .hbm, ⟨31, _⟩ => ⟨S_, .bf16⟩
  | .hbm, ⟨32, _⟩ => ⟨S8x2048x2048, .i1⟩
  | .hbm, ⟨33, _⟩ => ⟨S8x2048x2048, .bf16⟩
  | .hbm, ⟨34, _⟩ => ⟨S8x2048x2048, .bf16⟩
  | .hbm, ⟨35, _⟩ => ⟨S16384x2048, .bf16⟩
  | .hbm, ⟨36, _⟩ => ⟨S4x2x1x1536x2048, .bf16⟩
  | .hbm, ⟨37, _⟩ => ⟨S4x2x1x1536x2048, .bf16⟩
  | .hbm, ⟨38, _⟩ => ⟨S4x2x1536x2048, .bf16⟩
  | .hbm, ⟨39, _⟩ => ⟨S12288x2048, .bf16⟩
  | _, _ => ⟨S16x1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v9 : Ref sig .tc := ⟨.hbm, 20, rfl⟩
abbrev main_v10 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩

abbrev nD : Nat := 1
abbrev τ : Topo := Topo.v7x

variable {F : FTy → Type} [FloatOps F]
-- ==== Pack.lean ====
abbrev S2048x2048 : Shape := ⟨2, ![2048, 2048]⟩
abbrev S1x2048 : Shape := ⟨2, ![1, 2048]⟩
abbrev S6x512x2048 : Shape := ⟨3, ![6, 512, 2048]⟩
abbrev S1x512x2048 : Shape := ⟨3, ![1, 512, 2048]⟩
abbrev S2048 : Shape := ⟨1, ![2048]⟩
abbrev S512x2048 : Shape := ⟨2, ![512, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2048x2048, .bf16⟩
  | .hbm, ⟨1, _⟩ => ⟨S1x2048, .i32⟩
  | .hbm, ⟨2, _⟩ => ⟨S6x512x2048, .bf16⟩
  | .local _ .vmem, ⟨0, _⟩ => ⟨S1x2048, .i32⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PackRefIdeal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S3072x2048 : Shape := ⟨2, ![3072, 2048]⟩
abbrev S2048x1 : Shape := ⟨2, ![2048, 1]⟩
abbrev S6x512x2048 : Shape := ⟨3, ![6, 512, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S_, .f32⟩
  | .hbm, ⟨12, _⟩ => ⟨S3072x2048, .f32⟩
  | .hbm, ⟨13, _⟩ => ⟨S2048x2048, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S3072x2048, .f32⟩
  | .hbm, ⟨23, _⟩ => ⟨S3072x2048, .bf16⟩
  | .hbm, ⟨24, _⟩ => ⟨S6x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Route.lean ====
abbrev S4096x2048 : Shape := ⟨2, ![4096, 2048]⟩
abbrev S4096 : Shape := ⟨1, ![4096]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S8 : Shape := ⟨1, ![8]⟩
abbrev S1x8 : Shape := ⟨2, ![1, 8]⟩
abbrev S2048x8 : Shape := ⟨2, ![2048, 8]⟩
abbrev S1x2048 : Shape := ⟨2, ![1, 2048]⟩
abbrev S6x512x2048 : Shape := ⟨3, ![6, 512, 2048]⟩
abbrev S1x512x2048 : Shape := ⟨3, ![1, 512, 2048]⟩
abbrev S512x2048 : Shape := ⟨2, ![512, 2048]⟩

abbrev nBuf : Space → Nat
  | .hbm => 103
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2048x2048, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048x1, .i32⟩
  | .hbm, ⟨22, _⟩ => ⟨S8, .i32⟩
  | .hbm, ⟨23, _⟩ => ⟨S1x8, .i32⟩
  | .hbm, ⟨24, _⟩ => ⟨S2048x8, .i32⟩
  | .hbm, ⟨25, _⟩ => ⟨S2048x8, .i32⟩
  | .hbm, ⟨26, _⟩ => ⟨S2048x8, .i1⟩
  | .hbm, ⟨27, _⟩ => ⟨S2048x8, .i32⟩
  | .hbm, ⟨28, _⟩ => ⟨S_, .i32⟩
  | .hbm, ⟨29, _⟩ => ⟨S_, .i32⟩
  | .hbm, ⟨30, _⟩ => ⟨S2048x8, .i32⟩
  | .hbm, ⟨31, _⟩ => ⟨S_, .i32⟩
  | .hbm, ⟨32, _⟩ => ⟨S2048x8, .i32⟩
  | .hbm, ⟨33, _⟩ => ⟨S2048x8, .i32⟩
  | .hbm, ⟨34, _⟩ => ⟨S2048x8, .i32⟩
  | .hbm, ⟨35, _⟩ => ⟨S_, .i32⟩
  | .hbm, ⟨36, _⟩ => ⟨S2048, .i32⟩
  | .hbm, ⟨37, _⟩ => ⟨S_, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S_, .i32⟩
  | .hbm, ⟨76, _⟩ => ⟨S_, .i32⟩
  | .hbm, ⟨77, _⟩ => ⟨S2048, .i32⟩
  | .hbm, ⟨78, _⟩ => ⟨S2048, .i32⟩
  | .hbm, ⟨79, _⟩ => ⟨S2048, .i1⟩
  | .hbm, ⟨80, _⟩ => ⟨S2048, .i1⟩
  | .hbm, ⟨81, _⟩ => ⟨S_, .i32⟩
  | .hbm, ⟨82, _⟩ => ⟨S2048, .i32⟩
  | .hbm, ⟨83, _⟩ => ⟨S2048, .i32⟩
  | .hbm, ⟨84, _⟩ => ⟨S2048, .i32⟩
  | .hbm, ⟨85, _⟩ => ⟨S_, .i32⟩
  | .hbm, ⟨86, _⟩ => ⟨S_, .i32⟩
  | .hbm, ⟨87, _⟩ => ⟨S2048, .i32⟩
  | .hbm, ⟨88, _⟩ => ⟨S2048, .i32⟩
  | .hbm, ⟨89, _⟩ => ⟨S_, .i32⟩
  | .hbm, ⟨90, _⟩ => ⟨S2048, .i32⟩
  | .hbm, ⟨91, _⟩ => ⟨S2048, .i1⟩
  | .hbm, ⟨92, _⟩ => ⟨S_, .i32⟩
  | .hbm, ⟨93, _⟩ => ⟨S2048, .i32⟩
  | .hbm, ⟨94, _⟩ => ⟨S2048, .i32⟩
  | .hbm, ⟨95, _⟩ => ⟨S_, .i32⟩
  | .hbm, ⟨96, _⟩ => ⟨S_, .i32⟩
  | .hbm, ⟨97, _⟩ => ⟨S2048, .i32⟩
  | .hbm, ⟨98, _⟩ => ⟨S2048, .i32⟩
  | .hbm, ⟨99, _⟩ => ⟨S2048, .i32⟩
  | .hbm, ⟨100, _⟩ => ⟨S2048x2048, .bf16⟩
  | .hbm, ⟨101, _⟩ => ⟨S1x2048, .i32⟩
  | .hbm, ⟨102, _⟩ => ⟨S6x512x2048, .bf16⟩
  | .local _ .vmem, ⟨0, _⟩ => ⟨S1x2048, .i32⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_c_3 : Ref sig .tc := ⟨.hbm, 13, rfl⟩
abbrev main_v5 : Ref sig .tc := ⟨.hbm, 14, rfl⟩
abbrev main_c_4 : Ref sig .tc := ⟨.hbm, 15, rfl⟩
abbrev main_v6 : Ref sig .tc := ⟨.hbm, 16, rfl⟩
abbrev main_c_5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_call0_c : Ref sig .tc := ⟨.hbm, 28, rfl⟩
abbrev main_call0_call0_v0 : Ref sig .tc := ⟨.hbm, 29, rfl⟩
abbrev main_v17 : Ref sig .tc := ⟨.hbm, 30, rfl⟩
abbrev main_c_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_c_8 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_9 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_10 : Ref sig .tc := ⟨.hbm, 61, rfl⟩
abbrev main_v28 : Ref sig .tc := ⟨.hbm, 62, rfl⟩
abbrev main_c_11 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_12 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_13 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_c_14 : Ref sig .tc := ⟨.hbm, 75, rfl⟩
abbrev main_call2_v0 : Ref sig .tc := ⟨.hbm, 76, rfl⟩
abbrev main_call2_v1 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_c_15 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_c_16 : Ref sig .tc := ⟨.hbm, 85, rfl⟩
abbrev main_call3_v0 : Ref sig .tc := ⟨.hbm, 86, rfl⟩
abbrev main_call3_v1 : Ref sig .tc := ⟨.hbm, 87, rfl⟩
abbrev main_v44 : Ref sig .tc := ⟨.hbm, 88, rfl⟩
abbrev main_c_17 : Ref sig .tc := ⟨.hbm, 89, rfl⟩
abbrev main_v45 : Ref sig .tc := ⟨.hbm, 90, rfl⟩
abbrev main_v46 : Ref sig .tc := ⟨.hbm, 91, rfl⟩
abbrev main_c_18 : Ref sig .tc := ⟨.hbm, 92, rfl⟩
abbrev main_v47 : Ref sig .tc := ⟨.hbm, 93, rfl⟩
abbrev main_v48 : Ref sig .tc := ⟨.hbm, 94, rfl⟩
abbrev main_c_19 : Ref sig .tc := ⟨.hbm, 95, rfl⟩
abbrev main_call4_v0 : Ref sig .tc := ⟨.hbm, 96, rfl⟩
abbrev main_call4_v1 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RouteRefIdeal.lean ====
abbrev S4096x2048 : Shape := ⟨2, ![4096, 2048]⟩
abbrev S4096 : Shape := ⟨1, ![4096]⟩
abbrev S_ : Shape := ⟨0, ![]⟩
abbrev S2048x2048 : Shape := ⟨2, ![2048, 2048]⟩
abbrev S2048 : Shape := ⟨1, ![2048]⟩
abbrev S2048x1 : Shape := ⟨2, ![2048, 1]⟩
abbrev S1x2048 : Shape := ⟨2, ![1, 2048]⟩
abbrev S3072x2048 : Shape := ⟨2, ![3072, 2048]⟩
abbrev S1536x2048 : Shape := ⟨2, ![1536, 2048]⟩
abbrev S6x512x2048 : Shape := ⟨3, ![6, 512, 2048]⟩

abbrev nBuf : Space → Nat
  | .hbm => 109
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .i32⟩
  | .hbm, ⟨10, _⟩ => ⟨S_, .i1⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S2048x2048, .i1⟩
  | .hbm, ⟨26, _⟩ => ⟨S2048x2048, .i32⟩
  | .hbm, ⟨27, _⟩ => ⟨S_, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048x2048, .bf16⟩
  | .hbm, ⟨41, _⟩ => ⟨S2048x2048, .f32⟩
  | .hbm, ⟨42, _⟩ => ⟨S_, .f32⟩
  | .hbm, ⟨43, _⟩ => ⟨S3072x2048, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S3072x2048, .f32⟩
  | .hbm, ⟨53, _⟩ => ⟨S_, .i32⟩
  | .hbm, ⟨54, _⟩ => ⟨S_, .i1⟩
  | .hbm, ⟨55, _⟩ => ⟨S1536x2048, .f32⟩
  | .hbm, ⟨56, _⟩ => ⟨S1536x2048, .f32⟩
  | .hbm, ⟨57, _⟩ => ⟨S3072x2048, .f32⟩
  | .hbm, ⟨58, _⟩ => ⟨S3072x2048, .f32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S2048, .i32⟩
  | .hbm, ⟨69, _⟩ => ⟨S2048, .i32⟩
  | .hbm, ⟨70, _⟩ => ⟨S_, .i32⟩
  | .hbm, ⟨71, _⟩ => ⟨S2048, .i32⟩
  | .hbm, ⟨72, _⟩ => ⟨S2048, .i1⟩
  | .hbm, ⟨73, _⟩ => ⟨S_, .i32⟩
  | .hbm, ⟨74, _⟩ => ⟨S2048, .i32⟩
  | .hbm, ⟨75, _⟩ => ⟨S2048, .i1⟩
  | .hbm, ⟨76, _⟩ => ⟨S_, .i32⟩
  | .hbm, ⟨77, _⟩ => ⟨S_, .i1⟩
  | .hbm, ⟨78, _⟩ => ⟨S2048, .i1⟩
  | .hbm, ⟨79, _⟩ => ⟨S2048, .i1⟩
  | .hbm, ⟨80, _⟩ => ⟨S2048, .i1⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S_, .i32⟩
  | .hbm, ⟨85, _⟩ => ⟨S2048, .i32⟩
  | .hbm, ⟨86, _⟩ => ⟨S2048, .i32⟩
  | .hbm, ⟨87, _⟩ => ⟨S2048, .i32⟩
  | .hbm, ⟨88, _⟩ => ⟨S_, .i32⟩
  | .hbm, ⟨89, _⟩ => ⟨S_, .i32⟩
  | .hbm, ⟨90, _⟩ => ⟨S2048, .i32⟩
  | .hbm, ⟨91, _⟩ => ⟨S2048, .i32⟩
  | .hbm, ⟨92, _⟩ => ⟨S_, .i32⟩
  | .hbm, ⟨93, _⟩ => ⟨S2048, .i32⟩
  | .hbm, ⟨94, _⟩ => ⟨S2048, .i1⟩
  | .hbm, ⟨95, _⟩ => ⟨S_, .i32⟩
  | .hbm, ⟨96, _⟩ => ⟨S_, .i1⟩
  | .hbm, ⟨97, _⟩ => ⟨S2048, .i1⟩
  | .hbm, ⟨98, _⟩ => ⟨S2048, .i1⟩
  | .hbm, ⟨99, _⟩ => ⟨S3072x2048, .bf16⟩
  | .hbm, ⟨100, _⟩ => ⟨S6x512x2048, .bf16⟩
  | .hbm, ⟨101, _⟩ => ⟨S_, .i32⟩
  | .hbm, ⟨102, _⟩ => ⟨S_, .i32⟩
  | .hbm, ⟨103, _⟩ => ⟨S2048, .i32⟩
  | .hbm, ⟨104, _⟩ => ⟨S2048, .i32⟩
  | .hbm, ⟨105, _⟩ => ⟨S_, .i32⟩
  | .hbm, ⟨106, _⟩ => ⟨S_, .i32⟩
  | .hbm, ⟨107, _⟩ => ⟨S2048, .i32⟩
  | .hbm, ⟨108, _⟩ => ⟨S2048, .i32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_call2_v0 : Ref sig .tc := ⟨.hbm, 37, rfl⟩
abbrev main_call2_v1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_call3_v0 : Ref sig .tc := ⟨.hbm, 55, rfl⟩
abbrev main_call3_v1 : Ref sig .tc := ⟨.hbm, 56, rfl⟩
abbrev main_v39 : Ref sig .tc := ⟨.hbm, 57, rfl⟩
abbrev main_v40 : Ref sig .tc := ⟨.hbm, 58, rfl⟩
abbrev main_c_8 : Ref sig .tc := ⟨.hbm, 59, rfl⟩
abbrev main_v41 : Ref sig .tc := ⟨.hbm, 60, rfl⟩
abbrev main_v42 : Ref sig .tc := ⟨.hbm, 61, rfl⟩
abbrev main_c_9 : Ref sig .tc := ⟨.hbm, 62, rfl⟩
abbrev main_call5_v0 : Ref sig .tc := ⟨.hbm, 63, rfl⟩
abbrev main_call5_c : Ref sig .tc := ⟨.hbm, 64, rfl⟩
abbrev main_call5_v1 : Ref sig .tc := ⟨.hbm, 65, rfl⟩
abbrev main_call5_c_0 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_c_1 : Ref sig .tc := ⟨.hbm, 70, rfl⟩
abbrev main_call5_v5 : Ref sig .tc := ⟨.hbm, 71, rfl⟩
abbrev main_call5_v6 : Ref sig .tc := ⟨.hbm, 72, rfl⟩
abbrev main_call5_c_2 : Ref sig .tc := ⟨.hbm, 73, rfl⟩
abbrev main_call5_v7 : Ref sig .tc := ⟨.hbm, 74, rfl⟩
abbrev main_call5_v8 : Ref sig .tc := ⟨.hbm, 75, rfl⟩
abbrev main_call5_c_3 : Ref sig .tc := ⟨.hbm, 76, rfl⟩
abbrev main_call5_v9 : Ref sig .tc := ⟨.hbm, 77, rfl⟩
abbrev main_call5_v10 : Ref sig .tc := ⟨.hbm, 78, rfl⟩
abbrev main_call5_v11 : Ref sig .tc := ⟨.hbm, 79, rfl⟩
abbrev main_call5_v12 : Ref sig .tc := ⟨.hbm, 80, rfl⟩
abbrev main_call5_v13 : Ref sig .tc := ⟨.hbm, 81, rfl⟩
abbrev main_call5_v14 : Ref sig .tc := ⟨.hbm, 82, rfl⟩
abbrev main_v43 : Ref sig .tc := ⟨.hbm, 83, rfl⟩
abbrev main_c_10 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_c_11 : Ref sig .tc := ⟨.hbm, 88, rfl⟩
abbrev main_call6_v0 : Ref sig .tc := ⟨.hbm, 89, rfl⟩
abbrev main_call6_v1 : Ref sig .tc := ⟨.hbm, 90, rfl⟩
abbrev main_v47 : Ref sig .tc := ⟨.hbm, 91, rfl⟩
abbrev main_c_12 : Ref sig .tc := ⟨.hbm, 92, rfl⟩
abbrev main_v48 : Ref sig .tc := ⟨.hbm, 93, rfl⟩
abbrev main_v49 : Ref sig .tc := ⟨.hbm, 94, rfl⟩
abbrev main_c_13 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_14 : Ref sig .tc := ⟨.hbm, 101, rfl⟩
abbrev main_call7_v0 : Ref sig .tc := ⟨.hbm, 102, rfl⟩
abbrev main_call7_v1 : Ref sig .tc := ⟨.hbm, 103, rfl⟩
abbrev main_v55 : Ref sig .tc := ⟨.hbm, 104, rfl⟩
abbrev main_c_15 : Ref sig .tc := ⟨.hbm, 105, rfl⟩
abbrev main_call8_v0 : Ref sig .tc := ⟨.hbm, 106, rfl⟩
abbrev main_call8_v1 : Ref sig .tc := ⟨.hbm, 107, rfl⟩
abbrev main_v56 : Ref sig .tc := ⟨.hbm, 108, rfl⟩

abbrev nD : Nat := 1
abbrev τ : Topo := Topo.v7x

variable {F : FTy → Type} [FloatOps F]
-- ==== Proof.Exchange.lean ====
/-
# Exchanges in which every cell is paid once

A family of semaphores, named by `I`, the same on every device. The cell named `k` on the device `payer k c` is paid
exactly once, by device `c`, the amount `amt k`, and its units hand the cell's owner the assertion `P` names. The
launch makes the cells, deals every device the duties it pays, and credits every device with what the others owe it
at the launch (`owed`, the names paid by a signal or a transfer of another device).
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig}

variable (nD τ sig) in
/-- The exchange's own copy of the rounds algebra, one duty per cell; -/
abbrev XB : Type := URounds (GSem nD τ sig) Unit
variable (nD τ sig) in
/-- beside the pipeline's and the counters of the local copies. -/
abbrev XU : Type := URounds (GSem nD τ sig) Unit × (XB nD τ sig × Counters)

variable {Val : EltTy → Type}

/-- Where the exchange's copy lies in the user algebra. -/
def ER : Emb (XB nD τ sig) (MT nD τ sig Unit Val ℕ (XU nD τ sig) ℕ) :=
  ((Emb.inl : Emb (XB nD τ sig) (XB nD τ sig × Counters)).trans (Emb.inr : Emb (XB nD τ sig × Counters) (XU nD τ sig))).trans
    (uEmb (nD := nD) (sig := sig) (Ix := Unit) (Val := Val) (Name := ℕ) (U := XU nD τ sig) (Lvl := ℕ)).toEmb
instance ER_landsIn : (ER : Emb (XB nD τ sig) (MT nD τ sig Unit Val ℕ (XU nD τ sig) ℕ)).LandsIn (upEmb : UEmb _ (MT nD τ sig Unit Val ℕ (XU nD τ sig) ℕ)) := by unfold ER; infer_instance

/-- The launch element splits into the pipeline's part and the exchange's. -/
theorem ownU_split (a : URounds (GSem nD τ sig) Unit) (b : XB nD τ sig) :
    (ownU ((a, (b, 1)) : XU nD τ sig) : sProp (MT nD τ sig Unit Val ℕ (XU nD τ sig) ℕ)) ⊢ iprop(BI.own ((embL : Emb (URounds (GSem nD τ sig) Unit) (MT nD τ sig Unit Val ℕ (XU nD τ sig) ℕ)) a) ∗ BI.own ((ER : Emb (XB nD τ sig) (MT nD τ sig Unit Val ℕ (XU nD τ sig) ℕ)) b)) :=
  BI.own_op_elim ((uEmb (nD := nD) (sig := sig) (Ix := Unit) (Val := Val) (Name := ℕ) (U := XU nD τ sig) (Lvl := ℕ)).toEmb.op_of_mem
    (Prod.mk_mem_op (URA.mem_op_one a) (URA.mem_one_op (b, (1 : Counters)))))

/-- The semaphores of an exchange. -/
structure Plan (nD : Nat) (sig : RefSig) (I : Type) where
  sem : I → SemLoc sig
  inj : Function.Injective sem
  amt : I → ℕ
  pos : ∀ k, 0 < amt k
  payer : I → Dev nD ≃ Dev nD
  level : I → ℕ

variable {I : Type} [Fintype I] [DecidableEq I] (X : Plan nD sig I)

/-- Device `c`'s cell named `k`. -/
def Plan.cell (ck : Dev nD × I) : GSem nD τ sig := ((ck.1 : Thread nD τ), X.sem ck.2)

theorem Plan.cell_inj : Function.Injective (X.cell : Dev nD × I → GSem nD τ sig) := by
  rintro ⟨c, k⟩ ⟨c', k'⟩ h
  have h1 : c = c' := congrArg (fun g : GSem nD τ sig => g.1.1) h
  have h2 : k = k' := X.inj (congrArg Prod.snd h)
  rw [h1, h2]

theorem Plan.cell_eq_iff {a b : Dev nD × I} : Iff ((X.cell a : GSem nD τ sig) = X.cell b) (a = b) := ⟨fun h => X.cell_inj h, fun h => h ▸ rfl⟩

/-! ## The schedule -/

variable (P : Dev nD × I → sProp (MT nD τ sig Unit Val ℕ (XU nD τ sig) ℕ))

open Classical in
/-- One round, in which each cell has one duty. -/
def sched : Rounds.Schedule (GSem nD τ sig) Unit (MT nD τ sig Unit Val ℕ (XU nD τ sig) ℕ) where
  duties g r := if r = 0 ∧ ∃ x, X.cell x = g then {()} else ∅
  unitless _ := False
  amount g _ _ := if h : ∃ x, X.cell x = g then X.amt h.choose.2 else 1
  payload g _ _ := if h : ∃ x, X.cell x = g then P h.choose else iprop(emp)
  amount_pos g _ _ _ := by
    by_cases h : ∃ x, X.cell x = g
    · rw [dif_pos h]; exact X.pos _
    · rw [dif_neg h]; exact Nat.one_pos

instance sched_storable [hP : ∀ x, BI.Storable (upEmb : UEmb _ (MT nD τ sig Unit Val ℕ (XU nD τ sig) ℕ)) (P x)] (g : GSem nD τ sig) (r : ℕ) (d : Unit) :
    BI.Storable (upEmb : UEmb _ (MT nD τ sig Unit Val ℕ (XU nD τ sig) ℕ)) ((sched X P).payload g r d) := by
  dsimp only [sched]
  split
  · exact hP _
  · infer_instance

section Sched
variable (x : Dev nD × I)

theorem chosen {x : Dev nD × I} (h : ∃ y, (X.cell y : GSem nD τ sig) = X.cell x) : h.choose = x := X.cell_inj h.choose_spec

theorem duties_cell : (sched X P).duties (X.cell x) 0 = {()} := by dsimp only [sched]; exact if_pos ⟨rfl, x, rfl⟩
theorem duties_later (g : GSem nD τ sig) : ∀ r, 1 ≤ r → (sched X P).duties g r = ∅ :=
  fun r hr => by dsimp only [sched]; exact if_neg fun h => by omega
theorem amount_cell (d : Unit) : (sched X P).amount (X.cell x) 0 d = X.amt x.2 := by
  have h : ∃ y, (X.cell y : GSem nD τ sig) = X.cell x := ⟨x, rfl⟩
  dsimp only [sched]; rw [dif_pos h, chosen X h]
theorem payload_cell (d : Unit) : (sched X P).payload (X.cell x) 0 d = P x := by
  have h : ∃ y, (X.cell y : GSem nD τ sig) = X.cell x := ⟨x, rfl⟩
  dsimp only [sched]; rw [dif_pos h, chosen X h]
theorem expect_cell : (sched X P).expect (X.cell x) 0 = X.amt x.2 := by
  unfold Schedule.expect Schedule.amountOf; rw [duties_cell, Finset.sum_singleton, amount_cell]
/-- The payload of a cell none of whose duties is taken. -/
theorem rest_cell : bigSep ((sched X P).duties (X.cell x) 0 \ ∅) (fun d => (sched X P).payload (X.cell x) 0 d) = P x := by
  rw [Finset.sdiff_empty, duties_cell, bigSep_singleton, payload_cell]

end Sched

/-! ## What the devices owe at the launch, and the levels -/

/-- What device `c` owes the cells named in `S`. -/
def owes' (S : Finset I) (c : Dev nD) : CellTallies nD τ sig Unit := ∑ k ∈ S, tallyAt (X.cell (X.payer k c, k)) () (X.amt k)

theorem owes'_insert {S : Finset I} {k : I} (h : k ∉ S) (c : Dev nD) :
    (owes' X (insert k S) c : CellTallies nD τ sig Unit) = owes' X S c + tallyAt (X.cell (X.payer k c, k)) () (X.amt k) := by
  unfold owes'; rw [Finset.sum_insert h, add_comm]
theorem owes'_empty (c : Dev nD) : (owes' X ∅ c : CellTallies nD τ sig Unit) = 0 := by unfold owes'; exact Finset.sum_empty

theorem owes'_apply (S : Finset I) (c : Dev nD) (g : GSem nD τ sig) (u : Unit) :
    owes' X S c g u = ∑ k ∈ S, if g = X.cell (X.payer k c, k) then X.amt k else 0 := by
  unfold owes'
  rw [Finset.sum_apply, Finsupp.finset_sum_apply]
  refine Finset.sum_congr rfl fun k _ => ?_
  rw [tallyAt_apply]
  by_cases h : g = X.cell (X.payer k c, k)
  · rw [if_pos ⟨h, rfl⟩, if_pos h]
  · rw [if_neg (fun h' => h h'.1), if_neg h]

theorem owes'_pos {S : Finset I} {c : Dev nD} {g : GSem nD τ sig} {u : Unit} (h : 0 < owes' X S c g u) :
    ∃ k ∈ S, g = X.cell (X.payer k c, k) := by
  by_contra hn
  rw [owes'_apply, Finset.sum_eq_zero fun k hk => if_neg fun h' => hn ⟨k, hk, h'⟩] at h
  exact Nat.lt_irrefl 0 h

/-- Every cell of a TensorCore has the one index. -/
def L (g : GSem nD τ sig) : Finset Unit := if g.1.2 = .tc then {()} else ∅
open Classical in
/-- An exchange's semaphore is at the level of its name, any other at 0. -/
def lv (g : GSem nD τ sig) (_ : Unit) : ℕ := if h : ∃ k, X.sem k = g.2 then X.level h.choose else 0

theorem L_of_ne (g : GSem nD τ sig) (h : g.1.2 ≠ .tc) : L g = ∅ := if_neg h
theorem L_tc (c : Dev nD) (sm : SemLoc sig) : (L ((c : Thread nD τ), sm)) = {()} := if_pos rfl

theorem lv_cell (x : Dev nD × I) (u : Unit) : lv X (X.cell x : GSem nD τ sig) u = X.level x.2 := by
  have h : ∃ k, X.sem k = (X.cell x : GSem nD τ sig).2 := ⟨x.2, rfl⟩
  unfold lv; rw [dif_pos h, X.inj h.choose_spec]
theorem lv_other (g : GSem nD τ sig) (h : ∀ k, X.sem k ≠ g.2) (u : Unit) : lv X g u = 0 := by
  unfold lv; exact dif_neg fun ⟨k, hk⟩ => h k hk

/-- A device may wait on a cell below every cell it owes. -/
theorem mayWait (c : Dev nD) (sm : SemLoc sig) (S : Finset I) (h : ∀ k ∈ S, lv X ((c : Thread nD τ), sm) () < X.level k) :
    (levAts L (lv X) : sProp (MT nD τ sig Unit Val ℕ (XU nD τ sig) ℕ)) ⊢ MayWait (c : Thread nD τ) sm () (owes' X S c) :=
  MayOwe.of_cut (L := L) (lev := lv X) (lv X ((c : Thread nD τ), sm) ())
    (fun p hp => by rw [Finset.mem_singleton.mp hp, L_tc]; exact Finset.mem_singleton_self _)
    (fun g u hg => by
      obtain ⟨k, _, rfl⟩ := owes'_pos X hg
      exact Finset.mem_singleton_self _)
    (fun p hp => by rw [Finset.mem_singleton.mp hp])
    (fun g u hg => by
      obtain ⟨k, hk, rfl⟩ := owes'_pos X hg
      rw [lv_cell]; exact h k hk)

/-- What the launch credits device `c`: the amounts the others owe its cells. -/
theorem creds (S : Finset I) (c : Dev nD) :
    (Pipeline.launchCred (owes' X S) c : sProp (MT nD τ sig Unit Val ℕ (XU nD τ sig) ℕ)) ⊢ bigSep S fun k => cred (tallyAt (X.cell (c, k)) () (X.amt k)) := by
  have key : ∀ k ∈ S, tallyOn ((c : Thread nD τ), X.sem k) (launchCredit (Pipeline.owing (owes' X S)) 0 ((c : Thread nD τ), X.sem k))
      = (tallyAt (X.cell (c, k)) () (X.amt k) : CellTallies nD τ sig Unit) := fun k hk => by
    unfold tallyAt
    refine congrArg (tallyOn ((c : Thread nD τ), X.sem k)) (Finsupp.ext fun u => ?_)
    rw [Pipeline.launchCredit_owing, Finsupp.single_eq_same, Finset.sum_eq_single ((X.payer k).symm c)]
    · rw [owes'_apply, Finset.sum_eq_single k]
      · refine if_pos ?_
        rw [Equiv.apply_symm_apply]; rfl
      · intro k' _ hne
        refine if_neg fun h => hne ?_
        have e : (c, k) = (X.payer k' ((X.payer k).symm c), k') := X.cell_inj (τ := τ) h
        exact (congrArg Prod.snd e).symm
      · exact fun h => absurd hk h
    · intro d _ hne
      rw [owes'_apply]
      refine Finset.sum_eq_zero fun k' _ => if_neg fun h => hne ?_
      have e : (c, k) = (X.payer k' d, k') := X.cell_inj (τ := τ) h
      have e2 : k = k' := congrArg Prod.snd e
      subst e2
      rw [Equiv.eq_symm_apply]; exact (congrArg Prod.fst e).symm
    · exact fun h => absurd (Finset.mem_univ _) h
  unfold Pipeline.launchCred
  refine (bigSep_subset (t := S.map ⟨X.sem, X.inj⟩) (Finset.subset_univ _)).trans ?_
  rw [bigSep_map]
  exact bigSep_mono fun k hk => Entails.of_eq (congrArg (cred (Val := Val) (Name := ℕ) (U := XU nD τ sig) (Lvl := ℕ)) (key k hk))

/-! ## The launch -/

/-- The exchange's cells; -/
def cells : Finset (GSem nD τ sig) := Finset.univ.map ⟨X.cell, X.cell_inj⟩
theorem tok_inj : Function.Injective fun x : Dev nD × I => ((X.cell x : GSem nD τ sig), 0, ()) := fun _ _ h => X.cell_inj (congrArg Prod.fst h)
/-- their duties. -/
def toks : Finset (GSem nD τ sig × ℕ × Unit) := Finset.univ.map ⟨fun x => (X.cell x, 0, ()), tok_inj X⟩

/-- The invariants of every cell, under the names `K`, and that every cell is at round 0. -/
def records (K : Dev nD × I → ℕ) : sProp (MT nD τ sig Unit Val ℕ (XU nD τ sig) ℕ) :=
  iprop((bigSep Finset.univ fun x : Dev nD × I => cellInv ER (sched X P) (K x) (X.cell x)) ∗ bigSep Finset.univ fun x : Dev nD × I => reached ER (X.cell x) 0)
instance records_persistent (K : Dev nD × I → ℕ) : BI.Persistent (records X P K) := by unfold records; infer_instance

theorem all_elim (Φ : Dev nD × I → sProp (MT nD τ sig Unit Val ℕ (XU nD τ sig) ℕ)) (x : Dev nD × I) : bigSep Finset.univ Φ ⊢ Φ x := bigSep_elim (Finset.mem_univ x)

theorem inv_at (K : Dev nD × I → ℕ) (x : Dev nD × I) : records X P K ⊢ cellInv ER (sched X P) (K x) (X.cell x) := by
  unfold records
  iintro ⟨H, -⟩
  iapply (all_elim (fun x : Dev nD × I => cellInv ER (sched X P) (K x) (X.cell x)) x); iexact H
theorem reached_at (K : Dev nD × I → ℕ) (x : Dev nD × I) : records X P K ⊢ reached ER (X.cell x) 0 := by
  unfold records
  iintro ⟨-, H⟩
  iapply (all_elim (Val := Val) (fun x : Dev nD × I => reached ER (X.cell x) 0) x); iexact H

/-- The positions of device `c`'s cells, and the duties it pays. -/
def dealt (c : Dev nD) : sProp (MT nD τ sig Unit Val ℕ (XU nD τ sig) ℕ) :=
  iprop((bigSep Finset.univ fun k : I => atPos ER (X.cell (c, k)) 0 ∅ 0) ∗ bigSep Finset.univ fun k : I => dutyTok ER (X.cell (X.payer k c, k)) 0 ())

/-- What the launch element gives device `c`. -/
def G (c : Dev nD) : sProp (MT nD τ sig Unit Val ℕ (XU nD τ sig) ℕ) :=
  iprop((bigSep Finset.univ fun k : I => roundState ER (sched X P) (X.cell (c, k)) 0)
    ∗ (bigSep Finset.univ fun k : I => reached ER (X.cell (c, k)) 0)
    ∗ (bigSep Finset.univ fun k : I => atPos ER (X.cell (c, k)) 0 ∅ 0) ∗ bigSep Finset.univ fun k : I => dutyTok ER (X.cell (c, k)) 0 ())

/-- The launch element's exchange part, dealt to the devices. -/
theorem fund_cells : BI.own ((ER : Emb (XB nD τ sig) (MT nD τ sig Unit Val ℕ (XU nD τ sig) ℕ)) (initOf (cells X) (toks X))) ⊢ (|==> bigSep Finset.univ (G X P) : sProp (MT nD τ sig Unit Val ℕ (XU nD τ sig) ℕ)) := by
  have hX (Φ : GSem nD τ sig → sProp (MT nD τ sig Unit Val ℕ (XU nD τ sig) ℕ)) : bigSep (cells X) Φ = bigSep Finset.univ fun c : Dev nD => bigSep Finset.univ fun k : I => Φ (X.cell (c, k)) := by
    unfold cells; rw [bigSep_map, bigSep_univ_prod]; rfl
  have hT : bigSep (toks X) (fun x => (dutyTok ER x.1 x.2.1 x.2.2 : sProp (MT nD τ sig Unit Val ℕ (XU nD τ sig) ℕ))) = bigSep Finset.univ fun c : Dev nD => bigSep Finset.univ fun k : I => dutyTok ER (X.cell (c, k)) 0 () := by
    unfold toks; rw [bigSep_map, bigSep_univ_prod]; rfl
  iintro HX
  imod (Rounds.fund ER (sched X P) (cells X) (toks X)) $$ HX with ⟨Hst, Hr, Hat, Htok⟩
  imodintro
  ihave Hst' := (Entails.of_eq (hX fun g => roundState ER (sched X P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

/-- The duties dealt to those who pay them. -/
theorem toks_around : (bigSep Finset.univ fun c : Dev nD => bigSep Finset.univ fun k : I => (dutyTok ER (X.cell (c, k)) 0 () : sProp (MT nD τ sig Unit Val ℕ (XU nD τ sig) ℕ)))
    ⊢ bigSep Finset.univ fun c : Dev nD => bigSep Finset.univ fun k : I => dutyTok ER (X.cell (X.payer k c, k)) 0 () := by
  rw [Pipeline.bigSep_univ_comm, Pipeline.bigSep_univ_comm (fun (c : Dev nD) (k : I) => (dutyTok ER (X.cell (X.payer k c, k)) 0 () : sProp (MT nD τ sig Unit Val ℕ (XU nD τ sig) ℕ)))]
  exact Entails.of_eq (bigSep_congr fun k _ => bigSep_univ_equiv (X.payer k) (fun c : Dev nD => (dutyTok ER (X.cell (c, k)) 0 () : sProp (MT nD τ sig Unit Val ℕ (XU nD τ sig) ℕ))))

variable [hPs : ∀ x, BI.Storable (upEmb : UEmb _ (MT nD τ sig Unit Val ℕ (XU nD τ sig) ℕ)) (P x)]

/-- One device's cells under invariants. -/
theorem core_alloc (A R : Dev nD → sProp (MT nD τ sig Unit Val ℕ (XU nD τ sig) ℕ)) (hA : ∀ c, A c ⊢ iprop((bigSep Finset.univ fun k : I => semVal (X.cell (c, k)) 0) ∗ R c)) (c : Dev nD) :
    iprop(A c ∗ G X P c)
      ⊢ |={Set.univ}=> iprop((bigSep Finset.univ fun k : I => iprop(∃ κ : ℕ, cellInv ER (sched X P) κ (X.cell (c, k))))
          ∗ (bigSep Finset.univ fun k : I => reached ER (X.cell (c, k)) 0)
          ∗ ((bigSep Finset.univ fun k : I => atPos ER (X.cell (c, k)) 0 ∅ 0) ∗ R c) ∗ bigSep Finset.univ fun k : I => dutyTok ER (X.cell (c, k)) 0 ()) := by
  unfold G
  iintro ⟨HA, Hst, Hr, Hat, Htok⟩
  ihave HA' := (hA c) $$ HA
  icases HA' with ⟨Hv, HR⟩
  imod (show iprop((bigSep Finset.univ fun k : I => semVal (X.cell (c, k)) 0) ∗ bigSep Finset.univ fun k : I => roundState ER (sched X P) (X.cell (c, k)) 0)
      ⊢ (|={Set.univ}=> bigSep Finset.univ fun k => iprop(∃ κ : ℕ, cellInv ER (sched X P) κ (X.cell (c, k))) : sProp (MT nD τ sig Unit Val ℕ (XU nD τ sig) ℕ)) from by
        rw [← bigSep_sep']
        exact (bigSep_mono fun k _ => (Rounds.body_intro ER (sched X P) (X.cell (c, k))).trans inv_alloc).trans (bigSep_fupd _ _)) $$ [Hv Hst] with Hinv
  · isplitl [Hv] <;> iassumption
  imodintro
  isplitl [Hinv]; · iexact Hinv
  isplitl [Hr]; · iexact Hr
  isplitl [Hat HR]
  · isplitl [Hat] <;> iassumption
  iexact Htok

/-- What every device starts from, and what is left of its semaphores. -/
def start (R : Dev nD → sProp (MT nD τ sig Unit Val ℕ (XU nD τ sig) ℕ)) (c : Dev nD) : sProp (MT nD τ sig Unit Val ℕ (XU nD τ sig) ℕ) := iprop((∃ K, records X P K ∗ dealt X c) ∗ R c)

theorem join (Φ Ψ : Dev nD → sProp (MT nD τ sig Unit Val ℕ (XU nD τ sig) ℕ)) : iprop(bigSep Finset.univ Φ ∗ bigSep Finset.univ Ψ) ⊢ bigSep Finset.univ fun c => iprop(Φ c ∗ Ψ c) :=
  Entails.of_eq (bigSep_sep' Finset.univ Φ Ψ).symm

/-- Every device's part, regrouped under one choice of names. -/
theorem regroup (R : Dev nD → sProp (MT nD τ sig Unit Val ℕ (XU nD τ sig) ℕ)) :
    (bigSep Finset.univ fun c : Dev nD => iprop((bigSep Finset.univ fun k : I => iprop(∃ κ : ℕ, cellInv ER (sched X P) κ (X.cell (c, k))))
          ∗ (bigSep Finset.univ fun k : I => reached ER (X.cell (c, k)) 0)
          ∗ ((bigSep Finset.univ fun k : I => atPos ER (X.cell (c, k)) 0 ∅ 0) ∗ R c) ∗ bigSep Finset.univ fun k : I => dutyTok ER (X.cell (c, k)) 0 ()) : sProp (MT nD τ sig Unit Val ℕ (XU nD τ sig) ℕ))
      ⊢ bigSep Finset.univ (start X P R) := by
  rw [bigSep_sep', bigSep_sep', bigSep_sep', ← bigSep_univ_prod (fun x : Dev nD × I => iprop(∃ κ : ℕ, cellInv ER (sched X P) κ (X.cell x))),
    ← bigSep_univ_prod (fun x : Dev nD × I => (reached ER (X.cell x) 0 : sProp (MT nD τ sig Unit Val ℕ (XU nD τ sig) ℕ)))]
  iintro ⟨HI, #HR, Hat, Htok⟩
  ihave HK := (BI.bigSep_exists_pi Finset.univ (fun (x : Dev nD × I) (κ : ℕ) => (cellInv ER (sched X P) κ (X.cell x) : sProp (MT nD τ sig Unit Val ℕ (XU nD τ sig) ℕ)))) $$ HI
  icases HK with ⟨%K, #HI⟩
  ihave Htk := (toks_around X) $$ Htok
  iapply (bigSep_with_persistent (R := records X P K)
    (Φ := fun c : Dev nD => iprop(((bigSep Finset.univ fun k : I => atPos ER (X.cell (c, k)) 0 ∅ 0) ∗ R c)
      ∗ bigSep Finset.univ fun k : I => dutyTok ER (X.cell (X.payer k c, k)) 0 ())) fun c _ => by
      unfold start dealt
      iintro ⟨#HRec, ⟨Ha, Hr⟩, Ht⟩
      isplitr [Hr]
      · iexists K
        isplitr; · iexact HRec
        isplitl [Ha] <;> iassumption
      · iexact Hr)
  isplitr
  · unfold records; isplitl; · iexact HI
    iexact HR
  · iapply (join (Val := Val) _ _)
    isplitl [Hat]
    · iexact Hat
    · iexact Htk

/-- The step taken by all devices at once before the run: every cell under its invariant. -/
theorem glob (A R : Dev nD → sProp (MT nD τ sig Unit Val ℕ (XU nD τ sig) ℕ)) (hA : ∀ c, A c ⊢ iprop((bigSep Finset.univ fun k : I => semVal (X.cell (c, k)) 0) ∗ R c)) :
    (bigSep Finset.univ fun c => iprop(A c ∗ G X P c) : sProp (MT nD τ sig Unit Val ℕ (XU nD τ sig) ℕ)) ⊢ |={Set.univ}=> bigSep Finset.univ (start X P R) :=
  ((bigSep_mono fun c _ => core_alloc X P A R hA c).trans (bigSep_fupd _ _)).trans (BI.fupd_mono (regroup X P R))

end Cert.Exchange
end
-- ==== Proof.FfnStep.lean ====
/-
# The fused feed-forward call: what one grid point does to the carried buffers

Grid point `i = (s, e, p)` works on slab `s` and expert `e`; `p = 8·half + q` splits the hidden columns in two halves
and each half in four blocks of the contraction (`q < 4`, the first product) and four of the second product (`q ≥ 4`).
The four step functions below say what a point leaves in the token block `x`, the hidden block `h` and the output
block, as functions of what it found there; the state sequences iterate them over the grid.
-/
module

public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import Idealize.ShloMosaic.Lib.Tactic
public import Idealize.ShloMosaic.Lib.Pipeline.Kit
public import Idealize.ShloMosaic.Lib.Pipeline.TableIdle
public import Idealize.ShloMosaic.Lib.VecWindow
public import proofs.«01_k».proof.Proof.Exchange

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources and memrefs -/

/-- The exchange's copy of the rounds algebra. -/
abbrev UB : Type := Exchange.XB nD τ sig
/-- The user algebra: the pipeline's rounds, the exchange's rounds, the counters of local copies. -/
abbrev UU : Type := Exchange.XU nD τ sig

local notation "𝕄" => MT nD τ sig Unit (Elt F) ℕ UU ℕ

abbrev pM : Memref sig .tc .hbm S2x4x384x2048 .bf16 := Memref.whole main_arg0
abbrev rM : Memref sig .tc .hbm S4x384x2048 .bf16 := Memref.whole main_v1_1
abbrev xM : Memref sig .tc .vmem S384x2048 .bf16 := Memref.whole cc0_scratch0
abbrev hM : Memref sig .tc .vmem S384x2048 .bf16 := Memref.whole cc0_scratch1

/-- A memref's whole buffer, held at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The second slab of the token blocks: what the exchange sends. -/
abbrev slabM : Memref sig .tc .hbm S4x384x2048 .bf16 :=
  (pM.slice (Rect.unit (s := S2x4x384x2048) ![1, 0, 0, 0] S1x4x384x2048.size inb_S2x4x384x2048_S1x4x384x2048_1_0_0_0) (fun _ => rfl)).squeeze S4x384x2048
    squeezes_S1x4x384x2048_S4x384x2048

/-- Expert `e`'s block of the first slab, the source of the point's copy where `s = 0`; -/
abbrev src0 (i : grid0.Coords) (h3 : k0_cond3 i = 1#1) (h4 : k0_cond4 i = 1#1) : Memref sig .tc .hbm S384x2048 .bf16 :=
  (pM.slice (Rect.unit (s := S2x4x384x2048) (k0_off1 i) S1x1x384x2048.size (k0_off1_inb i h3 h4)) (fun _ => rfl)).squeeze S384x2048
    squeezes_S1x1x384x2048_S384x2048
/-- of the received slab, where `s = 1`. -/
abbrev src1 (i : grid0.Coords) (h3 : k0_cond3 i = 1#1) (h5 : k0_cond5 i = 1#1) : Memref sig .tc .hbm S384x2048 .bf16 :=
  (rM.slice (Rect.unit (s := S4x384x2048) (k0_off2 i) S1x384x2048.size (k0_off2_inb i h3 h5)) (fun _ => rfl)).squeeze S384x2048
    squeezes_S1x384x2048_S384x2048

/-! ## The point's conditions that the body states inline -/

/-- `s = 1`, `e = 0`, `p = 0`: the point that waits for the exchange. -/
def c2 (i : grid0.Coords) : BitVec 1 :=
  Scalar.cmpi .ne (Scalar.extui (Scalar.andi (Scalar.andi (Scalar.cmpi .eq (BitVec.ofNat 32 (i 0).val) 1#32) (Scalar.cmpi .eq (BitVec.ofNat 32 (i 1).val) 0#32)) (Scalar.cmpi .eq (BitVec.ofNat 32 (i 2).val) 0#32))) 0#32
/-- `q = 0`. -/
def c7 (i : grid0.Coords) : BitVec 1 :=
  Scalar.cmpi .ne (Scalar.extui (Scalar.cmpi .eq (Scalar.remsi (BitVec.ofNat 32 (i 2).val) 8#32) 0#32)) 0#32
/-- `q > 0`. -/
def c8 (i : grid0.Coords) : BitVec 1 :=
  Scalar.cmpi .ne (Scalar.extui (Scalar.cmpi .sgt (Scalar.remsi (BitVec.ofNat 32 (i 2).val) 8#32) 0#32)) 0#32

/-! ## The steps -/

/-- The token columns point `i` of the first product reads. -/
def xCols (i : grid0.Coords) (h6 : k0_cond6 i = 1#1) (x : Vec F S384x2048 .bf16) : Vec F S384x512 .bf16 :=
  xM.view.readAt (Elt F) (Rect.unit (s := S384x2048) (k0_off3 i) S384x512.size (k0_off3_inb i h6)).toLoadRect x
/-- The hidden columns point `i` of the second product reads. -/
def hCols (i : grid0.Coords) (h9 : k0_cond9 i = 1#1) (h : Vec F S384x2048 .bf16) : Vec F S384x512 .bf16 :=
  hM.view.readAt (Elt F) (Rect.unit (s := S384x2048) (k0_off4 i) S384x512.size (k0_off4_inb i h9)).toLoadRect h

/-- The token block after point `i`: at `p = 0` expert `e`'s block of `own` (`s = 0`) or `got` (`s = 1`), else as found. -/
def xStep (own : Vec F S2x4x384x2048 .bf16) (got : Vec F S4x384x2048 .bf16) (i : grid0.Coords) (x : Vec F S384x2048 .bf16) : Vec F S384x2048 .bf16 :=
  if h3 : k0_cond3 i = 1#1 then
    if h4 : k0_cond4 i = 1#1 then (src0 i h3 h4).view.read (Elt F) own
    else if h5 : k0_cond5 i = 1#1 then (src1 i h3 h5).view.read (Elt F) got else x
  else x
/-- The hidden block after point `i`: the first product's block added (stored at `q = 0`), as found where `q ≥ 4`. -/
def hStep (i : grid0.Coords) (x : Vec F S384x2048 .bf16) (w : Vec F S1x512x2048 .bf16) (h : Vec F S384x2048 .bf16) : Vec F S384x2048 .bf16 :=
  if h6 : k0_cond6 i = 1#1 then (if c7 i = 1#1 then k0_pay2 (xCols i h6 x) w else k0_pay3 (xCols i h6 x) w h) else h
/-- The output block after point `i`: the second product's block added (stored at `p = 4`), as found where `q < 4`. -/
def oStep (i : grid0.Coords) (h : Vec F S384x2048 .bf16) (w : Vec F S1x512x2048 .bf16) (o : Vec F S1x1x384x2048 .bf16) : Vec F S1x1x384x2048 .bf16 :=
  if h9 : k0_cond9 i = 1#1 then (if k0_cond10 i = 1#1 then k0_pay5 (hCols i h9 h) w else k0_pay6 (hCols i h9 h) w o) else o

/-! ## Loads and stores of whole buffers -/

omit [FloatOps F] in
theorem z2 : (![0, 0] : Fin 2 → Nat) = fun _ => 0 := funext fun a => by fin_cases a <;> rfl
omit [FloatOps F] in
theorem z3 : (![0, 0, 0] : Fin 3 → Nat) = fun _ => 0 := funext fun a => by fin_cases a <;> rfl
omit [FloatOps F] in
theorem z4 : (![0, 0, 0, 0] : Fin 4 → Nat) = fun _ => 0 := funext fun a => by fin_cases a <;> rfl

omit [FloatOps F] in
/-- One store of the whole hidden block leaves the stored value. -/
theorem h_stored (f v : (cc0_scratch1 : Ref sig .tc).ty.Contents (Elt F)) :
    hM.view.writes (Elt F) f [⟨Rect.unit (s := S384x2048) ![0, 0] S384x2048.size inb_S384x2048_S384x2048_0_0, v⟩] = v := by
  rw [View.writes_singleton]
  exact Memref.write_access_unit_zero_univ (Elt F) cc0_scratch1 z2 inb_S384x2048_S384x2048_0_0 f v
omit [FloatOps F] in
/-- One load of the whole hidden block reads its contents. -/
theorem h_loaded (f : Vec F S384x2048 .bf16) :
    hM.view.readAt (Elt F) (Rect.unit (s := S384x2048) ![0, 0] S384x2048.size inb_S384x2048_S384x2048_0_0).toLoadRect f = f :=
  Memref.readAt_unit_zero (Elt F) cc0_scratch1 z2 _ f
omit [FloatOps F] in
/-- One store of a whole output block reads back as the stored value. -/
theorem o_stored (M : Memref sig .tc .vmem S1x1x384x2048 .bf16) (f : M.view.ty.Contents (Elt F)) (v : Vec F S1x1x384x2048 .bf16) :
    M.view.read (Elt F) (M.view.writes (Elt F) f
      [⟨Rect.unit (s := S1x1x384x2048) ![0, 0, 0, 0] S1x1x384x2048.size inb_S1x1x384x2048_S1x1x384x2048_0_0_0_0, v⟩]) = v := by
  funext y
  exact View.read_writes_cons_unit_of_mem M.view f inb_S1x1x384x2048_S1x1x384x2048_0_0_0_0 v [] y y z4 (fun a => (Nat.zero_add _).symm)
omit [FloatOps F] in
/-- A landed copy of the whole token block leaves what was sent. -/
theorem x_landed (f v : Vec F S384x2048 .bf16) : xM.view.write (Elt F) f v Finset.univ = v := View.write_whole_univ _ _ _

end Cert.FfnProof
end
-- ==== Proof.FfnRuns.lean ====
/-
# The fused feed-forward call: the body's runs that exchange nothing

One theorem per shape of grid point: the body, run from the buffers it reads and writes, leaves them as the step
functions say.
-/
module

public import proofs.«01_k».proof.Proof.FfnStep

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (i : grid0.Coords) (M4 : Memref sig .tc .vmem S1x512x2048 .bf16) (h4 : M4.IsWhole) (M5 : Memref sig .tc .vmem S1x512x2048 .bf16) (h5 : M5.IsWhole)
  (M6 : Memref sig .tc .vmem S1x1x384x2048 .bf16) (h6 : M6.IsWhole)

/-- The body at point `i` over the three staging memrefs. -/
abbrev body : Prog (TpuEff nD τ sig (Elt F) Λ₀ .tc) PUnit :=
  cc0_body i pM (Memref.isWhole_whole _) M4 h4 M5 h5 M6 h6 rM (Memref.isWhole_whole _) xM (Memref.isWhole_whole _) hM (Memref.isWhole_whole _) cc0_scratch2 cc0_scratch3 cc0_scratch4

/-- A point of the first product that copies nothing and starts the hidden block (`p = 8`). -/
theorem run_first (hc1 : ¬ k0_cond1 i = 1#1) (hc2 : ¬ c2 i = 1#1) (hc3 : ¬ k0_cond3 i = 1#1) (hc6 : k0_cond6 i = 1#1) (hc7 : c7 i = 1#1) (hc8 : ¬ c8 i = 1#1) (hc9 : ¬ k0_cond9 i = 1#1)
    (fx fh : Vec F S384x2048 .bf16) (X4 : Vec F S1x512x2048 .bf16) (Q : PUnit → sProp 𝕄) :
    iprop(pt c xM fx ∗ pt c hM fh ∗ owns (c : Thread nD τ) M4 fullShare X4
      ∗ (iprop(pt c xM fx ∗ pt c hM (hStep i fx X4 fh) ∗ owns (c : Thread nD τ) M4 fullShare X4) -∗ Q ⟨⟩))
    ⊢ wp frame (wpE (defs₀ (F := F)) Variants.none c none) Set.univ (body i M4 h4 M5 h5 M6 h6) Q := by
  rw [owns_eq_rep, show hStep i fx X4 fh = k0_pay2 (xCols i hc6 fx) X4 from by unfold hStep; rw [dif_pos hc6, if_pos hc7]]
  unfold body
  rw [cc0_body_eq_skeleton]; unfold cc0_body_skel
  unfold c2 at hc2; unfold c7 at hc7; unfold c8 at hc8
  iintro ⟨Hx, Hh, H4, Hk⟩
  sl_exec! (disch := assumption)
  sl_step
  delta run_first.sl.Hh_1
  rw [View.readAt_rep_full, h_stored]
  iapply Hk
  isplitl [Hx]; · iexact Hx
  isplitl [Hh]; · iexact Hh
  iexact H4

/-- A later point of the first product (`0 < q < 4`). -/
theorem run_more (hc1 : ¬ k0_cond1 i = 1#1) (hc2 : ¬ c2 i = 1#1) (hc3 : ¬ k0_cond3 i = 1#1) (hc6 : k0_cond6 i = 1#1) (hc7 : ¬ c7 i = 1#1) (hc8 : c8 i = 1#1) (hc9 : ¬ k0_cond9 i = 1#1)
    (fx fh : Vec F S384x2048 .bf16) (X4 : Vec F S1x512x2048 .bf16) (Q : PUnit → sProp 𝕄) :
    iprop(pt c xM fx ∗ pt c hM fh ∗ owns (c : Thread nD τ) M4 fullShare X4
      ∗ (iprop(pt c xM fx ∗ pt c hM (hStep i fx X4 fh) ∗ owns (c : Thread nD τ) M4 fullShare X4) -∗ Q ⟨⟩))
    ⊢ wp frame (wpE (defs₀ (F := F)) Variants.none c none) Set.univ (body i M4 h4 M5 h5 M6 h6) Q := by
  rw [owns_eq_rep, show hStep i fx X4 fh = k0_pay3 (xCols i hc6 fx) X4 fh from by unfold hStep; rw [dif_pos hc6, if_neg hc7]]
  unfold body
  rw [cc0_body_eq_skeleton]; unfold cc0_body_skel
  unfold c2 at hc2; unfold c7 at hc7; unfold c8 at hc8
  iintro ⟨Hx, Hh, H4, Hk⟩
  sl_exec! (disch := assumption)
  sl_step
  delta run_more.sl.Hh_1
  rw [View.readAt_rep_full, h_loaded, h_stored]
  iapply Hk
  isplitl [Hx]; · iexact Hx
  isplitl [Hh]; · iexact Hh
  iexact H4

/-- The first point of the second product over the output block (`p = 4`). -/
theorem run_out (hc1 : ¬ k0_cond1 i = 1#1) (hc2 : ¬ c2 i = 1#1) (hc3 : ¬ k0_cond3 i = 1#1) (hc6 : ¬ k0_cond6 i = 1#1) (hc9 : k0_cond9 i = 1#1) (hc10 : k0_cond10 i = 1#1) (hc11 : ¬ k0_cond11 i = 1#1)
    (fh : Vec F S384x2048 .bf16) (X5 : Vec F S1x512x2048 .bf16) (X6 : Vec F S1x1x384x2048 .bf16) (Q : PUnit → sProp 𝕄) :
    iprop(pt c hM fh ∗ owns (c : Thread nD τ) M5 fullShare X5 ∗ owns (c : Thread nD τ) M6 fullShare X6
      ∗ (iprop(pt c hM fh ∗ owns (c : Thread nD τ) M5 fullShare X5 ∗ owns (c : Thread nD τ) M6 fullShare (oStep i fh X5 X6)) -∗ Q ⟨⟩))
    ⊢ wp frame (wpE (defs₀ (F := F)) Variants.none c none) Set.univ (body i M4 h4 M5 h5 M6 h6) Q := by
  rw [owns_eq_rep (c : Thread nD τ) M5, owns_eq_rep (c : Thread nD τ) M6 fullShare X6, show oStep i fh X5 X6 = k0_pay5 (hCols i hc9 fh) X5 from by unfold oStep; rw [dif_pos hc9, if_pos hc10]]
  unfold body
  rw [cc0_body_eq_skeleton]; unfold cc0_body_skel
  unfold c2 at hc2
  iintro ⟨Hh, H5, H6, Hk⟩
  sl_exec! (disch := assumption)
  sl_step
  delta run_out.sl.H6_1
  rw [View.readAt_rep_full]
  iapply Hk
  isplitl [Hh]; · iexact Hh
  isplitl [H5]; · iexact H5
  unfold owns; iexists _; isplitr; swap; · iexact H6
  ipureintro; exact o_stored M6 _ _

/-- A later point of the second product. -/
theorem run_acc (hc1 : ¬ k0_cond1 i = 1#1) (hc2 : ¬ c2 i = 1#1) (hc3 : ¬ k0_cond3 i = 1#1) (hc6 : ¬ k0_cond6 i = 1#1) (hc9 : k0_cond9 i = 1#1) (hc10 : ¬ k0_cond10 i = 1#1) (hc11 : k0_cond11 i = 1#1)
    (fh : Vec F S384x2048 .bf16) (X5 : Vec F S1x512x2048 .bf16) (X6 : Vec F S1x1x384x2048 .bf16) (Q : PUnit → sProp 𝕄) :
    iprop(pt c hM fh ∗ owns (c : Thread nD τ) M5 fullShare X5 ∗ owns (c : Thread nD τ) M6 fullShare X6
      ∗ (iprop(pt c hM fh ∗ owns (c : Thread nD τ) M5 fullShare X5 ∗ owns (c : Thread nD τ) M6 fullShare (oStep i fh X5 X6)) -∗ Q ⟨⟩))
    ⊢ wp frame (wpE (defs₀ (F := F)) Variants.none c none) Set.univ (body i M4 h4 M5 h5 M6 h6) Q := by
  rw [owns_eq_rep (c : Thread nD τ) M5, owns_eq_rep (c : Thread nD τ) M6 fullShare X6, show oStep i fh X5 X6 = k0_pay6 (hCols i hc9 fh) X5 X6 from by unfold oStep; rw [dif_pos hc9, if_neg hc10]]
  unfold body
  rw [cc0_body_eq_skeleton]; unfold cc0_body_skel
  unfold c2 at hc2
  iintro ⟨Hh, H5, H6, Hk⟩
  sl_exec! (disch := assumption)
  sl_step
  delta run_acc.sl.H6_1 run_acc.sl.v39
  rw [View.readAt_rep_full, View.readAt_rep_full]
  iapply Hk
  isplitl [Hh]; · iexact Hh
  isplitl [H5]; · iexact H5
  unfold owns; iexists _; isplitr; swap; · iexact H6
  ipureintro; exact o_stored M6 _ _

/-- A point that fetches the first slab's token block (`s = 0`, `p = 0`, not the first of the grid). -/
theorem run_own (own : Vec F S2x4x384x2048 .bf16) (got : Vec F S4x384x2048 .bf16) (q : PosShare TreeShare)
    (hc1 : ¬ k0_cond1 i = 1#1) (hc2 : ¬ c2 i = 1#1) (hc3 : k0_cond3 i = 1#1) (hc4 : k0_cond4 i = 1#1) (hc5 : ¬ k0_cond5 i = 1#1)
    (hc6 : k0_cond6 i = 1#1) (hc7 : c7 i = 1#1) (hc8 : ¬ c8 i = 1#1) (hc9 : ¬ k0_cond9 i = 1#1)
    (fx fh : Vec F S384x2048 .bf16) (X4 : Vec F S1x512x2048 .bf16) (W : Waits sig Unit) (Q : PUnit → sProp 𝕄) :
    iprop((pM.view.loc (c : Thread nD τ) ↦{q} own) ∗ pt c xM fx ∗ pt c hM fh ∗ owns (c : Thread nD τ) M4 fullShare X4
      ∗ semVal ((c : Thread nD τ), .dma (cc0_scratch4 : DmaSems sig S_).sem) 0 ∗ owes (c : Thread nD τ) 0 W
      ∗ (iprop((pM.view.loc (c : Thread nD τ) ↦{q} own) ∗ pt c xM (xStep own got i fx) ∗ pt c hM (hStep i (xStep own got i fx) X4 fh) ∗ owns (c : Thread nD τ) M4 fullShare X4
          ∗ semVal ((c : Thread nD τ), .dma (cc0_scratch4 : DmaSems sig S_).sem) 0 ∗ ∃ W, owes (c : Thread nD τ) 0 W) -∗ Q ⟨⟩))
    ⊢ wp frame (wpE (defs₀ (F := F)) Variants.none c none) Set.univ (body i M4 h4 M5 h5 M6 h6) Q := by
  rw [owns_eq_rep, show ∀ x, hStep i x X4 fh = k0_pay2 (xCols i hc6 x) X4 from fun x => by unfold hStep; rw [dif_pos hc6, if_pos hc7],
    show xStep own got i fx = (src0 i hc3 hc4).view.read (Elt F) own from by unfold xStep; rw [dif_pos hc3, dif_pos hc4]]
  unfold body
  rw [cc0_body_eq_skeleton]; unfold cc0_body_skel
  unfold c2 at hc2; unfold c7 at hc7; unfold c8 at hc8
  iintro ⟨Hp, Hx, Hh, H4, Hd, HO, Hk⟩
  sl_exec! (disch := assumption)
  sl_step
  delta run_own.sl.Hh_1 run_own.sl.dma0
  rw [View.readAt_rep_full, h_stored, x_landed]
  iapply Hk
  isplitl [Hp]; · iexact Hp
  isplitl [Hx]; · iexact Hx
  isplitl [Hh]; · iexact Hh
  isplitl [H4]; · iexact H4
  isplitl [Hd]; · iexact Hd
  iexists _; iexact HO

/-- A point that fetches the received slab's token block (`s = 1`, `p = 0`, not the first of the slab). -/
theorem run_got (own : Vec F S2x4x384x2048 .bf16) (got : Vec F S4x384x2048 .bf16) (q : PosShare TreeShare)
    (hc1 : ¬ k0_cond1 i = 1#1) (hc2 : ¬ c2 i = 1#1) (hc3 : k0_cond3 i = 1#1) (hc4 : ¬ k0_cond4 i = 1#1) (hc5 : k0_cond5 i = 1#1)
    (hc6 : k0_cond6 i = 1#1) (hc7 : c7 i = 1#1) (hc8 : ¬ c8 i = 1#1) (hc9 : ¬ k0_cond9 i = 1#1)
    (fx fh : Vec F S384x2048 .bf16) (X4 : Vec F S1x512x2048 .bf16) (W : Waits sig Unit) (Q : PUnit → sProp 𝕄) :
    iprop((rM.view.loc (c : Thread nD τ) ↦{q} got) ∗ pt c xM fx ∗ pt c hM fh ∗ owns (c : Thread nD τ) M4 fullShare X4
      ∗ semVal ((c : Thread nD τ), .dma (cc0_scratch4 : DmaSems sig S_).sem) 0 ∗ owes (c : Thread nD τ) 0 W
      ∗ (iprop((rM.view.loc (c : Thread nD τ) ↦{q} got) ∗ pt c xM (xStep own got i fx) ∗ pt c hM (hStep i (xStep own got i fx) X4 fh) ∗ owns (c : Thread nD τ) M4 fullShare X4
          ∗ semVal ((c : Thread nD τ), .dma (cc0_scratch4 : DmaSems sig S_).sem) 0 ∗ ∃ W, owes (c : Thread nD τ) 0 W) -∗ Q ⟨⟩))
    ⊢ wp frame (wpE (defs₀ (F := F)) Variants.none c none) Set.univ (body i M4 h4 M5 h5 M6 h6) Q := by
  rw [owns_eq_rep, show ∀ x, hStep i x X4 fh = k0_pay2 (xCols i hc6 x) X4 from fun x => by unfold hStep; rw [dif_pos hc6, if_pos hc7],
    show xStep own got i fx = (src1 i hc3 hc5).view.read (Elt F) got from by unfold xStep; rw [dif_pos hc3, dif_neg hc4, dif_pos hc5]]
  unfold body
  rw [cc0_body_eq_skeleton]; unfold cc0_body_skel
  unfold c2 at hc2; unfold c7 at hc7; unfold c8 at hc8
  iintro ⟨Hp, Hx, Hh, H4, Hd, HO, Hk⟩
  sl_exec! (disch := assumption)
  sl_step
  delta run_got.sl.Hh_1 run_got.sl.dma0
  rw [View.readAt_rep_full, h_stored, x_landed]
  iapply Hk
  isplitl [Hp]; · iexact Hp
  isplitl [Hx]; · iexact Hx
  isplitl [Hh]; · iexact Hh
  isplitl [H4]; · iexact H4
  isplitl [Hd]; · iexact Hd
  iexists _; iexact HO

end Cert.FfnProof
end
-- ==== Proof.FfnProto.lean ====
/-
# The fused feed-forward call: the exchange between partners

Devices `c` and `flip c` differ in the last coordinate of the mesh. Each hands the other, by a signal of its barrier
semaphore, its own landing buffer; waits for the other's signal; and sends the second slab of its token blocks there.
The send semaphore gives the sent slab back (at the share that was lent), the receive semaphore the landing buffer
holding the partner's slab.
-/
module

public import proofs.«01_k».proof.Proof.FfnRuns

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

/-! ## The partners -/

/-- The device that differs in the last mesh coordinate. -/
def flip (c : Dev nD) : Dev nD := ⟨4 * (c.val / 4) + 2 * ((c.val / 2) % 2) + 1 - c.val % 2, by have := c.isLt; unfold nD at *; omega⟩
theorem flip_flip (c : Dev nD) : flip (flip c) = c := by revert c; decide
def flips : Dev nD ≃ Dev nD := ⟨flip, flip, flip_flip, flip_flip⟩

theorem dev1_eq (i : grid0.Coords) (c : Dev nD) (h : k0_cond1 i = 1#1) : (⟨k0_dev1 c, k0_dev1_lt i c h⟩ : Dev nD) = flip c := Fin.ext (k0_dev1_eq c)
theorem dev2_eq (i : grid0.Coords) (c : Dev nD) (h : k0_cond1 i = 1#1) : (⟨k0_dev2 c, k0_dev2_lt i c h⟩ : Dev nD) = flip c := Fin.ext (k0_dev2_eq c)

/-! ## The semaphores -/

abbrev barS : Sem sig := (SemArray.scalar (sig.barrier 0 rfl) : Sems sig S_).sem
abbrev sendS : DmaSem sig := (cc0_scratch2 : DmaSems sig S_).sem
abbrev recvS : DmaSem sig := (cc0_scratch3 : DmaSems sig S_).sem
abbrev copyS : DmaSem sig := (cc0_scratch4 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)
abbrev copyCell (c : Dev nD) : GSem nD τ sig := ((c : Thread nD τ), .dma copyS)

/-- The units of a whole slab. -/
abbrev N : ℕ := rM.view.dmaCredit
theorem N_pos : 0 < N := View.dmaCredit_pos _ (by decide)

/-- Barrier, send, receive. -/
def plan : Plan nD sig (Fin 3) where
  sem := fun | 0 => .reg barS | 1 => .dma sendS | 2 => .dma recvS
  inj := by intro a b h; fin_cases a <;> fin_cases b <;> first | rfl | exact absurd h (by decide)
  amt := fun | 0 => 1 | 1 => N | 2 => N
  pos := fun k => by fin_cases k; exacts [Nat.one_pos, N_pos, N_pos]
  payer := fun | 0 => flips | 1 => Equiv.refl _ | 2 => flips
  level := fun | 0 => 1 | 1 => 0 | 2 => 2

/-! ## What the cells hand over -/

variable (m : (ℓ : Loc nD τ sig) → Buf (Elt F) ℓ)

/-- Device `c`'s token blocks; -/
def own (c : Dev nD) : Vec F S2x4x384x2048 .bf16 := m ((c : Thread nD τ).loc main_arg0)
/-- what its partner sends it: the second slab of the partner's. -/
def got (c : Dev nD) : Vec F S4x384x2048 .bf16 := slabM.view.read (Elt F) (own m (flip c))

/-- A landing buffer holding `f`; -/
def landPts (c : Dev nD) (f : Vec F S4x384x2048 .bf16) : sProp 𝕄 :=
  rM.view.loc (c : Thread nD τ) ↦[rM.view.set]{fullShare} f
/-- the lent share of the sent slab. -/
def slabPts (c : Dev nD) : sProp 𝕄 :=
  slabM.view.loc (c : Thread nD τ) ↦[slabM.view.set]{fullShare.right} own m c

omit [FloatOps F] in
theorem landPts_eq (c : Dev nD) (f : Vec F S4x384x2048 .bf16) : landPts c f = pt c rM f := by unfold landPts; rw [View.set_whole]

omit [FloatOps F] in
/-- A transfer of the whole slab leaves what was sent. -/
theorem landed_eq (f : Vec F S4x384x2048 .bf16) (v : Vec F S4x384x2048 .bf16) : rM.view.write (Elt F) f v Finset.univ = v := View.write_whole_univ _ _ _

def pay (x : Dev nD × Fin 3) : sProp 𝕄 := match x.2 with
  | 0 => iprop(∃ f, landPts (flip x.1) f)
  | 1 => slabPts m x.1
  | 2 => landPts x.1 (got m x.1)

omit [FloatOps F] in
instance pay_storable (x : Dev nD × Fin 3) : BI.Storable (upEmb : UEmb _ 𝕄) (pay m x) := by
  obtain ⟨c, k⟩ := x
  unfold pay landPts slabPts
  fin_cases k <;> (dsimp only; infer_instance)

/-- The exchange's schedule. -/
abbrev rd : Rounds.Schedule (GSem nD τ sig) Unit 𝕄 := sched plan (pay m)

omit [FloatOps F] in
theorem rest_bar (c : Dev nD) : bigSep ((rd m).duties (barCell c) 0 \ ∅) (fun d => (rd m).payload (barCell c) 0 d) = iprop(∃ f, landPts (F := F) (flip c) f) :=
  rest_cell plan (pay m) (c, 0)
omit [FloatOps F] in
theorem rest_send (c : Dev nD) : bigSep ((rd m).duties (sendCell c) 0 \ ∅) (fun d => (rd m).payload (sendCell c) 0 d) = slabPts m c :=
  rest_cell plan (pay m) (c, 1)
omit [FloatOps F] in
theorem rest_recv (c : Dev nD) : bigSep ((rd m).duties (recvCell c) 0 \ ∅) (fun d => (rd m).payload (recvCell c) 0 d) = landPts c (got m c) :=
  rest_cell plan (pay m) (c, 2)
omit [FloatOps F] in
theorem mem_bar (c : Dev nD) : () ∈ (rd m).duties (barCell c) 0 := by
  rw [show (rd m).duties (barCell c) 0 = {()} from duties_cell plan (pay m) (c, 0)]; exact Finset.mem_singleton_self _
omit [FloatOps F] in
theorem mem_send (c : Dev nD) : () ∈ (rd m).duties (sendCell c) 0 := by
  rw [show (rd m).duties (sendCell c) 0 = {()} from duties_cell plan (pay m) (c, 1)]; exact Finset.mem_singleton_self _
omit [FloatOps F] in
theorem mem_recv (c : Dev nD) : () ∈ (rd m).duties (recvCell c) 0 := by
  rw [show (rd m).duties (recvCell c) 0 = {()} from duties_cell plan (pay m) (c, 2)]; exact Finset.mem_singleton_self _
omit [FloatOps F] in
theorem amt_bar (c : Dev nD) : (rd m).amount (barCell c) 0 () = 1 := amount_cell plan (pay m) (c, 0) ()
omit [FloatOps F] in
theorem amt_send (c : Dev nD) : (rd m).amount (sendCell c) 0 () = N := amount_cell plan (pay m) (c, 1) ()
omit [FloatOps F] in
theorem amt_recv (c : Dev nD) : (rd m).amount (recvCell c) 0 () = N := amount_cell plan (pay m) (c, 2) ()
omit [FloatOps F] in
theorem pay_bar (c : Dev nD) : (rd m).payload (barCell c) 0 () = iprop(∃ f, landPts (F := F) (flip c) f) := payload_cell plan (pay m) (c, 0) ()
omit [FloatOps F] in
theorem pay_send (c : Dev nD) : (rd m).payload (sendCell c) 0 () = slabPts m c := payload_cell plan (pay m) (c, 1) ()
omit [FloatOps F] in
theorem pay_recv (c : Dev nD) : (rd m).payload (recvCell c) 0 () = landPts c (got m c) := payload_cell plan (pay m) (c, 2) ()
omit [FloatOps F] in
theorem exp_bar (c : Dev nD) : (rd m).expect (barCell c) 0 = 1 := expect_cell plan (pay m) (c, 0)
omit [FloatOps F] in
theorem exp_send (c : Dev nD) : (rd m).expect (sendCell c) 0 = N := expect_cell plan (pay m) (c, 1)
omit [FloatOps F] in
theorem exp_recv (c : Dev nD) : (rd m).expect (recvCell c) 0 = N := expect_cell plan (pay m) (c, 2)

/-- What a device owes at the launch: its partner's signal and its partner's slab. -/
def O₀ (c : Dev nD) : CellTallies nD τ sig Unit := owes' plan {0, 2} c
/-- After the signal it owes the slab. -/
def O₁ (c : Dev nD) : CellTallies nD τ sig Unit := owes' plan {2} c
theorem O₀_eq (c : Dev nD) : O₀ c = O₁ c + tallyAt (barCell (flip c)) () 1 := Exchange.owes'_insert plan (S := {2}) (k := 0) (by decide) c
theorem O₁_eq (c : Dev nD) : O₁ c = 0 + tallyAt (recvCell (flip c)) () N := by
  unfold O₁; rw [← insert_empty_eq, Exchange.owes'_insert plan (by decide), Exchange.owes'_empty]; rfl

omit [FloatOps F] in
/-- A device may wait for its partner's signal while it owes the slab. -/
theorem mayWait_bar (c : Dev nD) : (levAts L (lv plan) : sProp 𝕄) ⊢ MayWait (c : Thread nD τ) (.reg barS) () (O₁ c) :=
  mayWait plan c (.reg barS) {2} fun k hk => by
    rw [Finset.mem_singleton.mp hk, show lv plan ((c : Thread nD τ), SemLoc.reg barS) () = 1 from Exchange.lv_cell plan (c, 0) ()]
    decide

/-- The transfer of the slab to the partner. -/
theorem wp_send_slab (K : Dev nD × Fin 3 → ℕ) (c n : Dev nD) (hn : n = flip c) {hsc : (rM : Memref sig (Dev.tc n : Thread nD τ).2.kind .hbm S4x384x2048 .bf16).view.ref.isScScratch = false}
    {hsrc : slabM.view.WordExact} {hdst : (rM : Memref sig .tc .hbm S4x384x2048 .bf16).view.WordExact}
    {hsem : DmaTarget.Typed .hbm (.dma recvS) (.remote (Dev.tc n : Thread nD τ) (rM : Memref sig .tc .hbm S4x384x2048 .bf16) (.dma sendS) hsc)}
    {α : Type} {Q : α → sProp 𝕄} {k : PUnit → Prog (TpuEff nD τ sig (Elt F) Λ₀ .tc) α}
    (f : Vec F S4x384x2048 .bf16) (W : Waits sig Unit) :
    iprop(records plan (pay m) K ∗ slabPts m c ∗ landPts (flip c) f ∗ owes (c : Thread nD τ) (O₁ c) W
        ∗ dutyTok ER (sendCell c) 0 () ∗ dutyTok ER (recvCell (flip c)) 0 ())
      ⊢ iprop(((cred (tallyAt (sendCell c) () N) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma slabM (.remote (Dev.tc n : Thread nD τ) rM (.dma sendS) hsc) (.dma recvS) hsrc hdst hsem) k) Q) := by
  subst hn
  iintro ⟨#HR, Hs, Hl, HO, Hts, Htr⟩
  unfold slabPts landPts
  iapply (Rounds.wp_send_pointsTo Variants.none ER (rd m) (c : Thread nD τ) none (κ₁ := K (c, 1)) (κ₂ := K (flip c, 2))
    (r₁ := 0) (r₂ := 0) (d₁ := ()) (d₂ := ()) (fs := own m c) (fd := f) (mem_send m c) (mem_recv m (flip c))
    () () N rfl (amt_send m c) (amt_recv m (flip c)) 0 (O₁_eq c) (W := W)
    (by rw [pay_send]; exact BI.Entails.refl _)
    (by rw [pay_recv]; unfold landPts got; rw [flip_flip, landed_eq])) $$ [Hs Hl HO Hts Htr]
  isplitr; · iapply (inv_at plan (pay m) K (c, 1)); iexact HR
  isplitr; · iapply (inv_at plan (pay m) K (flip c, 2)); iexact HR
  isplitl [Hs]; · iexact Hs
  isplitl [Hl]; · iexact Hl
  isplitl [HO]; · iexact HO
  isplitl [Hts]; · iexact Hts
  isplitr; · iapply (reached_at plan (pay m) K (c, 1)); iexact HR
  isplitl [Htr]; · iexact Htr
  iapply (reached_at plan (pay m) K (flip c, 2)); iexact HR

end Cert.FfnProof
end
-- ==== Proof.FfnHeads.lean ====
/-
# The fused feed-forward call: the two points that exchange

The first grid point signals, waits for the partner's signal and sends the slab before it goes on as any point that
fetches the first slab's token block; the first point of the second slab waits for both ends of the transfer before it
goes on as any point that fetches the received slab's.
-/
module

public import proofs.«01_k».proof.Proof.FfnProto

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

variable (m : (ℓ : Loc nD τ sig) → Buf (Elt F) ℓ)

/-- The unlent share of the token blocks; -/
def leftPts (c : Dev nD) : sProp 𝕄 := pM.view.loc (c : Thread nD τ) ↦{fullShare.left} own m c
/-- the lent share of all but the sent slab. -/
def restPts (c : Dev nD) : sProp 𝕄 := slabM.view.loc (c : Thread nD τ) ↦[Finset.univ \ slabM.view.set]{fullShare.right} own m c

omit [FloatOps F] in
/-- The token blocks, split into the share that stays and the one that is lent. -/
theorem own_split (c : Dev nD) : pt c pM (own m c) ⊢ iprop(leftPts m c ∗ slabPts m c ∗ restPts m c) := by
  unfold leftPts slabPts restPts
  iintro H
  ihave H' := (pointsTo_share (PosShare.mem_left_op_right fullShare)).1 $$ H
  icases H' with ⟨Hl, Hr⟩
  isplitl [Hl]; · iexact Hl
  iapply (pointsTo_split_subset (Finset.subset_univ _)).1; iexact Hr
omit [FloatOps F] in
/-- And put together again. -/
theorem own_join (c : Dev nD) : iprop(leftPts m c ∗ slabPts m c ∗ restPts m c) ⊢ pt c pM (own m c) := by
  unfold leftPts slabPts restPts
  iintro ⟨Hl, Hs, Hr⟩
  iapply (pointsTo_share (PosShare.mem_left_op_right fullShare)).2
  isplitl [Hl]; · iexact Hl
  iapply (pointsTo_split_subset (Finset.subset_univ _)).2
  isplitl [Hs] <;> iassumption

variable (c : Dev nD) (i : grid0.Coords) (M4 : Memref sig .tc .vmem S1x512x2048 .bf16) (h4 : M4.IsWhole) (M5 : Memref sig .tc .vmem S1x512x2048 .bf16) (h5 : M5.IsWhole)
  (M6 : Memref sig .tc .vmem S1x1x384x2048 .bf16) (h6 : M6.IsWhole)

set_option maxHeartbeats 1600000 in
/-- The first grid point. -/
theorem run_start (K : Dev nD × Fin 3 → ℕ) (got' : Vec F S4x384x2048 .bf16)
    (hc1 : k0_cond1 i = 1#1) (hc2 : ¬ c2 i = 1#1) (hc3 : k0_cond3 i = 1#1) (hc4 : k0_cond4 i = 1#1) (hc5 : ¬ k0_cond5 i = 1#1)
    (hc6 : k0_cond6 i = 1#1) (hc7 : c7 i = 1#1) (hc8 : ¬ c8 i = 1#1) (hc9 : ¬ k0_cond9 i = 1#1)
    (fr : Vec F S4x384x2048 .bf16) (fx fh : Vec F S384x2048 .bf16) (X4 : Vec F S1x512x2048 .bf16) (W : Waits sig Unit) (Q : PUnit → sProp 𝕄) :
    iprop(records plan (pay m) K ∗ levAts L (lv plan) ∗ atPos ER (barCell c) 0 ∅ 0
      ∗ dutyTok ER (barCell (flip c)) 0 () ∗ dutyTok ER (sendCell c) 0 () ∗ dutyTok ER (recvCell (flip c)) 0 ()
      ∗ cred (tallyAt (barCell c) () 1) ∗ owes (c : Thread nD τ) (O₀ c) W
      ∗ pt c rM fr ∗ pt c pM (own m c) ∗ pt c xM fx ∗ pt c hM fh ∗ owns (c : Thread nD τ) M4 fullShare X4 ∗ semVal (copyCell c) 0
      ∗ (iprop(cred (tallyAt (sendCell c) () N) ∗ semVal (barCell c) 0 ∗ leftPts m c ∗ restPts m c
          ∗ pt c xM (xStep (own m c) got' i fx) ∗ pt c hM (hStep i (xStep (own m c) got' i fx) X4 fh) ∗ owns (c : Thread nD τ) M4 fullShare X4
          ∗ semVal (copyCell c) 0 ∗ ∃ W, owes (c : Thread nD τ) 0 W) -∗ Q ⟨⟩))
    ⊢ wp frame (wpE (defs₀ (F := F)) Variants.none c none) Set.univ (body i M4 h4 M5 h5 M6 h6) Q := by
  rw [owns_eq_rep, show ∀ x, hStep i x X4 fh = k0_pay2 (xCols i hc6 x) X4 from fun x => by unfold hStep; rw [dif_pos hc6, if_pos hc7],
    show xStep (own m c) got' i fx = (src0 i hc3 hc4).view.read (Elt F) (own m c) from by unfold xStep; rw [dif_pos hc3, dif_pos hc4]]
  unfold body
  rw [cc0_body_eq_skeleton]; unfold cc0_body_skel
  unfold c2 at hc2; unfold c7 at hc7; unfold c8 at hc8
  rw [dif_pos hc1, k0_part1_eq_skeleton]; unfold k0_part1_skel
  simp only [semSignalWord, semWaitWord, Prog.lift, Prog.bind_op, Prog.bind_ret, Prog.pure_eq_ret, wp_deviceId, dev1_eq i c hc1]
  iintro ⟨#HR, #Hlev, HaB, HtB, HtS, HtV, HcB, HO, Hr, Hp, Hx, Hh, H4, Hd, Hk⟩
  rw [O₀_eq c]
  iapply (Rounds.wp_signal Variants.none ER (rd m) (c : Thread nD τ) none (dst := (flip c : Thread nD τ)) (κ := K (flip c, 0))
      (d := ()) (mem_bar m (flip c)) ((amt_bar m (flip c)).trans (by decide)) () (O₁ c) rfl) $$ [HO HtB Hr]
  · isplitr; · iapply (inv_at plan (pay m) K (flip c, 0)); iexact HR
    isplitl [HO]; · iexact HO
    isplitl [HtB]; · iexact HtB
    isplitl [Hr]
    · rw [pay_bar, flip_flip]; iexists fr; rw [landPts_eq]; iexact Hr
    · iapply (reached_at plan (pay m) K (flip c, 0)); iexact HR
  iintro HO
  iapply (Rounds.wp_wait_rest_token Variants.none ER (rd m) (c : Thread nD τ) none (κ := K (c, 0))
      (wpE_semWait_eq Variants.none (c : Thread nD τ) none Set.univ) (Set.mem_univ _) () (O := O₁ c) (W := W) (R := 0) (m := 0) (T := ∅)
      (by rw [exp_bar]; decide)) $$ [HcB HO HaB]
  · isplitr; · iapply (inv_at plan (pay m) K (c, 0)); iexact HR
    isplitl [HcB]; · iexact HcB
    isplitl [HO]; · iexact HO
    isplitr; · iapply (mayWait_bar c); iexact Hlev
    iexact HaB
  iintro ⟨HO, HaB, -, Hpay⟩
  ihave Hl := (Entails.of_eq (rest_bar m c)) $$ Hpay
  icases Hl with ⟨%fl, Hl⟩
  imod (Rounds.cell_close ER (rd m) (Set.mem_univ (K (c, 0))) (fun h => h) (R := 0 + 1) (Exchange.duties_later plan (pay m) (barCell c))) $$ [HaB] with HzB
  · isplitr; · iapply (inv_at plan (pay m) K (c, 0)); iexact HR
    iexact HaB
  ihave Hp' := (own_split m c) $$ Hp
  icases Hp' with ⟨Hleft, Hslab, Hrest⟩
  iapply (wp_send_slab m K c _ (dev2_eq i c hc1) fl (insert (SemLoc.reg barS, ()) W)) $$ [Hslab Hl HO HtS HtV]
  · isplitr; · iexact HR
    isplitl [Hslab]; · iexact Hslab
    isplitl [Hl]; · iexact Hl
    isplitl [HO]; · iexact HO
    isplitl [HtS]; · iexact HtS
    iexact HtV
  iintro ⟨HcS, HO⟩
  unfold leftPts
  sl_exec! (disch := assumption)
  sl_step
  delta run_start.sl.Hh_1 run_start.sl.dma0 run_start.sl.v27
  rw [View.readAt_rep_full, h_stored, x_landed]
  iapply Hk
  isplitl [HcS]; · iexact HcS
  isplitl [HzB]; · iexact HzB
  isplitl [Hleft]; · iexact Hleft
  isplitl [Hrest]; · iexact Hrest
  isplitl [Hx]; · iexact Hx
  isplitl [Hh]; · iexact Hh
  isplitl [H4]; · iexact H4
  isplitl [Hd]; · iexact Hd
  iexists _; iexact HO

set_option maxHeartbeats 1600000 in
/-- The first point of the second slab. -/
theorem run_arrive (K : Dev nD × Fin 3 → ℕ)
    (hc1 : ¬ k0_cond1 i = 1#1) (hc2 : c2 i = 1#1) (hc3 : k0_cond3 i = 1#1) (hc4 : ¬ k0_cond4 i = 1#1) (hc5 : k0_cond5 i = 1#1)
    (hc6 : k0_cond6 i = 1#1) (hc7 : c7 i = 1#1) (hc8 : ¬ c8 i = 1#1) (hc9 : ¬ k0_cond9 i = 1#1)
    (fx fh : Vec F S384x2048 .bf16) (X4 : Vec F S1x512x2048 .bf16) (W : Waits sig Unit) (Q : PUnit → sProp 𝕄) :
    iprop(records plan (pay m) K ∗ atPos ER (sendCell c) 0 ∅ 0 ∗ atPos ER (recvCell c) 0 ∅ 0
      ∗ cred (tallyAt (sendCell c) () N) ∗ cred (tallyAt (recvCell c) () N) ∗ owes (c : Thread nD τ) 0 W
      ∗ leftPts m c ∗ restPts m c ∗ pt c xM fx ∗ pt c hM fh ∗ owns (c : Thread nD τ) M4 fullShare X4 ∗ semVal (copyCell c) 0
      ∗ (iprop(semVal (sendCell c) 0 ∗ semVal (recvCell c) 0 ∗ pt c pM (own m c) ∗ pt c rM (got m c)
          ∗ pt c xM (xStep (own m c) (got m c) i fx) ∗ pt c hM (hStep i (xStep (own m c) (got m c) i fx) X4 fh) ∗ owns (c : Thread nD τ) M4 fullShare X4
          ∗ semVal (copyCell c) 0 ∗ ∃ W, owes (c : Thread nD τ) 0 W) -∗ Q ⟨⟩))
    ⊢ wp frame (wpE (defs₀ (F := F)) Variants.none c none) Set.univ (body i M4 h4 M5 h5 M6 h6) Q := by
  rw [owns_eq_rep, show ∀ x, hStep i x X4 fh = k0_pay2 (xCols i hc6 x) X4 from fun x => by unfold hStep; rw [dif_pos hc6, if_pos hc7],
    show xStep (own m c) (got m c) i fx = (src1 i hc3 hc5).view.read (Elt F) (got m c) from by unfold xStep; rw [dif_pos hc3, dif_neg hc4, dif_pos hc5]]
  unfold body
  rw [cc0_body_eq_skeleton]; unfold cc0_body_skel
  unfold c2 at hc2; unfold c7 at hc7; unfold c8 at hc8
  rw [dif_neg hc1, dif_pos hc2]
  simp only [Prog.lift, Prog.bind_op, Prog.bind_ret, Prog.pure_eq_ret, wp_deviceId]
  iintro ⟨#HR, HaS, HaV, HcS, HcV, HO, Hleft, Hrest, Hx, Hh, H4, Hd, Hk⟩
  iapply (Rounds.wp_wait_rest_token Variants.none ER (rd m) (c : Thread nD τ) none (κ := K (c, 1))
      (wpE_waitDma2_eq Variants.none (c : Thread nD τ) none Set.univ) (Set.mem_univ _) () (O := 0) (W := W) (R := 0) (m := 0) (T := ∅)
      (by rw [Nat.zero_add, exp_send])) $$ [HcS HO HaS]
  · isplitr; · iapply (inv_at plan (pay m) K (c, 1)); iexact HR
    isplitl [HcS]; · iexact HcS
    isplitl [HO]; · iexact HO
    isplitr; · rw [MayWait_zero]; iempintro
    iexact HaS
  iintro ⟨HO, HaS, -, Hpay⟩
  ihave Hslab := (Entails.of_eq (rest_send m c)) $$ Hpay
  imod (Rounds.cell_close ER (rd m) (Set.mem_univ (K (c, 1))) (fun h => h) (R := 0 + 1) (Exchange.duties_later plan (pay m) (sendCell c))) $$ [HaS] with HzS
  · isplitr; · iapply (inv_at plan (pay m) K (c, 1)); iexact HR
    iexact HaS
  iapply (Rounds.wp_wait_rest_token Variants.none ER (rd m) (c : Thread nD τ) none (κ := K (c, 2))
      (wpE_waitDma2_eq Variants.none (c : Thread nD τ) none Set.univ) (Set.mem_univ _) () (O := 0) (R := 0) (m := 0) (T := ∅)
      (by rw [Nat.zero_add, exp_recv])) $$ [HcV HO HaV]
  · isplitr; · iapply (inv_at plan (pay m) K (c, 2)); iexact HR
    isplitl [HcV]; · iexact HcV
    isplitl [HO]; · iexact HO
    isplitr; · rw [MayWait_zero]; iempintro
    iexact HaV
  iintro ⟨HO, HaV, -, Hpay⟩
  ihave Hl := (Entails.of_eq ((rest_recv m c).trans (landPts_eq c _))) $$ Hpay
  imod (Rounds.cell_close ER (rd m) (Set.mem_univ (K (c, 2))) (fun h => h) (R := 0 + 1) (Exchange.duties_later plan (pay m) (recvCell c))) $$ [HaV] with HzV
  · isplitr; · iapply (inv_at plan (pay m) K (c, 2)); iexact HR
    iexact HaV
  ihave Hp := (own_join m c) $$ [Hleft Hslab Hrest]
  · isplitl [Hleft]; · iexact Hleft
    isplitl [Hslab] <;> iassumption
  sl_exec! (disch := assumption)
  sl_step
  delta run_arrive.sl.Hh_1 run_arrive.sl.dma0 run_arrive.sl.v27
  rw [View.readAt_rep_full, h_stored, x_landed]
  iapply Hk
  isplitl [HzS]; · iexact HzS
  isplitl [HzV]; · iexact HzV
  isplitl [Hp]; · iexact Hp
  isplitl [Hl]; · iexact Hl
  isplitl [Hx]; · iexact Hx
  isplitl [Hh]; · iexact Hh
  isplitl [H4]; · iexact H4
  isplitl [Hd]; · iexact Hd
  iexists _; iexact HO

end Cert.FfnProof
end
-- ==== Proof.FfnDats.lean ====
/-
# The fused feed-forward call: the states along the grid, the proof data

The token, hidden and output blocks after each grid point are plain recursions over the points. The region's invariant
has three stages: before the first point the exchange is untouched; up to point 64 the slab is under way; from then on
the received slab is at hand.
-/
module

public import proofs.«01_k».proof.Proof.FfnHeads
public import proofs.«01_k».proof.Proof.Gen.FfnIdeal.Frame

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records L lv)

variable {F : FTy → Type} [FloatOps F]

local notation "𝕄" => MT nD τ sig Unit (Elt F) ℕ UU ℕ

/-! ## Which point does what -/

theorem cond1_at : ∀ t : Fin grid0.N, k0_cond1 (grid0.coords t) = 1#1 ↔ t.val = 0 := by decide +kernel
theorem c2_at : ∀ t : Fin grid0.N, c2 (grid0.coords t) = 1#1 ↔ t.val = 64 := by decide +kernel
theorem cond3_at : ∀ t : Fin grid0.N, k0_cond3 (grid0.coords t) = 1#1 ↔ t.val % 16 = 0 := by decide +kernel
theorem cond4_at : ∀ t : Fin grid0.N, k0_cond4 (grid0.coords t) = 1#1 ↔ t.val < 64 := by decide +kernel
theorem cond5_at : ∀ t : Fin grid0.N, k0_cond5 (grid0.coords t) = 1#1 ↔ 64 ≤ t.val := by decide +kernel
theorem cond6_at : ∀ t : Fin grid0.N, k0_cond6 (grid0.coords t) = 1#1 ↔ t.val % 8 < 4 := by decide +kernel
theorem c7_at : ∀ t : Fin grid0.N, c7 (grid0.coords t) = 1#1 ↔ t.val % 8 = 0 := by decide +kernel
theorem c8_at : ∀ t : Fin grid0.N, c8 (grid0.coords t) = 1#1 ↔ 0 < t.val % 8 := by decide +kernel
theorem cond9_at : ∀ t : Fin grid0.N, k0_cond9 (grid0.coords t) = 1#1 ↔ 4 ≤ t.val % 8 := by decide +kernel
theorem cond10_at : ∀ t : Fin grid0.N, k0_cond10 (grid0.coords t) = 1#1 ↔ t.val % 16 = 4 := by decide +kernel
theorem cond11_at : ∀ t : Fin grid0.N, k0_cond11 (grid0.coords t) = 1#1 ↔ t.val % 16 ≠ 4 := by decide +kernel
/-- The points that leave the output block alone. -/
theorem idle_at : ∀ t : Fin grid0.N, cfg0.idle 2 (grid0.coords t) = decide (t.val % 8 < 4) := by decide +kernel
theorem flush_at (t : Fin grid0.N) : (cfg0.win 2).flush t = decide (t.val % 16 = 15) := by
  have h := flush0_2 t
  by_cases h' : t.val % 16 = 15
  · rw [h.mpr h', decide_eq_true h']
  · rw [decide_eq_false h']; exact Bool.eq_false_iff.mpr fun hf => h' (h.mp hf)

/-- The output block holds leftovers until point 4 of each run of 16. -/
theorem fresh_at (n : ℕ) (h : n ≤ cfg0.N) : cfg0.fresh 2 n = decide (n % 16 ≤ 4) :=
  Pipeline.Cfg.fresh_tab cfg0 2 (fun n => decide (n % 16 ≤ 4)) (by decide) (fun t => by
    rw [flush_at t, show cfg0.idle 2 (cfg0.grid.coords t) = _ from idle_at t]
    rw [Bool.eq_iff_iff]
    simp only [Bool.or_eq_true, Bool.and_eq_true, decide_eq_true_eq]
    omega) n h

/-! ## The states -/

variable (m : (ℓ : Loc nD τ sig) → Buf (Elt F) ℓ)

/-- Point `n`, for any natural number (past the grid: counted from the start again). -/
def pn (n : ℕ) : Fin grid0.N := ⟨n % grid0.N, Nat.mod_lt _ (by rw [N_0]; decide)⟩
theorem pn_val (t : Fin grid0.N) : pn t.val = t := Fin.ext (Nat.mod_eq_of_lt t.isLt)

def w0 (c : Dev nD) (n : ℕ) : Vec F S1x512x2048 .bf16 := iblk m c 0 (pn n)
def w1 (c : Dev nD) (n : ℕ) : Vec F S1x512x2048 .bf16 := iblk m c 1 (pn n)

/-- Some value of the token blocks' type: what the recursions start from; nothing reads it. -/
def some0 (c : Dev nD) : Elt F .bf16 := own m c (fun a => ⟨0, by fin_cases a <;> decide⟩)

/-- The token block before point `n`; -/
def X (c : Dev nD) : ℕ → Vec F S384x2048 .bf16
  | 0 => fun _ => some0 m c
  | n + 1 => xStep (own m c) (got m c) (grid0.coords (pn n)) (X c n)
/-- the hidden block before point `n`; -/
def H (c : Dev nD) : ℕ → Vec F S384x2048 .bf16
  | 0 => fun _ => some0 m c
  | n + 1 => hStep (grid0.coords (pn n)) (X m c (n + 1)) (w0 m c n) (H c n)
/-- the output block before point `n`, carried from block to block. -/
def O (c : Dev nD) : ℕ → Vec F S1x1x384x2048 .bf16
  | 0 => fun _ => some0 m c
  | n + 1 => oStep (grid0.coords (pn n)) (H m c (n + 1)) (w1 m c n) (O c n)

theorem X_next (c : Dev nD) (t : Fin grid0.N) : X m c (t.val + 1) = xStep (own m c) (got m c) (grid0.coords t) (X m c t.val) := by
  conv_lhs => unfold X
  rw [pn_val]
theorem H_next (c : Dev nD) (t : Fin grid0.N) : H m c (t.val + 1) = hStep (grid0.coords t) (X m c (t.val + 1)) (iblk m c 0 t) (H m c t.val) := by
  conv_lhs => unfold H
  unfold w0; rw [pn_val]
theorem O_next (c : Dev nD) (t : Fin grid0.N) : O m c (t.val + 1) = oStep (grid0.coords t) (H m c (t.val + 1)) (iblk m c 1 t) (O m c t.val) := by
  conv_lhs => unfold O
  unfold w1; rw [pn_val]

/-- A point that copies finds nothing it uses in the token block; -/
theorem xStep_copies (t : Fin grid0.N) (h : t.val % 16 = 0) (o : Vec F S2x4x384x2048 .bf16) (g : Vec F S4x384x2048 .bf16) (x x' : Vec F S384x2048 .bf16) :
    xStep o g (grid0.coords t) x = xStep o g (grid0.coords t) x' := by
  unfold xStep
  rw [dif_pos ((cond3_at t).mpr h), dif_pos ((cond3_at t).mpr h)]
  by_cases h4 : t.val < 64
  · rw [dif_pos ((cond4_at t).mpr h4), dif_pos ((cond4_at t).mpr h4)]
  · have h4' := fun h' => h4 ((cond4_at t).mp h')
    rw [dif_neg h4', dif_neg h4', dif_pos ((cond5_at t).mpr (by omega)), dif_pos ((cond5_at t).mpr (by omega))]
/-- the others leave it. -/
theorem xStep_keeps (t : Fin grid0.N) (h : t.val % 16 ≠ 0) (o : Vec F S2x4x384x2048 .bf16) (g : Vec F S4x384x2048 .bf16) (x : Vec F S384x2048 .bf16) :
    xStep o g (grid0.coords t) x = x := by
  unfold xStep; rw [dif_neg (fun h' => h ((cond3_at t).mp h'))]
/-- In the first slab nothing of the received slab is used. -/
theorem xStep_own (t : Fin grid0.N) (h : t.val < 64) (o : Vec F S2x4x384x2048 .bf16) (g g' : Vec F S4x384x2048 .bf16) (x : Vec F S384x2048 .bf16) :
    xStep o g (grid0.coords t) x = xStep o g' (grid0.coords t) x := by
  unfold xStep
  by_cases h3 : t.val % 16 = 0
  · rw [dif_pos ((cond3_at t).mpr h3), dif_pos ((cond3_at t).mpr h3), dif_pos ((cond4_at t).mpr h), dif_pos ((cond4_at t).mpr h)]
  · have h3' := fun h' => h3 ((cond3_at t).mp h')
    rw [dif_neg h3', dif_neg h3']
/-- A point that starts the hidden block finds nothing it uses there; -/
theorem hStep_starts (t : Fin grid0.N) (h : t.val % 8 = 0) (x : Vec F S384x2048 .bf16) (w : Vec F S1x512x2048 .bf16) (o o' : Vec F S384x2048 .bf16) :
    hStep (grid0.coords t) x w o = hStep (grid0.coords t) x w o' := by
  unfold hStep
  rw [dif_pos ((cond6_at t).mpr (by omega)), dif_pos ((cond6_at t).mpr (by omega)), if_pos ((c7_at t).mpr h), if_pos ((c7_at t).mpr h)]
/-- a point of the second product leaves it. -/
theorem hStep_keeps (t : Fin grid0.N) (h : 4 ≤ t.val % 8) (x : Vec F S384x2048 .bf16) (w : Vec F S1x512x2048 .bf16) (o : Vec F S384x2048 .bf16) :
    hStep (grid0.coords t) x w o = o := by
  unfold hStep; rw [dif_neg (fun h' => by have := (cond6_at t).mp h'; omega)]
/-- A point that starts the output block finds nothing it uses there; -/
theorem oStep_starts (t : Fin grid0.N) (h : t.val % 16 = 4) (x : Vec F S384x2048 .bf16) (w : Vec F S1x512x2048 .bf16) (o o' : Vec F S1x1x384x2048 .bf16) :
    oStep (grid0.coords t) x w o = oStep (grid0.coords t) x w o' := by
  unfold oStep
  rw [dif_pos ((cond9_at t).mpr (by omega)), dif_pos ((cond9_at t).mpr (by omega)), if_pos ((cond10_at t).mpr h), if_pos ((cond10_at t).mpr h)]
/-- a point of the first product leaves it. -/
theorem oStep_keeps (t : Fin grid0.N) (h : t.val % 8 < 4) (x : Vec F S384x2048 .bf16) (w : Vec F S1x512x2048 .bf16) (o : Vec F S1x1x384x2048 .bf16) :
    oStep (grid0.coords t) x w o = o := by
  unfold oStep; rw [dif_neg (fun h' => by have := (cond9_at t).mp h'; omega)]

theorem X_keeps (c : Dev nD) (t : Fin grid0.N) (h : t.val % 16 ≠ 0) : X m c (t.val + 1) = X m c t.val := by rw [X_next, xStep_keeps t h]
theorem H_keeps (c : Dev nD) (t : Fin grid0.N) (h : 4 ≤ t.val % 8) : H m c (t.val + 1) = H m c t.val := by rw [H_next, hStep_keeps t h]
theorem O_keeps (c : Dev nD) (t : Fin grid0.N) (h : t.val % 8 < 4) : O m c (t.val + 1) = O m c t.val := by rw [O_next, oStep_keeps t h]

/-! ## The invariant and the proof data -/

/-- A device's ghost state of the exchange, its copy semaphore at zero. -/
def begins (c : Dev nD) : sProp 𝕄 := Exchange.start plan (pay m) (fun c => semVal (copyCell c) 0) c

/-- Before the first point. -/
def Φ₀ (c : Dev nD) : sProp 𝕄 :=
  iprop(begins m c ∗ cred (tallyAt (barCell c) () 1) ∗ cred (tallyAt (recvCell c) () N) ∗ levAts L (lv plan) ∗ pt c pM (own m c)
    ∗ (∃ f, pt (F := F) c rM f) ∗ (∃ f, pt (F := F) c xM f) ∗ (∃ f, pt (F := F) c hM f))
/-- While the slab is under way: what no point up to its arrival touches; -/
def R₁ (c : Dev nD) : sProp 𝕄 :=
  iprop((∃ K, records plan (pay m) K) ∗ atPos ER (sendCell c) 0 ∅ 0 ∗ atPos ER (recvCell c) 0 ∅ 0
    ∗ cred (tallyAt (sendCell c) () N) ∗ cred (tallyAt (recvCell c) () N) ∗ semVal (barCell c) 0 ∗ restPts m c)
/-- that, with what the points read and write. -/
def Φ₁ (c : Dev nD) (n : ℕ) : sProp 𝕄 :=
  iprop((R₁ m c ∗ leftPts m c ∗ semVal (copyCell c) 0) ∗ pt c xM (X m c n) ∗ pt c hM (H m c n))
/-- After the exchange: what no point touches; -/
def R₂ (c : Dev nD) : sProp 𝕄 :=
  iprop(semVal (barCell c) 0 ∗ semVal (sendCell c) 0 ∗ semVal (recvCell c) 0 ∗ pt c pM (own m c))
/-- that, with what the points read and write. -/
def Φ₂ (c : Dev nD) (n : ℕ) : sProp 𝕄 :=
  iprop((R₂ m c ∗ pt c rM (got m c) ∗ semVal (copyCell c) 0) ∗ pt c xM (X m c n) ∗ pt c hM (H m c n))

/-- The invariant before point `n`. -/
def Φat (c : Dev nD) (n : ℕ) : sProp 𝕄 := if n = 0 then Φ₀ m c else if n ≤ 64 then Φ₁ m c n else Φ₂ m c n
theorem Φat_zero (c : Dev nD) : Φat m c 0 = Φ₀ m c := if_pos rfl
theorem Φat_early (c : Dev nD) (n : ℕ) (h : n ≠ 0) (h' : n ≤ 64) : Φat m c n = Φ₁ m c n := by unfold Φat; rw [if_neg h, if_pos h']
theorem Φat_late (c : Dev nD) (n : ℕ) (h : 64 < n) : Φat m c n = Φ₂ m c n := by unfold Φat; rw [if_neg (by omega), if_neg (by omega)]

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => O m c (t.val + 1)
  Φ t := Φat m c t.val
  q _ := fullShare
  owed t := if t.val = 0 then O₀ c else 0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- What a point that adds to the output block finds there. -/
theorem before_2 (c : Dev nD) (t : Fin cfg0.N) (d) (h : ¬ t.val % 16 ≤ 4) : (dats m 0 c).before 2 t d = O m c t.val := by
  have ht := t.isLt
  have hb := (dats m 0 c).before_out_traj 2 rfl (fun _ _ => rfl) (fun t h0 hi _ => by
      have hi' : t.val % 8 < 4 := by
        have h2 := (idle_at t).symm.trans hi
        exact of_decide_eq_true h2
      have e : O m c (t.val + 1) = O m c (t.val - 1 + 1) := by rw [O_keeps m c t hi', Nat.sub_add_cancel (Nat.one_le_iff_ne_zero.mpr h0)]
      exact e) t.val t rfl d
  rw [hb, fresh_at t.val (Nat.le_of_lt ht), if_neg (by rw [decide_eq_true_eq]; exact h)]
  show O m c (t.val - 1 + 1) = _
  rw [Nat.sub_add_cancel (by omega)]

end Cert.FfnProof
end
-- ==== Proof.FfnBody.lean ====
/-
# The fused feed-forward call: the body obligation

Every grid point, by its shape: from the invariant before it and its staged blocks, the body leaves the invariant after
it and the output block as the state sequence says.
-/
module

public import proofs.«01_k».proof.Proof.FfnDats

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records L lv)

variable {F : FTy → Type} [FloatOps F]

local notation "𝕄" => MT nD τ sig Unit (Elt F) ℕ UU ℕ

variable (m : (ℓ : Loc nD τ sig) → Buf (Elt F) ℓ)

/-! ## What a device owes -/

/-- A device that owes nothing. -/
def owesZ (c : Dev nD) : sProp 𝕄 := iprop(∃ W, owes (c : Thread nD τ) 0 W)

theorem owes_start (c : Dev nD) (t : Fin cfg0.N) (h : t.val = 0) : (dats m 0 c).owesAt () t.castSucc ⊢ iprop(∃ W, owes (c : Thread nD τ) (O₀ c) W) := by
  unfold Dat.owesAt Pipeline.owesWithin
  rw [show (dats m 0 c).owed t.castSucc = O₀ c from if_pos h]
  iintro ⟨%W, -, H⟩
  iexists W; iexact H
theorem owes_later (c : Dev nD) (t : Fin cfg0.N) (h : t.val ≠ 0) : (dats m 0 c).owesAt () t.castSucc ⊢ owesZ (F := F) c := by
  unfold Dat.owesAt Pipeline.owesWithin owesZ
  rw [show (dats m 0 c).owed t.castSucc = 0 from if_neg h]
  iintro ⟨%W, -, H⟩
  iexists W; iexact H
theorem owes_next (c : Dev nD) (t : Fin cfg0.N) : owesZ (F := F) c ⊢ (dats m 0 c).owesAt () t.succ := by
  unfold Dat.owesAt Pipeline.owesWithin owesZ
  rw [show (dats m 0 c).owed t.succ = 0 from (if_neg (Nat.succ_ne_zero t.val) : (if t.val + 1 = 0 then O₀ c else 0) = 0)]
  iintro ⟨%W, H⟩
  iexists W; isplitr; · ipureintro; exact fun _ _ => Or.inl trivial
  iexact H

/-! ## One point -/

/-- The output block as a point finds it; -/
def outPre (c : Dev nD) (t : Fin cfg0.N) : sProp 𝕄 := iprop(∃ d, owns (c : Thread nD τ) (st0_2 t) fullShare ((dats m 0 c).before 2 t d))
/-- as a point leaves it. -/
def outPost (c : Dev nD) (t : Fin cfg0.N) : sProp 𝕄 :=
  if t.val % 8 < 4 then outPre m c t else owns (c : Thread nD τ) (st0_2 t) fullShare (O m c (t.val + 1))

def pre (c : Dev nD) (t : Fin cfg0.N) : sProp 𝕄 :=
  iprop(Φat m c t.val ∗ (dats m 0 c).owesAt () t.castSucc ∗ owns (c : Thread nD τ) (st0_0 t) fullShare (iblk m c 0 t)
    ∗ owns (c : Thread nD τ) (st0_1 t) fullShare (iblk m c 1 t) ∗ outPre m c t)
def post (c : Dev nD) (t : Fin cfg0.N) : sProp 𝕄 :=
  iprop(Φat m c (t.val + 1) ∗ (dats m 0 c).owesAt () t.succ ∗ owns (c : Thread nD τ) (st0_0 t) fullShare (iblk m c 0 t)
    ∗ owns (c : Thread nD τ) (st0_1 t) fullShare (iblk m c 1 t) ∗ outPost m c t)

/-- What is to be shown of a point. -/
abbrev Runs (c : Dev nD) (t : Fin cfg0.N) : Prop :=
  pre m c t ⊢ wp frame (wpE (defs₀ (F := F)) Variants.none c none) Set.univ (bodyAt0 t) fun _ => post m c t

theorem hs4 (t : Fin cfg0.N) : (st0_0 t).IsWhole := hstage0_0 ((cfg0.slots t 0).cast nbuf0_0)
theorem hs5 (t : Fin cfg0.N) : (st0_1 t).IsWhole := hstage0_1 ((cfg0.slots t 1).cast nbuf0_1)
theorem hs6 (t : Fin cfg0.N) : (st0_2 t).IsWhole := hstage0_2 ((cfg0.slots t 2).cast nbuf0_2)

omit [FloatOps F] in
/-- A device's dealt tokens, one by one. -/
theorem dealt_eq (c : Dev nD) : (Exchange.dealt plan c : sProp 𝕄) ⊢ iprop(atPos ER (barCell c) 0 ∅ 0 ∗ atPos ER (sendCell c) 0 ∅ 0 ∗ atPos ER (recvCell c) 0 ∅ 0
      ∗ dutyTok ER (barCell (flip c)) 0 () ∗ dutyTok ER (sendCell c) 0 () ∗ dutyTok ER (recvCell (flip c)) 0 ()) := by
  unfold Exchange.dealt
  rw [bigSep_univ_eq_bigSepL [0, 1, 2] (by decide) (by decide), bigSep_univ_eq_bigSepL [0, 1, 2] (by decide) (by decide)]
  show iprop((atPos ER (barCell c) 0 ∅ 0 ∗ atPos ER (sendCell c) 0 ∅ 0 ∗ atPos ER (recvCell c) 0 ∅ 0)
    ∗ (dutyTok ER (barCell (flip c)) 0 () ∗ dutyTok ER (sendCell c) 0 () ∗ dutyTok ER (recvCell (flip c)) 0 ())) ⊢ _
  iintro ⟨⟨H1, H2, H3⟩, H4⟩
  isplitl [H1]; · iexact H1
  isplitl [H2]; · iexact H2
  isplitl [H3]; · iexact H3
  iexact H4

section Shapes
variable (c : Dev nD) (t : Fin cfg0.N)

theorem runs_start (h : t.val = 0) : Runs m c t := by
  unfold Runs pre post outPost
  rw [if_pos (by omega), h, Φat_zero, Φat_early m c (0 + 1) (by decide) (by decide)]
  unfold Φ₀ Φ₁ R₁ begins Exchange.start
  iintro ⟨⟨⟨⟨%K, #HR, Hdealt⟩, Hd⟩, HcB, HcV, #Hlev, Hp, ⟨%fr, Hr⟩, ⟨%fx, Hx⟩, ⟨%fh, Hh⟩⟩, Ho, H4, H5, H6⟩
  ihave Ho' := (owes_start m c t h) $$ Ho
  icases Ho' with ⟨%W, HO⟩
  ihave Hdealt' := (dealt_eq c) $$ Hdealt
  icases Hdealt' with ⟨HaB, HaS, HaV, HtB, HtS, HtV⟩
  iapply (run_start m c (grid0.coords t) (st0_0 t) (hs4 t) (st0_1 t) (hs5 t) (st0_2 t) (hs6 t) K (got m c)
    ((cond1_at t).mpr h) (fun h' => by have := (c2_at t).mp h'; omega) ((cond3_at t).mpr (by omega)) ((cond4_at t).mpr (by omega)) (fun h' => by have := (cond5_at t).mp h'; omega)
    ((cond6_at t).mpr (by omega)) ((c7_at t).mpr (by omega)) (fun h' => by have := (c8_at t).mp h'; omega) (fun h' => by have := (cond9_at t).mp h'; omega)
    fr fx fh (iblk m c 0 t) W)
  isplitr; · iexact HR
  isplitr; · iexact Hlev
  isplitl [HaB]; · iexact HaB
  isplitl [HtB]; · iexact HtB
  isplitl [HtS]; · iexact HtS
  isplitl [HtV]; · iexact HtV
  isplitl [HcB]; · iexact HcB
  isplitl [HO]; · iexact HO
  isplitl [Hr]; · iexact Hr
  isplitl [Hp]; · iexact Hp
  isplitl [Hx]; · iexact Hx
  isplitl [Hh]; · iexact Hh
  isplitl [H4]; · iexact H4
  isplitl [Hd]; · iexact Hd
  iintro ⟨HcS, HzB, Hleft, Hrest, Hx, Hh, H4, Hd, HO⟩
  have eX : X m c (0 + 1) = xStep (own m c) (got m c) (grid0.coords t) fx := by
    rw [← h, X_next, xStep_copies t (by omega) _ _ _ fx]
  have eH : H m c (0 + 1) = hStep (grid0.coords t) (X m c (0 + 1)) (iblk m c 0 t) fh := by
    rw [← h, H_next, hStep_starts t (by omega) _ _ _ fh]
  rw [eH, eX]
  isplitl [HaS HaV HcS HcV HzB Hleft Hrest Hx Hh Hd]
  · isplitr [Hx Hh]; swap
    · isplitl [Hx]; · iexact Hx
      iexact Hh
    isplitr [Hleft Hd]; swap
    · isplitl [Hleft]; · iexact Hleft
      iexact Hd
    isplitr; · iexists K; iexact HR
    isplitl [HaS]; · iexact HaS
    isplitl [HaV]; · iexact HaV
    isplitl [HcS]; · iexact HcS
    isplitl [HcV]; · iexact HcV
    isplitl [HzB]; · iexact HzB
    iexact Hrest
  isplitl [HO]; · iapply (owes_next m c t); unfold owesZ; iexact HO
  isplitl [H4]; · iexact H4
  isplitl [H5]; · iexact H5
  iexact H6

theorem runs_arrive (h : t.val = 64) : Runs m c t := by
  unfold Runs pre post outPost
  rw [if_pos (by omega), Φat_early m c t.val (by omega) (by omega), Φat_late m c (t.val + 1) (by omega)]
  unfold Φ₁ R₁ Φ₂ R₂
  iintro ⟨⟨⟨⟨⟨%K, #HR⟩, HaS, HaV, HcS, HcV, HzB, Hrest⟩, Hleft, Hd⟩, Hx, Hh⟩, Ho, H4, H5, H6⟩
  ihave Ho' := (owes_later m c t (by omega)) $$ Ho
  unfold owesZ
  icases Ho' with ⟨%W, HO⟩
  iapply (run_arrive m c (grid0.coords t) (st0_0 t) (hs4 t) (st0_1 t) (hs5 t) (st0_2 t) (hs6 t) K
    (fun h' => by have := (cond1_at t).mp h'; omega) ((c2_at t).mpr h) ((cond3_at t).mpr (by omega)) (fun h' => by have := (cond4_at t).mp h'; omega) ((cond5_at t).mpr (by omega))
    ((cond6_at t).mpr (by omega)) ((c7_at t).mpr (by omega)) (fun h' => by have := (c8_at t).mp h'; omega) (fun h' => by have := (cond9_at t).mp h'; omega)
    (X m c t.val) (H m c t.val) (iblk m c 0 t) W)
  isplitr; · iexact HR
  isplitl [HaS]; · iexact HaS
  isplitl [HaV]; · iexact HaV
  isplitl [HcS]; · iexact HcS
  isplitl [HcV]; · iexact HcV
  isplitl [HO]; · iexact HO
  isplitl [Hleft]; · iexact Hleft
  isplitl [Hrest]; · iexact Hrest
  isplitl [Hx]; · iexact Hx
  isplitl [Hh]; · iexact Hh
  isplitl [H4]; · iexact H4
  isplitl [Hd]; · iexact Hd
  iintro ⟨HzS, HzV, Hp, Hr, Hx, Hh, H4, Hd, HO⟩
  rw [H_next, X_next]
  isplitl [HzB HzS HzV Hp Hr Hx Hh Hd]
  · isplitr [Hx Hh]; swap
    · isplitl [Hx]; · iexact Hx
      iexact Hh
    isplitr [Hr Hd]; swap
    · isplitl [Hr]; · iexact Hr
      iexact Hd
    isplitl [HzB]; · iexact HzB
    isplitl [HzS]; · iexact HzS
    isplitl [HzV]; · iexact HzV
    iexact Hp
  isplitl [HO]; · iapply (owes_next m c t); unfold owesZ; iexact HO
  isplitl [H4]; · iexact H4
  isplitl [H5]; · iexact H5
  iexact H6

theorem runs_own (h : t.val % 16 = 0) (h0 : t.val ≠ 0) (h64 : t.val < 64) : Runs m c t := by
  unfold Runs pre post outPost
  rw [if_pos (by omega), Φat_early m c t.val (by omega) (by omega), Φat_early m c (t.val + 1) (by omega) (by omega)]
  unfold Φ₁ leftPts
  iintro ⟨⟨⟨HK, Hleft, Hd⟩, Hx, Hh⟩, Ho, H4, H5, H6⟩
  ihave Ho' := (owes_later m c t (by omega)) $$ Ho
  unfold owesZ
  icases Ho' with ⟨%W, HO⟩
  iapply (run_own c (grid0.coords t) (st0_0 t) (hs4 t) (st0_1 t) (hs5 t) (st0_2 t) (hs6 t) (own m c) (got m c) fullShare.left
    (fun h' => by have := (cond1_at t).mp h'; omega) (fun h' => by have := (c2_at t).mp h'; omega) ((cond3_at t).mpr (by omega)) ((cond4_at t).mpr (by omega)) (fun h' => by have := (cond5_at t).mp h'; omega)
    ((cond6_at t).mpr (by omega)) ((c7_at t).mpr (by omega)) (fun h' => by have := (c8_at t).mp h'; omega) (fun h' => by have := (cond9_at t).mp h'; omega)
    (X m c t.val) (H m c t.val) (iblk m c 0 t) W)
  isplitl [Hleft]; · iexact Hleft
  isplitl [Hx]; · iexact Hx
  isplitl [Hh]; · iexact Hh
  isplitl [H4]; · iexact H4
  isplitl [Hd]; · iexact Hd
  isplitl [HO]; · iexact HO
  iintro ⟨Hleft, Hx, Hh, H4, Hd, HO⟩
  rw [H_next, X_next]
  isplitl [HK Hleft Hx Hh Hd]
  · isplitr [Hx Hh]; swap
    · isplitl [Hx]; · iexact Hx
      iexact Hh
    isplitl [HK]; · iexact HK
    isplitl [Hleft]; · iexact Hleft
    iexact Hd
  isplitl [HO]; · iapply (owes_next m c t); unfold owesZ; iexact HO
  isplitl [H4]; · iexact H4
  isplitl [H5]; · iexact H5
  iexact H6

theorem runs_got (h : t.val % 16 = 0) (h64 : 64 < t.val) : Runs m c t := by
  unfold Runs pre post outPost
  rw [if_pos (by omega), Φat_late m c t.val (by omega), Φat_late m c (t.val + 1) (by omega)]
  unfold Φ₂
  iintro ⟨⟨⟨HK, Hr, Hd⟩, Hx, Hh⟩, Ho, H4, H5, H6⟩
  ihave Ho' := (owes_later m c t (by omega)) $$ Ho
  unfold owesZ
  icases Ho' with ⟨%W, HO⟩
  iapply (run_got c (grid0.coords t) (st0_0 t) (hs4 t) (st0_1 t) (hs5 t) (st0_2 t) (hs6 t) (own m c) (got m c) fullShare
    (fun h' => by have := (cond1_at t).mp h'; omega) (fun h' => by have := (c2_at t).mp h'; omega) ((cond3_at t).mpr (by omega)) (fun h' => by have := (cond4_at t).mp h'; omega) ((cond5_at t).mpr (by omega))
    ((cond6_at t).mpr (by omega)) ((c7_at t).mpr (by omega)) (fun h' => by have := (c8_at t).mp h'; omega) (fun h' => by have := (cond9_at t).mp h'; omega)
    (X m c t.val) (H m c t.val) (iblk m c 0 t) W)
  isplitl [Hr]; · iexact Hr
  isplitl [Hx]; · iexact Hx
  isplitl [Hh]; · iexact Hh
  isplitl [H4]; · iexact H4
  isplitl [Hd]; · iexact Hd
  isplitl [HO]; · iexact HO
  iintro ⟨Hr, Hx, Hh, H4, Hd, HO⟩
  rw [H_next, X_next]
  isplitl [HK Hr Hx Hh Hd]
  · isplitr [Hx Hh]; swap
    · isplitl [Hx]; · iexact Hx
      iexact Hh
    isplitl [HK]; · iexact HK
    isplitl [Hr]; · iexact Hr
    iexact Hd
  isplitl [HO]; · iapply (owes_next m c t); unfold owesZ; iexact HO
  isplitl [H4]; · iexact H4
  isplitl [H5]; · iexact H5
  iexact H6

/-- Away from the points that exchange or copy, the invariant but for the two carried blocks stays. -/
theorem carried (h0 : t.val ≠ 0) (h64 : t.val ≠ 64) :
    ∃ R : sProp 𝕄, Φat m c t.val = iprop(R ∗ pt c xM (X m c t.val) ∗ pt c hM (H m c t.val))
      ∧ Φat m c (t.val + 1) = iprop(R ∗ pt c xM (X m c (t.val + 1)) ∗ pt c hM (H m c (t.val + 1))) := by
  by_cases h : t.val ≤ 64
  · exact ⟨_, Φat_early m c t.val h0 h, Φat_early m c (t.val + 1) (by omega) (by omega)⟩
  · exact ⟨_, Φat_late m c t.val (by omega), Φat_late m c (t.val + 1) (by omega)⟩

theorem runs_first (h : t.val % 16 = 8) : Runs m c t := by
  obtain ⟨R, e, e'⟩ := carried m c t (by omega) (by omega)
  unfold Runs pre post outPost
  rw [if_pos (by omega), e, e']
  iintro ⟨⟨HK, Hx, Hh⟩, Ho, H4, H5, H6⟩
  iapply (run_first c (grid0.coords t) (st0_0 t) (hs4 t) (st0_1 t) (hs5 t) (st0_2 t) (hs6 t)
    (fun h' => by have := (cond1_at t).mp h'; omega) (fun h' => by have := (c2_at t).mp h'; omega) (fun h' => by have := (cond3_at t).mp h'; omega)
    ((cond6_at t).mpr (by omega)) ((c7_at t).mpr (by omega)) (fun h' => by have := (c8_at t).mp h'; omega) (fun h' => by have := (cond9_at t).mp h'; omega)
    (X m c t.val) (H m c t.val) (iblk m c 0 t))
  isplitl [Hx]; · iexact Hx
  isplitl [Hh]; · iexact Hh
  isplitl [H4]; · iexact H4
  iintro ⟨Hx, Hh, H4⟩
  rw [H_next, X_keeps m c t (by omega)]
  isplitl [HK Hx Hh]
  · isplitl [HK]; · iexact HK
    isplitl [Hx]; · iexact Hx
    iexact Hh
  isplitl [Ho]; · iapply (owes_next m c t); iapply (owes_later m c t (by omega)); iexact Ho
  isplitl [H4]; · iexact H4
  isplitl [H5]; · iexact H5
  iexact H6

theorem runs_more (h : 0 < t.val % 8) (h' : t.val % 8 < 4) : Runs m c t := by
  obtain ⟨R, e, e'⟩ := carried m c t (by omega) (by omega)
  unfold Runs pre post outPost
  rw [if_pos (by omega), e, e']
  iintro ⟨⟨HK, Hx, Hh⟩, Ho, H4, H5, H6⟩
  iapply (run_more c (grid0.coords t) (st0_0 t) (hs4 t) (st0_1 t) (hs5 t) (st0_2 t) (hs6 t)
    (fun h' => by have := (cond1_at t).mp h'; omega) (fun h' => by have := (c2_at t).mp h'; omega) (fun h' => by have := (cond3_at t).mp h'; omega)
    ((cond6_at t).mpr (by omega)) (fun h' => by have := (c7_at t).mp h'; omega) ((c8_at t).mpr (by omega)) (fun h' => by have := (cond9_at t).mp h'; omega)
    (X m c t.val) (H m c t.val) (iblk m c 0 t))
  isplitl [Hx]; · iexact Hx
  isplitl [Hh]; · iexact Hh
  isplitl [H4]; · iexact H4
  iintro ⟨Hx, Hh, H4⟩
  rw [H_next, X_keeps m c t (by omega)]
  isplitl [HK Hx Hh]
  · isplitl [HK]; · iexact HK
    isplitl [Hx]; · iexact Hx
    iexact Hh
  isplitl [Ho]; · iapply (owes_next m c t); iapply (owes_later m c t (by omega)); iexact Ho
  isplitl [H4]; · iexact H4
  isplitl [H5]; · iexact H5
  iexact H6

theorem runs_out (h : t.val % 16 = 4) : Runs m c t := by
  obtain ⟨R, e, e'⟩ := carried m c t (by omega) (by omega)
  unfold Runs pre post outPost outPre
  rw [if_neg (by omega), e, e']
  iintro ⟨⟨HK, Hx, Hh⟩, Ho, H4, H5, ⟨%d, H6⟩⟩
  iapply (run_out c (grid0.coords t) (st0_0 t) (hs4 t) (st0_1 t) (hs5 t) (st0_2 t) (hs6 t)
    (fun h' => by have := (cond1_at t).mp h'; omega) (fun h' => by have := (c2_at t).mp h'; omega) (fun h' => by have := (cond3_at t).mp h'; omega)
    (fun h' => by have := (cond6_at t).mp h'; omega) ((cond9_at t).mpr (by omega)) ((cond10_at t).mpr (by omega)) (fun h' => by have := (cond11_at t).mp h'; omega)
    (H m c t.val) (iblk m c 1 t) ((dats m 0 c).before 2 t d))
  isplitl [Hh]; · iexact Hh
  isplitl [H5]; · iexact H5
  isplitl [H6]; · iexact H6
  iintro ⟨Hh, H5, H6⟩
  rw [O_next, H_keeps m c t (by omega), X_keeps m c t (by omega), oStep_starts t h (H m c t.val) (iblk m c 1 t) (O m c t.val) ((dats m 0 c).before 2 t d)]
  isplitl [HK Hx Hh]
  · isplitl [HK]; · iexact HK
    isplitl [Hx]; · iexact Hx
    iexact Hh
  isplitl [Ho]; · iapply (owes_next m c t); iapply (owes_later m c t (by omega)); iexact Ho
  isplitl [H4]; · iexact H4
  isplitl [H5]; · iexact H5
  iexact H6

theorem runs_acc (h : 4 ≤ t.val % 8) (h' : t.val % 16 ≠ 4) : Runs m c t := by
  obtain ⟨R, e, e'⟩ := carried m c t (by omega) (by omega)
  unfold Runs pre post outPost outPre
  rw [if_neg (by omega), e, e']
  iintro ⟨⟨HK, Hx, Hh⟩, Ho, H4, H5, ⟨%d, H6⟩⟩
  iapply (run_acc c (grid0.coords t) (st0_0 t) (hs4 t) (st0_1 t) (hs5 t) (st0_2 t) (hs6 t)
    (fun h' => by have := (cond1_at t).mp h'; omega) (fun h' => by have := (c2_at t).mp h'; omega) (fun h' => by have := (cond3_at t).mp h'; omega)
    (fun h' => by have := (cond6_at t).mp h'; omega) ((cond9_at t).mpr (by omega)) (fun h' => by have := (cond10_at t).mp h'; omega) ((cond11_at t).mpr (by omega))
    (H m c t.val) (iblk m c 1 t) ((dats m 0 c).before 2 t d))
  isplitl [Hh]; · iexact Hh
  isplitl [H5]; · iexact H5
  isplitl [H6]; · iexact H6
  iintro ⟨Hh, H5, H6⟩
  rw [O_next, H_keeps m c t (by omega), X_keeps m c t (by omega), before_2 m c t d (by omega)]
  isplitl [HK Hx Hh]
  · isplitl [HK]; · iexact HK
    isplitl [Hx]; · iexact Hx
    iexact Hh
  isplitl [Ho]; · iapply (owes_next m c t); iapply (owes_later m c t (by omega)); iexact Ho
  isplitl [H4]; · iexact H4
  isplitl [H5]; · iexact H5
  iexact H6

theorem runs : Runs m c t := by
  by_cases h0 : t.val = 0; · exact runs_start m c t h0
  by_cases h64 : t.val = 64; · exact runs_arrive m c t h64
  by_cases h16 : t.val % 16 = 0
  · by_cases hlt : t.val < 64
    · exact runs_own m c t h16 h0 hlt
    · exact runs_got m c t h16 (by omega)
  by_cases h8 : t.val % 16 = 8; · exact runs_first m c t h8
  by_cases hq : t.val % 8 < 4; · exact runs_more m c t (by omega) hq
  by_cases hp : t.val % 16 = 4; · exact runs_out m c t hp
  exact runs_acc m c t (by omega) hp

end Shapes

/-- The library's body obligation. -/
theorem body_obligation (c : Dev nD) : BodyObligation (dats m 0 c) (defs₀ (F := F)) Variants.none () Set.univ := fun t => by
  rw [bigSep_W0, bigSep_W0]
  have e2 : (match cfg0.idle 2 (cfg0.grid.coords t) with
      | true =>
        match (cfg0.win 2).flush t with
        | false => iprop(∃ d, owns (c : Thread nD τ) (st0_2 t) fullShare ((dats m 0 c).before 2 t d))
        | true => owns (c : Thread nD τ) (st0_2 t) fullShare ((dats m 0 c).after 2 t)
      | false => owns (c : Thread nD τ) (st0_2 t) fullShare ((dats m 0 c).after 2 t)) = outPost m c t := by
    unfold outPost
    rw [show cfg0.idle 2 (cfg0.grid.coords t) = _ from idle_at t, flush_at t]
    by_cases h : t.val % 8 < 4
    · rw [decide_eq_true h, decide_eq_false (by omega), if_pos h]; rfl
    · rw [decide_eq_false h, if_neg h]; rfl
  have hr := runs m c t
  unfold Runs pre post outPre at hr
  rw [← e2] at hr
  simp only [before_0, before_1]
  show iprop(Φat m c t.val ∗ _) ⊢ _
  iintro ⟨HΦ, Ho, ⟨%d0, H0⟩, ⟨%d1, H1⟩, H2⟩
  iapply hr
  isplitl [HΦ]; · iexact HΦ
  isplitl [Ho]; · iexact Ho
  isplitl [H0]; · iexact H0
  isplitl [H1]; · iexact H1
  iexact H2

end Cert.FfnProof
end
-- ==== Proof.FfnLaunch.lean ====
/-
# The fused feed-forward call: the run of the whole program

From any memory with zero counters every execution of the program terminates with the arrays as the proof data says,
the token blocks unchanged and every semaphore at zero.
-/
module

public import proofs.«01_k».proof.Proof.FfnBody
public import Idealize.ShloMosaic.Adequacy
public import Idealize.ShloMosaic.Init
public import Idealize.ShloMosaic.Lib.Pipeline.CollectiveSegs

@[expose] public section

noncomputable section

namespace Cert.FfnProof

open Cert.FfnIdeal Cert.FfnIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records L lv)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at the launch -/

/-- The call's own semaphores. -/
abbrev osem : Fin 3 → SemLoc sig := fun | 0 => .dma sendS | 1 => .dma recvS | 2 => .dma copyS
theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), (initOf (Exchange.cells plan) (Exchange.toks plan), 1))

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (copyCell c) 0) := by
  rw [Pipeline.ownSems0_eq_of_list c osem [0, 1, 2] (by decide) (by decide)]; rfl
omit [FloatOps F] in
/-- The barrier semaphore is the one that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at the launch. -/
def sems (c : Dev nD) : sProp 𝕄 :=
  iprop(Pipeline.ownSems0 (Ix := Unit) (Name := ℕ) (U := UU) (Lvl := ℕ) (Val := Elt F) (τ := τ) osem c ∗ unscopedSems0 c)

omit [FloatOps F] in
/-- The exchange's three and the copies' one. -/
theorem sems_eq (c : Dev nD) : (sems c : sProp 𝕄) ⊢ iprop((bigSep Finset.univ fun k : Fin 3 => semVal (plan.cell (c, k)) 0) ∗ semVal (copyCell c) 0) := by
  unfold sems
  rw [ownSems0_eq, unscopedSems0_eq, bigSep_univ_eq_bigSepL [0, 1, 2] (by decide) (by decide)]
  show _ ⊢ iprop((semVal (barCell c) 0 ∗ semVal (sendCell c) 0 ∗ semVal (recvCell c) 0) ∗ semVal (copyCell c) 0)
  iintro ⟨⟨HS, HV, HC⟩, HB⟩
  isplitr [HC]; swap; · iexact HC
  isplitl [HB]; · iexact HB
  isplitl [HS] <;> iassumption

omit [FloatOps F] in
theorem assoc (c : Dev nD) : iprop(Pipeline.ownSems0 (Ix := Unit) (Name := ℕ) (U := UU) (Lvl := ℕ) (Val := Elt F) (τ := τ) osem c ∗ unscopedSems0 c ∗ Exchange.G plan (pay m) c)
    ⊢ iprop(sems c ∗ Exchange.G plan (pay m) c) := by
  unfold sems
  iintro ⟨H1, H2, H3⟩
  isplitr [H3]; swap; · iexact H3
  isplitl [H1] <;> iassumption

omit [FloatOps F] in
/-- The step all devices take at once. -/
theorem glob : (bigSep Finset.univ fun c => iprop(Pipeline.ownSems0 (Ix := Unit) (Name := ℕ) (U := UU) (Lvl := ℕ) (Val := Elt F) (τ := τ) osem c ∗ unscopedSems0 c ∗ Exchange.G plan (pay m) c) : sProp 𝕄)
    ⊢ |={Set.univ}=> bigSep Finset.univ (begins m) :=
  (bigSep_mono fun c _ => assoc m c).trans (Exchange.glob plan (pay m) sems (fun c => semVal (copyCell c) 0) sems_eq)

omit [FloatOps F] in
theorem creds (c : Dev nD) : (Pipeline.launchCred O₀ c : sProp 𝕄) ⊢ iprop(cred (tallyAt (barCell c) () 1) ∗ cred (tallyAt (recvCell c) () N)) := by
  have h := Exchange.creds (τ := τ) (Val := Elt F) plan {0, 2} c
  rw [bigSep_eq_bigSepL_of_eq [0, 2] (by decide) (by decide)] at h
  exact h

theorem staging_other : ∀ (w : Fin cfg0.W) (s : Fin (cfg0.win w).nbuf) (k : Fin 3), plan.sem k ≠ .dma ((cfg0.win w).sem s) := by decide

/-- While it owes, a device may wait on the staging semaphores. -/
theorem waits (c : Dev nD) : (levAts L (lv plan) : sProp 𝕄) ⊢ Pipeline.cellsWaits cfgs (dats m) () 0 c :=
  Pipeline.cellsWaits_intro cfgs (dats m) () 0 c fun w s t => by
    by_cases h : t.val = 0
    · rw [show (dats m 0 c).owed t = O₀ c from if_pos h]
      refine Exchange.mayWait plan c _ {0, 2} fun k hk => ?_
      rw [Exchange.lv_other plan _ (staging_other w s)]
      fin_cases k
      · decide
      · exact absurd hk (by decide)
      · decide
    · rw [show (dats m 0 c).owed t = 0 from if_neg h, MayWait_zero]; iintro -; iempintro

/-! ## From the launch to the region's invariant, and back -/

/-- What a device enters the region with, the scratch buffers apart. -/
def enters (c : Dev nD) : sProp 𝕄 :=
  iprop(begins m c ∗ cred (tallyAt (barCell c) () 1) ∗ cred (tallyAt (recvCell c) () N) ∗ levAts L (lv plan) ∗ pt c pM (own m c) ∗ (∃ f, pt (F := F) c rM f))

omit [FloatOps F] in
theorem enters_intro (c : Dev nD) :
    iprop(Pipeline.unscopedRestP Pipeline.Prefetch.none cfg0.spec c (fun b => m ((c : Thread nD τ).loc b)) ∗ levAts L (lv plan)
        ∗ Pipeline.launchCred O₀ c ∗ prngReg c (ρ c) ∗ begins m c)
      ⊢ |={Set.univ}=> iprop(enters m c ∗ emp) := by
  rw [Pipeline.unscopedRestP_none, unscopedRest0_eq]
  iintro ⟨⟨Hp, Hr⟩, Hlev, Hcr, -, HG⟩
  ihave Hc := (creds (F := F) c) $$ Hcr
  icases Hc with ⟨H1, HN⟩
  imodintro
  unfold enters
  isplitl
  · isplitl [HG]; · iexact HG
    isplitl [H1]; · iexact H1
    isplitl [HN]; · iexact HN
    isplitl [Hlev]; · iexact Hlev
    isplitl [Hp]; · iexact Hp
    iexists _; iexact Hr
  · iempintro

theorem phi_intro (c : Dev nD) :
    iprop(enters m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from Φat_zero m c, scopedRest0_eq]
  unfold enters Φ₀
  iintro ⟨⟨H1, H2, H3, H4, H5, H6⟩, -, ⟨Hx, Hh⟩⟩
  isplitl [H1]; · iexact H1
  isplitl [H2]; · iexact H2
  isplitl [H3]; · iexact H3
  isplitl [H4]; · iexact H4
  isplitl [H5]; · iexact H5
  isplitl [H6]; · iexact H6
  isplitl [Hx]; · iexact Hx
  iexact Hh

/-- What a device leaves the region with. -/
def leaves (c : Dev nD) : sProp 𝕄 := iprop(unscopedSems0 c ∗ pt c pM (own m c))

theorem phi_exit (c : Dev nD) :
    (dats m 0 c).Φ (Fin.last cfg0.N) ⊢ iprop(leaves m c ∗ Pipeline.ownSems0 osem c ∗ Pipeline.scopedRest cfg0.spec c) := by
  rw [show (dats m 0 c).Φ (Fin.last cfg0.N) = Φ₂ m c 128 from Φat_late m c 128 (by decide), scopedRest0_eq, ownSems0_eq]
  unfold leaves Φ₂ R₂
  rw [unscopedSems0_eq]
  iintro ⟨⟨⟨HB, HS, HV, Hp⟩, -, HC⟩, Hx, Hh⟩
  isplitl [HB Hp]
  · isplitl [HB] <;> iassumption
  isplitl [HS HV HC]
  · isplitl [HS]; · iexact HS
    isplitl [HV] <;> iassumption
  isplitl [Hx]
  · iexists _; iexact Hx
  · iexists _; iexact Hh

omit [FloatOps F] in
/-- The final memory read at what a device leaves with. -/
theorem read_final (c : Dev nD) (s' : Phys nD τ sig (Elt F)) : iprop(leaves m c ∗ emp ∗ SI s')
    ⊢ |={Set.univ}=> iprop(⌜s'.mem.mem ((c : Thread nD τ).loc main_arg0) = m ((c : Thread nD τ).loc main_arg0)
        ∧ ∀ sm : SemLoc sig, sm.isScoped .tc = false → s'.mem.sem ((c : Thread nD τ), sm) = 0⌝ ∗ SI s') := by
  unfold leaves
  iintro ⟨⟨Hu, Hp⟩, -, HSI⟩
  icombine HSI Hp gives %h
  imod (Pipeline.unscopedSems0_read (X := unscopedSems0 c) (c := c) fupd_intro s') $$ [Hu HSI] with ⟨%hs, HSI⟩
  · isplitl [Hu] <;> iassumption
  imodintro
  isplitr; · ipureintro; exact ⟨funext fun i => h i (Finset.mem_univ i), hs⟩
  iexact HSI

/-! ## The run -/

/-- Every array a window stages ends as the proof data says; the token blocks end as they were. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg0) = m ((c : Thread nD τ).loc main_arg0)

set_option maxRecDepth 8000 in
/-- From any memory with zero counters every weakly fair execution terminates, with `QC` and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) embL defs₀ Variants.none m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv plan) (hL := Exchange.L_of_ne) (hwaits := waits m)
    (G := Exchange.G plan (pay m)) (G' := begins m) (u₀ := u₀)
    (hu₀ := by
      unfold u₀
      iintro Hu
      ihave H := (Exchange.ownU_split _ _) $$ Hu
      icases H with ⟨HP, HX⟩
      imod (Exchange.fund_cells plan (pay m)) $$ HX with HG
      imodintro
      isplitl [HP] <;> iassumption)
    (hglob := glob m)
    (hA := fun _ _ => rfl) (hpf := fun _ k => k.elim0)
    (X := enters m) (Y := leaves m) (Z := fun _ => iprop(emp))
    (hX := enters_intro m ρ) (hin := phi_intro m) (hout := phi_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := read_final m)
    (hQ := fun _ h hs => ⟨fun c => ⟨(h c).1, (h c).2.2.1⟩, sem_eq_zero hs fun c => (h c).2.2.2⟩)

/-- The claim's frame: arguments unchanged, semaphores at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).2, ((h.1 c).1 0).trans ((dats m 0 c).arrAt_in 0 rfl _), ((h.1 c).1 1).trans ((dats m 0 c).arrAt_in 1 rfl _)⟩, h.2⟩)
    (run_main m ρ)

end Cert.FfnProof
end
-- ==== Proof.PackValue.lean ====
/-
# The packing call: what it computes

A point builds one slab of 512 rows. Row `r` of slab `t` is the sum of the tokens whose word is `512 t + r`: the mask of
the point has a 1 exactly at those tokens.
-/
module

public import proofs.«01_k».proof.Proof.Gen.PackIdeal.Frame
public import Idealize.ShloMosaic.Lib.Pointwise
public import Idealize.ShloMosaic.Lib.Pipeline.ValueKit

@[expose] public section

set_option maxRecDepth 16384

noncomputable section

namespace Cert.PackProof

open Cert.PackIdeal Cert.PackIdeal.Gen
open Idealize.ShloMosaic Idealize.ShloMosaic.TcCoe
open scoped BigOperators

/-! ## The payload at an index -/

/-- An entry of the mask: 1 where the two words are equal, 0 elsewhere. -/
theorem mask_at (u v : BitVec 32) : (FloatOps.sitofp FTy.f32 (BitVec.setWidth 32 (IntOp.cmpi CmpIPredicate.eq u v)) : Ideal .f32) = if u = v then (1 : EReal) else 0 := by
  by_cases h : u = v
  · rw [if_pos h]; subst h
    rw [show IntOp.cmpi CmpIPredicate.eq u u = 1#1 by simp [IntOp.cmpi]]
    show (((BitVec.setWidth 32 1#1).toInt : ℝ) : EReal) = 1
    rw [show (BitVec.setWidth 32 1#1).toInt = 1 by decide]; norm_num
  · rw [if_neg h]
    rw [show IntOp.cmpi CmpIPredicate.eq u v = 0#1 by show BitVec.ofBool (u == v) = 0#1; rw [beq_eq_false_iff_ne.mpr h]; rfl]
    show (((BitVec.setWidth 32 0#1).toInt : ℝ) : EReal) = 0
    rw [show (BitVec.setWidth 32 0#1).toInt = 0 by decide]; norm_num

/-- A row of a slab is the sum of the tokens, each times its mask entry. -/
theorem pay1_at (i : grid0.Coords) (v : Vec Ideal S1x2048 .i32) (x : Vec Ideal S2048x2048 .bf16) (r : Fin 512) (d : Fin 2048) :
    k0_pay1 i v x (ix3 0 r d) = ∑ k : Fin 2048, (if BitVec.ofNat 32 r.val + BitVec.ofNat 32 (i 0).val * 512#32 = v (ix2 0 k) then (1 : EReal) else 0) * x (ix2 k d) := by
  pointwise [k0_pay1]
  refine Finset.sum_congr rfl fun k _ => congrArg (· * x (ix2 k d)) ?_
  exact mask_at _ _

/-! ## The block indices at each point -/

theorem index0_at : ∀ t : Fin grid0.N, win0_0.index t = ![0, 0] := by decide +kernel
theorem index1_at : ∀ t : Fin grid0.N, win0_1.index t = ![0, 0] := by decide +kernel
theorem index2_at : ∀ t : Fin grid0.N, win0_2.index t = ![t.val, 0, 0] := by decide +kernel
theorem word_at : ∀ t : Fin grid0.N, BitVec.ofNat 32 (grid0.coords t 0).val * 512#32 = BitVec.ofNat 32 (512 * t.val) := by decide +kernel
theorem N_6 : grid0.N = 6 := by decide +kernel

variable (m : (ℓ : Loc nD τ sig) → Buf (Elt Ideal) ℓ)

/-- The block of the words is all of them; -/
theorem w0_at (c : Dev nD) (t : Fin grid0.N) (k : Fin 2048) : iblk m c 0 t (ix2 0 k) = m ((c : Thread nD τ).loc main_arg1) (ix2 0 k) := by
  have e0 := index0_at t
  blk_ext [iblk, e0]
/-- that of the tokens too. -/
theorem w1_at (c : Dev nD) (t : Fin grid0.N) (k d : Fin 2048) : iblk m c 1 t (ix2 k d) = m ((c : Thread nD τ).loc main_arg0) (ix2 k d) := by
  have e0 := index1_at t
  blk_ext [iblk, e0]

/-! ## The result array -/

/-- Row `u` of the packed tokens at column `d`: the sum of the tokens whose word is `u`. -/
def packed (x0 : (⟨2, ![2048, 2048]⟩ : Shape).Idx → EReal) (x1 : (⟨2, ![1, 2048]⟩ : Shape).Idx → BitVec 32) (u : ℕ) (d : Fin 2048) : EReal :=
  ∑ k : Fin 2048, if (x1 (ix2 0 k)).toNat = u then x0 (ix2 k d) else 0

/-- What the call leaves in its result. -/
def result (c : Dev nD) : S6x512x2048.Idx → EReal := fun i =>
  packed (m ((c : Thread nD τ).loc main_arg0)) (m ((c : Thread nD τ).loc main_arg1)) (512 * (i 0).val + (i 1).val) (i 2)

/-- What a point writes back, at an index. -/
theorem after_at (c : Dev nD) (t : Fin grid0.N) (r : Fin 512) (d : Fin 2048) :
    (dats m 0 c).after 2 t (ix3 0 r d) = packed (m ((c : Thread nD τ).loc main_arg0)) (m ((c : Thread nD τ).loc main_arg1)) (512 * t.val + r.val) d := by
  have ht : t.val < 6 := lt_of_lt_of_eq t.isLt N_6
  have hr := r.isLt
  rw [after0_2]
  unfold out0_2
  rw [View.canon_unit_zero (funext fun a => by fin_cases a <;> rfl), View.ld_unit_zero (funext fun a => by fin_cases a <;> rfl), View.ld_unit_zero (funext fun a => by fin_cases a <;> rfl)]
  refine (pay1_at _ _ _ r d).trans ?_
  unfold packed
  refine Finset.sum_congr rfl fun k _ => ?_
  rw [word_at t, w0_at m c t k, w1_at m c t k d]
  have key : (BitVec.ofNat 32 r.val + BitVec.ofNat 32 (512 * t.val) = (show BitVec 32 from m ((c : Thread nD τ).loc main_arg1) (ix2 0 k)))
      ↔ (show BitVec 32 from m ((c : Thread nD τ).loc main_arg1) (ix2 0 k)).toNat = 512 * t.val + r.val := by
    rw [← BitVec.toNat_inj, BitVec.toNat_add, BitVec.toNat_ofNat, BitVec.toNat_ofNat]
    omega
  by_cases h : (show BitVec 32 from m ((c : Thread nD τ).loc main_arg1) (ix2 0 k)).toNat = 512 * t.val + r.val
  · rw [if_pos (key.mpr h), one_mul]
    exact (if_pos h).symm
  · rw [if_neg (fun e => h (key.mp e)), zero_mul]
    exact (if_neg h).symm

/-- The array after the run is `result`. -/
theorem result_eq (c : Dev nD) : (dats m 0 c).arrAt 2 cfg0.N = result m c := by
  refine (dats m 0 c).arrAt_eq_of_covers 2 _ (by decide +kernel) fun t hf y => ?_
  have ht : t.val < 6 := lt_of_lt_of_eq t.isLt N_6
  have e2 := index2_at t
  change S1x512x2048.Idx at y
  obtain ⟨z, r, d, rfl⟩ : ∃ (z : Fin 1) (r : Fin 512) (d : Fin 2048), y = ix3 z r d := ⟨y 0, y 1, y 2, eq_ix3 y⟩
  obtain rfl : z = 0 := Subsingleton.elim _ _
  have hr := r.isLt
  have h0 : ((win0_2.blk t).view.emb (ix3 0 r d) 0).val = t.val := by blk_simp [e2]; exact Nat.add_zero _
  have h1 : ((win0_2.blk t).view.emb (ix3 0 r d) 1).val = r.val := by blk_simp [e2]
  have h2 : ((win0_2.blk t).view.emb (ix3 0 r d) 2 : Fin 2048) = d := Fin.ext (by blk_simp [e2])
  refine (after_at m c t r d).trans ?_
  show packed _ _ (512 * t.val + r.val) d = packed _ _ (512 * ((win0_2.blk t).view.emb (ix3 0 r d) 0).val + ((win0_2.blk t).view.emb (ix3 0 r d) 1).val) ((win0_2.blk t).view.emb (ix3 0 r d) 2)
  rw [h0, h1]
  exact (congrArg (packed _ _ _) h2).symm

end Cert.PackProof
end
-- ==== Proof.PackRef.lean ====
/-
# The packing call: the reference at an index

The reference adds every token to the row of a zero array that its word names; a token whose word is negative or beyond
the array is dropped. So a row is the sum of the tokens whose word is that row.
-/
module

public import proofs.«01_k».proof.Proof.Gen.PackRefIdeal.Read
public import proofs.«01_k».proof.Proof.Gen.PackRefIdeal.Run
public import Idealize.ShloMosaic.Lib.Pointwise
public import Idealize.ShloMosaic.Lib.WordCmp
public import Idealize.ShloMosaic.Lib.Routing.OpsPair

@[expose] public section

set_option maxRecDepth 16384

noncomputable section

namespace Cert.PackProof.Ref

open Cert.PackRefIdeal Cert.PackRefIdeal.Gen Cert.PackRefIdeal.Read
open Idealize.ShloMosaic
open scoped BigOperators

variable (x0 : (⟨S2048x2048, .bf16⟩ : BufTy).Contents (Elt Ideal)) (x1 : (⟨S1x2048, .i32⟩ : BufTy).Contents (Elt Ideal))

/-- The dimension numbers of the reference's scatter. -/
abbrev sd : ScatterDims S3072x2048 S2048x1 S2048x2048 := scatter_S3072x2048_S2048x1_S2048x2048_1_0_0_1

/-- Where the entry at column `e` of token `k` lands: the row its word names read signed, the same column. -/
theorem lands_iff (idx : IVec S2048x1 32) (k e : Fin 2048) (u : Fin 3072) (d : Fin 2048) :
    sd.resultIdx? (ix2 k e) idx = some (ix2 u d) ↔ (idx (ix2 k 0)).toInt = (u.val : Int) ∧ e = d := by
  refine (Routing.resultIdx?_ix2 sd (ix2 k e) idx u d).trans ?_
  have hs0 : sd.start (ix2 k e) idx (0 : Fin 2) = (idx (ix2 k 0)).toInt := by
    unfold ScatterDims.start
    rw [dif_pos (show (0 : Fin 2) ∈ sd.scatterDimsToOperandDims from List.mem_singleton.mpr rfl)]
    refine congrArg (fun i => (idx i).toInt) (funext fun a => Fin.ext ?_)
    match a with
    | ⟨0, _⟩ => rfl
    | ⟨1, _⟩ => rfl
  have hs1 : sd.start (ix2 k e) idx (1 : Fin 2) = 0 := by
    unfold ScatterDims.start
    exact dif_neg fun h => absurd (List.mem_singleton.mp h) (by decide)
  have hw0 : sd.window (ix2 k e) (0 : Fin 2) = 0 := rfl
  have hw1 : sd.window (ix2 k e) (1 : Fin 2) = e.val := rfl
  rw [hs0, hs1, hw0, hw1]
  constructor
  · rintro ⟨h0, h1⟩
    exact ⟨by omega, Fin.ext (by omega)⟩
  · rintro ⟨h0, rfl⟩
    exact ⟨by omega, by omega⟩

/-- A negative word is replaced by the first row beyond the array; after that no word is negative, and none is wrapped. -/
theorem word_place (v : BitVec 32) :
    Scalar.select (IntOp.cmpi .slt (Scalar.select (IntOp.cmpi .slt v 0#32) 3072#32 v) 0#32)
      (IntOp.addi (Scalar.select (IntOp.cmpi .slt v 0#32) 3072#32 v) 3072#32) (Scalar.select (IntOp.cmpi .slt v 0#32) 3072#32 v)
      = if v.toNat < 2 ^ 31 then v else 3072#32 := by
  have e : Scalar.select (IntOp.cmpi .slt v 0#32) 3072#32 v = if v.toNat < 2 ^ 31 then v else 3072#32 := by
    rw [WordCmp.cmpi_slt_zero, WordCmp.select_decide]
    by_cases h : v.toNat < 2 ^ 31
    · rw [if_pos h, if_neg (by omega)]
    · rw [if_neg h, if_pos (by omega)]
  rw [e]
  refine Routing.wrap_of_lt _ _ ?_
  by_cases h : v.toNat < 2 ^ 31
  · rw [if_pos h]; exact h
  · rw [if_neg h]; decide

/-- The word the scatter is given for token `k`: its own, or the first row beyond the array if it is negative. -/
theorem place_at (k : Fin 2048) : val_main_v12 (F := Ideal) x1 (ix2 k 0) = if (show BitVec 32 from x1 (ix2 0 k)).toNat < 2 ^ 31 then x1 (ix2 0 k) else 3072#32 := by
  pointwise [val_main_v12, val_main_v11, val_main_v10, val_main_v9, val_main_v8, val_main_v7, val_main_v4, val_main_v3, val_main_v2, val_main_v1, val_main_v0,
    val_main_c, val_main_c_0, val_main_c_1, val_main_c_2, val_main_call0_v1, val_main_call0_v0]
  exact word_place _

/-- A word names row `u` of the array read signed exactly when it does so as a number. -/
theorem names_iff (v : BitVec 32) (u : Fin 3072) : (if v.toNat < 2 ^ 31 then v else 3072#32).toInt = (u.val : Int) ↔ v.toNat = u.val := by
  have hu := u.isLt
  by_cases h : v.toNat < 2 ^ 31
  · rw [if_pos h, BitVec.toInt_eq_toNat_of_lt (by omega)]; omega
  · rw [if_neg h, show (3072#32).toInt = 3072 by decide]; omega

/-- A row of the array after the scatter. -/
theorem scattered_at (u : Fin 3072) (d : Fin 2048) : val_main_v13 (F := Ideal) x0 x1 (ix2 u d)
    = ∑ k : Fin 2048, if (show BitVec 32 from x1 (ix2 0 k)).toNat = u.val then x0 (ix2 k d) else (0 : EReal) := by
  unfold val_main_v13
  show Ideal.hostScatterAdd sd _ _ _ _ = _
  unfold Ideal.hostScatterAdd
  have h0 : val_main_v5 (F := Ideal) (ix2 u d) = (0 : EReal) := by
    pointwise [val_main_v5, val_main_cst]
  rw [h0, zero_add, Finset.sum_filter]
  refine (sum_idx2 (n0 := 2048) (n1 := 2048) _).trans (Finset.sum_congr rfl fun k _ => ?_)
  have key : ∀ e : Fin 2048, (sd.resultIdx? (ix2 k e) (val_main_v12 (F := Ideal) x1) = some (ix2 u d))
      ↔ (show BitVec 32 from x1 (ix2 0 k)).toNat = u.val ∧ e = d := fun e => by
    rw [lands_iff, place_at]
    exact and_congr_left fun _ => names_iff _ u
  have hx : ∀ e : Fin 2048, val_main_v6 (F := Ideal) x0 (ix2 k e) = x0 (ix2 k e) := fun e => rfl
  refine (Finset.sum_congr rfl fun e _ => (if_congr (key e) (hx e) rfl)).trans ?_
  by_cases h : (show BitVec 32 from x1 (ix2 0 k)).toNat = u.val
  · rw [if_pos h, Finset.sum_eq_single d]
    · exact if_pos ⟨h, rfl⟩
    · intro e _ he
      exact if_neg fun q => he q.2
    · exact fun q => absurd (Finset.mem_univ _) q
  · rw [if_neg h]
    exact Finset.sum_eq_zero fun e _ => if_neg fun q => h q.1

/-- An element of the reference's result. -/
theorem packed_at (j : Fin 6) (r : Fin 512) (d : Fin 2048) : val_main_v15 (F := Ideal) x0 x1 (ix3 j r d)
    = ∑ k : Fin 2048, if (show BitVec 32 from x1 (ix2 0 k)).toNat = 512 * j.val + r.val then x0 (ix2 k d) else (0 : EReal) := by
  have hj := j.isLt
  have hr := r.isLt
  rw [val_main_v15_apply, val_main_v14_apply]
  rw [show (idx_main_v15 (ix3 j r d) : S3072x2048.Idx) = ix2 ⟨512 * j.val + r.val, by omega⟩ d from funext fun a => Fin.ext (by
    have hd := d.isLt
    match a with
    | ⟨0, _⟩ => show ((j.val * 512 + r.val) * 2048 + d.val) / 2048 = 512 * j.val + r.val; omega
    | ⟨1, _⟩ => show ((j.val * 512 + r.val) * 2048 + d.val) % 2048 = d.val; omega)]
  exact scattered_at x0 x1 _ d

end Cert.PackProof.Ref
end
-- ==== Proof.PackMatch.lean ====
/-
# The packing call: the results agree

The call and the reference leave the same array: each row is the sum of the tokens whose word names it.
-/
module

public import proofs.«01_k».proof.Proof.PackValue
public import proofs.«01_k».proof.Proof.PackRef

@[expose] public section

set_option maxRecDepth 16384

noncomputable section

namespace Cert.PackProof

open Cert.PackIdeal Cert.PackIdeal.Gen
open Idealize.ShloMosaic Idealize.ShloMosaic.TcCoe
open scoped BigOperators

variable (m : (ℓ : Loc nD τ sig) → Buf (Elt Ideal) ℓ)

/-- The call's result is the reference's. -/
theorem result_ref (c : Dev nD) (x0 : (⟨2, ![2048, 2048]⟩ : Shape).Idx → EReal) (x1 : (⟨2, ![1, 2048]⟩ : Shape).Idx → BitVec 32)
    (h0 : x0 = m ((c : Thread nD τ).loc main_arg0)) (h1 : x1 = m ((c : Thread nD τ).loc main_arg1)) :
    result m c = Cert.PackRefIdeal.Read.val_main_v15 (F := Ideal) x0 x1 := by
  funext i
  obtain ⟨j, r, d, rfl⟩ : ∃ (j : Fin 6) (r : Fin 512) (d : Fin 2048), i = ix3 j r d := ⟨i 0, i 1, i 2, eq_ix3 i⟩
  rw [Ref.packed_at, h0, h1]
  rfl

/-- The run leaves the reference's array in the result and changes no argument. -/
theorem run_result (ρ : Dev nD → PrngReg) : θ_run defs (onTc (τ := τ) (main (F := Ideal))) ⟨m, fun _ => 0, ρ⟩ fun r => ∀ c : Dev nD,
    r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (result_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.PackProof
end
-- ==== Proof.RouteRank.lean ====
/-
# Ranks

The rank of a token among those of its expert is the number of earlier tokens with the same expert. Two ways to compute it
in words: as a sum over the earlier tokens, and as the token's entry in the running sums of the one-hot rows, less one.
-/
module

public import Idealize.ShloMosaic.Lib.Pointwise
public import Idealize.ShloMosaic.Lib.WordCmp
public import Idealize.ShloMosaic.Lib.Routing.Ops
public import Idealize.ShloMosaic.Lib.Routing.OpsOne

@[expose] public section

noncomputable section

namespace Cert.RouteProof

open Idealize.ShloMosaic
open scoped BigOperators

/-- Token `k` of the part `q`, 0 or 1, of the 4096 tokens. -/
def part (q : ℕ) (k : Fin 2048) : Fin 4096 := ⟨2048 * (q % 2) + k.val, by omega⟩

/-- The number of tokens before `k` that have `k`'s expert. -/
def rank (e : Fin 2048 → BitVec 32) (k : Fin 2048) : ℕ := (Finset.univ.filter fun p : Fin 2048 => e p = e k ∧ p < k).card

/-- It is less than the number of tokens. -/
theorem rank_lt (e : Fin 2048 → BitVec 32) (k : Fin 2048) : rank e k < 2048 := by
  have h : (Finset.univ.filter fun p : Fin 2048 => e p = e k ∧ p < k) ⊂ Finset.univ := by
    refine Finset.filter_ssubset.mpr ⟨k, Finset.mem_univ _, fun h => lt_irrefl _ h.2⟩
  exact lt_of_lt_of_eq (Finset.card_lt_card h) (by simp)

/-- A reduction by addition over the columns of a matrix of words is the sum of the row. -/
theorem reduce_columns {n m : Nat} (x : IVec (⟨2, ![n, m]⟩ : Shape) 32) (h : (⟨2, ![n, m]⟩ : Shape).ReducesTo [1] ⟨1, ![n]⟩) {u : Shape} (hu : 0 < u.numel) (k : Fin n) :
    Host.reduce IntOp.addi x (constantI u 32 0#32) h hu (ix1 k) = ∑ q : Fin m, x (ix2 k q) := by
  classical
  have hdrop : ∀ i : (⟨2, ![n, m]⟩ : Shape).Idx, h.drop i = ix1 k ↔ i 0 = k := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (hv.trans (congrArg Fin.val e))
  have hback : ∀ i : (⟨2, ![n, m]⟩ : Shape).Idx, i 0 = k → ix2 k (i 1) = i := fun i h0 => by
    funext b; match b with
    | ⟨0, _⟩ => exact h0.symm
    | ⟨1, _⟩ => rfl
  rw [Host.reduce_eq_fold]
  have hs : (∑ i ∈ Finset.univ.filter (fun i : (⟨2, ![n, m]⟩ : Shape).Idx => h.drop i = ix1 k), x i) = ∑ q : Fin m, x (ix2 k q) := by
    refine Finset.sum_bij' (fun i _ => i 1) (fun q _ => ix2 k q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    exact congrArg x (hback i ((hdrop i).1 (Finset.mem_filter.1 hi).2)).symm
  exact hs

/-- A sum of words that are 1 where something holds and 0 elsewhere counts. -/
theorem sum_ones {ι : Type} (s : Finset ι) (P : ι → Prop) [DecidablePred P] :
    (∑ i ∈ s, if P i then (1#32 : BitVec 32) else 0#32) = BitVec.ofNat 32 (s.filter P).card := by
  classical
  induction s using Finset.induction_on with
  | empty => rfl
  | insert a s ha ih =>
    rw [Finset.sum_insert ha, ih, Finset.filter_insert]
    by_cases h : P a
    · rw [if_pos h, if_pos h, Finset.card_insert_of_notMem (fun q => ha (Finset.mem_filter.1 q).1), Nat.add_comm, BitVec.ofNat_add]
    · rw [if_neg h, if_neg h]
      exact zero_add _

/-- The rank from one-hot rows: `o p q` is 1 where token `p`'s expert is `q`; the row of running sums less one, at the
    token's own expert. -/
theorem rank_onehot (e : Fin 2048 → BitVec 32) (he : ∀ k, (e k).toNat < 8) (k : Fin 2048) :
    (∑ q : Fin 8, (if e k = BitVec.ofNat 32 q.val then 1#32 else 0#32)
        * ((∑ p : Fin 2048, if p ≤ k then (if e p = BitVec.ofNat 32 q.val then 1#32 else 0#32) else 0) - 1#32))
      = BitVec.ofNat 32 (rank e k) := by
  have hk := he k
  have hq : BitVec.ofNat 32 (⟨(e k).toNat, hk⟩ : Fin 8).val = e k := by
    show BitVec.ofNat 32 (e k).toNat = e k
    rw [BitVec.ofNat_toNat, BitVec.setWidth_eq]
  rw [Finset.sum_eq_single (⟨(e k).toNat, hk⟩ : Fin 8)]
  · rw [hq, if_pos rfl]
    have h1 : (∑ p : Fin 2048, if p ≤ k then (if e p = e k then 1#32 else 0#32) else 0) = BitVec.ofNat 32 (rank e k) + 1#32 := by
      have h2 : (∑ p : Fin 2048, if p ≤ k then (if e p = e k then 1#32 else 0#32) else 0)
          = ∑ p : Fin 2048, if (e p = e k ∧ p ≤ k) then (1#32 : BitVec 32) else 0#32 := by
        refine Finset.sum_congr rfl fun p _ => ?_
        by_cases h : p ≤ k
        · rw [if_pos h]
          by_cases h' : e p = e k
          · rw [if_pos h', if_pos ⟨h', h⟩]
          · rw [if_neg h', if_neg fun q => h' q.1]
        · rw [if_neg h, if_neg fun q => h q.2]
          rfl
      rw [h2, sum_ones]
      have h3 : (Finset.univ.filter fun p : Fin 2048 => e p = e k ∧ p ≤ k) = insert k (Finset.univ.filter fun p : Fin 2048 => e p = e k ∧ p < k) := by
        ext p
        simp only [Finset.mem_filter, Finset.mem_univ, true_and, Finset.mem_insert]
        constructor
        · rintro ⟨h, hle⟩
          rcases eq_or_lt_of_le hle with rfl | hl
          · exact Or.inl rfl
          · exact Or.inr ⟨h, hl⟩
        · rintro (rfl | ⟨h, hl⟩)
          · exact ⟨rfl, le_refl _⟩
          · exact ⟨h, le_of_lt hl⟩
      rw [h3, Finset.card_insert_of_notMem (fun q => lt_irrefl _ (Finset.mem_filter.1 q).2.2), BitVec.ofNat_add]
      rfl
    rw [h1, BitVec.add_sub_cancel, BitVec.one_mul]
  · intro q _ hne
    rw [if_neg, BitVec.zero_mul]
    · rfl
    intro h
    refine hne (Fin.ext ?_)
    show q.val = (e k).toNat
    rw [h, BitVec.toNat_ofNat]
    have := q.isLt
    omega
  · exact fun h => absurd (Finset.mem_univ _) h

end Cert.RouteProof
end
-- ==== Proof.RouteWords.lean ====
/-
# The routing call: the words of the tokens

The host takes the device's part of the tokens and of the experts, and gives every token a word: the row it is put in.
The word is a function of the token's expert, the device's coordinate and the token's rank (`word`); so are the two words
it hands to the calls that read the results back (`ownWord`, `otherWord`).
-/
module

public import proofs.«01_k».proof.Proof.Gen.RouteIdeal.Frame
public import proofs.«01_k».proof.Proof.RouteRank
public import Idealize.ShloMosaic.Lib.StableHlo.RunRead

@[expose] public section

set_option maxRecDepth 16384

noncomputable section

namespace Cert.RouteProof

open Cert.RouteIdeal Cert.RouteIdeal.Gen
open Idealize.ShloMosaic Idealize.ShloMosaic.TcCoe
open scoped BigOperators

/-! ## The host's lines -/

/-- The row at which the device's part begins. -/
def start (q : IVec S_ 32) : IVec S_ 32 :=
  select (cmpi .slt (muli q (constantI S_ 32 2048#32)) (constantI S_ 32 0#32)) (addi (muli q (constantI S_ 32 2048#32)) (constantI S_ 32 4096#32))
    (muli q (constantI S_ 32 2048#32))

/-- The experts of the device's part, -/
def experts (a : IVec S4096 32) (q : IVec S_ 32) : IVec S2048 32 :=
  Host.dynamicSlice S2048 a (fun k => ((![start q] : Fin 1 → IVec S_ 32) k (Shape.Idx.first h_S_)).toInt) sliceFits_S4096_S2048

/-- and its tokens. -/
def tokens (x : FVec Ideal S4096x2048 .f32) (q : IVec S_ 32) : FVec Ideal S2048x2048 .f32 :=
  Host.dynamicSlice S2048x2048 x (fun k => ((![start q, constantI S_ 32 0#32] : Fin 2 → IVec S_ 32) k (Shape.Idx.first h_S_)).toInt) sliceFits_S4096x2048_S2048x2048

/-- A word at every token. -/
def every (x : IVec S_ 32) : IVec S2048 32 := broadcastInDim S2048 ![] bcast_S_S2048 x

/-- One row per token, with a 1 at its expert. -/
def onehot (e : IVec S2048 32) : IVec S2048x8 32 :=
  extui 32 (cmpi .eq (broadcastInDim S2048x8 ![0, 1] bcast_S2048x1_S2048x8_0_1 (broadcastInDim S2048x1 ![0] bcast_S2048_S2048x1_0 e))
    (broadcastInDim S2048x8 ![0, 1] bcast_S1x8_S2048x8_0_1 (broadcastInDim S1x8 ![1] bcast_S8_S1x8_1 (iotaInDim S8 32 0)))) natLt_1_32

/-- The running sums of those rows. -/
def running (e : IVec S2048 32) : IVec S2048x8 32 :=
  Host.reduceWindow IntOp.addi ![2048, 1] ![1, 1] ![2047, 0] ![0, 0] (onehot e) (broadcastInDim S_ ![] bcast_S_S_ (constantI S_ 32 0#32))
    reduceWindows_S2048x8_S2048x8_w2048s1p2047_0_w1s1p0_0 h_S_

/-- The ranks. -/
def ranks (e : IVec S2048 32) : IVec S2048 32 :=
  Host.reduce IntOp.addi (muli (onehot e) (subi (running e) (broadcastInDim S2048x8 ![] bcast_S_S2048x8 (constantI S_ 32 1#32)))) (constantI S_ 32 0#32)
    reducesTo_S2048x8_S2048_d1 h_S_

/-- The quotient of the experts by four, rounded down. -/
def quarter (e : IVec S2048 32) : IVec S2048 32 :=
  select (andi (cmpi .ne (signi e) (every (signi (constantI S_ 32 4#32)))) (cmpi .ne (Host.remsi e (every (constantI S_ 32 4#32))) (every (constantI S_ 32 0#32))))
    (subi (Host.divsi e (every (constantI S_ 32 4#32))) (every (constantI S_ 32 1#32))) (Host.divsi e (every (constantI S_ 32 4#32)))

/-- Whether the expert is one of the device's own four. -/
def own (e : IVec S2048 32) (z : IVec S_ 32) : IVec S2048 1 := cmpi .eq (quarter e) (every z)

/-- Whether the rank is below the capacity. -/
def fits (e : IVec S2048 32) : IVec S2048 1 := cmpi .slt (ranks e) (every (constantI S_ 32 384#32))

/-- The words among the device's own experts, -/
def ownRow (e : IVec S2048 32) (z : IVec S_ 32) : IVec S2048 32 :=
  select (andi (own e z) (fits e)) (addi (muli (subi e (every (muli (constantI S_ 32 4#32) z))) (every (constantI S_ 32 384#32))) (ranks e))
    (every (constantI S_ 32 1048576#32))

/-- among the other device's, -/
def otherRow (e : IVec S2048 32) (z : IVec S_ 32) : IVec S2048 32 :=
  select (andi (noti (own e z)) (fits e))
    (addi (muli (subi e (every (muli (constantI S_ 32 4#32) (subi (constantI S_ 32 1#32) z)))) (every (constantI S_ 32 384#32))) (ranks e))
    (every (constantI S_ 32 1048576#32))

/-- and among all eight. -/
def rows (e : IVec S2048 32) (z : IVec S_ 32) : IVec S2048 32 :=
  select (own e z) (ownRow e z)
    (select (cmpi .sge (otherRow e z) (every (constantI S_ 32 1048576#32))) (every (constantI S_ 32 1048576#32))
      (addi (otherRow e z) (every (constantI S_ 32 1536#32))))

variable (m : (ℓ : Loc nD τ sig) → Buf (Elt Ideal) ℓ)

set_option maxHeartbeats 2000000 in
/-- The words the kernel is given are those of the host's lines; -/
theorem words_eq (c : Dev nD) : V m c main_v52 = shapeCast S1x2048 (rows (experts (m ((c : Thread nD τ).loc main_arg1)) (m ((c : Thread nD τ).loc main_arg2))) (m ((c : Thread nD τ).loc main_arg3))) shapeCasts_S2048_S1x2048 := by
  unfold V
  simp only [List.flatten_cons, List.flatten_nil, List.append_nil, List.cons_append, List.nil_append]
  after_reads_simp [StableHlo.unaryIndexed_result_read, StableHlo.indexContents_cons, StableHlo.indexContents_empty]
  simp only [StableHlo.TRef.ofBuf_toBuf]
  simp only [StableHlo.TRef.ofBuf, StableHlo.TRef.toBuf, StableHlo.TRef.of, cast_eq, id_eq]
  simp only [rows, otherRow, ownRow, fits, own, quarter, ranks, running, onehot, every, experts, start]
  rfl

set_option maxHeartbeats 2000000 in
/-- the words among the device's own experts, -/
theorem ownRow_eq (c : Dev nD) : V m c main_v38 = ownRow (experts (m ((c : Thread nD τ).loc main_arg1)) (m ((c : Thread nD τ).loc main_arg2))) (m ((c : Thread nD τ).loc main_arg3)) := by
  unfold V
  simp only [List.flatten_cons, List.flatten_nil, List.append_nil, List.cons_append, List.nil_append]
  after_reads_simp [StableHlo.unaryIndexed_result_read, StableHlo.indexContents_cons, StableHlo.indexContents_empty]
  simp only [StableHlo.TRef.ofBuf_toBuf]
  simp only [StableHlo.TRef.ofBuf, StableHlo.TRef.toBuf, StableHlo.TRef.of, cast_eq, id_eq]
  simp only [ownRow, fits, own, quarter, ranks, running, onehot, every, experts, start]
  rfl

set_option maxHeartbeats 2000000 in
/-- those among the other device's, -/
theorem otherRow_eq (c : Dev nD) : V m c main_v44 = otherRow (experts (m ((c : Thread nD τ).loc main_arg1)) (m ((c : Thread nD τ).loc main_arg2))) (m ((c : Thread nD τ).loc main_arg3)) := by
  unfold V
  simp only [List.flatten_cons, List.flatten_nil, List.append_nil, List.cons_append, List.nil_append]
  after_reads_simp [StableHlo.unaryIndexed_result_read, StableHlo.indexContents_cons, StableHlo.indexContents_empty]
  simp only [StableHlo.TRef.ofBuf_toBuf]
  simp only [StableHlo.TRef.ofBuf, StableHlo.TRef.toBuf, StableHlo.TRef.of, cast_eq, id_eq]
  simp only [otherRow, fits, own, quarter, ranks, running, onehot, every, experts, start]
  rfl

set_option maxHeartbeats 2000000 in
/-- and the tokens, rounded as the host rounds them. -/
theorem tokens_eq (c : Dev nD) : V m c main_v51 = truncf .bf16 (tokens (m ((c : Thread nD τ).loc main_arg0)) (m ((c : Thread nD τ).loc main_arg2))) bitsLt_bf16_f32 := by
  unfold V
  simp only [List.flatten_cons, List.flatten_nil, List.append_nil, List.cons_append, List.nil_append]
  after_reads_simp [StableHlo.unaryIndexed_result_read, StableHlo.indexContents_cons, StableHlo.indexContents_empty]
  simp only [tokens, start]
  rfl

/-! ## A word as a number -/

/-- The quotient of an expert by four, rounded down, -/
def quarterWord (e : BitVec 32) : BitVec 32 :=
  Scalar.select (IntOp.andi (IntOp.cmpi .ne (if e = 0 then 0 else if e.msb then -1 else 1) (if (4#32 : BitVec 32) = 0 then 0 else if (4#32 : BitVec 32).msb then -1 else 1 : BitVec 32))
    (IntOp.cmpi .ne (IntOp.remsi .host e 4#32) 0#32)) (IntOp.subi (IntOp.divsi .host e 4#32) 1#32) (IntOp.divsi .host e 4#32)

/-- the word of a token of the device's own experts, -/
def ownWord (o : BitVec 1) (e z r : BitVec 32) : BitVec 32 :=
  Scalar.select (IntOp.andi o (IntOp.cmpi .slt r 384#32)) (IntOp.addi (IntOp.muli (IntOp.subi e (IntOp.muli 4#32 z)) 384#32) r) 1048576#32

/-- that of a token of the other device's, -/
def otherWord (o : BitVec 1) (e z r : BitVec 32) : BitVec 32 :=
  Scalar.select (IntOp.andi (~~~ o) (IntOp.cmpi .slt r 384#32)) (IntOp.addi (IntOp.muli (IntOp.subi e (IntOp.muli 4#32 (IntOp.subi 1#32 z))) 384#32) r) 1048576#32

/-- and a token's word, from its expert, the device's coordinate and its rank. -/
def word (e z r : BitVec 32) : BitVec 32 :=
  Scalar.select (IntOp.cmpi .eq (quarterWord e) z) (ownWord (IntOp.cmpi .eq (quarterWord e) z) e z r)
    (Scalar.select (IntOp.cmpi .sge (otherWord (IntOp.cmpi .eq (quarterWord e) z) e z r) 1048576#32) 1048576#32
      (IntOp.addi (otherWord (IntOp.cmpi .eq (quarterWord e) z) e z r) 1536#32))

/-- A word at every token, at a token. -/
theorem every_at (x : IVec S_ 32) (k : Fin 2048) : every x (ix1 k) = x ix0 := Routing.bc0 _ x _

/-- The host's lines at a token: the quotient, -/
theorem quarter_at (e : IVec S2048 32) (k : Fin 2048) : quarter e (ix1 k) = quarterWord (e (ix1 k)) := by
  show Scalar.select (IntOp.andi (IntOp.cmpi .ne (signi e (ix1 k)) (every _ (ix1 k))) (IntOp.cmpi .ne (IntOp.remsi .host (e (ix1 k)) (every _ (ix1 k))) (every _ (ix1 k))))
    (IntOp.subi (IntOp.divsi .host (e (ix1 k)) (every _ (ix1 k))) (every _ (ix1 k))) (IntOp.divsi .host (e (ix1 k)) (every _ (ix1 k))) = _
  simp only [every_at]
  rfl

/-- whether the expert is the device's own, -/
theorem own_at (e : IVec S2048 32) (z : IVec S_ 32) (k : Fin 2048) : own e z (ix1 k) = IntOp.cmpi .eq (quarterWord (e (ix1 k))) (z ix0) := by
  show IntOp.cmpi .eq (quarter e (ix1 k)) (every z (ix1 k)) = _
  rw [quarter_at, every_at]

/-- whether the rank is below the capacity, -/
theorem fits_at (e : IVec S2048 32) (k : Fin 2048) : fits e (ix1 k) = IntOp.cmpi .slt (ranks e (ix1 k)) 384#32 := by
  simp only [fits, cmpi_apply, every_at, constantI_apply]

/-- the word among the device's own experts, -/
theorem ownRow_at (e : IVec S2048 32) (z : IVec S_ 32) (k : Fin 2048) : ownRow e z (ix1 k) = ownWord (own e z (ix1 k)) (e (ix1 k)) (z ix0) (ranks e (ix1 k)) := by
  simp only [ownRow, ownWord, ValueIdx.select_apply, andi_apply, addi_apply, muli_apply, subi_apply, fits_at, every_at, constantI_apply]

/-- that among the other device's, -/
theorem otherRow_at (e : IVec S2048 32) (z : IVec S_ 32) (k : Fin 2048) : otherRow e z (ix1 k) = otherWord (own e z (ix1 k)) (e (ix1 k)) (z ix0) (ranks e (ix1 k)) := by
  simp only [otherRow, otherWord, ValueIdx.select_apply, andi_apply, noti_apply, addi_apply, muli_apply, subi_apply, fits_at, every_at, constantI_apply]

/-- and the word. -/
theorem rows_at (e : IVec S2048 32) (z : IVec S_ 32) (k : Fin 2048) : rows e z (ix1 k) = word (e (ix1 k)) (z ix0) (ranks e (ix1 k)) := by
  simp only [rows, word, ValueIdx.select_apply, cmpi_apply, addi_apply, otherRow_at, ownRow_at, own_at, every_at, constantI_apply]

/-- The ranks at a token. -/
theorem ranks_at (e : IVec S2048 32) (he : ∀ k : Fin 2048, (show BitVec 32 from e (ix1 k)).toNat < 8) (k : Fin 2048) :
    ranks e (ix1 k) = BitVec.ofNat 32 (rank (fun p => e (ix1 p)) k) := by
  have ho : ∀ (p : Fin 2048) (q : Fin 8), onehot e (ix2 p q) = if e (ix1 p) = BitVec.ofNat 32 q.val then 1#32 else 0#32 := by
    intro p q
    pointwise [onehot]
    by_cases h : (show BitVec 32 from e (ix1 p)) = BitVec.ofNat 32 q.val
    · rw [if_pos h, WordCmp.cmpi_eq_eq, decide_eq_true h]; rfl
    · rw [if_neg h, WordCmp.cmpi_eq_eq, decide_eq_false h]; rfl
  have hr : ∀ q : Fin 8, running e (ix2 k q) = ∑ p : Fin 2048, if p ≤ k then (if e (ix1 p) = BitVec.ofNat 32 q.val then 1#32 else 0#32) else 0 := by
    intro q
    unfold running
    refine (Routing.cumsum_rows_sum (by norm_num) (onehot e) _ ?_ _ _ k q).trans ?_
    · rw [Routing.bc0]
      rfl
    · exact Finset.sum_congr rfl fun p _ => congrArg (fun y : BitVec 32 => if p ≤ k then y else 0) (ho p q)
  unfold ranks
  refine (reduce_columns _ _ _ k).trans ?_
  refine Eq.trans (Finset.sum_congr rfl fun q _ => ?_) (rank_onehot (fun p => e (ix1 p)) he k)
  rw [muli_apply, subi_apply, ho, hr, Routing.bc0, constantI_apply]
  simp only [IntOp.muli, IntOp.subi]

/-- The row of a token among the device's eight segments: its own experts' first, then the other device's; beyond the last one if its
    rank is not below the capacity. -/
def slot (e z r : ℕ) : ℕ := if r < 384 then (if e / 4 = z then e % 4 else 4 + e % 4) * 384 + r else 1048576

/-- A token's word is its row. -/
theorem word_slot : ∀ (e : Fin 8) (z : Fin 2) (r : Fin 2048),
    (word (BitVec.ofNat 32 e.val) (BitVec.ofNat 32 z.val) (BitVec.ofNat 32 r.val)).toNat = slot e.val z.val r.val := by
  decide +kernel

end Cert.RouteProof
end
-- ==== Proof.RouteValue.lean ====
/-
# The routing call: what it computes

As in the packing call, row `r` of slab `t` is the sum of the tokens whose word is `512 t + r`; here the words are the
host's, and a token's word is its row (`slot`).
-/
module

public import proofs.«01_k».proof.Proof.RouteWords
public import Idealize.ShloMosaic.Lib.Pointwise
public import Idealize.ShloMosaic.Lib.Pipeline.ValueKit

@[expose] public section

set_option maxRecDepth 16384

noncomputable section

namespace Cert.RouteProof

open Cert.RouteIdeal Cert.RouteIdeal.Gen
open Idealize.ShloMosaic Idealize.ShloMosaic.TcCoe
open scoped BigOperators

/-! ## The payload at an index -/

/-- An entry of the mask: 1 where the two words are equal, 0 elsewhere. -/
theorem mask_at (u v : BitVec 32) : (FloatOps.sitofp FTy.f32 (BitVec.setWidth 32 (IntOp.cmpi CmpIPredicate.eq u v)) : Ideal .f32) = if u = v then (1 : EReal) else 0 := by
  by_cases h : u = v
  · rw [if_pos h]; subst h
    rw [show IntOp.cmpi CmpIPredicate.eq u u = 1#1 by simp [IntOp.cmpi]]
    show (((BitVec.setWidth 32 1#1).toInt : ℝ) : EReal) = 1
    rw [show (BitVec.setWidth 32 1#1).toInt = 1 by decide]; norm_num
  · rw [if_neg h]
    rw [show IntOp.cmpi CmpIPredicate.eq u v = 0#1 by show BitVec.ofBool (u == v) = 0#1; rw [beq_eq_false_iff_ne.mpr h]; rfl]
    show (((BitVec.setWidth 32 0#1).toInt : ℝ) : EReal) = 0
    rw [show (BitVec.setWidth 32 0#1).toInt = 0 by decide]; norm_num

/-- A row of a slab is the sum of the tokens, each times its mask entry. -/
theorem pay1_at (i : grid0.Coords) (v : Vec Ideal S1x2048 .i32) (x : Vec Ideal S2048x2048 .bf16) (r : Fin 512) (d : Fin 2048) :
    k0_pay1 i v x (ix3 0 r d) = ∑ k : Fin 2048, (if BitVec.ofNat 32 r.val + BitVec.ofNat 32 (i 0).val * 512#32 = v (ix2 0 k) then (1 : EReal) else 0) * x (ix2 k d) := by
  pointwise [k0_pay1]
  refine Finset.sum_congr rfl fun k _ => congrArg (· * x (ix2 k d)) ?_
  exact mask_at _ _

/-! ## The block indices at each point -/

theorem index0_at : ∀ t : Fin grid0.N, win0_0.index t = ![0, 0] := by decide +kernel
theorem index1_at : ∀ t : Fin grid0.N, win0_1.index t = ![0, 0] := by decide +kernel
theorem index2_at : ∀ t : Fin grid0.N, win0_2.index t = ![t.val, 0, 0] := by decide +kernel
theorem word_at : ∀ t : Fin grid0.N, BitVec.ofNat 32 (grid0.coords t 0).val * 512#32 = BitVec.ofNat 32 (512 * t.val) := by decide +kernel
theorem N_6 : grid0.N = 6 := by decide +kernel

variable (m : (ℓ : Loc nD τ sig) → Buf (Elt Ideal) ℓ)

/-- The block of the words is all of them; -/
theorem w0_at (c : Dev nD) (t : Fin grid0.N) (k : Fin 2048) : iblk m c 0 t (ix2 0 k) = V m c main_v52 (ix2 0 k) := by
  have e0 := index0_at t
  blk_ext [iblk, e0]
/-- that of the tokens too. -/
theorem w1_at (c : Dev nD) (t : Fin grid0.N) (k d : Fin 2048) : iblk m c 1 t (ix2 k d) = V m c main_v51 (ix2 k d) := by
  have e0 := index1_at t
  blk_ext [iblk, e0]

/-! ## The result array -/

/-- Row `u` at column `d` of tokens put in the rows `place`: the sum of the tokens whose row is `u`. -/
def gathered (x : (⟨2, ![2048, 2048]⟩ : Shape).Idx → EReal) (place : Fin 2048 → ℕ) (u : ℕ) (d : Fin 2048) : EReal :=
  ∑ k : Fin 2048, if place k = u then x (ix2 k d) else 0

/-- A token's word as a number. -/
def placed (c : Dev nD) (k : Fin 2048) : ℕ := (show BitVec 32 from V m c main_v52 (ix2 0 k)).toNat

/-- What the call leaves in its result. -/
def result (c : Dev nD) : S6x512x2048.Idx → EReal := fun i =>
  gathered (V m c main_v51) (placed m c) (512 * (i 0).val + (i 1).val) (i 2)

/-- What a point writes back, at an index. -/
theorem after_at (c : Dev nD) (t : Fin grid0.N) (r : Fin 512) (d : Fin 2048) :
    (dats m 0 c).after 2 t (ix3 0 r d) = gathered (V m c main_v51) (placed m c) (512 * t.val + r.val) d := by
  have ht : t.val < 6 := lt_of_lt_of_eq t.isLt N_6
  have hr := r.isLt
  rw [after0_2]
  unfold out0_2
  rw [View.canon_unit_zero (funext fun a => by fin_cases a <;> rfl), View.ld_unit_zero (funext fun a => by fin_cases a <;> rfl), View.ld_unit_zero (funext fun a => by fin_cases a <;> rfl)]
  refine (pay1_at _ _ _ r d).trans ?_
  unfold gathered
  refine Finset.sum_congr rfl fun k _ => ?_
  rw [word_at t, w0_at m c t k, w1_at m c t k d]
  have key : (BitVec.ofNat 32 r.val + BitVec.ofNat 32 (512 * t.val) = (show BitVec 32 from V m c main_v52 (ix2 0 k)))
      ↔ placed m c k = 512 * t.val + r.val := by
    unfold placed
    rw [← BitVec.toNat_inj, BitVec.toNat_add, BitVec.toNat_ofNat, BitVec.toNat_ofNat]
    omega
  by_cases h : placed m c k = 512 * t.val + r.val
  · rw [if_pos (key.mpr h), one_mul]
    exact (if_pos h).symm
  · rw [if_neg (fun e => h (key.mp e)), zero_mul]
    exact (if_neg h).symm

/-- The array after the run is `result`. -/
theorem result_eq (c : Dev nD) : (dats m 0 c).arrAt 2 cfg0.N = result m c := by
  refine (dats m 0 c).arrAt_eq_of_covers 2 _ (by decide +kernel) fun t hf y => ?_
  have ht : t.val < 6 := lt_of_lt_of_eq t.isLt N_6
  have e2 := index2_at t
  change S1x512x2048.Idx at y
  obtain ⟨z, r, d, rfl⟩ : ∃ (z : Fin 1) (r : Fin 512) (d : Fin 2048), y = ix3 z r d := ⟨y 0, y 1, y 2, eq_ix3 y⟩
  obtain rfl : z = 0 := Subsingleton.elim _ _
  have hr := r.isLt
  have h0 : ((win0_2.blk t).view.emb (ix3 0 r d) 0).val = t.val := by blk_simp [e2]; exact Nat.add_zero _
  have h1 : ((win0_2.blk t).view.emb (ix3 0 r d) 1).val = r.val := by blk_simp [e2]
  have h2 : ((win0_2.blk t).view.emb (ix3 0 r d) 2 : Fin 2048) = d := Fin.ext (by blk_simp [e2])
  refine (after_at m c t r d).trans ?_
  show gathered _ _ (512 * t.val + r.val) d = gathered _ _ (512 * ((win0_2.blk t).view.emb (ix3 0 r d) 0).val + ((win0_2.blk t).view.emb (ix3 0 r d) 1).val) ((win0_2.blk t).view.emb (ix3 0 r d) 2)
  rw [h0, h1]
  exact (congrArg (gathered _ _ _) h2).symm

/-- Where every expert of the device's part is one of the eight and the device's coordinate is 0 or 1, a token's word is its row. -/
theorem placed_eq (c : Dev nD) (e : IVec S2048 32) (z : IVec S_ 32)
    (hw : V m c main_v52 = shapeCast S1x2048 (rows e z) shapeCasts_S2048_S1x2048) (he : ∀ k : Fin 2048, (show BitVec 32 from e (ix1 k)).toNat < 8)
    (hz : (show BitVec 32 from z ix0).toNat < 2) (k : Fin 2048) :
    placed m c k = slot (show BitVec 32 from e (ix1 k)).toNat (show BitVec 32 from z ix0).toNat (rank (fun p => e (ix1 p)) k) := by
  have h : V m c main_v52 (ix2 0 k) = rows e z (ix1 k) := by
    rw [hw]
    pointwise []
  have w := word_slot ⟨_, he k⟩ ⟨_, hz⟩ ⟨_, rank_lt (fun p => e (ix1 p)) k⟩
  simp only [BitVec.ofNat_toNat, BitVec.setWidth_eq] at w
  unfold placed
  rw [h, rows_at, ranks_at _ he]
  exact w

end Cert.RouteProof
end
-- ==== Proof.RouteRef.lean ====
/-
# The routing call: the reference at an index

The reference takes the device's part of the tokens and of the experts; counts, for every token, the earlier tokens with
the same expert; adds the token to the row of its expert's segment that this rank names, or drops it; and exchanges the two
halves of the rows on a device whose coordinate is not 0. Its two other results are the rows of the tokens among the
device's own experts' segments and among the other device's.
-/
module

public import proofs.«01_k».proof.Proof.Gen.RouteRefIdeal.Read
public import proofs.«01_k».proof.Proof.Gen.RouteRefIdeal.Run
public import proofs.«01_k».proof.Proof.RouteRank
public import Idealize.ShloMosaic.Lib.StableHlo.Predicate
public import Idealize.ShloMosaic.Lib.Routing.OpsPair

@[expose] public section

set_option maxRecDepth 16384

noncomputable section

namespace Cert.RouteProof.Ref

open Cert.RouteRefIdeal Cert.RouteRefIdeal.Gen Cert.RouteRefIdeal.Read
open Idealize.ShloMosaic
open scoped BigOperators

variable (x0 : (⟨S4096x2048, .f32⟩ : BufTy).Contents (Elt Ideal)) (x1 : (⟨S4096, .i32⟩ : BufTy).Contents (Elt Ideal))
  (x2 x3 : (⟨S_, .i32⟩ : BufTy).Contents (Elt Ideal))

/-! ## The device's part -/

/-- The experts of the device's part, -/
theorem experts_at (hq : (show BitVec 32 from x2 ix0).toNat < 2) (k : Fin 2048) :
    val_main_v7 (F := Ideal) x1 x2 (ix1 k) = x1 (ix1 (part (show BitVec 32 from x2 ix0).toNat k)) := by
  have hc : (broadcastInDim S2048 ![] bcast_S_S2048 (val_main_v4 (F := Ideal) x2)) (ix1 k) = IntOp.cmpi .eq (show BitVec 32 from x2 ix0) 0#32 := by
    rw [Routing.bc0]
    rfl
  unfold val_main_v7
  rw [ValueIdx.select_apply, hc, WordCmp.cmpi_eq_eq, WordCmp.select_decide]
  by_cases h : (show BitVec 32 from x2 ix0) = 0#32
  · rw [if_pos h, val_main_v5_apply]
    refine congrArg x1 (funext fun a => Fin.ext ?_)
    match a with
    | ⟨0, _⟩ => show k.val = 2048 * ((show BitVec 32 from x2 ix0).toNat % 2) + k.val; rw [h]; exact (Nat.zero_add _).symm
  · have h1 : (show BitVec 32 from x2 ix0).toNat = 1 := by
      have : (show BitVec 32 from x2 ix0).toNat ≠ 0 := fun q => h (BitVec.eq_of_toNat_eq q)
      omega
    rw [if_neg h, val_main_v6_apply]
    refine congrArg x1 (funext fun a => Fin.ext ?_)
    match a with
    | ⟨0, _⟩ => show 2048 + k.val = 2048 * ((show BitVec 32 from x2 ix0).toNat % 2) + k.val; rw [h1]

/-- and its tokens. -/
theorem tokens_at (hq : (show BitVec 32 from x2 ix0).toNat < 2) (k d : Fin 2048) :
    val_main_v3 (F := Ideal) x0 x2 (ix2 k d) = x0 (ix2 (part (show BitVec 32 from x2 ix0).toNat k) d) := by
  have hc : (broadcastInDim S2048x2048 ![] bcast_S_S2048x2048 (val_main_v0 (F := Ideal) x2)) (ix2 k d) = IntOp.cmpi .eq (show BitVec 32 from x2 ix0) 0#32 := by
    rw [Routing.bc0]
    rfl
  unfold val_main_v3
  rw [ValueIdx.select_apply, hc, WordCmp.cmpi_eq_eq, WordCmp.select_decide]
  by_cases h : (show BitVec 32 from x2 ix0) = 0#32
  · rw [if_pos h, val_main_v1_apply]
    refine congrArg x0 (funext fun a => Fin.ext ?_)
    match a with
    | ⟨0, _⟩ => show k.val = 2048 * ((show BitVec 32 from x2 ix0).toNat % 2) + k.val; rw [h]; exact (Nat.zero_add _).symm
    | ⟨1, _⟩ => rfl
  · have h1 : (show BitVec 32 from x2 ix0).toNat = 1 := by
      have : (show BitVec 32 from x2 ix0).toNat ≠ 0 := fun q => h (BitVec.eq_of_toNat_eq q)
      omega
    rw [if_neg h, val_main_v2_apply]
    refine congrArg x0 (funext fun a => Fin.ext ?_)
    match a with
    | ⟨0, _⟩ => show 2048 + k.val = 2048 * ((show BitVec 32 from x2 ix0).toNat % 2) + k.val; rw [h1]
    | ⟨1, _⟩ => rfl

/-! ## The ranks -/

/-- An entry of the comparison: an earlier token `p` with the expert of token `k`. -/
theorem earlier_iff (p k : Fin 2048) : val_main_v19 (F := Ideal) x1 x2 (ix2 p k) = 1#1 ↔ (val_main_v7 (F := Ideal) x1 x2 (ix1 p) = val_main_v7 (F := Ideal) x1 x2 (ix1 k) ∧ p < k) := by
  have h : val_main_v19 (F := Ideal) x1 x2 (ix2 p k)
      = IntOp.andi (IntOp.cmpi .eq (show BitVec 32 from val_main_v7 (F := Ideal) x1 x2 (ix1 p)) (val_main_v7 (F := Ideal) x1 x2 (ix1 k))) (IntOp.cmpi .slt (BitVec.ofNat 32 p.val) (BitVec.ofNat 32 k.val)) := by
    pointwise [val_main_v19, val_main_v18, val_main_v17, val_main_v16, val_main_v15, val_main_v14, val_main_v13, val_main_v12, val_main_v11, val_main_v10, val_main_v9, val_main_v8]
  have hp := p.isLt
  have hk := k.isLt
  have hl := WordCmp.cmpi_slt_ofNat_eq_one_iff (w := 32) (a := p.val) (b := k.val) (by omega) (by omega)
  have hz := WordCmp.cmpi_slt_ofNat_eq_zero_iff (w := 32) (a := p.val) (b := k.val) (by omega) (by omega)
  rw [h, WordCmp.cmpi_eq_eq]
  by_cases he : (show BitVec 32 from val_main_v7 (F := Ideal) x1 x2 (ix1 p)) = val_main_v7 (F := Ideal) x1 x2 (ix1 k)
  · rw [decide_eq_true he]
    by_cases hlt : p.val < k.val
    · rw [hl.2 hlt]
      exact ⟨fun _ => ⟨he, hlt⟩, fun _ => rfl⟩
    · rw [hz.2 (by omega)]
      exact ⟨fun q => absurd q (by decide), fun q => absurd q.2 hlt⟩
  · rw [decide_eq_false he]
    refine ⟨fun q => ?_, fun q => absurd q.1 he⟩
    by_cases hlt : p.val < k.val
    · rw [hl.2 hlt] at q
      exact absurd q (by decide)
    · rw [hz.2 (by omega)] at q
      exact absurd q (by decide)

/-- The rank of a token. -/
theorem rank_at (k : Fin 2048) : val_main_v21 (F := Ideal) x1 x2 (ix1 k) = BitVec.ofNat 32 (rank (fun p => val_main_v7 (F := Ideal) x1 x2 (ix1 p)) k) := by
  have h := StableHlo.Predicate.toNat_reduce_count_rows (n := 2048) (m := 2048) (by norm_num) (val_main_v19 (F := Ideal) x1 x2) natLt_1_32
    reducesTo_S2048x2048_S2048_d0 h_S_ (ix1 k)
  have hr : (Finset.univ.filter fun p : Fin 2048 => val_main_v19 (F := Ideal) x1 x2 (StableHlo.Predicate.ij p ((ix1 k : S2048.Idx) 0)) = 1#1).card
      = rank (fun p => val_main_v7 (F := Ideal) x1 x2 (ix1 p)) k := by
    refine congrArg Finset.card (Finset.filter_congr fun p _ => ?_)
    have hj : StableHlo.Predicate.ij p k = ix2 p k := Routing.ij_eq_ix2 p k
    show val_main_v19 (F := Ideal) x1 x2 (StableHlo.Predicate.ij p k) = 1#1 ↔ _
    rw [hj]
    exact earlier_iff x1 x2 p k
  rw [hr] at h
  rw [← h, BitVec.ofNat_toNat, BitVec.setWidth_eq]
  rfl

/-! ## The rows of the tokens -/

/-- The row of a token among the eight segments of the experts in order; the first row beyond them if its rank is not below the capacity. -/
def seat (e r : ℕ) : ℕ := if r < 384 then e * 384 + r else 3072

/-- The word the scatter is given, from a token's expert and its rank. -/
def seatWord (e r : BitVec 32) : BitVec 32 :=
  Scalar.select (IntOp.cmpi .slt (Scalar.select (IntOp.cmpi .slt r 384#32) (IntOp.addi (IntOp.muli e 384#32) r) 3072#32) 0#32)
    (IntOp.addi (Scalar.select (IntOp.cmpi .slt r 384#32) (IntOp.addi (IntOp.muli e 384#32) r) 3072#32) 3072#32)
    (Scalar.select (IntOp.cmpi .slt r 384#32) (IntOp.addi (IntOp.muli e 384#32) r) 3072#32)

/-- It is the token's row. -/
theorem seatWord_seat : ∀ (e : Fin 8) (r : Fin 2048), (seatWord (BitVec.ofNat 32 e.val) (BitVec.ofNat 32 r.val)).toInt = (seat e.val r.val : Int) := by
  decide +kernel

/-- The word the scatter is given for token `k`. -/
theorem place_at (k : Fin 2048) : val_main_v36 (F := Ideal) x1 x2 (ix2 k 0) = seatWord (val_main_v7 (F := Ideal) x1 x2 (ix1 k)) (val_main_v21 (F := Ideal) x1 x2 (ix1 k)) := by
  pointwise [val_main_v36, val_main_v35, val_main_v34, val_main_v33, val_main_v32, val_main_v31, val_main_v27, val_main_v26, val_main_v25, val_main_v24,
    val_main_v23, val_main_v22, val_main_c_2, val_main_c_3, val_main_c_4, val_main_c_5, val_main_c_6, val_main_call2_v1, val_main_call2_v0, seatWord]
  simp only [id_eq, constantI_apply]

/-- Read signed, it is the token's row. -/
theorem place_toInt (he : ∀ k : Fin 2048, (show BitVec 32 from val_main_v7 (F := Ideal) x1 x2 (ix1 k)).toNat < 8) (k : Fin 2048) :
    (show BitVec 32 from val_main_v36 (F := Ideal) x1 x2 (ix2 k 0)).toInt = (seat (show BitVec 32 from val_main_v7 (F := Ideal) x1 x2 (ix1 k)).toNat (rank (fun p => val_main_v7 (F := Ideal) x1 x2 (ix1 p)) k) : Int) := by
  have w := seatWord_seat ⟨_, he k⟩ ⟨_, rank_lt (fun p => val_main_v7 (F := Ideal) x1 x2 (ix1 p)) k⟩
  simp only [BitVec.ofNat_toNat, BitVec.setWidth_eq] at w
  rw [place_at, rank_at]
  exact w

/-! ## The rows of the result -/

/-- The dimension numbers of the reference's scatter. -/
abbrev sd : ScatterDims S3072x2048 S2048x1 S2048x2048 := scatter_S3072x2048_S2048x1_S2048x2048_1_0_0_1

/-- Where the entry at column `e` of token `k` lands: the row its word names read signed, the same column. -/
theorem lands_iff (idx : IVec S2048x1 32) (k e : Fin 2048) (u : Fin 3072) (d : Fin 2048) :
    sd.resultIdx? (ix2 k e) idx = some (ix2 u d) ↔ (idx (ix2 k 0)).toInt = (u.val : Int) ∧ e = d := by
  refine (Routing.resultIdx?_ix2 sd (ix2 k e) idx u d).trans ?_
  have hs0 : sd.start (ix2 k e) idx (0 : Fin 2) = (idx (ix2 k 0)).toInt := by
    unfold ScatterDims.start
    rw [dif_pos (show (0 : Fin 2) ∈ sd.scatterDimsToOperandDims from List.mem_singleton.mpr rfl)]
    refine congrArg (fun i => (idx i).toInt) (funext fun a => Fin.ext ?_)
    match a with
    | ⟨0, _⟩ => rfl
    | ⟨1, _⟩ => rfl
  have hs1 : sd.start (ix2 k e) idx (1 : Fin 2) = 0 := by
    unfold ScatterDims.start
    exact dif_neg fun h => absurd (List.mem_singleton.mp h) (by decide)
  have hw0 : sd.window (ix2 k e) (0 : Fin 2) = 0 := rfl
  have hw1 : sd.window (ix2 k e) (1 : Fin 2) = e.val := rfl
  rw [hs0, hs1, hw0, hw1]
  constructor
  · rintro ⟨h0, h1⟩
    exact ⟨by omega, Fin.ext (by omega)⟩
  · rintro ⟨h0, rfl⟩
    exact ⟨by omega, by omega⟩

/-- A row after a scatter, where `place k` is the word of token `k` read signed. -/
theorem scatter_at (a : FVec Ideal S3072x2048 .f32) (idx : IVec S2048x1 32) (y : FVec Ideal S2048x2048 .f32)
    (place : Fin 2048 → ℕ) (hp : ∀ k : Fin 2048, (idx (ix2 k 0)).toInt = (place k : Int)) (u : Fin 3072) (d : Fin 2048) :
    Host.scatterAdd sd a idx y (ix2 u d) = (show EReal from a (ix2 u d)) + ∑ k : Fin 2048, if place k = u.val then (show EReal from y (ix2 k d)) else (0 : EReal) := by
  show Ideal.hostScatterAdd sd _ _ _ _ = _
  unfold Ideal.hostScatterAdd
  rw [Finset.sum_filter]
  refine congrArg (fun w : EReal => a (ix2 u d) + w) ((sum_idx2 (n0 := 2048) (n1 := 2048) _).trans (Finset.sum_congr rfl fun k _ => ?_))
  have key : ∀ e : Fin 2048, (sd.resultIdx? (ix2 k e) idx = some (ix2 u d)) ↔ place k = u.val ∧ e = d := fun e => by
    rw [lands_iff]
    refine and_congr_left fun _ => ?_
    have h := hp k
    constructor
    · intro q; exact Int.ofNat.inj (h.symm.trans q)
    · intro q; exact h.trans (congrArg Int.ofNat q)
  refine (Finset.sum_congr rfl fun e _ => (if_congr (key e) rfl rfl)).trans ?_
  by_cases h : place k = u.val
  · rw [if_pos h, Finset.sum_eq_single d]
    · exact if_pos ⟨h, rfl⟩
    · intro e _ he
      exact if_neg fun q => he q.2
    · exact fun q => absurd (Finset.mem_univ _) q
  · rw [if_neg h]
    exact Finset.sum_eq_zero fun e _ => if_neg fun q => h q.1

/-- A row of the reference's array after its scatter. -/
theorem scattered_at (place : Fin 2048 → ℕ) (hp : ∀ k : Fin 2048, (show BitVec 32 from val_main_v36 (F := Ideal) x1 x2 (ix2 k 0)).toInt = (place k : Int))
    (u : Fin 3072) (d : Fin 2048) : val_main_v37 (F := Ideal) x0 x1 x2 (ix2 u d) = ∑ k : Fin 2048, if place k = u.val then val_main_v3 (F := Ideal) x0 x2 (ix2 k d) else (0 : EReal) := by
  unfold val_main_v37
  generalize val_main_v36 (F := Ideal) x1 x2 = idx at hp ⊢
  refine (scatter_at _ idx _ place hp u d).trans ?_
  have h0 : val_main_v30 (F := Ideal) (ix2 u d) = (0 : EReal) := by
    pointwise [val_main_v30, val_main_cst]
  rw [h0, zero_add]
  rfl

/-- The row of the experts' order that the reference puts in row `u`: the same one on a device whose coordinate is 0, that of the other half elsewhere. -/
def source (z u : ℕ) : ℕ := if z = 0 then u else if u < 1536 then u + 1536 else u - 1536

/-- It is a row of the array. -/
theorem source_lt {z u : ℕ} (h : u < 3072) : source z u < 3072 := by
  unfold source
  split
  · exact h
  · split <;> omega

/-- The array with its halves exchanged. -/
theorem rolled_at (u : Fin 3072) (d : Fin 2048) :
    val_main_v39 (F := Ideal) x0 x1 x2 (ix2 u d) = val_main_v37 (F := Ideal) x0 x1 x2 (ix2 ⟨if u.val < 1536 then u.val + 1536 else u.val - 1536, by split <;> omega⟩ d) := by
  have hu := u.isLt
  unfold val_main_v39
  by_cases h : u.val < 1536
  · refine (concatenate_pair_apply_left (t := S3072x2048) (s₁ := S1536x2048) (s₂ := S1536x2048) 0 _ _ _ (ix2 u d) rfl (ix2 (⟨u.val, h⟩ : Fin 1536) d) (fun b => ?_)).trans ?_
    · match b with
      | ⟨0, _⟩ => rfl
      | ⟨1, _⟩ => rfl
    · rw [val_main_call3_v0_apply]
      refine congrArg (val_main_v37 (F := Ideal) x0 x1 x2) (funext fun a => Fin.ext ?_)
      match a with
      | ⟨0, _⟩ => show 1536 + u.val = if u.val < 1536 then u.val + 1536 else u.val - 1536; rw [if_pos h]; omega
      | ⟨1, _⟩ => rfl
  · refine (concatenate_pair_apply_right (t := S3072x2048) (s₁ := S1536x2048) (s₂ := S1536x2048) 0 _ _ _ (ix2 u d) rfl rfl (ix2 (⟨u.val - 1536, by omega⟩ : Fin 1536) d) (fun b hb => ?_) ?_).trans ?_
    · match b with
      | ⟨0, _⟩ => exact absurd rfl hb
      | ⟨1, _⟩ => rfl
    · show u.val - 1536 + 1536 = u.val
      omega
    · rw [val_main_call3_v1_apply]
      refine congrArg (val_main_v37 (F := Ideal) x0 x1 x2) (funext fun a => Fin.ext ?_)
      match a with
      | ⟨0, _⟩ => show u.val - 1536 = if u.val < 1536 then u.val + 1536 else u.val - 1536; rw [if_neg h]
      | ⟨1, _⟩ => rfl

/-- The array the reference chooses, by the device's coordinate. -/
theorem chosen_at (u : Fin 3072) (d : Fin 2048) :
    val_main_v40 (F := Ideal) x0 x1 x2 x3 (ix2 u d) = val_main_v37 (F := Ideal) x0 x1 x2 (ix2 ⟨source (show BitVec 32 from x3 ix0).toNat u.val, source_lt u.isLt⟩ d) := by
  have hc : (broadcastInDim S3072x2048 ![] bcast_S_S3072x2048 (val_main_v38 (F := Ideal) x3)) (ix2 u d) = IntOp.cmpi .eq (show BitVec 32 from x3 ix0) 0#32 := by
    rw [Routing.bc0]
    rfl
  unfold val_main_v40
  rw [ValueIdx.select_apply, hc, WordCmp.cmpi_eq_eq, WordCmp.select_decide]
  by_cases h : (show BitVec 32 from x3 ix0) = 0#32
  · have hs : source (show BitVec 32 from x3 ix0).toNat u.val = u.val := by
      unfold source
      exact if_pos (by rw [h]; rfl)
    rw [if_pos h]
    exact congrArg (val_main_v37 (F := Ideal) x0 x1 x2) (congrArg (fun v : Fin 3072 => (ix2 v d : S3072x2048.Idx)) (Fin.ext hs.symm))
  · have hs : source (show BitVec 32 from x3 ix0).toNat u.val = if u.val < 1536 then u.val + 1536 else u.val - 1536 := by
      unfold source
      exact if_neg fun q => h (BitVec.eq_of_toNat_eq q)
    rw [if_neg h, rolled_at]
    exact congrArg (val_main_v37 (F := Ideal) x0 x1 x2) (congrArg (fun v : Fin 3072 => (ix2 v d : S3072x2048.Idx)) (Fin.ext hs.symm))

/-- An element of the reference's result. -/
theorem routed_at (place : Fin 2048 → ℕ) (hp : ∀ k : Fin 2048, (show BitVec 32 from val_main_v36 (F := Ideal) x1 x2 (ix2 k 0)).toInt = (place k : Int))
    (j : Fin 6) (r : Fin 512) (d : Fin 2048) : val_main_v54 (F := Ideal) x0 x1 x2 x3 (ix3 j r d)
      = ∑ k : Fin 2048, if place k = source (show BitVec 32 from x3 ix0).toNat (512 * j.val + r.val) then val_main_v3 (F := Ideal) x0 x2 (ix2 k d) else (0 : EReal) := by
  have hj := j.isLt
  have hr := r.isLt
  rw [val_main_v54_apply, val_main_v53_apply]
  rw [show (idx_main_v54 (ix3 j r d) : S3072x2048.Idx) = ix2 ⟨512 * j.val + r.val, by omega⟩ d from funext fun a => Fin.ext (by
    have hd := d.isLt
    match a with
    | ⟨0, _⟩ => show ((j.val * 512 + r.val) * 2048 + d.val) / 2048 = 512 * j.val + r.val; omega
    | ⟨1, _⟩ => show ((j.val * 512 + r.val) * 2048 + d.val) % 2048 = d.val; omega)]
  exact (chosen_at x0 x1 x2 x3 _ d).trans (scattered_at x0 x1 x2 place hp _ d)

/-! ## The rows of the tokens in the results read back -/

/-- The divisor of the experts, -/
def divisor : BitVec 32 := Scalar.select (IntOp.cmpi .eq 4#32 0#32) 1#32 4#32

/-- the remainder of an expert by it, -/
def remWord (e : BitVec 32) : BitVec 32 :=
  Scalar.select (IntOp.andi (IntOp.cmpi .ne (IntOp.cmpi .slt (IntOp.remsi .host e divisor) 0#32) (IntOp.cmpi .slt divisor 0#32))
    (IntOp.cmpi .ne (IntOp.remsi .host e divisor) 0#32)) (IntOp.addi (IntOp.remsi .host e divisor) divisor) (IntOp.remsi .host e divisor)

/-- a token's row among four experts' segments, 1048576 if its rank is not below the capacity, -/
def rowWord (e r : BitVec 32) : BitVec 32 :=
  Scalar.select (IntOp.cmpi .slt r 384#32) (IntOp.addi (IntOp.muli (remWord e) 384#32) r) 1048576#32

/-- and whether the expert is one of the device's own. -/
def isOwn (e z : BitVec 32) : BitVec 1 := IntOp.cmpi .eq (IntOp.cmpi .slt e 4#32) (IntOp.cmpi .eq z 0#32)

/-- The row at a token. -/
theorem row_at (k : Fin 2048) : val_main_v47 (F := Ideal) x1 x2 (ix1 k) = rowWord (val_main_v7 (F := Ideal) x1 x2 (ix1 k)) (val_main_v21 (F := Ideal) x1 x2 (ix1 k)) := by
  pointwise [val_main_v47, val_main_v46, val_main_v45, val_main_v44, val_main_v43, val_main_v42, val_main_v41, val_main_c_8, val_main_c_9, val_main_c_10, val_main_c_11,
    val_main_call6_v1, val_main_call6_v0, val_main_call5_v14, val_main_call5_v13, val_main_call5_v12, val_main_call5_v11, val_main_call5_v10, val_main_call5_v9,
    val_main_call5_v8, val_main_call5_v7, val_main_call5_v6, val_main_call5_v5, val_main_call5_v4, val_main_call5_v3, val_main_call5_v2, val_main_call5_v1,
    val_main_call5_v0, val_main_call5_c, val_main_call5_c_0, val_main_call5_c_1, val_main_call5_c_2, val_main_call5_c_3, rowWord, remWord, divisor]
  simp only [id_eq, constantI_apply]

/-- Whether the expert is the device's own, at a token. -/
theorem isOwn_at (k : Fin 2048) : val_main_v52 (F := Ideal) x1 x2 x3 (ix1 k) = isOwn (val_main_v7 (F := Ideal) x1 x2 (ix1 k)) (show BitVec 32 from x3 ix0) := by
  have hb : val_main_v51 (F := Ideal) x3 (ix1 k) = IntOp.cmpi .eq (show BitVec 32 from x3 ix0) 0#32 := by
    unfold val_main_v51
    rw [Routing.bc0]
    rfl
  have hf : val_main_v48 (F := Ideal) (ix1 k) = 4#32 := by
    unfold val_main_v48
    rw [Routing.bc0]
    rfl
  rw [val_main_v52_apply, val_main_v49_apply, hb, hf]
  rfl

/-- The reference's second result at a token, -/
theorem local_at (k : Fin 2048) : val_main_v55 (F := Ideal) x1 x2 x3 (ix1 k)
    = Scalar.select (isOwn (val_main_v7 (F := Ideal) x1 x2 (ix1 k)) (show BitVec 32 from x3 ix0))
        (rowWord (val_main_v7 (F := Ideal) x1 x2 (ix1 k)) (BitVec.ofNat 32 (rank (fun p => val_main_v7 (F := Ideal) x1 x2 (ix1 p)) k))) 1048576#32 := by
  have hb : val_main_call7_v1 (F := Ideal) (ix1 k) = 1048576#32 := by
    unfold val_main_call7_v1
    rw [Routing.bc0]
    rfl
  rw [val_main_v55_apply, isOwn_at, row_at, rank_at, hb]

/-- and its third. -/
theorem sent_at (k : Fin 2048) : val_main_v56 (F := Ideal) x1 x2 x3 (ix1 k)
    = Scalar.select (isOwn (val_main_v7 (F := Ideal) x1 x2 (ix1 k)) (show BitVec 32 from x3 ix0)) 1048576#32
        (rowWord (val_main_v7 (F := Ideal) x1 x2 (ix1 k)) (BitVec.ofNat 32 (rank (fun p => val_main_v7 (F := Ideal) x1 x2 (ix1 p)) k))) := by
  have hb : val_main_call8_v1 (F := Ideal) (ix1 k) = 1048576#32 := by
    unfold val_main_call8_v1
    rw [Routing.bc0]
    rfl
  rw [val_main_v56_apply, isOwn_at, row_at, rank_at, hb]

end Cert.RouteProof.Ref
end
-- ==== Proof.RoutePart.lean ====
/-
# The routing call: the device's part, and the rows handed on

The host's slices are the part of the tokens and of the experts that the device's coordinate names; the words it hands to
the two calls that read the results back are the reference's.
-/
module

public import proofs.«01_k».proof.Proof.RouteWords
public import proofs.«01_k».proof.Proof.RouteRef
public import Idealize.ShloMosaic.Lib.DynamicIndex

@[expose] public section

set_option maxRecDepth 16384

noncomputable section

namespace Cert.RouteProof

open Cert.RouteIdeal Cert.RouteIdeal.Gen
open Idealize.ShloMosaic Idealize.ShloMosaic.TcCoe
open scoped BigOperators

/-! ## The device's part -/

/-- The row at which the part begins, from the coordinate. -/
def startWord (q : BitVec 32) : BitVec 32 :=
  Scalar.select (IntOp.cmpi .slt (IntOp.muli q 2048#32) 0#32) (IntOp.addi (IntOp.muli q 2048#32) 4096#32) (IntOp.muli q 2048#32)

/-- It is 2048 times the coordinate. -/
theorem startWord_eq : ∀ q : Fin 2, (startWord (BitVec.ofNat 32 q.val)).toInt = ((2048 * q.val : ℕ) : Int) := by decide +kernel

/-- The index of a scalar. -/
theorem first_eq : (Shape.Idx.first h_S_ : S_.Idx) = ix0 := funext fun a => a.elim0

/-- The row at which the host's slices begin. -/
theorem start_at (q : IVec S_ 32) (hq : (show BitVec 32 from q ix0).toNat < 2) :
    (show BitVec 32 from start q (Shape.Idx.first h_S_)).toInt = ((2048 * (show BitVec 32 from q ix0).toNat : ℕ) : Int) := by
  have w := startWord_eq ⟨_, hq⟩
  simp only [BitVec.ofNat_toNat, BitVec.setWidth_eq] at w
  rw [first_eq]
  exact w

/-- The part's slice of the experts is inside them; -/
theorem inside1 : ∀ q : Fin 2, S4096.Slices ![2048 * q.val] S2048 := by decide +kernel
/-- that of the tokens too. -/
theorem inside2 : ∀ q : Fin 2, S4096x2048.Slices ![2048 * q.val, 0] S2048x2048 := by decide +kernel

/-- The experts of the device's part, -/
theorem experts_at (a : IVec S4096 32) (q : IVec S_ 32) (hq : (show BitVec 32 from q ix0).toNat < 2) (k : Fin 2048) :
    experts a q (ix1 k) = a (ix1 (part (show BitVec 32 from q ix0).toNat k)) := by
  have h := Host.dynamicSlice_eq_extractStridedSlice S2048 a (fun k => ((![start q] : Fin 1 → IVec S_ 32) k (Shape.Idx.first h_S_)).toInt)
    ![2048 * (show BitVec 32 from q ix0).toNat] sliceFits_S4096_S2048 (inside1 ⟨_, hq⟩) (fun b => by
      match b with
      | ⟨0, _⟩ => exact start_at q hq)
  unfold experts
  rw [h]
  refine congrArg a (funext fun b => Fin.ext ?_)
  match b with
  | ⟨0, _⟩ =>
    show 2048 * (show BitVec 32 from q ix0).toNat + k.val = 2048 * ((show BitVec 32 from q ix0).toNat % 2) + k.val
    rw [Nat.mod_eq_of_lt hq]

/-- and its tokens. -/
theorem tokens_at (x : FVec Ideal S4096x2048 .f32) (q : IVec S_ 32) (hq : (show BitVec 32 from q ix0).toNat < 2) (k d : Fin 2048) :
    tokens x q (ix2 k d) = x (ix2 (part (show BitVec 32 from q ix0).toNat k) d) := by
  have h := Host.dynamicSlice_eq_extractStridedSlice S2048x2048 x
    (fun k => ((![start q, constantI S_ 32 0#32] : Fin 2 → IVec S_ 32) k (Shape.Idx.first h_S_)).toInt)
    ![2048 * (show BitVec 32 from q ix0).toNat, 0] sliceFits_S4096x2048_S2048x2048 (inside2 ⟨_, hq⟩) (fun b => by
      match b with
      | ⟨0, _⟩ => exact start_at q hq
      | ⟨1, _⟩ => rfl)
  unfold tokens
  rw [h]
  refine congrArg x (funext fun b => Fin.ext ?_)
  match b with
  | ⟨0, _⟩ =>
    show 2048 * (show BitVec 32 from q ix0).toNat + k.val = 2048 * ((show BitVec 32 from q ix0).toNat % 2) + k.val
    rw [Nat.mod_eq_of_lt hq]
  | ⟨1, _⟩ => exact Nat.zero_add _

/-! ## The rows handed on -/

/-- A token's word among the device's own experts is the reference's, -/
theorem ownWord_eq : ∀ (e : Fin 8) (z : Fin 2) (r : Fin 2048),
    ownWord (IntOp.cmpi .eq (quarterWord (BitVec.ofNat 32 e.val)) (BitVec.ofNat 32 z.val)) (BitVec.ofNat 32 e.val) (BitVec.ofNat 32 z.val) (BitVec.ofNat 32 r.val)
      = Scalar.select (Ref.isOwn (BitVec.ofNat 32 e.val) (BitVec.ofNat 32 z.val)) (Ref.rowWord (BitVec.ofNat 32 e.val) (BitVec.ofNat 32 r.val)) 1048576#32 := by
  decide +kernel

/-- and so is that among the other device's. -/
theorem otherWord_eq : ∀ (e : Fin 8) (z : Fin 2) (r : Fin 2048),
    otherWord (IntOp.cmpi .eq (quarterWord (BitVec.ofNat 32 e.val)) (BitVec.ofNat 32 z.val)) (BitVec.ofNat 32 e.val) (BitVec.ofNat 32 z.val) (BitVec.ofNat 32 r.val)
      = Scalar.select (Ref.isOwn (BitVec.ofNat 32 e.val) (BitVec.ofNat 32 z.val)) 1048576#32 (Ref.rowWord (BitVec.ofNat 32 e.val) (BitVec.ofNat 32 r.val)) := by
  decide +kernel

/-- The words of the device's own experts' tokens, where every expert is one of the eight and the device's coordinate is 0 or 1, -/
theorem ownRow_ref (e : IVec S2048 32) (z : IVec S_ 32) (he : ∀ k : Fin 2048, (show BitVec 32 from e (ix1 k)).toNat < 8)
    (hz : (show BitVec 32 from z ix0).toNat < 2) (k : Fin 2048) :
    ownRow e z (ix1 k) = Scalar.select (Ref.isOwn (e (ix1 k)) (z ix0)) (Ref.rowWord (e (ix1 k)) (BitVec.ofNat 32 (rank (fun p => e (ix1 p)) k))) 1048576#32 := by
  have w := ownWord_eq ⟨_, he k⟩ ⟨_, hz⟩ ⟨_, rank_lt (fun p => e (ix1 p)) k⟩
  simp only [BitVec.ofNat_toNat, BitVec.setWidth_eq] at w
  rw [ownRow_at, own_at, ranks_at _ he]
  exact w

/-- and of the other device's. -/
theorem otherRow_ref (e : IVec S2048 32) (z : IVec S_ 32) (he : ∀ k : Fin 2048, (show BitVec 32 from e (ix1 k)).toNat < 8)
    (hz : (show BitVec 32 from z ix0).toNat < 2) (k : Fin 2048) :
    otherRow e z (ix1 k) = Scalar.select (Ref.isOwn (e (ix1 k)) (z ix0)) 1048576#32 (Ref.rowWord (e (ix1 k)) (BitVec.ofNat 32 (rank (fun p => e (ix1 p)) k))) := by
  have w := otherWord_eq ⟨_, he k⟩ ⟨_, hz⟩ ⟨_, rank_lt (fun p => e (ix1 p)) k⟩
  simp only [BitVec.ofNat_toNat, BitVec.setWidth_eq] at w
  rw [otherRow_at, own_at, ranks_at _ he]
  exact w

end Cert.RouteProof
end
-- ==== Proof.RouteMatch.lean ====
/-
# The routing call: the results agree

Where the arguments are as the claim asks, the row the kernel gives a token and the row the reference gives it name the
same row of the result, so the two arrays agree; the words the kernel hands on are the reference's.
-/
module

public import proofs.«01_k».proof.Pre_routable
public import proofs.«01_k».proof.Proof.RouteValue
public import proofs.«01_k».proof.Proof.RouteRef
public import proofs.«01_k».proof.Proof.RoutePart
public import Idealize.ShloMosaic.Lib.ReduceAll

@[expose] public section

set_option maxRecDepth 16384

noncomputable section

namespace Cert.RouteProof

open Cert.RouteIdeal Cert.RouteIdeal.Gen
open Idealize.ShloMosaic Idealize.ShloMosaic.TcCoe
open scoped BigOperators

/-- The shape relations the condition on the arguments uses. -/
theorem routable_facts : Cert.Pre_routable.Facts := ⟨by decide, by decide, by decide, by decide, by decide⟩

/-- A word that is not negative and below eight, read signed, is below eight. -/
theorem expert_lt (v : BitVec 32) (h : IntOp.andi (IntOp.cmpi .sge v 0#32) (IntOp.cmpi .slt v 8#32) = 1#1) : v.toNat < 8 := by
  rw [WordCmp.cmpi_sge_zero, WordCmp.cmpi_slt_eq] at h
  by_cases h1 : v.toNat < 2 ^ (32 - 1)
  · rw [decide_eq_true h1] at h
    by_cases h2 : v.toInt < (8#32).toInt
    · rw [BitVec.toInt_eq_toNat_of_lt (by omega), show (8#32).toInt = 8 by decide] at h2
      omega
    · rw [decide_eq_false h2] at h
      exact absurd h (by decide)
  · rw [decide_eq_false h1] at h
    by_cases h2 : v.toInt < (8#32).toInt
    · rw [decide_eq_true h2] at h
      exact absurd h (by decide)
    · rw [decide_eq_false h2] at h
      exact absurd h (by decide)

/-- A word equal to 0 or to 1 is below two. -/
theorem coordinate_lt (v : BitVec 32) (h : IntOp.ori (IntOp.cmpi .eq v 0#32) (IntOp.cmpi .eq v 1#32) = 1#1) : v.toNat < 2 := by
  rw [WordCmp.cmpi_eq_eq, WordCmp.cmpi_eq_eq] at h
  by_cases h0 : v = 0#32
  · rw [h0]; decide
  · by_cases h1 : v = 1#32
    · rw [h1]; decide
    · rw [decide_eq_false h0, decide_eq_false h1] at h
      exact absurd h (by decide)

/-- A conjunction of two bits that is 1: both are. -/
theorem both_one : ∀ a b : BitVec 1, IntOp.andi a b = 1#1 → a = 1#1 ∧ b = 1#1 := by decide

/-- The part of the experts that the condition reads. -/
theorem chosen_part [Cert.Pre_routable.Facts] (a : IVec Cert.Pre_routable.S4096 32) (q : IVec Cert.Pre_routable.S_ 32) (hq : (show BitVec 32 from q ix0).toNat < 2) (k : Fin 2048) :
    Cert.Pre_routable.fn_where (F := Ideal) (cmpi .eq q (constantI Cert.Pre_routable.S_ 32 0#32))
      (extractStridedSlice Cert.Pre_routable.S2048 ![0] a Cert.Pre_routable.Facts.slices_S4096_S2048_0)
      (extractStridedSlice Cert.Pre_routable.S2048 ![2048] a Cert.Pre_routable.Facts.slices_S4096_S2048_2048) (ix1 k)
      = a (ix1 (part (show BitVec 32 from q ix0).toNat k)) := by
  unfold Cert.Pre_routable.fn_where
  dsimp only
  rw [ValueIdx.select_apply, Routing.bc0, cmpi_apply, constantI_apply, WordCmp.cmpi_eq_eq, WordCmp.select_decide]
  by_cases h : (show BitVec 32 from q ix0) = 0#32
  · refine (if_pos h).trans (congrArg a (funext fun b => Fin.ext ?_))
    match b with
    | ⟨0, _⟩ => show 0 + k.val = 2048 * ((show BitVec 32 from q ix0).toNat % 2) + k.val; rw [h]; rfl
  · have h1 : (show BitVec 32 from q ix0).toNat = 1 := by
      have : (show BitVec 32 from q ix0).toNat ≠ 0 := fun w => h (BitVec.eq_of_toNat_eq w)
      omega
    refine (if_neg h).trans (congrArg a (funext fun b => Fin.ext ?_))
    match b with
    | ⟨0, _⟩ => show 2048 + k.val = 2048 * ((show BitVec 32 from q ix0).toNat % 2) + k.val; rw [h1]

/-- What the condition says: the two coordinates are 0 or 1, and every expert of the device's part is one of the eight. -/
theorem routable_iff [Cert.Pre_routable.Facts] (x : FVec Ideal Cert.Pre_routable.S4096x2048 .f32) (a : IVec Cert.Pre_routable.S4096 32)
    (q z : IVec Cert.Pre_routable.S_ 32) (h : Cert.Pre_routable.fn (F := Ideal) x a q z = fun _ => 1#1) :
    (show BitVec 32 from q ix0).toNat < 2 ∧ (∀ k : Fin 2048, (show BitVec 32 from a (ix1 (part (show BitVec 32 from q ix0).toNat k))).toNat < 8)
      ∧ (show BitVec 32 from z ix0).toNat < 2 := by
  have h0 := congrFun h ix0
  unfold Cert.Pre_routable.fn Cert.Pre_routable.fn_part1 at h0
  dsimp only at h0
  rw [andi_apply, andi_apply] at h0
  obtain ⟨hb, hz⟩ := both_one _ _ h0
  obtain ⟨ha, hq⟩ := both_one _ _ hb
  have hq2 := coordinate_lt _ hq
  have hs : Subsingleton Cert.Pre_routable.S_.Idx := ⟨fun a b => funext fun q => q.elim0⟩
  refine ⟨hq2, fun k => ?_, coordinate_lt _ hz⟩
  have hk := Host.reduce_andi_all _ _ _ _ _ ha (ix1 k)
  rw [andi_apply, cmpi_apply, cmpi_apply, Routing.bc0, Routing.bc0, chosen_part a q hq2 k] at hk
  exact expert_lt _ hk

/-- The kernel's row of a token is row `u` of the result exactly when the reference's row is the one it puts there. -/
theorem slot_iff (e z r u : ℕ) (he : e < 8) (hz : z < 2) (hu : u < 3072) : slot e z r = u ↔ Ref.seat e r = Ref.source z u := by
  unfold slot Ref.seat Ref.source
  by_cases hr : r < 384
  · rw [if_pos hr, if_pos hr]
    by_cases h0 : z = 0
    · rw [if_pos h0]
      by_cases h4 : e / 4 = z
      · rw [if_pos h4]; omega
      · rw [if_neg h4]; omega
    · rw [if_neg h0]
      by_cases h4 : e / 4 = z
      · rw [if_pos h4]
        by_cases hl : u < 1536
        · rw [if_pos hl]; omega
        · rw [if_neg hl]; omega
      · rw [if_neg h4]
        by_cases hl : u < 1536
        · rw [if_pos hl]; omega
        · rw [if_neg hl]; omega
  · rw [if_neg hr, if_neg hr]
    by_cases h0 : z = 0
    · rw [if_pos h0]; omega
    · rw [if_neg h0]
      by_cases hl : u < 1536
      · rw [if_pos hl]; omega
      · rw [if_neg hl]; omega

variable (m : (ℓ : Loc nD τ sig) → Buf (Elt Ideal) ℓ)

variable (x0 : (⟨2, ![4096, 2048]⟩ : Shape).Idx → EReal) (x1 : (⟨1, ![4096]⟩ : Shape).Idx → BitVec 32) (x2 x3 : (⟨0, ![]⟩ : Shape).Idx → BitVec 32)

/-- The experts of the device's part are the reference's. -/
theorem experts_ref (hq : (x2 ix0).toNat < 2) : experts x1 x2 = Cert.RouteRefIdeal.Read.val_main_v7 (F := Ideal) x1 x2 := by
  funext i
  obtain ⟨k, rfl⟩ : ∃ k : Fin 2048, i = ix1 k := ⟨i 0, eq_ix1 i⟩
  exact (experts_at x1 x2 hq k).trans (Ref.experts_at x1 x2 hq k).symm

/-- The packed tokens are the reference's, where the arguments are as the claim asks. -/
theorem result_ref (c : Dev nD) (h0 : x0 = m ((c : Thread nD τ).loc main_arg0)) (h1 : x1 = m ((c : Thread nD τ).loc main_arg1))
    (h2 : x2 = m ((c : Thread nD τ).loc main_arg2)) (h3 : x3 = m ((c : Thread nD τ).loc main_arg3)) (hq : (x2 ix0).toNat < 2)
    (he : ∀ k : Fin 2048, (x1 (ix1 (part (x2 ix0).toNat k))).toNat < 8) (hz : (x3 ix0).toNat < 2) :
    result m c = Cert.RouteRefIdeal.Read.val_main_v54 (F := Ideal) x0 x1 x2 x3 := by
  have he' : ∀ k : Fin 2048, (show BitVec 32 from experts x1 x2 (ix1 k)).toNat < 8 := fun k => by
    rw [experts_at x1 x2 hq k]
    exact he k
  have hw : ∀ k : Fin 2048, placed m c k = slot (show BitVec 32 from experts x1 x2 (ix1 k)).toNat (x3 ix0).toNat (rank (fun p => experts x1 x2 (ix1 p)) k) := by
    refine placed_eq m c (experts x1 x2) x3 ?_ he' hz
    subst h1 h2 h3
    exact words_eq m c
  have hx : ∀ k d : Fin 2048, V m c main_v51 (ix2 k d) = Cert.RouteRefIdeal.Read.val_main_v3 (F := Ideal) x0 x2 (ix2 k d) := fun k d => by
    rw [tokens_eq, ← h0, ← h2]
    exact (tokens_at x0 x2 hq k d).trans (Ref.tokens_at x0 x2 hq k d).symm
  have hr7 := experts_ref x1 x2 hq
  rw [hr7] at he' hw
  have hs := Ref.place_toInt x1 x2 he'
  funext i
  obtain ⟨j, r, d, rfl⟩ : ∃ (j : Fin 6) (r : Fin 512) (d : Fin 2048), i = ix3 j r d := ⟨i 0, i 1, i 2, eq_ix3 i⟩
  have hj := j.isLt
  have hr := r.isLt
  rw [Ref.routed_at x0 x1 x2 x3 _ hs j r d]
  show gathered (V m c main_v51) (placed m c) (512 * j.val + r.val) d = _
  unfold gathered
  refine Finset.sum_congr rfl fun k _ => ?_
  have key := slot_iff _ _ (rank (fun p => Cert.RouteRefIdeal.Read.val_main_v7 (F := Ideal) x1 x2 (ix1 p)) k) _ (he' k) hz (show 512 * j.val + r.val < 3072 by omega)
  rw [← hw k] at key
  exact if_congr key (hx k d) rfl

/-- The words handed to the call that reads the device's own results back are the reference's, -/
theorem local_ref (c : Dev nD) (h1 : x1 = m ((c : Thread nD τ).loc main_arg1))
    (h2 : x2 = m ((c : Thread nD τ).loc main_arg2)) (h3 : x3 = m ((c : Thread nD τ).loc main_arg3)) (hq : (x2 ix0).toNat < 2)
    (he : ∀ k : Fin 2048, (x1 (ix1 (part (x2 ix0).toNat k))).toNat < 8) (hz : (x3 ix0).toNat < 2) :
    V m c main_v38 = Cert.RouteRefIdeal.Read.val_main_v55 (F := Ideal) x1 x2 x3 := by
  rw [ownRow_eq, ← h1, ← h2, ← h3]
  have he' : ∀ k : Fin 2048, (show BitVec 32 from experts x1 x2 (ix1 k)).toNat < 8 := fun k => by
    rw [experts_at x1 x2 hq k]
    exact he k
  rw [experts_ref x1 x2 hq] at he' ⊢
  funext i
  obtain ⟨k, rfl⟩ : ∃ k : Fin 2048, i = ix1 k := ⟨i 0, eq_ix1 i⟩
  exact (ownRow_ref _ x3 he' hz k).trans (Ref.local_at x1 x2 x3 k).symm

/-- and so are those handed to the call that reads the other device's. -/
theorem sent_ref (c : Dev nD) (h1 : x1 = m ((c : Thread nD τ).loc main_arg1))
    (h2 : x2 = m ((c : Thread nD τ).loc main_arg2)) (h3 : x3 = m ((c : Thread nD τ).loc main_arg3)) (hq : (x2 ix0).toNat < 2)
    (he : ∀ k : Fin 2048, (x1 (ix1 (part (x2 ix0).toNat k))).toNat < 8) (hz : (x3 ix0).toNat < 2) :
    V m c main_v44 = Cert.RouteRefIdeal.Read.val_main_v56 (F := Ideal) x1 x2 x3 := by
  rw [otherRow_eq, ← h1, ← h2, ← h3]
  have he' : ∀ k : Fin 2048, (show BitVec 32 from experts x1 x2 (ix1 k)).toNat < 8 := fun k => by
    rw [experts_at x1 x2 hq k]
    exact he k
  rw [experts_ref x1 x2 hq] at he' ⊢
  funext i
  obtain ⟨k, rfl⟩ : ∃ k : Fin 2048, i = ix1 k := ⟨i 0, eq_ix1 i⟩
  exact (otherRow_ref _ x3 he' hz k).trans (Ref.sent_at x1 x2 x3 k).symm

/-- The run leaves the packed tokens and the two rows of words in its results and changes no argument. -/
theorem run_result (ρ : Dev nD → PrngReg) : θ_run defs (onTc (τ := τ) (main (F := Ideal))) ⟨m, fun _ => 0, ρ⟩ fun r => ∀ c : Dev nD,
    r.2.mem ((c : Thread nD τ).loc main_v53) = result m c
      ∧ r.2.mem ((c : Thread nD τ).loc main_v38) = V m c main_v38
      ∧ r.2.mem ((c : Thread nD τ).loc main_v44) = V m c main_v44
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 2).trans (result_eq m c),
      (h c).2 main_v38 (Pipeline.mem_restRefs_of main_v38 (by decide) (by decide)),
      (h c).2 main_v44 (Pipeline.mem_restRefs_of main_v44 (by decide) (by decide)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.RouteProof
end
-- ==== Proof.FfnValue.lean ====
/-
# The fused feed-forward call: what it computes

Over the extended reals the blocked sums along the grid are the whole sums: the hidden block of a half is complete after
four points, the output block after eight more, and the array written back holds both products of every slab and expert.
-/
module

public import proofs.«01_k».proof.Proof.FfnDats
public import Idealize.ShloMosaic.Lib.Pointwise
public import Idealize.ShloMosaic.Lib.Pipeline.ValueKit

@[expose] public section

set_option maxRecDepth 16384

noncomputable section

namespace Cert.FfnProof

open Cert.FfnIdeal Cert.FfnIdeal.Gen
open Idealize.ShloMosaic Idealize.ShloMosaic.TcCoe
open scoped BigOperators

/-! ## The payloads at an index -/

/-- A block product is a sum over the block's 512 columns; -/
theorem pay1_at (x : Vec Ideal S384x512 .bf16) (w : Vec Ideal S1x512x2048 .bf16) (r : Fin 384) (f : Fin 2048) :
    k0_pay1 x w (ix2 r f) = ∑ k : Fin 512, x (ix2 r k) * w (ix3 0 k f) := by
  pointwise [k0_pay1]
/-- the first one is stored as it is; -/
theorem pay2_at (x : Vec Ideal S384x512 .bf16) (w : Vec Ideal S1x512x2048 .bf16) (r : Fin 384) (f : Fin 2048) :
    k0_pay2 x w (ix2 r f) = ∑ k : Fin 512, x (ix2 r k) * w (ix3 0 k f) := by
  pointwise [k0_pay1, k0_pay2]
/-- a later one is added to the hidden block; -/
theorem pay3_at (x : Vec Ideal S384x512 .bf16) (w : Vec Ideal S1x512x2048 .bf16) (h : Vec Ideal S384x2048 .bf16) (r : Fin 384) (f : Fin 2048) :
    k0_pay3 x w h (ix2 r f) = h (ix2 r f) + ∑ k : Fin 512, x (ix2 r k) * w (ix3 0 k f) := by
  pointwise [k0_pay1, k0_pay3]
/-- a block of the second product takes the hidden values rectified, stored at first -/
theorem pay5_at (h : Vec Ideal S384x512 .bf16) (w : Vec Ideal S1x512x2048 .bf16) (r : Fin 384) (d : Fin 2048) :
    k0_pay5 h w (ix4 0 0 r d) = ∑ k : Fin 512, max (h (ix2 r k)) 0 * w (ix3 0 k d) := by
  pointwise [k0_pay4, k0_pay5]
/-- and added to the output block later. -/
theorem pay6_at (h : Vec Ideal S384x512 .bf16) (w : Vec Ideal S1x512x2048 .bf16) (o : Vec Ideal S1x1x384x2048 .bf16) (r : Fin 384) (d : Fin 2048) :
    k0_pay6 h w o (ix4 0 0 r d) = o (ix4 0 0 r d) + ∑ k : Fin 512, max (h (ix2 r k)) 0 * w (ix3 0 k d) := by
  pointwise [k0_pay4, k0_pay6]

/-! ## Reads -/

variable (m : (ℓ : Loc nD τ sig) → Buf (Elt Ideal) ℓ)

/-! The offsets and block indices at each point. -/

theorem off3_at : ∀ t : Fin grid0.N, k0_off3 (grid0.coords t) = ![0, 512 * (t.val % 8)] := by decide +kernel
theorem off4_at : ∀ t : Fin grid0.N, 4 ≤ t.val % 8 → k0_off4 (grid0.coords t) = ![0, 512 * (t.val % 8 - 4)] := by decide +kernel
theorem off1_at : ∀ t : Fin grid0.N, k0_off1 (grid0.coords t) = ![0, t.val / 16 % 4, 0, 0] := by decide +kernel
theorem off2_at : ∀ t : Fin grid0.N, k0_off2 (grid0.coords t) = ![t.val / 16 % 4, 0, 0] := by decide +kernel
theorem index0_at : ∀ t : Fin grid0.N, t.val % 8 < 4 → win0_0.index t = ![t.val / 16 % 4, t.val % 8, t.val / 8 % 2] := by decide +kernel
theorem index1_at : ∀ t : Fin grid0.N, 4 ≤ t.val % 8 → win0_1.index t = ![t.val / 16 % 4, 4 * (t.val / 8 % 2) + (t.val % 8 - 4), 0] := by decide +kernel
theorem index2_at : ∀ t : Fin grid0.N, win0_2.index t = ![t.val / 64, t.val / 16 % 4, 0, 0] := by decide +kernel

/-- A coordinate of a unit rectangle: the offset plus the coordinate within. -/
theorem unit_val {s : Shape} {off size : Fin s.rank → ℕ} (inb : ∀ a, off a + size a ≤ s.size a) (x : (⟨s.rank, size⟩ : Shape).Idx)
    (a : Fin s.rank) {off' : Fin s.rank → ℕ} (h : off = off') : ((Rect.unit off size inb).idx x a).val = off' a + (x a).val := by
  subst h
  show off a + 1 * (x a).val = _
  rw [Nat.one_mul]

/-- The columns of the token block that a point of the first product reads; -/
theorem xCols_at (t : Fin grid0.N) (h6 : k0_cond6 (grid0.coords t) = 1#1) (x : Vec Ideal S384x2048 .bf16) (r : Fin 384) (k : Fin 512) (k' : Fin 2048)
    (hk : k'.val = 512 * (t.val % 8) + k.val) : xCols (grid0.coords t) h6 x (ix2 r k) = x (ix2 r k') := by
  unfold xCols
  rw [View.readAt_apply]
  refine congrArg x (funext fun a => Fin.ext ((unit_val (s := S384x2048) (size := S384x512.size) (k0_off3_inb _ h6) (ix2 r k) a (off3_at t)).trans ?_))
  match a with
  | ⟨0, _⟩ => exact Nat.zero_add _
  | ⟨1, _⟩ => exact hk.symm

/-- of the hidden block, a point of the second. -/
theorem hCols_at (t : Fin grid0.N) (h9 : k0_cond9 (grid0.coords t) = 1#1) (x : Vec Ideal S384x2048 .bf16) (r : Fin 384) (k : Fin 512) (k' : Fin 2048)
    (ht : 4 ≤ t.val % 8) (hk : k'.val = 512 * (t.val % 8 - 4) + k.val) : hCols (grid0.coords t) h9 x (ix2 r k) = x (ix2 r k') := by
  unfold hCols
  rw [View.readAt_apply]
  refine congrArg x (funext fun a => Fin.ext ((unit_val (s := S384x2048) (size := S384x512.size) (k0_off4_inb _ h9) (ix2 r k) a (off4_at t ht)).trans ?_))
  match a with
  | ⟨0, _⟩ => exact Nat.zero_add _
  | ⟨1, _⟩ => exact hk.symm

/-- The first weights' block at a point that reads it; -/
theorem w0_at (c : Dev nD) (t : Fin grid0.N) (h : t.val % 8 < 4) (k : Fin 512) (f : Fin 2048) (e : Fin 4) (k' : Fin 2048) (f' : Fin 4096)
    (he : e.val = t.val / 16 % 4) (hk : k'.val = 512 * (t.val % 8) + k.val) (hf : f'.val = 2048 * (t.val / 8 % 2) + f.val) :
    iblk m c 0 t (ix3 0 k f) = m ((c : Thread nD τ).loc main_arg1) (ix3 e k' f') := by
  have e0 := index0_at t h
  blk_ext [iblk, e0]

/-- the second weights'. -/
theorem w1_at (c : Dev nD) (t : Fin grid0.N) (h : 4 ≤ t.val % 8) (k : Fin 512) (d : Fin 2048) (e : Fin 4) (k' : Fin 4096)
    (he : e.val = t.val / 16 % 4) (hk : k'.val = 2048 * (t.val / 8 % 2) + 512 * (t.val % 8 - 4) + k.val) :
    iblk m c 1 t (ix3 0 k d) = m ((c : Thread nD τ).loc main_arg2) (ix3 e k' d) := by
  have e0 := index1_at t h
  blk_ext [iblk, e0]

/-- The expert's block of the own first slab; -/
theorem src0_at (t : Fin grid0.N) (h3 : k0_cond3 (grid0.coords t) = 1#1) (h4 : k0_cond4 (grid0.coords t) = 1#1) (x : Vec Ideal S2x4x384x2048 .bf16) (r : Fin 384) (k : Fin 2048)
    (e : Fin 4) (he : e.val = t.val / 16 % 4) : (src0 (grid0.coords t) h3 h4).view.read (Elt Ideal) x (ix2 r k) = x (ix4 0 e r k) := by
  show x ((Rect.unit _ _ (k0_off1_inb _ h3 h4)).idx (Shape.reshapeEquiv squeezes_S1x1x384x2048_S384x2048.numel_eq (ix2 r k))) = _
  rw [show (Shape.reshapeEquiv squeezes_S1x1x384x2048_S384x2048.numel_eq (ix2 r k) : S1x1x384x2048.Idx) = ix4 0 0 r k from by pointwise]
  refine congrArg x (funext fun a => Fin.ext ((unit_val (k0_off1_inb _ h3 h4) (ix4 0 0 r k) a (off1_at t)).trans ?_))
  match a with
  | ⟨0, _⟩ => rfl
  | ⟨1, _⟩ => exact he.symm
  | ⟨2, _⟩ => exact Nat.zero_add _
  | ⟨3, _⟩ => exact Nat.zero_add _

/-- of the received slab; -/
theorem src1_at (t : Fin grid0.N) (h3 : k0_cond3 (grid0.coords t) = 1#1) (h5 : k0_cond5 (grid0.coords t) = 1#1) (x : Vec Ideal S4x384x2048 .bf16) (r : Fin 384) (k : Fin 2048)
    (e : Fin 4) (he : e.val = t.val / 16 % 4) : (src1 (grid0.coords t) h3 h5).view.read (Elt Ideal) x (ix2 r k) = x (ix3 e r k) := by
  show x ((Rect.unit _ _ (k0_off2_inb _ h3 h5)).idx (Shape.reshapeEquiv squeezes_S1x384x2048_S384x2048.numel_eq (ix2 r k))) = _
  rw [show (Shape.reshapeEquiv squeezes_S1x384x2048_S384x2048.numel_eq (ix2 r k) : S1x384x2048.Idx) = ix3 0 r k from by pointwise]
  refine congrArg x (funext fun a => Fin.ext ((unit_val (k0_off2_inb _ h3 h5) (ix3 0 r k) a (off2_at t)).trans ?_))
  match a with
  | ⟨0, _⟩ => exact he.symm
  | ⟨1, _⟩ => exact Nat.zero_add _
  | ⟨2, _⟩ => exact Nat.zero_add _

/-- and the slab that is sent is the second one. -/
theorem slab_at (x : Vec Ideal S2x4x384x2048 .bf16) (e : Fin 4) (r : Fin 384) (k : Fin 2048) :
    slabM.view.read (Elt Ideal) x (ix3 e r k) = x (ix4 1 e r k) := by
  show x ((Rect.unit _ _ inb_S2x4x384x2048_S1x4x384x2048_1_0_0_0).idx (Shape.reshapeEquiv squeezes_S1x4x384x2048_S4x384x2048.numel_eq (ix3 e r k))) = _
  rw [show (Shape.reshapeEquiv squeezes_S1x4x384x2048_S4x384x2048.numel_eq (ix3 e r k) : S1x4x384x2048.Idx) = ix4 0 e r k from by pointwise]
  refine congrArg x (funext fun a => Fin.ext ((unit_val inb_S2x4x384x2048_S1x4x384x2048_1_0_0_0 (ix4 0 e r k) a rfl).trans ?_))
  match a with
  | ⟨0, _⟩ => rfl
  | ⟨1, _⟩ => exact Nat.zero_add _
  | ⟨2, _⟩ => exact Nat.zero_add _
  | ⟨3, _⟩ => exact Nat.zero_add _

/-! ## The quantities summed -/

/-- Token `r`, column `k`, of the block that slab `s` and expert `e` are worked on with: of the device's own first
    slab, or of its partner's second. Expert and column may be any natural numbers, taken modulo the extents. -/
def tok (c : Dev nD) (s e : ℕ) (r : Fin 384) (k : ℕ) : EReal :=
  if s = 0 then own m c (ix4 0 (Fin.ofNat 4 e) r (Fin.ofNat 2048 k)) else own m (flip c) (ix4 1 (Fin.ofNat 4 e) r (Fin.ofNat 2048 k))
/-- Expert `e`'s first weight at row `k`, column `f`. -/
def up (c : Dev nD) (e k f : ℕ) : EReal := m ((c : Thread nD τ).loc main_arg1) (ix3 (Fin.ofNat 4 e) (Fin.ofNat 2048 k) (Fin.ofNat 4096 f))
/-- Expert `e`'s second weight at row `f`, column `d`. -/
def down (c : Dev nD) (e f : ℕ) (d : Fin 2048) : EReal := m ((c : Thread nD τ).loc main_arg2) (ix3 (Fin.ofNat 4 e) (Fin.ofNat 4096 f) d)
/-- The hidden value `f` of token `r` before the rectifier. -/
def hid (c : Dev nD) (s e : ℕ) (r : Fin 384) (f : ℕ) : EReal := ∑ k ∈ Finset.range 2048, tok m c s e r k * up m c e k f
/-- The result's value `d` of token `r`. -/
def res (c : Dev nD) (s e : ℕ) (r : Fin 384) (d : Fin 2048) : EReal := ∑ f ∈ Finset.range 4096, max (hid m c s e r f) 0 * down m c e f d

/-! ## The states at an index -/

/-- A sum over the first `n + 512` numbers is that over the first `n` and 512 more. -/
theorem sum_more (f : ℕ → EReal) (n n' : ℕ) (h : n' = n + 512) :
    ∑ k ∈ Finset.range n', f k = ∑ k ∈ Finset.range n, f k + ∑ k : Fin 512, f (n + k.val) := by
  subst h
  rw [Finset.sum_range_add, ← Fin.sum_univ_eq_sum_range (fun k => f (n + k)) 512]

/-- Over the 16 points of a slab and expert the token block is that expert's. -/
theorem X_at (c : Dev nD) (g : ℕ) (hg : g < 8) (r : Fin 384) (k : Fin 2048) :
    ∀ j < 16, X m c (16 * g + j + 1) (ix2 r k) = tok m c (g / 4) g r k.val := by
  intro j
  induction j with
  | zero =>
    intro _
    have hN : 16 * g < grid0.N := by rw [N_0]; omega
    let t : Fin grid0.N := ⟨16 * g, hN⟩
    have ht : t.val = 16 * g := rfl
    rw [show 16 * g + 0 + 1 = t.val + 1 from rfl, X_next]
    have h3 : k0_cond3 (grid0.coords t) = 1#1 := (cond3_at t).mpr (by omega)
    have he : (Fin.ofNat 4 g).val = t.val / 16 % 4 := by show g % 4 = _; omega
    have hk : Fin.ofNat 2048 k.val = k := Fin.ext (Nat.mod_eq_of_lt k.isLt)
    unfold xStep tok
    rw [dif_pos h3, hk]
    by_cases hs : g < 4
    · have h4 : k0_cond4 (grid0.coords t) = 1#1 := (cond4_at t).mpr (by omega)
      rw [dif_pos h4, if_pos (by omega)]
      exact src0_at t h3 h4 _ r k _ he
    · have h4 : ¬ k0_cond4 (grid0.coords t) = 1#1 := fun h => absurd ((cond4_at t).mp h) (by omega)
      have h5 : k0_cond5 (grid0.coords t) = 1#1 := (cond5_at t).mpr (by omega)
      rw [dif_neg h4, dif_pos h5, if_neg (by omega)]
      exact (src1_at t h3 h5 _ r k _ he).trans (slab_at _ _ r k)
  | succ j ih =>
    intro hj
    have hN : 16 * g + (j + 1) < grid0.N := by rw [N_0]; omega
    exact (congrFun (X_keeps m c ⟨16 * g + (j + 1), hN⟩ (by show (16 * g + (j + 1)) % 16 ≠ 0; omega)) (ix2 r k)).trans (ih (by omega))

/-- The block of the first product at a point that does it. -/
theorem block0_at (c : Dev nD) (u q : ℕ) (hu : u < 16) (hq : q < 4) (t : Fin grid0.N) (ht : t.val = 8 * u + q) (h6 : k0_cond6 (grid0.coords t) = 1#1)
    (r : Fin 384) (f : Fin 2048) :
    ∑ k : Fin 512, xCols (grid0.coords t) h6 (X m c (t.val + 1)) (ix2 r k) * iblk m c 0 t (ix3 0 k f)
      = ∑ k : Fin 512, tok m c (u / 8) (u / 2) r (512 * q + k.val) * up m c (u / 2) (512 * q + k.val) (2048 * (u % 2) + f.val) := by
  refine Finset.sum_congr rfl fun k _ => ?_
  have hk := k.isLt
  have hf := f.isLt
  have hx : xCols (grid0.coords t) h6 (X m c (t.val + 1)) (ix2 r k) = tok m c (u / 8) (u / 2) r (512 * q + k.val) := by
    rw [xCols_at t h6 _ r k ⟨512 * q + k.val, by omega⟩ (by show 512 * q + k.val = _; omega),
      show t.val + 1 = 16 * (u / 2) + (8 * (u % 2) + q) + 1 from by omega, X_at m c (u / 2) (by omega) r _ _ (by omega)]
    rw [Nat.div_div_eq_div_mul]
  have hw : iblk m c 0 t (ix3 0 k f) = up m c (u / 2) (512 * q + k.val) (2048 * (u % 2) + f.val) :=
    w0_at m c t (by omega) k f _ _ _ (by show u / 2 % 4 = _; omega) (by show (512 * q + k.val) % 2048 = _; omega) (by show (2048 * (u % 2) + f.val) % 4096 = _; omega)
  rw [hx, hw]

/-- The hidden block while the first product's four blocks add up. -/
theorem H_at (c : Dev nD) (u : ℕ) (hu : u < 16) (r : Fin 384) (f : Fin 2048) :
    ∀ q < 4, H m c (8 * u + q + 1) (ix2 r f)
      = ∑ k ∈ Finset.range (512 * (q + 1)), tok m c (u / 8) (u / 2) r k * up m c (u / 2) k (2048 * (u % 2) + f.val) := by
  intro q
  induction q with
  | zero =>
    intro _
    have hN : 8 * u + 0 < grid0.N := by rw [N_0]; omega
    let t : Fin grid0.N := ⟨8 * u + 0, hN⟩
    have ht : t.val = 8 * u + 0 := rfl
    have h6 : k0_cond6 (grid0.coords t) = 1#1 := (cond6_at t).mpr (by omega)
    rw [show 8 * u + 0 + 1 = t.val + 1 from rfl, H_next]
    unfold hStep
    rw [dif_pos h6, if_pos ((c7_at t).mpr (by omega)), pay2_at, block0_at m c u 0 hu (by omega) t ht h6 r f, sum_more _ 0 _ rfl, Finset.sum_range_zero, zero_add]
  | succ q ih =>
    intro hq
    have hN : 8 * u + (q + 1) < grid0.N := by rw [N_0]; omega
    let t : Fin grid0.N := ⟨8 * u + (q + 1), hN⟩
    have ht : t.val = 8 * u + (q + 1) := rfl
    have h6 : k0_cond6 (grid0.coords t) = 1#1 := (cond6_at t).mpr (by omega)
    rw [show 8 * u + (q + 1) + 1 = t.val + 1 from rfl, H_next]
    unfold hStep
    rw [dif_pos h6, if_neg (fun h => absurd ((c7_at t).mp h) (by omega)), pay3_at, block0_at m c u (q + 1) hu hq t ht h6 r f,
      show t.val = 8 * u + q + 1 from by omega, ih (by omega), sum_more _ (512 * (q + 1)) (512 * (q + 1 + 1)) (by omega)]

/-- From its fourth block on a half of the hidden columns is complete. -/
theorem H_full (c : Dev nD) (u : ℕ) (hu : u < 16) (r : Fin 384) (f : Fin 2048) :
    ∀ q < 5, H m c (8 * u + 4 + q) (ix2 r f) = hid m c (u / 8) (u / 2) r (2048 * (u % 2) + f.val) := by
  intro q
  induction q with
  | zero => intro _; exact H_at m c u hu r f 3 (by omega)
  | succ q ih =>
    intro hq
    have hN : 8 * u + 4 + q < grid0.N := by rw [N_0]; omega
    exact (congrFun (H_keeps m c ⟨8 * u + 4 + q, hN⟩ (by show 4 ≤ (8 * u + 4 + q) % 8; omega)) (ix2 r f)).trans (ih (by omega))

/-- The block of the second product at a point that does it. -/
theorem block1_at (c : Dev nD) (u q : ℕ) (hu : u < 16) (hq : q < 4) (t : Fin grid0.N) (ht : t.val = 8 * u + 4 + q) (h9 : k0_cond9 (grid0.coords t) = 1#1)
    (r : Fin 384) (d : Fin 2048) :
    ∑ k : Fin 512, max (hCols (grid0.coords t) h9 (H m c (t.val + 1)) (ix2 r k)) 0 * iblk m c 1 t (ix3 0 k d)
      = ∑ k : Fin 512, max (hid m c (u / 8) (u / 2) r (2048 * (u % 2) + 512 * q + k.val)) 0 * down m c (u / 2) (2048 * (u % 2) + 512 * q + k.val) d := by
  refine Finset.sum_congr rfl fun k _ => ?_
  have hk := k.isLt
  have hx : hCols (grid0.coords t) h9 (H m c (t.val + 1)) (ix2 r k) = hid m c (u / 8) (u / 2) r (2048 * (u % 2) + 512 * q + k.val) := by
    rw [hCols_at t h9 _ r k ⟨512 * q + k.val, by omega⟩ (by omega) (by show 512 * q + k.val = _; omega),
      show t.val + 1 = 8 * u + 4 + (q + 1) from by omega, H_full m c u hu r _ _ (by omega), Nat.add_assoc]
  have hw : iblk m c 1 t (ix3 0 k d) = down m c (u / 2) (2048 * (u % 2) + 512 * q + k.val) d :=
    w1_at m c t (by omega) k d _ _ (by show u / 2 % 4 = _; omega) (by show (2048 * (u % 2) + 512 * q + k.val) % 4096 = _; omega)
  rw [hx, hw]

/-- The output block while the points of half `u % 2` add to it. -/
theorem O_adds (c : Dev nD) (u : ℕ) (hu : u < 16) (r : Fin 384) (d : Fin 2048)
    (h : u % 2 = 1 → O m c (8 * u) (ix4 0 0 r d) = ∑ f ∈ Finset.range 2048, max (hid m c (u / 8) (u / 2) r f) 0 * down m c (u / 2) f d) :
    ∀ q < 4, O m c (8 * u + 4 + q + 1) (ix4 0 0 r d)
      = ∑ f ∈ Finset.range (2048 * (u % 2) + 512 * (q + 1)), max (hid m c (u / 8) (u / 2) r f) 0 * down m c (u / 2) f d := by
  have hkeep : ∀ q < 5, O m c (8 * u + q) = O m c (8 * u) := by
    intro q
    induction q with
    | zero => intro _; rfl
    | succ q ih =>
      intro hq
      have hN : 8 * u + q < grid0.N := by rw [N_0]; omega
      exact (O_keeps m c ⟨8 * u + q, hN⟩ (by show (8 * u + q) % 8 < 4; omega)).trans (ih (by omega))
  intro q
  induction q with
  | zero =>
    intro _
    have hN : 8 * u + 4 + 0 < grid0.N := by rw [N_0]; omega
    let t : Fin grid0.N := ⟨8 * u + 4 + 0, hN⟩
    have ht : t.val = 8 * u + 4 + 0 := rfl
    have h9 : k0_cond9 (grid0.coords t) = 1#1 := (cond9_at t).mpr (by omega)
    rw [show 8 * u + 4 + 0 + 1 = t.val + 1 from rfl, O_next]
    unfold oStep
    rw [dif_pos h9, sum_more _ (2048 * (u % 2) + 512 * 0) _ (by omega)]
    by_cases hu2 : u % 2 = 1
    · rw [if_neg (fun h => absurd ((cond10_at t).mp h) (by omega)), pay6_at, block1_at m c u 0 hu (by omega) t ht h9 r d,
        show t.val = 8 * u + 4 from rfl, hkeep 4 (by omega), h hu2, show 2048 * (u % 2) + 512 * 0 = 2048 from by omega]
    · rw [if_pos ((cond10_at t).mpr (by omega)), pay5_at, block1_at m c u 0 hu (by omega) t ht h9 r d,
        show Finset.range (2048 * (u % 2) + 512 * 0) = Finset.range 0 from congrArg _ (by omega), Finset.sum_range_zero, zero_add]
  | succ q ih =>
    intro hq
    have hN : 8 * u + 4 + (q + 1) < grid0.N := by rw [N_0]; omega
    let t : Fin grid0.N := ⟨8 * u + 4 + (q + 1), hN⟩
    have ht : t.val = 8 * u + 4 + (q + 1) := rfl
    have h9 : k0_cond9 (grid0.coords t) = 1#1 := (cond9_at t).mpr (by omega)
    rw [show 8 * u + 4 + (q + 1) + 1 = t.val + 1 from rfl, O_next]
    unfold oStep
    rw [dif_pos h9, sum_more _ (2048 * (u % 2) + 512 * (q + 1)) _ (by omega), if_neg (fun h => absurd ((cond10_at t).mp h) (by omega)), pay6_at,
      block1_at m c u (q + 1) hu hq t ht h9 r d, show t.val = 8 * u + 4 + q + 1 from by omega, ih (by omega)]

/-- The output block of slab `g / 4` and expert `g % 4` once its points are through. -/
theorem O_full (c : Dev nD) (g : ℕ) (hg : g < 8) (r : Fin 384) (d : Fin 2048) :
    O m c (16 * g + 16) (ix4 0 0 r d) = res m c (g / 4) g r d := by
  have h0 := O_adds m c (2 * g) (by omega) r d (fun h => absurd h (by omega)) 3 (by omega)
  have e1 : (2 * g) % 2 = 0 := by omega
  have e2 : (2 * g) / 8 = g / 4 := by omega
  have e3 : (2 * g) / 2 = g := by omega
  rw [e1, e2, e3] at h0
  have h1 := O_adds m c (2 * g + 1) (by omega) r d (fun _ => by
    rw [show 8 * (2 * g + 1) = 8 * (2 * g) + 4 + 3 + 1 from by omega, h0, show (2 * g + 1) / 8 = g / 4 from by omega, show (2 * g + 1) / 2 = g from by omega]) 3 (by omega)
  rw [show 8 * (2 * g + 1) + 4 + 3 + 1 = 16 * g + 16 from by omega, show (2 * g + 1) % 2 = 1 from by omega, show (2 * g + 1) / 8 = g / 4 from by omega,
    show (2 * g + 1) / 2 = g from by omega] at h1
  exact h1

/-! ## The result array -/

/-- An expert's number counts modulo 4. -/
theorem res_mod (c : Dev nD) (s e : ℕ) (r : Fin 384) (d : Fin 2048) : res m c s (e % 4) r d = res m c s e r d := by
  have h : Fin.ofNat 4 (e % 4) = Fin.ofNat 4 e := Fin.ext (Nat.mod_mod e 4)
  unfold res hid tok up down
  rw [h]

/-- What the call leaves in its result: each block the experts' two products. -/
def result (c : Dev nD) : S2x4x384x2048.Idx → EReal := fun i => res m c (i 0).val (i 1).val (i 2) (i 3)

/-- The array after the run is `result`. -/
theorem result_eq (c : Dev nD) : (dats m 0 c).arrAt 2 cfg0.N = result m c := by
  refine (dats m 0 c).arrAt_eq_of_covers 2 _ (by decide +kernel) fun t hf y => ?_
  have e2 := index2_at t
  have ht : t.val < 128 := lt_of_lt_of_eq t.isLt N_0
  have hf' : t.val % 16 = 15 := by rw [flush_at t] at hf; exact of_decide_eq_true hf
  change S1x1x384x2048.Idx at y
  obtain ⟨a, b, r, d, rfl⟩ : ∃ (a b : Fin 1) (r : Fin 384) (d : Fin 2048), y = ix4 a b r d := ⟨y 0, y 1, y 2, y 3, eq_ix4 y⟩
  have ha : a = 0 := Subsingleton.elim _ _
  have hb : b = 0 := Subsingleton.elim _ _
  subst ha hb
  blk_simp [e2]
  show O m c (t.val + 1) (ix4 0 0 r d) = res m c ((win0_2.blk t).view.emb (ix4 0 0 r d) 0).val ((win0_2.blk t).view.emb (ix4 0 0 r d) 1).val
    ((win0_2.blk t).view.emb (ix4 0 0 r d) 2) ((win0_2.blk t).view.emb (ix4 0 0 r d) 3)
  have h0 : ((win0_2.blk t).view.emb (ix4 0 0 r d) 0).val = t.val / 16 / 4 := by blk_simp [e2]; omega
  have h1 : ((win0_2.blk t).view.emb (ix4 0 0 r d) 1).val = t.val / 16 % 4 := by blk_simp [e2]; rfl
  have h2 : ((win0_2.blk t).view.emb (ix4 0 0 r d) 2 : Fin 384) = r := Fin.ext (by blk_simp [e2])
  have h3 : ((win0_2.blk t).view.emb (ix4 0 0 r d) 3 : Fin 2048) = d := Fin.ext (by blk_simp [e2])
  rw [h0, h1]
  refine Eq.trans ?_ (congrArg₂ (res m c (t.val / 16 / 4) (t.val / 16 % 4)) h2 h3).symm
  rw [show t.val + 1 = 16 * (t.val / 16) + 16 from by omega, O_full m c (t.val / 16) (by omega), res_mod]

end Cert.FfnProof
end
-- ==== Proof.FfnRef.lean ====
/-
# The fused feed-forward call: the reference at an index

The reference joins each device's own first slab with its partner's second and takes both products of every expert whole.
-/
module

public import proofs.«01_k».proof.Proof.Gen.FfnRefIdeal.Read
public import proofs.«01_k».proof.Proof.Gen.FfnRefIdeal.Run
public import Idealize.ShloMosaic.Lib.Pointwise

@[expose] public section

set_option maxRecDepth 16384

noncomputable section

namespace Cert.FfnProof.Ref

open Cert.FfnRefIdeal Cert.FfnRefIdeal.Gen Cert.FfnRefIdeal.Read
open Idealize.ShloMosaic
open scoped BigOperators

variable (x0 : (⟨S16x4x384x2048, .bf16⟩ : BufTy).Contents (Elt Ideal)) (x1 : (⟨S8x2048x4096, .bf16⟩ : BufTy).Contents (Elt Ideal))
  (x2 : (⟨S8x4096x2048, .bf16⟩ : BufTy).Contents (Elt Ideal))

/-- The token blocks the reference works on: slab 0 as it lies in the array, slab 1 the partner's. -/
theorem tokens_at (g : Fin 4) (z s : Fin 2) (e : Fin 4) (r : Fin 384) (k : Fin 2048) :
    val_main_v9 (F := Ideal) x0 (ix6 g z s e r k)
      = if s.val = 0 then x0 (ix4 ⟨g.val * 4 + z.val * 2, by omega⟩ e r k)
        else x0 (ix4 ⟨g.val * 4 + (1 - z.val) * 2 + 1, by omega⟩ e r k) := by
  pointwise [val_main_v9, val_main_v8, val_main_v7, val_main_v6, val_main_v5, val_main_v4, val_main_v3, val_main_v2, val_main_v1, val_main_v0]
  by_cases hs : s.val = 0
  · rw [dif_pos (by omega), if_pos hs]
  · rw [dif_neg (by omega), if_neg hs]
    have hz : (if (1 : Fin 6) ∈ [(1 : Fin 6)] then z.rev else z) = z.rev := if_pos (by decide)
    have hzv : z.rev.val = 1 - z.val := by rw [Fin.val_rev]; omega
    refine congrArg x0 (funext fun a => Fin.ext ?_)
    match a with
    | ⟨0, _⟩ =>
      show g.val * 4 + z.rev.val * 2 + 1 = _
      rw [hzv]; rfl
    | ⟨1, _⟩ => rfl
    | ⟨2, _⟩ => rfl
    | ⟨3, _⟩ => rfl

/-- The reference's result at an index: row `b = 4g + 2z + s` of the array holds slab `s`'s tokens through the two
    products of expert `4z + e`. -/
theorem ref_at (b : Fin 16) (e : Fin 4) (r : Fin 384) (d : Fin 2048) :
    val_main_v21 (F := Ideal) x0 x1 x2 (ix4 b e r d)
      = ∑ f : Fin 4096, x2 (ix3 ⟨b.val / 2 % 2 * 4 + e.val, by omega⟩ f d)
          * max (∑ k : Fin 2048, x1 (ix3 ⟨b.val / 2 % 2 * 4 + e.val, by omega⟩ k f)
              * (if b.val % 2 = 0 then x0 (ix4 b e r k) else x0 (ix4 ⟨b.val / 4 * 4 + (1 - b.val / 2 % 2) * 2 + 1, by omega⟩ e r k))) 0 := by
  pointwise [val_main_v21, val_main_v20, val_main_v19, val_main_v18, val_main_v17, val_main_v16, val_main_v15, val_main_v14, val_main_v13, val_main_v12, val_main_v11, val_main_v10, val_main_cst]
  refine Finset.sum_congr rfl fun f _ => congrArg (_ * max · 0) (Finset.sum_congr rfl fun k _ => congrArg (_ * ·) ?_)
  rw [tokens_at]
  by_cases hs : b.val % 2 = 0
  · rw [if_pos hs, if_pos hs]
    exact congrArg (fun b' => x0 (ix4 b' e r k)) (Fin.ext (by show b.val / 4 * 4 + b.val / 2 % 2 * 2 = b.val; omega))
  · rw [if_neg hs, if_neg hs]

end Cert.FfnProof.Ref
end
-- ==== Proof.FfnMatch.lean ====
/-
# The fused feed-forward call: the two results agree

The arrays of the several devices cut out of whole ones, the call's result on a device is that device's block of the
reference's result over the whole arrays.
-/
module

public import proofs.«01_k».proof.Proof.FfnValue
public import proofs.«01_k».proof.Proof.FfnRef
public import Idealize.ShloMosaic.Lib.Layout

@[expose] public section

set_option maxRecDepth 16384

noncomputable section

namespace Cert.FfnProof

open Cert.FfnIdeal Cert.FfnIdeal.Gen
open Idealize.ShloMosaic Idealize.ShloMosaic.TcCoe
open scoped BigOperators

variable (m : (ℓ : Loc nD τ sig) → Buf (Elt Ideal) ℓ)
variable (x0 : (⟨4, ![16, 4, 384, 2048]⟩ : Shape).Idx → EReal) (x1 : (⟨3, ![8, 2048, 4096]⟩ : Shape).Idx → EReal) (x2 : (⟨3, ![8, 4096, 2048]⟩ : Shape).Idx → EReal)

/-- The partner of device `c` is the other one of its pair. -/
theorem flip_val : ∀ c : Dev nD, (flip c).val = 2 * (c.val / 2) + (1 - c.val % 2) := by decide +kernel

/-- Device `c`'s part of an array cut along dimension 0 in eight blocks; -/
abbrev part0 (c : Dev nD) : (⟨4, ![2, 4, 384, 2048]⟩ : Shape).Idx → EReal := Layout.block ⟨4, ![2, 4, 384, 2048]⟩ ⟨4, ![16, 4, 384, 2048]⟩ 0 8 c x0
/-- its part of the first weights; -/
abbrev part1 (c : Dev nD) : (⟨3, ![4, 2048, 4096]⟩ : Shape).Idx → EReal :=
  Layout.blockN ⟨3, ![4, 2048, 4096]⟩ ⟨3, ![8, 2048, 4096]⟩ (Layout.meshBlock [2, 2, 2] ![[2], [], []] c) x1
/-- its part of the second weights. -/
abbrev part2 (c : Dev nD) : (⟨3, ![4, 4096, 2048]⟩ : Shape).Idx → EReal :=
  Layout.blockN ⟨3, ![4, 4096, 2048]⟩ ⟨3, ![8, 4096, 2048]⟩ (Layout.meshBlock [2, 2, 2] ![[2], [], []] c) x2

/-- An entry of device `c`'s block of the token array. -/
theorem part0_at (c : Dev nD) (s : Fin 2) (e : Fin 4) (r : Fin 384) (k : Fin 2048) (b : Fin 16) (hb : b.val = 2 * c.val + s.val) :
    part0 x0 c (ix4 s e r k) = x0 (ix4 b e r k) := by
  unfold part0
  rw [Layout.block_apply]
  refine congrArg x0 (funext fun a => Fin.ext ((Layout.Tiles.idx_val _ _ _ a).trans ?_))
  match a with
  | ⟨0, _⟩ => show c.val * 2 + s.val = b.val; omega
  | ⟨1, _⟩ => rfl
  | ⟨2, _⟩ => rfl
  | ⟨3, _⟩ => rfl

/-- The block of the weights that device `c` holds is its last mesh coordinate. -/
theorem mesh_val (c : Dev nD) : Layout.meshLin [2, 2, 2] c.val [2] = c.val % 2 := by revert c; decide +kernel

/-- An entry of device `c`'s block of the first weights; -/
theorem part1_at (c : Dev nD) (e : Fin 4) (k : Fin 2048) (f : Fin 4096) (e' : Fin 8) (he : e'.val = c.val % 2 * 4 + e.val) :
    part1 x1 c (ix3 e k f) = x1 (ix3 e' k f) := by
  unfold part1
  rw [Layout.blockN_apply]
  refine congrArg x1 (funext fun a => Fin.ext ((Layout.TilesN.idx_val _ _ _ a).trans ?_))
  match a with
  | ⟨0, _⟩ => show Layout.meshLin [2, 2, 2] c.val [2] * 4 + e.val = e'.val; rw [mesh_val, he]
  | ⟨1, _⟩ => show 0 * 2048 + k.val = k.val; omega
  | ⟨2, _⟩ => show 0 * 4096 + f.val = f.val; omega
/-- of the second. -/
theorem part2_at (c : Dev nD) (e : Fin 4) (f : Fin 4096) (d : Fin 2048) (e' : Fin 8) (he : e'.val = c.val % 2 * 4 + e.val) :
    part2 x2 c (ix3 e f d) = x2 (ix3 e' f d) := by
  unfold part2
  rw [Layout.blockN_apply]
  refine congrArg x2 (funext fun a => Fin.ext ((Layout.TilesN.idx_val _ _ _ a).trans ?_))
  match a with
  | ⟨0, _⟩ => show Layout.meshLin [2, 2, 2] c.val [2] * 4 + e.val = e'.val; rw [mesh_val, he]
  | ⟨1, _⟩ => show 0 * 4096 + f.val = f.val; omega
  | ⟨2, _⟩ => show 0 * 2048 + d.val = d.val; omega

/-- The call's result on device `c` is block `c` of the reference's. -/
theorem result_block (h0 : ∀ c : Dev nD, m ((c : Thread nD τ).loc main_arg0) = part0 x0 c)
    (h1 : ∀ c : Dev nD, m ((c : Thread nD τ).loc main_arg1) = part1 x1 c)
    (h2 : ∀ c : Dev nD, m ((c : Thread nD τ).loc main_arg2) = part2 x2 c) (c : Dev nD) :
    result m c = part0 (Cert.FfnRefIdeal.Read.val_main_v21 (F := Ideal) x0 x1 x2) c := by
  funext i
  obtain ⟨s, e, r, d, rfl⟩ : ∃ (s : Fin 2) (e : Fin 4) (r : Fin 384) (d : Fin 2048), i = ix4 s e r d := ⟨i 0, i 1, i 2, i 3, eq_ix4 i⟩
  have hc : c.val < 8 := c.isLt
  have he := Fin.ext (a := Fin.ofNat 4 e.val) (b := e) (Nat.mod_eq_of_lt e.isLt)
  rw [part0_at _ c s e r d ⟨2 * c.val + s.val, by omega⟩ rfl, Ref.ref_at]
  show res m c s.val e.val r d = _
  unfold res
  rw [← Fin.sum_univ_eq_sum_range (fun f => max (hid m c s.val e.val r f) 0 * down m c e.val f d) 4096]
  refine Finset.sum_congr rfl fun f _ => ?_
  have hf := Fin.ext (a := Fin.ofNat 4096 f.val) (b := f) (Nat.mod_eq_of_lt f.isLt)
  have hd : down m c e.val f.val d = x2 (ix3 ⟨(2 * c.val + s.val) / 2 % 2 * 4 + e.val, by omega⟩ f d) := by
    unfold down
    rw [he, hf, h2 c]
    exact part2_at x2 c e f d _ (by show (2 * c.val + s.val) / 2 % 2 * 4 + e.val = _; omega)
  have hh : hid m c s.val e.val r f.val = ∑ k : Fin 2048, x1 (ix3 ⟨(2 * c.val + s.val) / 2 % 2 * 4 + e.val, by omega⟩ k f)
      * (if (2 * c.val + s.val) % 2 = 0 then x0 (ix4 ⟨2 * c.val + s.val, by omega⟩ e r k)
        else x0 (ix4 ⟨(2 * c.val + s.val) / 4 * 4 + (1 - (2 * c.val + s.val) / 2 % 2) * 2 + 1, by omega⟩ e r k)) := by
    unfold hid
    rw [← Fin.sum_univ_eq_sum_range (fun k => tok m c s.val e.val r k * up m c e.val k f.val) 2048]
    refine Finset.sum_congr rfl fun k _ => ?_
    have hk := Fin.ext (a := Fin.ofNat 2048 k.val) (b := k) (Nat.mod_eq_of_lt k.isLt)
    rw [mul_comm]
    refine congrArg₂ (· * ·) ?_ ?_
    · unfold up
      rw [he, hk, hf, h1 c]
      exact part1_at x1 c e k f _ (by show (2 * c.val + s.val) / 2 % 2 * 4 + e.val = _; omega)
    · unfold tok own
      rw [he, hk, h0 c, h0 (flip c)]
      by_cases hs : s.val = 0
      · rw [if_pos hs, if_pos (by omega)]
        exact part0_at x0 c 0 e r k _ (by show 2 * c.val + s.val = 2 * c.val + 0; omega)
      · rw [if_neg hs, if_neg (by omega)]
        exact part0_at x0 (flip c) 1 e r k _ (by
          have h := flip_val c
          show (2 * c.val + s.val) / 4 * 4 + (1 - (2 * c.val + s.val) / 2 % 2) * 2 + 1 = 2 * (flip c).val + 1
          omega)
  rw [hd, hh, mul_comm]

end Cert.FfnProof
end
-- ==== Proof.GatherStep.lean ====
/-
# The gathering call: what one grid point does to the carried buffers

The first twelve grid points gather: points `3k, 3k + 1, 3k + 2` add, to a block of 512 sums, the rows that chunk `k`
of the tokens picks out of the three blocks of expert outputs; the last of the three adds the local part, rounds, and
leaves the chunk in rows `512 k …` of `half`. The last eight points put the chunks out.
-/
module

public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import Idealize.ShloMosaic.Lib.Tactic
public import Idealize.ShloMosaic.Lib.Pipeline.Kit
public import Idealize.ShloMosaic.Lib.Pipeline.TableIdle
public import Idealize.ShloMosaic.Lib.VecWindow
public import Idealize.ShloMosaic.Lib.StableHlo.CollectiveRules
public import proofs.«01_k».proof.Proof.Exchange

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources and memrefs -/

/-- The exchange's copy of the rounds algebra. -/
abbrev UB : Type := Exchange.XB nD τ sig
/-- The user algebra: the pipeline's rounds, the exchange's rounds, the counters of local copies. -/
abbrev UU : Type := Exchange.XU nD τ sig

local notation "𝕄" => MT nD τ sig Unit (Elt F) ℕ UU ℕ

abbrev rM : Memref sig .tc .hbm S2048x2048 .bf16 := Memref.whole main_v1_1
abbrev hM : Memref sig .tc .vmem S2048x2048 .bf16 := Memref.whole cc0_scratch0
abbrev aM : Memref sig .tc .vmem S512x2048 .f32 := Memref.whole cc0_scratch1
abbrev bM : Memref sig .tc .vmem S512x2048 .bf16 := Memref.whole cc0_scratch2

/-- A memref's whole buffer, held at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## The four chunks -/

/-- Where chunk `k` starts. -/
def cOff (k : Fin 4) : Fin 2 → ℕ := ![512 * k.val, 0]
theorem cInb (k : Fin 4) : ∀ a, cOff k a + S512x2048.size a ≤ S2048x2048.size a := by revert k; decide
/-- Chunk `k` as a rectangle of 512 rows; -/
abbrev cRect (k : Fin 4) : Rect S2048x2048 := Rect.unit (s := S2048x2048) (cOff k) S512x2048.size (cInb k)
/-- of `half`; -/
abbrev hC (k : Fin 4) : Memref sig .tc .vmem S512x2048 .bf16 := hM.slice (cRect k) (fun _ => rfl)
/-- of the landing buffer. -/
abbrev rC (k : Fin 4) : Memref sig .tc .hbm S512x2048 .bf16 := rM.slice (cRect k) (fun _ => rfl)

theorem cRect_row (k : Fin 4) (j : (cRect k).shape.Idx) : (((cRect k).emb j) 0).val = 512 * k.val + (j 0).val :=
  show 512 * k.val + 1 * (j 0).val = _ by rw [Nat.one_mul]
theorem cRect_col (k : Fin 4) (j : (cRect k).shape.Idx) : (((cRect k).emb j) 1).val = (j 1).val :=
  show 0 + 1 * (j 1).val = _ by omega

theorem cRect_disjoint (k k' : Fin 4) (h : k ≠ k') : Disjoint (cRect k).set (cRect k').set := by
  rw [Finset.disjoint_left]
  intro x hx hx'
  rw [← Rect.map_emb_univ, Finset.mem_map] at hx hx'
  obtain ⟨j, -, rfl⟩ := hx
  obtain ⟨j', -, e⟩ := hx'
  have e0 := congrArg (fun y : S2048x2048.Idx => (y 0).val) e
  dsimp only at e0
  rw [cRect_row, cRect_row] at e0
  have hj : (j 0).val < 512 := (j 0).isLt
  have hj' : (j' 0).val < 512 := (j' 0).isLt
  exact h (Fin.ext (by omega))

/-- The chunk a row lies in, and the row within it. -/
def rowChunk (x : S2048x2048.Idx) : Fin 4 := ⟨(x 0).val / 512, by have : (x 0).val < 2048 := (x 0).isLt; omega⟩
def rowIn (x : S2048x2048.Idx) : S512x2048.Idx := Fin.cons ⟨(x 0).val % 512, Nat.mod_lt _ (by decide)⟩ (Fin.cons ⟨(x 1).val, (x 1).isLt⟩ (fun a => a.elim0))

theorem emb_rowIn (x : S2048x2048.Idx) : (cRect (rowChunk x)).emb (rowIn x) = x := by
  funext a
  apply Fin.ext
  fin_cases a
  · refine (cRect_row _ _).trans ?_
    show 512 * ((x 0).val / 512) + (x 0).val % 512 = (x 0).val
    omega
  · exact (cRect_col _ _).trans rfl

theorem cRect_cover : (Finset.univ : Finset (Fin 4)).biUnion (fun k => (cRect k).set) = Finset.univ := by
  rw [Finset.eq_univ_iff_forall]
  intro x
  rw [Finset.mem_biUnion]
  refine ⟨rowChunk x, Finset.mem_univ _, ?_⟩
  rw [← Rect.map_emb_univ, Finset.mem_map]
  exact ⟨rowIn x, Finset.mem_univ _, emb_rowIn x⟩

/-- Four chunks put together. -/
def glue {e : EltTy} (V : Fin 4 → Vec F S512x2048 e) : Vec F S2048x2048 e := fun x => V (rowChunk x) (rowIn x)
omit [FloatOps F] in
theorem glue_emb {e : EltTy} (V : Fin 4 → Vec F S512x2048 e) (k : Fin 4) : (fun j => glue V ((cRect k).emb j)) = V k := by
  funext j
  unfold glue
  have hj : (j 0).val < 512 := (j 0).isLt
  have hk : rowChunk ((cRect k).emb j) = k := Fin.ext (by
    show (((cRect k).emb j) 0).val / 512 = k.val
    rw [cRect_row]; omega)
  have hi : rowIn ((cRect k).emb j) = j := by
    funext a
    apply Fin.ext
    fin_cases a
    · show (((cRect k).emb j) 0).val % 512 = (j 0).val
      rw [cRect_row]; omega
    · exact cRect_col k j
  rw [hk, hi]

section Chunks
variable (c : Dev nD) {sp : Space} (M : Memref sig .tc sp S2048x2048 .bf16)

omit [FloatOps F] in
theorem some_chunk (k : Fin 4) (v : Vec F S512x2048 .bf16) :
    (owns (c : Thread nD τ) (M.slice (cRect k) (fun _ => rfl)) fullShare v : sProp 𝕄) ⊢ iprop(∃ v, owns (c : Thread nD τ) (M.slice (cRect k) (fun _ => rfl)) fullShare v) := by
  iintro H; iexists v; iexact H
omit [FloatOps F] in
/-- A whole buffer is its chunks; -/
theorem split_chunks (f : Vec F S2048x2048 .bf16) :
    (owns (c : Thread nD τ) M fullShare f : sProp 𝕄) ⊢ bigSep Finset.univ fun k : Fin 4 => iprop(∃ v, owns (c : Thread nD τ) (M.slice (cRect k) (fun _ => rfl)) fullShare v) :=
  (owns_rects (c : Thread nD τ) M fullShare cRect (fun _ _ => rfl) cRect_disjoint cRect_cover f).trans
    (bigSep_mono fun k _ => some_chunk c M k (fun j => f ((cRect k).emb j)))
/-- four chunks are the whole buffer. -/
theorem join_chunks (V : Fin 4 → Vec F S512x2048 .bf16) :
    (bigSep Finset.univ fun k : Fin 4 => owns (c : Thread nD τ) (M.slice (cRect k) (fun _ => rfl)) fullShare (V k)) ⊢ (owns (c : Thread nD τ) M fullShare (glue V) : sProp 𝕄) :=
  (Entails.of_eq (bigSep_congr fun k _ => by rw [← glue_emb V k])).trans
    (owns_of_rects (c : Thread nD τ) M fullShare cRect (fun _ _ => rfl) cRect_disjoint cRect_cover (glue V))
end Chunks

/-! ## The point's conditions that the body states inline -/

/-- `st % 3 = 0`. -/
def c3 (i : grid0.Coords) : BitVec 1 :=
  Scalar.cmpi .ne (Scalar.extui (Scalar.cmpi .eq (Scalar.remsi (BitVec.ofNat 32 (i 0).val) 3#32) 0#32)) 0#32
/-- The last point. -/
def c8 (i : grid0.Coords) : BitVec 1 :=
  Scalar.cmpi .ne (Scalar.extui (Scalar.cmpi .eq (BitVec.ofNat 32 (i 0).val) 19#32)) 0#32

/-! ## The steps -/

/-- The 512 row numbers a gathering point reads. -/
def rowsAt (i : grid0.Coords) (h2 : k0_cond2 i = 1#1) (r : Vec F S1x2048 .i32) : Vec F S1x512 .i32 :=
  fun y => r ((Rect.unit (s := S1x2048) (k0_off1 i) S1x512.size (k0_off1_inb i h2)).emb y)

/-- The sums after point `i`: one block's rows added (to zero at `st % 3 = 0`), as found from point 12 on. -/
def aStep (i : grid0.Coords) (r : Vec F S1x2048 .i32) (x : Vec F S512x2048 .bf16) (a : Vec F S512x2048 .f32) : Vec F S512x2048 .f32 :=
  if h2 : k0_cond2 i = 1#1 then
    k0_pay1 (k0_pay6 (BitVec.ofNat 32 (i 0).val) (rowsAt i h2 r) (if c3 i = 1#1 then k0_pay5 else a) x)
  else a

/-! ## Loads and stores of whole buffers -/

theorem z2 : (![0, 0] : Fin 2 → Nat) = fun _ => 0 := funext fun a => by fin_cases a <;> rfl

omit [FloatOps F] in
/-- One store of the whole block of sums leaves the stored value. -/
theorem a_stored (f v : (cc0_scratch1 : Ref sig .tc).ty.Contents (Elt F)) (L : List (View.Piece (Elt F) S512x2048 .f32)) :
    aM.view.writes (Elt F) f ((⟨Rect.unit (s := S512x2048) ![0, 0] S512x2048.size inb_S512x2048_S512x2048_0_0, v⟩ : View.Piece (Elt F) S512x2048 .f32) :: L) = v := by
  rw [View.writes_cons]
  exact Memref.write_access_unit_zero_univ (Elt F) cc0_scratch1 z2 inb_S512x2048_S512x2048_0_0 _ v
omit [FloatOps F] in
/-- One load of the whole block reads its contents. -/
theorem a_loaded (f : Vec F S512x2048 .f32) :
    aM.view.readAt (Elt F) (Rect.unit (s := S512x2048) ![0, 0] S512x2048.size inb_S512x2048_S512x2048_0_0).toLoadRect f = f :=
  Memref.readAt_unit_zero (Elt F) cc0_scratch1 z2 _ f
omit [FloatOps F] in
/-- One load of the whole copied chunk reads its contents. -/
theorem b_loaded (f : Vec F S512x2048 .bf16) :
    bM.view.readAt (Elt F) (Rect.unit (s := S512x2048) ![0, 0] S512x2048.size inb_S512x2048_S512x2048_0_0).toLoadRect f = f :=
  Memref.readAt_unit_zero (Elt F) cc0_scratch2 z2 _ f
omit [FloatOps F] in
/-- A landed copy of a whole chunk leaves what was sent. -/
theorem b_landed (f v : Vec F S512x2048 .bf16) : bM.view.write (Elt F) f v Finset.univ = v := View.write_whole_univ _ _ _
omit [FloatOps F] in
/-- One store of a whole output block reads back as the stored value. -/
theorem o_stored (M : Memref sig .tc .vmem S512x2048 .f32) (f : M.view.ty.Contents (Elt F)) (v : Vec F S512x2048 .f32) :
    M.view.read (Elt F) (M.view.writes (Elt F) f [⟨Rect.unit (s := S512x2048) ![0, 0] S512x2048.size inb_S512x2048_S512x2048_0_0, v⟩]) = v := by
  funext y
  exact View.read_writes_cons_unit_of_mem M.view f inb_S512x2048_S512x2048_0_0 v [] y y z2 (fun a => (Nat.zero_add _).symm)

end Cert.GatherProof
end
-- ==== Proof.GatherProto.lean ====
/-
# The gathering call: the exchange between partners

Devices `c` and `xflip c` differ in the first coordinate of the mesh. Each hands the other, by a signal of its barrier
semaphore, its own landing buffer in four chunks, and waits for the other's signal. As a chunk of `half` is finished it
is sent to the partner's landing buffer; a send semaphore gives the lent share of the chunk back, a receive semaphore
the landing buffer's chunk holding the partner's. What the chunks hold is a parameter here, `hv`.
-/
module

public import proofs.«01_k».proof.Proof.GatherStep

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

/-! ## The partners -/

/-- The device that differs in the first mesh coordinate. -/
def xflip (c : Dev nD) : Dev nD := ⟨(c.val + 4) % 8, Nat.mod_lt _ (by decide)⟩
theorem xflip_xflip (c : Dev nD) : xflip (xflip c) = c := by revert c; decide
def xflips : Dev nD ≃ Dev nD := ⟨xflip, xflip, xflip_xflip, xflip_xflip⟩

theorem xflip_val : ∀ c : Dev nD, (xflip c).val = (2 * ((c.val / 2) % 2) + c.val % 2 + 4) - 4 * (c.val / 4) := by decide
theorem dev1_eq (i : grid0.Coords) (c : Dev nD) (h : k0_cond1 i = 1#1) : (⟨k0_dev1 c, k0_dev1_lt i c h⟩ : Dev nD) = xflip c :=
  Fin.ext ((k0_dev1_eq c).trans (xflip_val c).symm)
theorem dev2_eq (i : grid0.Coords) (c : Dev nD) (h : k0_cond2 i = 1#1) (h' : k0_cond4 i = 1#1) : (⟨k0_dev2 c, k0_dev2_lt i c h h'⟩ : Dev nD) = xflip c :=
  Fin.ext ((k0_dev2_eq c).trans (xflip_val c).symm)

/-! ## The semaphores -/

theorem sInb (k : Fin 4) : ∀ a, (![k.val] : Fin 1 → ℕ) a + S1.size a ≤ S4.size a := by revert k; decide
abbrev barS : Sem sig := (SemArray.scalar (sig.barrier 2 rfl) : Sems sig S_).sem
/-- Chunk `k`'s send semaphore, given where it lies; -/
abbrev sendAt (off : Fin 1 → ℕ) (inb : ∀ a, off a + S1.size a ≤ S4.size a) : DmaSem sig :=
  (((cc0_scratch3 : DmaSems sig S4).slice (Rect.unit (s := S4) off S1.size inb)).squeeze S_ squeezes_S1_S_).sem
/-- its receive semaphore. -/
abbrev recvAt (off : Fin 1 → ℕ) (inb : ∀ a, off a + S1.size a ≤ S4.size a) : DmaSem sig :=
  (((cc0_scratch4 : DmaSems sig S4).slice (Rect.unit (s := S4) off S1.size inb)).squeeze S_ squeezes_S1_S_).sem
abbrev sendS (k : Fin 4) : DmaSem sig := sendAt ![k.val] (sInb k)
abbrev recvS (k : Fin 4) : DmaSem sig := recvAt ![k.val] (sInb k)
abbrev copyS : DmaSem sig := (cc0_scratch5 : DmaSems sig S_).sem

abbrev barCell (c : Dev nD) : GSem nD τ sig := ((c : Thread nD τ), .reg barS)
abbrev sendCell (c : Dev nD) (k : Fin 4) : GSem nD τ sig := ((c : Thread nD τ), .dma (sendS k))
abbrev recvCell (c : Dev nD) (k : Fin 4) : GSem nD τ sig := ((c : Thread nD τ), .dma (recvS k))
abbrev copyCell (c : Dev nD) : GSem nD τ sig := ((c : Thread nD τ), .dma copyS)

/-- The units of one chunk. -/
abbrev N : ℕ := (rC 0).view.dmaCredit
theorem N_pos : 0 < N := View.dmaCredit_pos _ (by decide)

/-- The exchange's cells: the barrier, four sends (`false`), four receives (`true`). -/
abbrev I : Type := Option (Bool × Fin 4)

def semOf : I → SemLoc sig
  | none => .reg barS
  | some (false, k) => .dma (sendS k)
  | some (true, k) => .dma (recvS k)
theorem semOf_inj : ∀ a b : I, semOf a = semOf b → a = b := by decide

def plan : Plan nD sig I where
  sem := semOf
  inj := fun a b h => semOf_inj a b h
  amt := fun | none => 1 | some _ => N
  pos := fun k => by
    cases k
    · exact Nat.one_pos
    · exact N_pos
  payer := fun | some (false, _) => Equiv.refl _ | _ => xflips
  level := fun | none => 1 | some (false, _) => 0 | some (true, _) => 2

/-! ## What the cells hand over -/

variable (hv : Dev nD → Fin 4 → Vec F S512x2048 .bf16)

/-- Every chunk of a landing buffer, holding anything. -/
def landing (c : Dev nD) : sProp 𝕄 := bigSep Finset.univ fun k : Fin 4 => iprop(∃ v : Vec F S512x2048 .bf16, owns (c : Thread nD τ) (rC k) fullShare v)

def pay (x : Dev nD × I) : sProp 𝕄 := match x.2 with
  | none => landing (xflip x.1)
  | some (false, k) => owns (x.1 : Thread nD τ) (hC k) fullShare.right (hv x.1 k)
  | some (true, k) => owns (x.1 : Thread nD τ) (rC k) fullShare (hv (xflip x.1) k)

omit [FloatOps F] in
instance pay_storable (x : Dev nD × I) : BI.Storable (upEmb : UEmb _ 𝕄) (pay hv x) := by
  obtain ⟨c, k⟩ := x
  unfold pay landing
  rcases k with _ | ⟨_ | _, k⟩ <;> (dsimp only; infer_instance)

/-- The exchange's schedule. -/
abbrev rd : Rounds.Schedule (GSem nD τ sig) Unit 𝕄 := sched plan (pay hv)

omit [FloatOps F] in
theorem mem_cell (x : Dev nD × I) : () ∈ (rd hv).duties (plan.cell x) 0 := by
  rw [show (rd hv).duties (plan.cell x) 0 = {()} from duties_cell plan (pay hv) x]; exact Finset.mem_singleton_self _

omit [FloatOps F] in
theorem mem_bar (c : Dev nD) : () ∈ (rd hv).duties (barCell c) 0 := mem_cell hv (c, none)
omit [FloatOps F] in
theorem mem_send (c : Dev nD) (k : Fin 4) : () ∈ (rd hv).duties (sendCell c k) 0 := mem_cell hv (c, some (false, k))
omit [FloatOps F] in
theorem mem_recv (c : Dev nD) (k : Fin 4) : () ∈ (rd hv).duties (recvCell c k) 0 := mem_cell hv (c, some (true, k))
omit [FloatOps F] in
theorem rest_bar (c : Dev nD) : bigSep ((rd hv).duties (barCell c) 0 \ ∅) (fun d => (rd hv).payload (barCell c) 0 d) = landing (F := F) (xflip c) :=
  rest_cell plan (pay hv) (c, none)
omit [FloatOps F] in
theorem rest_send (c : Dev nD) (k : Fin 4) : bigSep ((rd hv).duties (sendCell c k) 0 \ ∅) (fun d => (rd hv).payload (sendCell c k) 0 d) = owns (c : Thread nD τ) (hC k) fullShare.right (hv c k) :=
  rest_cell plan (pay hv) (c, some (false, k))
omit [FloatOps F] in
theorem rest_recv (c : Dev nD) (k : Fin 4) : bigSep ((rd hv).duties (recvCell c k) 0 \ ∅) (fun d => (rd hv).payload (recvCell c k) 0 d) = owns (c : Thread nD τ) (rC k) fullShare (hv (xflip c) k) :=
  rest_cell plan (pay hv) (c, some (true, k))
omit [FloatOps F] in
theorem pay_bar (c : Dev nD) : (rd hv).payload (barCell c) 0 () = landing (F := F) (xflip c) := payload_cell plan (pay hv) (c, none) ()
omit [FloatOps F] in
theorem pay_send (c : Dev nD) (k : Fin 4) : (rd hv).payload (sendCell c k) 0 () = owns (c : Thread nD τ) (hC k) fullShare.right (hv c k) := payload_cell plan (pay hv) (c, some (false, k)) ()
omit [FloatOps F] in
theorem pay_recv (c : Dev nD) (k : Fin 4) : (rd hv).payload (recvCell c k) 0 () = owns (c : Thread nD τ) (rC k) fullShare (hv (xflip c) k) := payload_cell plan (pay hv) (c, some (true, k)) ()
omit [FloatOps F] in
theorem amt_bar (c : Dev nD) : (rd hv).amount (barCell c) 0 () = 1 := amount_cell plan (pay hv) (c, none) ()
omit [FloatOps F] in
theorem amt_send (c : Dev nD) (k : Fin 4) : (rd hv).amount (sendCell c k) 0 () = N := amount_cell plan (pay hv) (c, some (false, k)) ()
omit [FloatOps F] in
theorem amt_recv (c : Dev nD) (k : Fin 4) : (rd hv).amount (recvCell c k) 0 () = N := amount_cell plan (pay hv) (c, some (true, k)) ()
omit [FloatOps F] in
theorem exp_bar (c : Dev nD) : (rd hv).expect (barCell c) 0 = 1 := expect_cell plan (pay hv) (c, none)
omit [FloatOps F] in
theorem exp_send (c : Dev nD) (k : Fin 4) : (rd hv).expect (sendCell c k) 0 = N := expect_cell plan (pay hv) (c, some (false, k))
omit [FloatOps F] in
theorem exp_recv (c : Dev nD) (k : Fin 4) : (rd hv).expect (recvCell c k) 0 = N := expect_cell plan (pay hv) (c, some (true, k))

/-! ## What a device owes -/

/-- The cells a device still owes before point `n`: at the launch its partner's signal and chunks; then the chunks not
    yet sent. -/
def owing (n : ℕ) : Finset I := Finset.univ.filter fun x : I =>
  (match x with
    | none => decide (n = 0)
    | some (false, _) => false
    | some (true, k) => decide (n ≤ 3 * k.val + 2)) = true

theorem owing_zero : owing 0 = insert none (owing 1) := by decide +kernel
theorem none_notMem : (none : I) ∉ owing 1 := by decide +kernel
theorem owing_same : ∀ n : Fin 20, n.val ≠ 0 → (n.val % 3 ≠ 2 ∨ 12 ≤ n.val) → owing (n.val + 1) = owing n.val := by decide +kernel
theorem owing_send : ∀ k : Fin 4, owing (3 * k.val + 2) = insert (some (true, k)) (owing (3 * k.val + 3)) := by decide +kernel
theorem recv_notMem : ∀ k : Fin 4, (some (true, k) : I) ∉ owing (3 * k.val + 3) := by decide +kernel
theorem owing_late : ∀ n : Fin 21, 12 ≤ n.val → owing n.val = ∅ := by decide +kernel

/-- What a device owes before point `n`. -/
def Ow (c : Dev nD) (n : ℕ) : CellTallies nD τ sig Unit := owes' plan (owing n) c
theorem Ow_zero (c : Dev nD) : Ow c 0 = Ow c 1 + tallyAt (barCell (xflip c)) () 1 := by
  unfold Ow; rw [owing_zero, Exchange.owes'_insert plan none_notMem]; rfl
theorem Ow_send (c : Dev nD) (k : Fin 4) : Ow c (3 * k.val + 2) = Ow c (3 * k.val + 3) + tallyAt (recvCell (xflip c) k) () N := by
  unfold Ow; rw [owing_send, Exchange.owes'_insert plan (recv_notMem k)]; rfl
theorem Ow_late (c : Dev nD) (n : ℕ) (h : 12 ≤ n) (h' : n ≤ 20) : Ow c n = 0 := by
  unfold Ow; rw [owing_late ⟨n, by omega⟩ h, Exchange.owes'_empty]

omit [FloatOps F] in
/-- A device may wait for its partner's signal while it owes the chunks. -/
theorem mayWait_bar (c : Dev nD) : (levAts L (lv plan) : sProp 𝕄) ⊢ MayWait (c : Thread nD τ) (.reg barS) () (Ow c 1) :=
  mayWait plan c (.reg barS) (owing 1) fun k hk => by
    rw [show lv plan ((c : Thread nD τ), SemLoc.reg barS) () = 1 from Exchange.lv_cell plan (c, none) ()]
    revert k; decide +kernel

/-! ## One chunk loaded, stored, sent, received -/

variable (c : Dev nD)

/-- A load of one chunk of `half`. -/
theorem wp_load_chunk {α : Type} {Q : α → sProp 𝕄} (j : Fin 4) (off : Fin 2 → ℕ) (inb : ∀ a, off a + S512x2048.size a ≤ S2048x2048.size a) (e : off = cOff j)
    {q : PosShare TreeShare} {v : Vec F S512x2048 .bf16} {hl : hM.view.LoadsAt (Rect.unit (s := S2048x2048) off S512x2048.size inb).toLoadRect}
    {k : Vec F S512x2048 .bf16 → Prog (TpuEff nD τ sig (Elt F) Λ₀ .tc) α} :
    (owns (c : Thread nD τ) (hC j) q v : sProp 𝕄)
      ⊢ iprop((owns (c : Thread nD τ) (hC j) q v -∗ wp frame (wpE (defs₀ (F := F)) Variants.none (c : Thread nD τ) none) Set.univ (k v) Q)
          -∗ wp frame (wpE (defs₀ (F := F)) Variants.none (c : Thread nD τ) none) Set.univ (.op (.load hM (Rect.unit (s := S2048x2048) off S512x2048.size inb).toLoadRect hl) k) Q) := by
  subst e
  rw [owns_eq_rep (c : Thread nD τ) (hC j) q v]
  have h := wp_load_rect (defs := defs₀ (F := F)) Variants.none (c : Thread nD τ) none (Γ := .empty) Set.univ (Q := Q) (m := hM) (r := Rect.unit (s := S2048x2048) (cOff j) S512x2048.size inb)
    (hl := hl) (k := k) (q := q) (f := (hC j).view.rep v) (S := (hC j).view.set) subset_rfl
  rw [show (hM.access (Rect.unit (s := S2048x2048) (cOff j) S512x2048.size inb)).read (Elt F) ((hC j).view.rep v) = v from View.read_rep (hC j).view v] at h
  exact h

/-- A store of one chunk of `half`. -/
theorem wp_store_chunk {α : Type} {Q : α → sProp 𝕄} (j : Fin 4) (off : Fin 2 → ℕ) (inb : ∀ a, off a + S512x2048.size a ≤ S2048x2048.size a) (e : off = cOff j)
    {v w : Vec F S512x2048 .bf16} {hx : (hM.access (Rect.unit (s := S2048x2048) off S512x2048.size inb)).Stores Finset.univ} {hm}
    {k : PUnit → Prog (TpuEff nD τ sig (Elt F) Λ₀ .tc) α} :
    (owns (c : Thread nD τ) (hC j) fullShare v : sProp 𝕄)
      ⊢ iprop((owns (c : Thread nD τ) (hC j) fullShare w -∗ wp frame (wpE (defs₀ (F := F)) Variants.none (c : Thread nD τ) none) Set.univ (k ⟨⟩) Q)
          -∗ wp frame (wpE (defs₀ (F := F)) Variants.none (c : Thread nD τ) none) Set.univ (.op (.store hM (Rect.unit (s := S2048x2048) off S512x2048.size inb) w Finset.univ hx hm) k) Q) := by
  subst e
  rw [owns_eq_rep (c : Thread nD τ) (hC j) fullShare v]
  have h := wp_store (defs := defs₀ (F := F)) Variants.none (c : Thread nD τ) none (Γ := .empty) Set.univ (Q := Q) (m := hM) (r := Rect.unit (s := S2048x2048) (cOff j) S512x2048.size inb)
    (w := w) (Mk := Finset.univ) (hx := hx) (hm := hm) (k := k) (f := (hC j).view.rep v) (S := (hC j).view.set) subset_rfl
  have h' := owns_intro (Ix := Unit) (Name := ℕ) (U := UU) (Lvl := ℕ) (c : Thread nD τ) (hC j) fullShare ((hC j).view.write (Elt F) ((hC j).view.rep v) w Finset.univ)
  rw [View.read_write_univ] at h'
  refine h.trans ?_
  iintro H K
  iapply H
  iintro H'
  iapply K
  iapply h'
  iexact H'

/-- The transfer of a chunk to the partner. -/
theorem wp_send_chunk {α : Type} {Q : α → sProp 𝕄} (K : Dev nD × I → ℕ) (n : Dev nD) (hn : n = xflip c) (j : Fin 4)
    (off : Fin 2 → ℕ) (inb : ∀ a, off a + S512x2048.size a ≤ S2048x2048.size a) (e : off = cOff j)
    (soff : Fin 1 → ℕ) (sinb : ∀ a, soff a + S1.size a ≤ S4.size a) (e' : soff = ![j.val])
    {hsc : ((rM.slice (Rect.unit (s := S2048x2048) off S512x2048.size inb) (fun _ => rfl)) : Memref sig (Dev.tc n : Thread nD τ).2.kind .hbm S512x2048 .bf16).view.ref.isScScratch = false}
    {hsrc : (hM.slice (Rect.unit (s := S2048x2048) off S512x2048.size inb) (fun _ => rfl)).view.WordExact}
    {hdst : ((rM.slice (Rect.unit (s := S2048x2048) off S512x2048.size inb) (fun _ => rfl)) : Memref sig .tc .hbm S512x2048 .bf16).view.WordExact}
    {hsem : DmaTarget.Typed .vmem (.dma (recvAt soff sinb)) (.remote (Dev.tc n : Thread nD τ) (rM.slice (Rect.unit (s := S2048x2048) off S512x2048.size inb) (fun _ => rfl)) (.dma (sendAt soff sinb)) hsc)}
    {k : PUnit → Prog (TpuEff nD τ sig (Elt F) Λ₀ .tc) α}
    (v : Vec F S512x2048 .bf16) (W : Waits sig Unit) :
    iprop(records plan (pay hv) K ∗ owns (c : Thread nD τ) (hC j) fullShare.right (hv c j) ∗ owns (xflip c : Thread nD τ) (rC j) fullShare v
        ∗ owes (c : Thread nD τ) (Ow c (3 * j.val + 2)) W ∗ dutyTok ER (sendCell c j) 0 () ∗ dutyTok ER (recvCell (xflip c) j) 0 ())
      ⊢ iprop(((cred (tallyAt (sendCell c j) () N) ∗ owes (c : Thread nD τ) (Ow c (3 * j.val + 3)) W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (hM.slice (Rect.unit (s := S2048x2048) off S512x2048.size inb) (fun _ => rfl))
                (.remote (Dev.tc n : Thread nD τ) (rM.slice (Rect.unit (s := S2048x2048) off S512x2048.size inb) (fun _ => rfl)) (.dma (sendAt soff sinb)) hsc)
                (.dma (recvAt soff sinb)) hsrc hdst hsem) k) Q) := by
  subst hn e e'
  rw [owns_eq_rep (c : Thread nD τ) (hC j) fullShare.right (hv c j), owns_eq_rep (xflip c : Thread nD τ) (rC j) fullShare v]
  have h' := owns_intro (Ix := Unit) (Name := ℕ) (U := UU) (Lvl := ℕ) (xflip c : Thread nD τ) (rC j) fullShare ((rC j).view.write (Elt F) ((rC j).view.rep v) (hv c j) Finset.univ)
  rw [View.read_write_univ] at h'
  iintro ⟨#HR, Hs, Hl, HO, Hts, Htr⟩
  iapply (Rounds.wp_send_pointsTo Variants.none ER (rd hv) (c : Thread nD τ) none (κ₁ := K (c, some (false, j))) (κ₂ := K (xflip c, some (true, j)))
    (c' := (xflip c : Thread nD τ)) (r₁ := 0) (r₂ := 0) (d₁ := ()) (d₂ := ()) (src := hC j) (dst := rC j) (fs := (hC j).view.rep (hv c j)) (fd := (rC j).view.rep v) (mem_send hv c j) (mem_recv hv (xflip c) j)
    () () N rfl (amt_send hv c j) (amt_recv hv (xflip c) j) (Ow c (3 * j.val + 3)) (Ow_send c j) (W := W)
    (by rw [pay_send, owns_eq_rep (c : Thread nD τ) (hC j) fullShare.right (hv c j)])
    (by rw [pay_recv, xflip_xflip, View.read_rep (hC j).view (hv c j)]; exact h')) $$ [Hs Hl HO Hts Htr]
  isplitr; · iapply (inv_at plan (pay hv) K (c, some (false, j))); iexact HR
  isplitr; · iapply (inv_at plan (pay hv) K (xflip c, some (true, j))); iexact HR
  isplitl [Hs]; · iexact Hs
  isplitl [Hl]; · iexact Hl
  isplitl [HO]; · iexact HO
  isplitl [Hts]; · iexact Hts
  isplitr; · iapply (reached_at plan (pay hv) K (c, some (false, j))); iexact HR
  isplitl [Htr]; · iexact Htr
  iapply (reached_at plan (pay hv) K (xflip c, some (true, j))); iexact HR

/-- A wait for a sent chunk: its lent share is back. -/
theorem wp_wait_send {α : Type} {Q : α → sProp 𝕄} (K : Dev nD × I → ℕ) (j : Fin 4)
    (off : Fin 2 → ℕ) (inb : ∀ a, off a + S512x2048.size a ≤ S2048x2048.size a) (e : off = cOff j)
    (soff : Fin 1 → ℕ) (sinb : ∀ a, soff a + S1.size a ≤ S4.size a) (e' : soff = ![j.val])
    {hsrc : ((rM.slice (Rect.unit (s := S2048x2048) off S512x2048.size inb) (fun _ => rfl)) : Memref sig .tc .hbm S512x2048 .bf16).view.WordExact}
    {hdst : (hM.slice (Rect.unit (s := S2048x2048) off S512x2048.size inb) (fun _ => rfl)).view.WordExact}
    {k : PUnit → Prog (TpuEff nD τ sig (Elt F) Λ₀ .tc) α} (W : Waits sig Unit) :
    iprop(records plan (pay hv) K ∗ atPos ER (sendCell c j) 0 ∅ 0 ∗ cred (tallyAt (sendCell c j) () N) ∗ owes (c : Thread nD τ) 0 W)
      ⊢ iprop(((owns (c : Thread nD τ) (hC j) fullShare.right (hv c j) ∗ semVal (sendCell c j) 0 ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 (sendAt soff sinb) (rM.slice (Rect.unit (s := S2048x2048) off S512x2048.size inb) (fun _ => rfl))
                (hM.slice (Rect.unit (s := S2048x2048) off S512x2048.size inb) (fun _ => rfl)) hsrc hdst) k) Q) := by
  subst e e'
  iintro ⟨#HR, Ha, Hc, HO⟩ Hk
  iapply (Rounds.wp_wait_rest_token Variants.none ER (rd hv) (c : Thread nD τ) none (κ := K (c, some (false, j)))
      (wpE_waitDma2_eq Variants.none (c : Thread nD τ) none Set.univ) (Set.mem_univ _) () (O := 0) (W := W) (R := 0) (m := 0) (T := ∅)
      (by rw [Nat.zero_add, exp_send]; rfl)) $$ [Hc HO Ha]
  · isplitr; · iapply (inv_at plan (pay hv) K (c, some (false, j))); iexact HR
    isplitl [Hc]; · iexact Hc
    isplitl [HO]; · iexact HO
    isplitr; · rw [MayWait_zero]; iempintro
    iexact Ha
  iintro ⟨HO, Ha, -, Hpay⟩
  ihave Hs := (Entails.of_eq (rest_send hv c j)) $$ Hpay
  imod (Rounds.cell_close ER (rd hv) (Set.mem_univ (K (c, some (false, j)))) (fun h => h) (R := 0 + 1) (Exchange.duties_later plan (pay hv) (sendCell c j))) $$ [Ha] with Hz
  · isplitr; · iapply (inv_at plan (pay hv) K (c, some (false, j))); iexact HR
    iexact Ha
  iapply Hk
  isplitl [Hs]; · iexact Hs
  isplitl [Hz]; · iexact Hz
  iexists _; iexact HO

/-- A wait for the partner's chunk. -/
theorem wp_wait_recv {α : Type} {Q : α → sProp 𝕄} (K : Dev nD × I → ℕ) (j : Fin 4)
    (off : Fin 2 → ℕ) (inb : ∀ a, off a + S512x2048.size a ≤ S2048x2048.size a) (e : off = cOff j)
    (soff : Fin 1 → ℕ) (sinb : ∀ a, soff a + S1.size a ≤ S4.size a) (e' : soff = ![j.val])
    {hsrc : (hM.slice (Rect.unit (s := S2048x2048) off S512x2048.size inb) (fun _ => rfl)).view.WordExact}
    {hdst : ((rM.slice (Rect.unit (s := S2048x2048) off S512x2048.size inb) (fun _ => rfl)) : Memref sig .tc .hbm S512x2048 .bf16).view.WordExact}
    {k : PUnit → Prog (TpuEff nD τ sig (Elt F) Λ₀ .tc) α} (W : Waits sig Unit) :
    iprop(records plan (pay hv) K ∗ atPos ER (recvCell c j) 0 ∅ 0 ∗ cred (tallyAt (recvCell c j) () N) ∗ owes (c : Thread nD τ) 0 W)
      ⊢ iprop(((owns (c : Thread nD τ) (rC j) fullShare (hv (xflip c) j) ∗ semVal (recvCell c j) 0 ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 (recvAt soff sinb) (hM.slice (Rect.unit (s := S2048x2048) off S512x2048.size inb) (fun _ => rfl))
                (rM.slice (Rect.unit (s := S2048x2048) off S512x2048.size inb) (fun _ => rfl)) hsrc hdst) k) Q) := by
  subst e e'
  iintro ⟨#HR, Ha, Hc, HO⟩ Hk
  iapply (Rounds.wp_wait_rest_token Variants.none ER (rd hv) (c : Thread nD τ) none (κ := K (c, some (true, j)))
      (wpE_waitDma2_eq Variants.none (c : Thread nD τ) none Set.univ) (Set.mem_univ _) () (O := 0) (W := W) (R := 0) (m := 0) (T := ∅)
      (by rw [Nat.zero_add, exp_recv]; rfl)) $$ [Hc HO Ha]
  · isplitr; · iapply (inv_at plan (pay hv) K (c, some (true, j))); iexact HR
    isplitl [Hc]; · iexact Hc
    isplitl [HO]; · iexact HO
    isplitr; · rw [MayWait_zero]; iempintro
    iexact Ha
  iintro ⟨HO, Ha, -, Hpay⟩
  ihave Hs := (Entails.of_eq (rest_recv hv c j)) $$ Hpay
  imod (Rounds.cell_close ER (rd hv) (Set.mem_univ (K (c, some (true, j)))) (fun h => h) (R := 0 + 1) (Exchange.duties_later plan (pay hv) (recvCell c j))) $$ [Ha] with Hz
  · isplitr; · iapply (inv_at plan (pay hv) K (c, some (true, j))); iexact HR
    iexact Ha
  iapply Hk
  isplitl [Hs]; · iexact Hs
  isplitl [Hz]; · iexact Hz
  iexists _; iexact HO

end Cert.GatherProof
end
-- ==== Proof.GatherRuns.lean ====
/-
# The gathering call: the body's runs

One theorem per shape of grid point: the body, run from the buffers it reads and writes, leaves them as the step
functions say.
-/
module

public import proofs.«01_k».proof.Proof.GatherProto

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

variable (c : Dev nD) (i : grid0.Coords) (M1 : Memref sig .tc .vmem S1x2048 .i32) (h1 : M1.IsWhole) (M2 : Memref sig .tc .vmem S512x2048 .bf16) (h2 : M2.IsWhole)
  (M3 : Memref sig .tc .vmem S512x2048 .bf16) (h3 : M3.IsWhole) (M4 : Memref sig .tc .vmem S512x2048 .f32) (h4 : M4.IsWhole)

/-- The body at point `i` over the four staging memrefs. -/
abbrev body : Prog (TpuEff nD τ sig (Elt F) Λ₀ .tc) PUnit :=
  cc0_body i M1 h1 M2 h2 M3 h3 M4 h4 rM (Memref.isWhole_whole _) hM (Memref.isWhole_whole _) aM (Memref.isWhole_whole _) bM (Memref.isWhole_whole _) cc0_scratch3 cc0_scratch4 cc0_scratch5

theorem rows_loaded (hc2 : k0_cond2 i = 1#1) (X : Vec F S1x2048 .i32) :
    M1.view.readAt (Elt F) (Rect.unit (s := S1x2048) (k0_off1 i) S1x512.size (k0_off1_inb i hc2)).toLoadRect (M1.view.rep X) = rowsAt i hc2 X := View.readAt_rep _ _ _

/-- A gathering point that finishes no chunk and exchanges nothing. -/
theorem run_more (hc1 : ¬ k0_cond1 i = 1#1) (hc2 : k0_cond2 i = 1#1) (hc3 : ¬ c3 i = 1#1) (hc4 : ¬ k0_cond4 i = 1#1) (hc5 : ¬ k0_cond5 i = 1#1) (hc8 : ¬ c8 i = 1#1)
    (fa : Vec F S512x2048 .f32) (X1 : Vec F S1x2048 .i32) (X2 : Vec F S512x2048 .bf16) (Q : PUnit → sProp 𝕄) :
    iprop(pt c aM fa ∗ owns (c : Thread nD τ) M1 fullShare X1 ∗ owns (c : Thread nD τ) M2 fullShare X2
      ∗ (iprop(pt c aM (aStep i X1 X2 fa) ∗ owns (c : Thread nD τ) M1 fullShare X1 ∗ owns (c : Thread nD τ) M2 fullShare X2) -∗ Q ⟨⟩))
    ⊢ wp frame (wpE (defs₀ (F := F)) Variants.none c none) Set.univ (body i M1 h1 M2 h2 M3 h3 M4 h4) Q := by
  rw [owns_eq_rep (c : Thread nD τ) M1, owns_eq_rep (c : Thread nD τ) M2,
    show aStep i X1 X2 fa = k0_pay1 (k0_pay6 (BitVec.ofNat 32 (i 0).val) (rowsAt i hc2 X1) fa X2) from by unfold aStep; rw [dif_pos hc2, if_neg hc3]]
  unfold body
  rw [cc0_body_eq_skeleton]; unfold cc0_body_skel
  rw [k0_part1_eq_skeleton]; unfold k0_part1_skel
  unfold c3 at hc3; unfold c8 at hc8
  iintro ⟨Ha, H1, H2, Hk⟩
  sl_exec! (disch := assumption)
  sl_step
  delta run_more.sl.Ha_1
  rw [rows_loaded _ _ hc2, a_loaded, View.readAt_rep_full, a_stored]
  iapply Hk
  isplitl [Ha]; · iexact Ha
  isplitl [H1]; · iexact H1
  iexact H2

/-- A gathering point that starts a chunk and exchanges nothing. -/
theorem run_first (hc1 : ¬ k0_cond1 i = 1#1) (hc2 : k0_cond2 i = 1#1) (hc3 : c3 i = 1#1) (hc4 : ¬ k0_cond4 i = 1#1) (hc5 : ¬ k0_cond5 i = 1#1) (hc8 : ¬ c8 i = 1#1)
    (fa : Vec F S512x2048 .f32) (X1 : Vec F S1x2048 .i32) (X2 : Vec F S512x2048 .bf16) (Q : PUnit → sProp 𝕄) :
    iprop(pt c aM fa ∗ owns (c : Thread nD τ) M1 fullShare X1 ∗ owns (c : Thread nD τ) M2 fullShare X2
      ∗ (iprop(pt c aM (aStep i X1 X2 fa) ∗ owns (c : Thread nD τ) M1 fullShare X1 ∗ owns (c : Thread nD τ) M2 fullShare X2) -∗ Q ⟨⟩))
    ⊢ wp frame (wpE (defs₀ (F := F)) Variants.none c none) Set.univ (body i M1 h1 M2 h2 M3 h3 M4 h4) Q := by
  rw [owns_eq_rep (c : Thread nD τ) M1, owns_eq_rep (c : Thread nD τ) M2,
    show aStep i X1 X2 fa = k0_pay1 (k0_pay6 (BitVec.ofNat 32 (i 0).val) (rowsAt i hc2 X1) k0_pay5 X2) from by unfold aStep; rw [dif_pos hc2, if_pos hc3]]
  unfold body
  rw [cc0_body_eq_skeleton]; unfold cc0_body_skel
  rw [k0_part1_eq_skeleton]; unfold k0_part1_skel
  unfold c3 at hc3; unfold c8 at hc8
  iintro ⟨Ha, H1, H2, Hk⟩
  sl_exec! (disch := assumption)
  sl_step
  delta run_first.sl.Ha_2 run_first.sl.v50 run_first.sl.Ha_1
  rw [rows_loaded _ _ hc2, View.readCov_cons_toLoadRect, View.readAt_rep_full, a_stored]
  iapply Hk
  isplitl [Ha]; · iexact Ha
  isplitl [H1]; · iexact H1
  iexact H2
/-- A point that finishes chunk `j` and sends it. -/
theorem run_send (hv : Dev nD → Fin 4 → Vec F S512x2048 .bf16) (K : Dev nD × I → ℕ) (j : Fin 4) (e2 : k0_off2 i = cOff j) (e3 : k0_off3 i = ![j.val]) (e4 : k0_off4 i = cOff j)
    (hc1 : ¬ k0_cond1 i = 1#1) (hc2 : k0_cond2 i = 1#1) (hc3 : ¬ c3 i = 1#1) (hc4 : k0_cond4 i = 1#1) (hc5 : ¬ k0_cond5 i = 1#1) (hc8 : ¬ c8 i = 1#1)
    (fa : Vec F S512x2048 .f32) (X1 : Vec F S1x2048 .i32) (X2 X3 : Vec F S512x2048 .bf16) (ehv : hv c j = k0_pay2 (aStep i X1 X2 fa) X3)
    (vh vr : Vec F S512x2048 .bf16) (W : Waits sig Unit) (Q : PUnit → sProp 𝕄) :
    iprop(records plan (pay hv) K ∗ pt c aM fa ∗ owns (c : Thread nD τ) M1 fullShare X1 ∗ owns (c : Thread nD τ) M2 fullShare X2 ∗ owns (c : Thread nD τ) M3 fullShare X3
      ∗ owns (c : Thread nD τ) (hC j) fullShare vh ∗ owns (xflip c : Thread nD τ) (rC j) fullShare vr
      ∗ owes (c : Thread nD τ) (Ow c (3 * j.val + 2)) W ∗ dutyTok ER (sendCell c j) 0 () ∗ dutyTok ER (recvCell (xflip c) j) 0 ()
      ∗ (iprop(pt c aM (aStep i X1 X2 fa) ∗ owns (c : Thread nD τ) M1 fullShare X1 ∗ owns (c : Thread nD τ) M2 fullShare X2 ∗ owns (c : Thread nD τ) M3 fullShare X3
          ∗ owns (c : Thread nD τ) (hC j) fullShare.left (hv c j) ∗ cred (tallyAt (sendCell c j) () N) ∗ owes (c : Thread nD τ) (Ow c (3 * j.val + 3)) W) -∗ Q ⟨⟩))
    ⊢ wp frame (wpE (defs₀ (F := F)) Variants.none c none) Set.univ (body i M1 h1 M2 h2 M3 h3 M4 h4) Q := by
  rw [owns_eq_rep (c : Thread nD τ) M1, owns_eq_rep (c : Thread nD τ) M2, owns_eq_rep (c : Thread nD τ) M3]
  have ea : aStep i X1 X2 fa = k0_pay1 (k0_pay6 (BitVec.ofNat 32 (i 0).val) (rowsAt i hc2 X1) fa X2) := by unfold aStep; rw [dif_pos hc2, if_neg hc3]
  rw [ea] at ehv ⊢
  unfold body
  rw [cc0_body_eq_skeleton]; unfold cc0_body_skel
  rw [k0_part1_eq_skeleton]; unfold k0_part1_skel
  unfold c3 at hc3; unfold c8 at hc8
  iintro ⟨#HR, Ha, H1, H2, H3, Hh, Hr, HO, Hts, Htr, Hk⟩
  sl_exec (disch := assumption)
  simp only [Prog.lift, Prog.bind_op, Prog.bind_ret, Prog.pure_eq_ret]
  iapply (wp_load_chunk c j _ _ e2) $$ Hh
  iintro Hh
  iapply (wp_store_chunk c j _ _ e2) $$ Hh
  iintro Hh
  delta run_send.sl.v61 run_send.sl.Ha_1
  rw [View.readCov_cons_toLoadRect, rows_loaded _ _ hc2, a_loaded, View.readAt_rep_full, View.readAt_rep_full, a_stored, ← ehv]
  ihave Hh := (owns_share (c : Thread nD τ) (hC j) (PosShare.mem_left_op_right fullShare) (hv c j)).1 $$ Hh
  icases Hh with ⟨Hl, Hh⟩
  iapply (wp_send_chunk hv c K _ (dev2_eq i c hc2 hc4) j _ _ e4 _ _ e3 vr W) $$ [Hh Hr HO Hts Htr]
  · isplitr; · iexact HR
    isplitl [Hh]; · iexact Hh
    isplitl [Hr]; · iexact Hr
    isplitl [HO]; · iexact HO
    isplitl [Hts]; · iexact Hts
    iexact Htr
  iintro ⟨Hc, HO⟩
  sl_exec! (disch := assumption)
  sl_step
  iapply Hk
  isplitl [Ha]; · iexact Ha
  isplitl [H1]; · iexact H1
  isplitl [H2]; · iexact H2
  isplitl [H3]; · iexact H3
  isplitl [Hl]; · iexact Hl
  isplitl [Hc]; · iexact Hc
  iexact HO

end Cert.GatherProof
end
-- ==== Proof.GatherHeads.lean ====
/-
# The gathering call: the points that exchange and the points that write

The first grid point signals and waits for the partner's signal before it gathers; the points from 12 on write an output
block, from a chunk of `half` or from a chunk that the partner sent; the last one also waits for what was sent.
-/
module

public import proofs.«01_k».proof.Proof.GatherRuns

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

variable (hv : Dev nD → Fin 4 → Vec F S512x2048 .bf16)

/-- What waits for sent chunk `k` need; -/
def sent (c : Dev nD) (k : Fin 4) : sProp 𝕄 := iprop(atPos ER (sendCell c k) 0 ∅ 0 ∗ cred (tallyAt (sendCell c k) () N))
/-- and give. -/
def back (c : Dev nD) (k : Fin 4) : sProp 𝕄 := iprop(owns (c : Thread nD τ) (hC k) fullShare.right (hv c k) ∗ semVal (sendCell c k) 0)

theorem off_0 : (![0, 0] : Fin 2 → ℕ) = cOff 0 := by funext a; fin_cases a <;> rfl
theorem off_1 : (![512, 0] : Fin 2 → ℕ) = cOff 1 := by funext a; fin_cases a <;> rfl
theorem off_2 : (![1024, 0] : Fin 2 → ℕ) = cOff 2 := by funext a; fin_cases a <;> rfl
theorem off_3 : (![1536, 0] : Fin 2 → ℕ) = cOff 3 := by funext a; fin_cases a <;> rfl

/-- The waits for all that was sent. -/
theorem wp_four_waits (c : Dev nD) {α : Type} {Q : α → sProp 𝕄} (K : Dev nD × I → ℕ)
    {a0 : (rM.slice (Rect.unit (s := S2048x2048) ![0, 0] S512x2048.size inb_S2048x2048_S512x2048_0_0) (fun _ => rfl)).view.WordExact}
    {b0 : (hM.slice (Rect.unit (s := S2048x2048) ![0, 0] S512x2048.size inb_S2048x2048_S512x2048_0_0) (fun _ => rfl)).view.WordExact}
    {a1 : (rM.slice (Rect.unit (s := S2048x2048) ![512, 0] S512x2048.size inb_S2048x2048_S512x2048_512_0) (fun _ => rfl)).view.WordExact}
    {b1 : (hM.slice (Rect.unit (s := S2048x2048) ![512, 0] S512x2048.size inb_S2048x2048_S512x2048_512_0) (fun _ => rfl)).view.WordExact}
    {a2 : (rM.slice (Rect.unit (s := S2048x2048) ![1024, 0] S512x2048.size inb_S2048x2048_S512x2048_1024_0) (fun _ => rfl)).view.WordExact}
    {b2 : (hM.slice (Rect.unit (s := S2048x2048) ![1024, 0] S512x2048.size inb_S2048x2048_S512x2048_1024_0) (fun _ => rfl)).view.WordExact}
    {a3 : (rM.slice (Rect.unit (s := S2048x2048) ![1536, 0] S512x2048.size inb_S2048x2048_S512x2048_1536_0) (fun _ => rfl)).view.WordExact}
    {b3 : (hM.slice (Rect.unit (s := S2048x2048) ![1536, 0] S512x2048.size inb_S2048x2048_S512x2048_1536_0) (fun _ => rfl)).view.WordExact}
    {k : PUnit → Prog (TpuEff nD τ sig (Elt F) Λ₀ .tc) α} (W : Waits sig Unit) :
    iprop(records plan (pay hv) K ∗ (bigSep Finset.univ fun j : Fin 4 => sent c j) ∗ owes (c : Thread nD τ) 0 W)
      ⊢ iprop((((bigSep Finset.univ fun j : Fin 4 => back hv c j) ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ
              (.op (.waitDma2 (sendAt ![0] inb_S4_S1_0) (rM.slice (Rect.unit (s := S2048x2048) ![0, 0] S512x2048.size inb_S2048x2048_S512x2048_0_0) (fun _ => rfl))
                (hM.slice (Rect.unit (s := S2048x2048) ![0, 0] S512x2048.size inb_S2048x2048_S512x2048_0_0) (fun _ => rfl)) a0 b0) fun _ =>
               .op (.waitDma2 (sendAt ![1] inb_S4_S1_1) (rM.slice (Rect.unit (s := S2048x2048) ![512, 0] S512x2048.size inb_S2048x2048_S512x2048_512_0) (fun _ => rfl))
                (hM.slice (Rect.unit (s := S2048x2048) ![512, 0] S512x2048.size inb_S2048x2048_S512x2048_512_0) (fun _ => rfl)) a1 b1) fun _ =>
               .op (.waitDma2 (sendAt ![2] inb_S4_S1_2) (rM.slice (Rect.unit (s := S2048x2048) ![1024, 0] S512x2048.size inb_S2048x2048_S512x2048_1024_0) (fun _ => rfl))
                (hM.slice (Rect.unit (s := S2048x2048) ![1024, 0] S512x2048.size inb_S2048x2048_S512x2048_1024_0) (fun _ => rfl)) a2 b2) fun _ =>
               .op (.waitDma2 (sendAt ![3] inb_S4_S1_3) (rM.slice (Rect.unit (s := S2048x2048) ![1536, 0] S512x2048.size inb_S2048x2048_S512x2048_1536_0) (fun _ => rfl))
                (hM.slice (Rect.unit (s := S2048x2048) ![1536, 0] S512x2048.size inb_S2048x2048_S512x2048_1536_0) (fun _ => rfl)) a3 b3) k) Q) := by
  rw [bigSep_univ_eq_bigSepL [0, 1, 2, 3] (by decide) (by decide), bigSep_univ_eq_bigSepL [0, 1, 2, 3] (by decide) (by decide)]
  show iprop(records plan (pay hv) K ∗ (sent c 0 ∗ sent c 1 ∗ sent c 2 ∗ sent c 3) ∗ owes (c : Thread nD τ) 0 W)
    ⊢ iprop((((back hv c 0 ∗ back hv c 1 ∗ back hv c 2 ∗ back hv c 3) ∗ ∃ W, owes (c : Thread nD τ) 0 W) -∗ _) -∗ _)
  unfold sent back
  iintro ⟨#HR, ⟨⟨P0, C0⟩, ⟨P1, C1⟩, ⟨P2, C2⟩, ⟨P3, C3⟩⟩, HO⟩ Hk
  iapply (wp_wait_send hv c K 0 _ _ off_0 _ _ rfl W) $$ [P0 C0 HO]
  · isplitr; · iexact HR
    isplitl [P0]; · iexact P0
    isplitl [C0]; · iexact C0
    iexact HO
  iintro ⟨B0, Z0, ⟨%W0, HO⟩⟩
  iapply (wp_wait_send hv c K 1 _ _ off_1 _ _ rfl _) $$ [P1 C1 HO]
  · isplitr; · iexact HR
    isplitl [P1]; · iexact P1
    isplitl [C1]; · iexact C1
    iexact HO
  iintro ⟨B1, Z1, ⟨%W1, HO⟩⟩
  iapply (wp_wait_send hv c K 2 _ _ off_2 _ _ rfl _) $$ [P2 C2 HO]
  · isplitr; · iexact HR
    isplitl [P2]; · iexact P2
    isplitl [C2]; · iexact C2
    iexact HO
  iintro ⟨B2, Z2, ⟨%W2, HO⟩⟩
  iapply (wp_wait_send hv c K 3 _ _ off_3 _ _ rfl _) $$ [P3 C3 HO]
  · isplitr; · iexact HR
    isplitl [P3]; · iexact P3
    isplitl [C3]; · iexact C3
    iexact HO
  iintro ⟨B3, Z3, ⟨%W3, HO⟩⟩
  iapply Hk
  isplitr [HO]; swap; · iexists _; iexact HO
  isplitl [B0 Z0]; · isplitl [B0] <;> iassumption
  isplitl [B1 Z1]; · isplitl [B1] <;> iassumption
  isplitl [B2 Z2]; · isplitl [B2] <;> iassumption
  isplitl [B3] <;> iassumption

omit [FloatOps F] in
/-- A chunk of the landing buffer, its place written otherwise. -/
theorem respell (c : Dev nD) (j : Fin 4) (off : Fin 2 → ℕ) (inb : ∀ a, off a + S512x2048.size a ≤ S2048x2048.size a) (e : off = cOff j) (q : PosShare TreeShare) (v : Vec F S512x2048 .bf16) :
    (owns (c : Thread nD τ) (rC j) q v : sProp 𝕄) = owns (c : Thread nD τ) (rM.slice (Rect.unit (s := S2048x2048) off S512x2048.size inb) (fun _ => rfl)) q v := by subst e; rfl

variable (c : Dev nD) (i : grid0.Coords) (M1 : Memref sig .tc .vmem S1x2048 .i32) (h1 : M1.IsWhole) (M2 : Memref sig .tc .vmem S512x2048 .bf16) (h2 : M2.IsWhole)
  (M3 : Memref sig .tc .vmem S512x2048 .bf16) (h3 : M3.IsWhole) (M4 : Memref sig .tc .vmem S512x2048 .f32) (h4 : M4.IsWhole)

/-- A point that writes an output block from the device's own chunk `j`. -/
theorem run_own (j : Fin 4) (e5 : k0_off5 i = cOff j)
    (hc1 : ¬ k0_cond1 i = 1#1) (hc2 : ¬ k0_cond2 i = 1#1) (hc5 : k0_cond5 i = 1#1) (hc6 : k0_cond6 i c = 1#1) (hc7 : ¬ k0_cond7 i c = 1#1) (hc8 : ¬ c8 i = 1#1)
    (X4 : Vec F S512x2048 .f32) (v : Vec F S512x2048 .bf16) (q : PosShare TreeShare) (Q : PUnit → sProp 𝕄) :
    iprop(owns (c : Thread nD τ) (hC j) q v ∗ owns (c : Thread nD τ) M4 fullShare X4
      ∗ (iprop(owns (c : Thread nD τ) (hC j) q v ∗ owns (c : Thread nD τ) M4 fullShare (k0_pay3 v)) -∗ Q ⟨⟩))
    ⊢ wp frame (wpE (defs₀ (F := F)) Variants.none c none) Set.univ (body i M1 h1 M2 h2 M3 h3 M4 h4) Q := by
  rw [owns_eq_rep (c : Thread nD τ) M4 fullShare X4]
  unfold body
  rw [cc0_body_eq_skeleton]; unfold cc0_body_skel
  unfold c8 at hc8
  iintro ⟨Hh, H4, Hk⟩
  sl_exec (disch := assumption)
  simp only [Prog.lift, Prog.bind_op, Prog.bind_ret, Prog.pure_eq_ret]
  iapply (wp_load_chunk c j _ _ e5) $$ Hh
  iintro Hh
  sl_exec! (disch := assumption)
  sl_step
  iapply Hk
  isplitl [Hh]; · iexact Hh
  unfold owns; iexists _; isplitr; swap; · iexact H4
  ipureintro; exact o_stored M4 _ _

/-- The last point, where it writes the device's own chunk. -/
theorem run_own_last (K : Dev nD × I → ℕ) (j : Fin 4) (e5 : k0_off5 i = cOff j)
    (hc1 : ¬ k0_cond1 i = 1#1) (hc2 : ¬ k0_cond2 i = 1#1) (hc5 : k0_cond5 i = 1#1) (hc6 : k0_cond6 i c = 1#1) (hc7 : ¬ k0_cond7 i c = 1#1) (hc8 : c8 i = 1#1)
    (X4 : Vec F S512x2048 .f32) (v : Vec F S512x2048 .bf16) (q : PosShare TreeShare) (W : Waits sig Unit) (Q : PUnit → sProp 𝕄) :
    iprop(records plan (pay hv) K ∗ (bigSep Finset.univ fun j : Fin 4 => sent c j) ∗ owes (c : Thread nD τ) 0 W ∗ owns (c : Thread nD τ) (hC j) q v ∗ owns (c : Thread nD τ) M4 fullShare X4
      ∗ (iprop(owns (c : Thread nD τ) (hC j) q v ∗ owns (c : Thread nD τ) M4 fullShare (k0_pay3 v) ∗ (bigSep Finset.univ fun j : Fin 4 => back hv c j) ∗ ∃ W, owes (c : Thread nD τ) 0 W) -∗ Q ⟨⟩))
    ⊢ wp frame (wpE (defs₀ (F := F)) Variants.none c none) Set.univ (body i M1 h1 M2 h2 M3 h3 M4 h4) Q := by
  rw [owns_eq_rep (c : Thread nD τ) M4 fullShare X4]
  unfold body
  rw [cc0_body_eq_skeleton]; unfold cc0_body_skel
  rw [k0_part2_eq_skeleton]; unfold k0_part2_skel
  unfold c8 at hc8
  iintro ⟨#HR, HS, HO, Hh, H4, Hk⟩
  sl_exec (disch := assumption)
  simp only [Prog.lift, Prog.bind_op, Prog.bind_ret, Prog.pure_eq_ret]
  iapply (wp_load_chunk c j _ _ e5) $$ Hh
  iintro Hh
  sl_exec (disch := assumption)
  simp only [Prog.lift, Prog.bind_op, Prog.bind_ret, Prog.pure_eq_ret]
  iapply (wp_four_waits hv c K W) $$ [HS HO]
  · isplitr; · iexact HR
    isplitl [HS]; · iexact HS
    iexact HO
  iintro ⟨HB, HO⟩
  sl_step
  iapply Hk
  isplitl [Hh]; · iexact Hh
  isplitl [H4]
  · unfold owns; iexists _; isplitr; swap; · iexact H4
    ipureintro; exact o_stored M4 _ _
  isplitl [HB]; · iexact HB
  iexact HO

/-- A point that writes an output block from the partner's chunk `j`. -/
theorem run_got (K : Dev nD × I → ℕ) (j : Fin 4) (e6 : k0_off6 i = ![j.val]) (e7 : k0_off7 i = cOff j)
    (hc1 : ¬ k0_cond1 i = 1#1) (hc2 : ¬ k0_cond2 i = 1#1) (hc5 : k0_cond5 i = 1#1) (hc6 : ¬ k0_cond6 i c = 1#1) (hc7 : k0_cond7 i c = 1#1) (hc8 : ¬ c8 i = 1#1)
    (X4 : Vec F S512x2048 .f32) (fb : Vec F S512x2048 .bf16) (W : Waits sig Unit) (Q : PUnit → sProp 𝕄) :
    iprop(records plan (pay hv) K ∗ atPos ER (recvCell c j) 0 ∅ 0 ∗ cred (tallyAt (recvCell c j) () N) ∗ owes (c : Thread nD τ) 0 W
      ∗ pt c bM fb ∗ semVal (copyCell c) 0 ∗ owns (c : Thread nD τ) M4 fullShare X4
      ∗ (iprop(owns (c : Thread nD τ) (rC j) fullShare (hv (xflip c) j) ∗ semVal (recvCell c j) 0 ∗ pt c bM (hv (xflip c) j) ∗ semVal (copyCell c) 0
          ∗ owns (c : Thread nD τ) M4 fullShare (k0_pay4 (hv (xflip c) j)) ∗ ∃ W, owes (c : Thread nD τ) 0 W) -∗ Q ⟨⟩))
    ⊢ wp frame (wpE (defs₀ (F := F)) Variants.none c none) Set.univ (body i M1 h1 M2 h2 M3 h3 M4 h4) Q := by
  rw [owns_eq_rep (c : Thread nD τ) M4 fullShare X4]
  have er := (respell (F := F) c j (k0_off7 i) (k0_off7_inb i c hc5 hc7) e7 fullShare (hv (xflip c) j)).trans (owns_eq_rep (c : Thread nD τ) _ fullShare (hv (xflip c) j))
  unfold body
  rw [cc0_body_eq_skeleton]; unfold cc0_body_skel
  unfold c8 at hc8
  iintro ⟨#HR, Hat, Hc, HO, Hb, Hd, H4, Hk⟩
  sl_exec (disch := assumption)
  simp only [Prog.lift, Prog.bind_op, Prog.bind_ret, Prog.pure_eq_ret]
  iapply (wp_wait_recv hv c K j _ _ e7 _ _ e6 W) $$ [Hat Hc HO]
  · isplitr; · iexact HR
    isplitl [Hat]; · iexact Hat
    isplitl [Hc]; · iexact Hc
    iexact HO
  iintro ⟨Hr, Hz, ⟨%W', HO⟩⟩
  ihave Hr := (Entails.of_eq er) $$ Hr
  sl_exec! (disch := assumption)
  sl_step
  delta run_got.sl.dma0
  rw [b_landed, View.read_rep]
  iapply Hk
  isplitl [Hr]; · iapply (Entails.of_eq er.symm); iexact Hr
  isplitl [Hz]; · iexact Hz
  isplitl [Hb]; · iexact Hb
  isplitl [Hd]; · iexact Hd
  isplitl [H4]
  · unfold owns; iexists _; isplitr; swap; · iexact H4
    ipureintro; delta run_got.sl.H4_1 run_got.sl.dma0; rw [o_stored, b_loaded, b_landed, View.read_rep]
  iexists _; iexact HO

/-- The last point, where it writes the partner's chunk `j`. -/
theorem run_got_last (K : Dev nD × I → ℕ) (j : Fin 4) (e6 : k0_off6 i = ![j.val]) (e7 : k0_off7 i = cOff j)
    (hc1 : ¬ k0_cond1 i = 1#1) (hc2 : ¬ k0_cond2 i = 1#1) (hc5 : k0_cond5 i = 1#1) (hc6 : ¬ k0_cond6 i c = 1#1) (hc7 : k0_cond7 i c = 1#1) (hc8 : c8 i = 1#1)
    (X4 : Vec F S512x2048 .f32) (fb : Vec F S512x2048 .bf16) (W : Waits sig Unit) (Q : PUnit → sProp 𝕄) :
    iprop(records plan (pay hv) K ∗ (bigSep Finset.univ fun j : Fin 4 => sent c j) ∗ atPos ER (recvCell c j) 0 ∅ 0 ∗ cred (tallyAt (recvCell c j) () N) ∗ owes (c : Thread nD τ) 0 W
      ∗ pt c bM fb ∗ semVal (copyCell c) 0 ∗ owns (c : Thread nD τ) M4 fullShare X4
      ∗ (iprop(owns (c : Thread nD τ) (rC j) fullShare (hv (xflip c) j) ∗ semVal (recvCell c j) 0 ∗ pt c bM (hv (xflip c) j) ∗ semVal (copyCell c) 0
          ∗ owns (c : Thread nD τ) M4 fullShare (k0_pay4 (hv (xflip c) j)) ∗ (bigSep Finset.univ fun j : Fin 4 => back hv c j) ∗ ∃ W, owes (c : Thread nD τ) 0 W) -∗ Q ⟨⟩))
    ⊢ wp frame (wpE (defs₀ (F := F)) Variants.none c none) Set.univ (body i M1 h1 M2 h2 M3 h3 M4 h4) Q := by
  rw [owns_eq_rep (c : Thread nD τ) M4 fullShare X4]
  have er := (respell (F := F) c j (k0_off7 i) (k0_off7_inb i c hc5 hc7) e7 fullShare (hv (xflip c) j)).trans (owns_eq_rep (c : Thread nD τ) _ fullShare (hv (xflip c) j))
  unfold body
  rw [cc0_body_eq_skeleton]; unfold cc0_body_skel
  rw [k0_part2_eq_skeleton]; unfold k0_part2_skel
  unfold c8 at hc8
  iintro ⟨#HR, HS, Hat, Hc, HO, Hb, Hd, H4, Hk⟩
  sl_exec (disch := assumption)
  simp only [Prog.lift, Prog.bind_op, Prog.bind_ret, Prog.pure_eq_ret]
  iapply (wp_wait_recv hv c K j _ _ e7 _ _ e6 W) $$ [Hat Hc HO]
  · isplitr; · iexact HR
    isplitl [Hat]; · iexact Hat
    isplitl [Hc]; · iexact Hc
    iexact HO
  iintro ⟨Hr, Hz, ⟨%W', HO⟩⟩
  ihave Hr := (Entails.of_eq er) $$ Hr
  sl_exec (disch := assumption)
  simp only [Prog.lift, Prog.bind_op, Prog.bind_ret, Prog.pure_eq_ret]
  iapply (wp_four_waits hv c K _) $$ [HS HO]
  · isplitr; · iexact HR
    isplitl [HS]; · iexact HS
    iexact HO
  iintro ⟨HB, HO⟩
  sl_step
  delta run_got_last.sl.dma0
  rw [b_landed, View.read_rep]
  iapply Hk
  isplitl [Hr]; · iapply (Entails.of_eq er.symm); iexact Hr
  isplitl [Hz]; · iexact Hz
  isplitl [Hb]; · iexact Hb
  isplitl [Hd]; · iexact Hd
  isplitl [H4]
  · unfold owns; iexists _; isplitr; swap; · iexact H4
    ipureintro; exact (o_stored M4 _ _).trans (congrArg k0_pay4 (b_loaded _))
  isplitl [HB]; · iexact HB
  iexact HO

/-- The first grid point. -/
theorem run_head (K : Dev nD × I → ℕ)
    (hc1 : k0_cond1 i = 1#1) (hc2 : k0_cond2 i = 1#1) (hc3 : c3 i = 1#1) (hc4 : ¬ k0_cond4 i = 1#1) (hc5 : ¬ k0_cond5 i = 1#1) (hc8 : ¬ c8 i = 1#1)
    (fr : Vec F S2048x2048 .bf16) (fa : Vec F S512x2048 .f32) (X1 : Vec F S1x2048 .i32) (X2 : Vec F S512x2048 .bf16) (W : Waits sig Unit) (Q : PUnit → sProp 𝕄) :
    iprop(records plan (pay hv) K ∗ levAts L (lv plan) ∗ atPos ER (barCell c) 0 ∅ 0 ∗ dutyTok ER (barCell (xflip c)) 0 ()
      ∗ cred (tallyAt (barCell c) () 1) ∗ owes (c : Thread nD τ) (Ow c 0) W ∗ owns (c : Thread nD τ) rM fullShare fr
      ∗ pt c aM fa ∗ owns (c : Thread nD τ) M1 fullShare X1 ∗ owns (c : Thread nD τ) M2 fullShare X2
      ∗ (iprop(landing (xflip c) ∗ semVal (barCell c) 0 ∗ pt c aM (aStep i X1 X2 fa) ∗ owns (c : Thread nD τ) M1 fullShare X1 ∗ owns (c : Thread nD τ) M2 fullShare X2
          ∗ ∃ W, owes (c : Thread nD τ) (Ow c 1) W) -∗ Q ⟨⟩))
    ⊢ wp frame (wpE (defs₀ (F := F)) Variants.none c none) Set.univ (body i M1 h1 M2 h2 M3 h3 M4 h4) Q := by
  rw [owns_eq_rep (c : Thread nD τ) M1, owns_eq_rep (c : Thread nD τ) M2,
    show aStep i X1 X2 fa = k0_pay1 (k0_pay6 (BitVec.ofNat 32 (i 0).val) (rowsAt i hc2 X1) k0_pay5 X2) from by unfold aStep; rw [dif_pos hc2, if_pos hc3]]
  unfold body
  rw [cc0_body_eq_skeleton]; unfold cc0_body_skel
  rw [k0_part1_eq_skeleton]; unfold k0_part1_skel
  unfold c3 at hc3; unfold c8 at hc8
  simp only [semSignalWord, semWaitWord, Prog.lift, Prog.bind_op, Prog.bind_ret, Prog.pure_eq_ret, wp_deviceId, dif_pos hc1, dev1_eq i c hc1]
  iintro ⟨#HR, #Hlev, HaB, HtB, HcB, HO, Hr, Ha, H1, H2, Hk⟩
  rw [Ow_zero c]
  ihave Hl := (split_chunks c rM fr) $$ Hr
  iapply (Rounds.wp_signal Variants.none ER (rd hv) (c : Thread nD τ) none (dst := (xflip c : Thread nD τ)) (κ := K (xflip c, none))
      (d := ()) (mem_bar hv (xflip c)) ((amt_bar hv (xflip c)).trans (by decide)) () (Ow c 1) rfl) $$ [HO HtB Hl]
  · isplitr; · iapply (inv_at plan (pay hv) K (xflip c, none)); iexact HR
    isplitl [HO]; · iexact HO
    isplitl [HtB]; · iexact HtB
    isplitl [Hl]
    · rw [pay_bar, xflip_xflip]; unfold landing; iexact Hl
    · iapply (reached_at plan (pay hv) K (xflip c, none)); iexact HR
  iintro HO
  iapply (Rounds.wp_wait_rest_token Variants.none ER (rd hv) (c : Thread nD τ) none (κ := K (c, none))
      (wpE_semWait_eq Variants.none (c : Thread nD τ) none Set.univ) (Set.mem_univ _) () (O := Ow c 1) (W := W) (R := 0) (m := 0) (T := ∅)
      (by rw [exp_bar]; decide)) $$ [HcB HO HaB]
  · isplitr; · iapply (inv_at plan (pay hv) K (c, none)); iexact HR
    isplitl [HcB]; · iexact HcB
    isplitl [HO]; · iexact HO
    isplitr; · iapply (mayWait_bar c); iexact Hlev
    iexact HaB
  iintro ⟨HO, HaB, -, Hpay⟩
  ihave Hl := (Entails.of_eq (rest_bar hv c)) $$ Hpay
  imod (Rounds.cell_close ER (rd hv) (Set.mem_univ (K (c, none))) (fun h => h) (R := 0 + 1) (Exchange.duties_later plan (pay hv) (barCell c))) $$ [HaB] with HzB
  · isplitr; · iapply (inv_at plan (pay hv) K (c, none)); iexact HR
    iexact HaB
  sl_exec! (disch := assumption)
  sl_step
  delta run_head.sl.Ha_2 run_head.sl.v50 run_head.sl.Ha_1 run_head.sl.x
  erw [rows_loaded _ _ hc2, View.readCov_cons_toLoadRect, View.readAt_rep_full, a_stored]
  iapply Hk
  isplitl [Hl]; · iexact Hl
  isplitl [HzB]; · iexact HzB
  isplitl [Ha]; · iexact Ha
  isplitl [H1]; · iexact H1
  isplitl [H2]; · iexact H2
  iexists _; iexact HO

end Cert.GatherProof
end
-- ==== Proof.GatherDats.lean ====
/-
# The gathering call: the grid, the states and the proof data

Points 0 … 11 gather, three to a chunk, the third of each sending it; points 12 … 19 write the output, four blocks
from the device's own chunks and four from the partner's, in the order of the first mesh coordinate.
-/
module

public import proofs.«01_k».proof.Proof.GatherHeads
public import proofs.«01_k».proof.Proof.Gen.GatherIdeal.Frame

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records inv_at reached_at duties_cell amount_cell payload_cell expect_cell rest_cell owes' L lv mayWait)

variable {F : FTy → Type} [FloatOps F]

local notation "𝕄" => MT nD τ sig Unit (Elt F) ℕ UU ℕ

/-! ## Which point does what -/

theorem cond1_at : ∀ t : Fin grid0.N, k0_cond1 (grid0.coords t) = 1#1 ↔ t.val = 0 := by decide +kernel
theorem cond2_at : ∀ t : Fin grid0.N, k0_cond2 (grid0.coords t) = 1#1 ↔ t.val < 12 := by decide +kernel
theorem c3_at : ∀ t : Fin grid0.N, c3 (grid0.coords t) = 1#1 ↔ t.val % 3 = 0 := by decide +kernel
theorem cond4_at : ∀ t : Fin grid0.N, k0_cond4 (grid0.coords t) = 1#1 ↔ t.val % 3 = 2 := by decide +kernel
theorem cond5_at : ∀ t : Fin grid0.N, k0_cond5 (grid0.coords t) = 1#1 ↔ 12 ≤ t.val := by decide +kernel
theorem cond6_at : ∀ (t : Fin grid0.N) (c : Dev nD), 12 ≤ t.val → (k0_cond6 (grid0.coords t) c = 1#1 ↔ (t.val - 12) / 4 = c.val / 4) := by decide +kernel
theorem cond7_at : ∀ (t : Fin grid0.N) (c : Dev nD), 12 ≤ t.val → (k0_cond7 (grid0.coords t) c = 1#1 ↔ (t.val - 12) / 4 ≠ c.val / 4) := by decide +kernel
theorem c8_at : ∀ t : Fin grid0.N, c8 (grid0.coords t) = 1#1 ↔ t.val = 19 := by decide +kernel
/-- The chunk a sending point finishes; -/
def chunk (n : ℕ) : Fin 4 := ⟨n / 3 % 4, Nat.mod_lt _ (by decide)⟩
/-- the chunk a writing point writes. -/
def outChunk (n : ℕ) : Fin 4 := ⟨n % 4, Nat.mod_lt _ (by decide)⟩
theorem off2_at : ∀ t : Fin grid0.N, t.val < 12 → t.val % 3 = 2 → k0_off2 (grid0.coords t) = cOff (chunk t.val) := by decide +kernel
theorem off3_at : ∀ t : Fin grid0.N, t.val < 12 → t.val % 3 = 2 → k0_off3 (grid0.coords t) = ![(chunk t.val).val] := by decide +kernel
theorem off4_at : ∀ t : Fin grid0.N, t.val < 12 → t.val % 3 = 2 → k0_off4 (grid0.coords t) = cOff (chunk t.val) := by decide +kernel
theorem off5_at : ∀ t : Fin grid0.N, 12 ≤ t.val → k0_off5 (grid0.coords t) = cOff (outChunk t.val) := by decide +kernel
theorem off6_at : ∀ t : Fin grid0.N, 12 ≤ t.val → k0_off6 (grid0.coords t) = ![(outChunk t.val).val] := by decide +kernel
theorem off7_at : ∀ t : Fin grid0.N, 12 ≤ t.val → k0_off7 (grid0.coords t) = cOff (outChunk t.val) := by decide +kernel
/-- The points that leave the output block alone. -/
theorem idle_at : ∀ t : Fin grid0.N, cfg0.idle 3 (grid0.coords t) = decide (t.val < 12) := by decide +kernel
theorem flush_at : ∀ t : Fin grid0.N, (cfg0.win 3).flush t = decide (12 ≤ t.val) := by decide +kernel

/-! ## The states -/

variable (m : (ℓ : Loc nD τ sig) → Buf (Elt F) ℓ)

/-- Point `n`, for any natural number (past the grid: counted from the start again). -/
def pn (n : ℕ) : Fin grid0.N := ⟨n % grid0.N, Nat.mod_lt _ (by rw [N_0]; decide)⟩
theorem pn_val (t : Fin grid0.N) : pn t.val = t := Fin.ext (Nat.mod_eq_of_lt t.isLt)

def w0 (c : Dev nD) (n : ℕ) : Vec F S1x2048 .i32 := iblk m c 0 (pn n)
def w1 (c : Dev nD) (n : ℕ) : Vec F S512x2048 .bf16 := iblk m c 1 (pn n)
def w2 (c : Dev nD) (n : ℕ) : Vec F S512x2048 .bf16 := iblk m c 2 (pn n)

/-- The sums before point `n`. -/
def A (c : Dev nD) : ℕ → Vec F S512x2048 .f32
  | 0 => k0_pay5
  | n + 1 => aStep (grid0.coords (pn n)) (w0 m c n) (w1 m c n) (A c n)
/-- The chunks of `half`. -/
def hv (c : Dev nD) (k : Fin 4) : Vec F S512x2048 .bf16 := k0_pay2 (A m c (3 * k.val + 3)) (w2 m c (3 * k.val + 2))
/-- The device whose chunks a writing point writes. -/
def who (c : Dev nD) (n : ℕ) : Dev nD := if (n - 12) / 4 = c.val / 4 then c else xflip c
/-- The output block after a writing point. -/
def O (c : Dev nD) (n : ℕ) : Vec F S512x2048 .f32 := k0_pay3 (hv m (who c n) (outChunk n))

theorem A_next (c : Dev nD) (t : Fin grid0.N) : A m c (t.val + 1) = aStep (grid0.coords t) (iblk m c 0 t) (iblk m c 1 t) (A m c t.val) := by
  conv_lhs => unfold A
  unfold w0 w1; rw [pn_val]
/-- A point that starts a chunk's sums finds nothing it uses there; -/
theorem aStep_starts (t : Fin grid0.N) (h : t.val < 12) (h' : t.val % 3 = 0) (r : Vec F S1x2048 .i32) (x : Vec F S512x2048 .bf16) (a a' : Vec F S512x2048 .f32) :
    aStep (grid0.coords t) r x a = aStep (grid0.coords t) r x a' := by
  unfold aStep
  rw [dif_pos ((cond2_at t).mpr h), dif_pos ((cond2_at t).mpr h), if_pos ((c3_at t).mpr h'), if_pos ((c3_at t).mpr h')]
/-- a writing point leaves them. -/
theorem A_keeps (c : Dev nD) (t : Fin grid0.N) (h : 12 ≤ t.val) : A m c (t.val + 1) = A m c t.val := by
  rw [A_next]; unfold aStep; rw [dif_neg fun h' => by have := (cond2_at t).mp h'; omega]
theorem hv_at (c : Dev nD) (t : Fin grid0.N) (h : t.val < 12) (h' : t.val % 3 = 2) :
    hv m c (chunk t.val) = k0_pay2 (aStep (grid0.coords t) (iblk m c 0 t) (iblk m c 1 t) (A m c t.val)) (iblk m c 2 t) := by
  have e : 3 * (chunk t.val).val + 2 = t.val := by show 3 * (t.val / 3 % 4) + 2 = t.val; omega
  unfold hv w2
  rw [show 3 * (chunk t.val).val + 3 = t.val + 1 by omega, e, pn_val, A_next]

/-! ## The invariant -/

/-- A device's ghost state of the exchange, its copy semaphore at zero. -/
def begins (c : Dev nD) : sProp 𝕄 := Exchange.start plan (pay (hv m)) (fun c => semVal (copyCell c) 0) c

/-- Before the first point. -/
def Φ₀ (c : Dev nD) : sProp 𝕄 :=
  iprop(begins m c ∗ cred (tallyAt (barCell c) () 1) ∗ (bigSep Finset.univ fun k : Fin 4 => cred (tallyAt (recvCell c k) () N)) ∗ levAts L (lv plan)
    ∗ (∃ f : Vec F S2048x2048 .bf16, owns (c : Thread nD τ) rM fullShare f) ∗ (∃ f : Vec F S2048x2048 .bf16, owns (c : Thread nD τ) hM fullShare f)
    ∗ (∃ f, pt (F := F) c aM f) ∗ (∃ f, pt (F := F) c bM f))

/-- What sending chunk `k` needs; -/
def toSend (c : Dev nD) (k : Fin 4) : sProp 𝕄 :=
  iprop((∃ v : Vec F S512x2048 .bf16, owns (c : Thread nD τ) (hC k) fullShare v) ∗ (∃ v : Vec F S512x2048 .bf16, owns (xflip c : Thread nD τ) (rC k) fullShare v)
    ∗ dutyTok ER (sendCell c k) 0 () ∗ dutyTok ER (recvCell (xflip c) k) 0 () ∗ atPos ER (sendCell c k) 0 ∅ 0)
/-- the chunk on its way; -/
def onWay (c : Dev nD) (k : Fin 4) : sProp 𝕄 := iprop(owns (c : Thread nD τ) (hC k) fullShare.left (hv m c k) ∗ sent c k)
/-- the chunk back whole. -/
def isBack (c : Dev nD) (k : Fin 4) : sProp 𝕄 := iprop(owns (c : Thread nD τ) (hC k) fullShare (hv m c k) ∗ semVal (sendCell c k) 0)
/-- What receiving chunk `k` needs; -/
def toCome (c : Dev nD) (k : Fin 4) : sProp 𝕄 := iprop(atPos ER (recvCell c k) 0 ∅ 0 ∗ cred (tallyAt (recvCell c k) () N))
/-- the chunk received. -/
def hasCome (c : Dev nD) (k : Fin 4) : sProp 𝕄 := iprop(owns (c : Thread nD τ) (rC k) fullShare (hv m (xflip c) k) ∗ semVal (recvCell c k) 0)

/-- The chunk's sending side before point `n`; -/
def snd (c : Dev nD) (n : ℕ) (k : Fin 4) : sProp 𝕄 := if n ≤ 3 * k.val + 2 then toSend c k else if n < 20 then onWay m c k else isBack m c k
/-- its receiving side. -/
def rcv (c : Dev nD) (n : ℕ) (k : Fin 4) : sProp 𝕄 := if n ≤ 12 + 4 * (1 - c.val / 4) + k.val then toCome c k else hasCome m c k

/-- What no point touches. -/
def R (c : Dev nD) : sProp 𝕄 := iprop((∃ K, records plan (pay (hv m)) K) ∗ semVal (barCell c) 0)
/-- After the first point. -/
def Φ₁ (c : Dev nD) (n : ℕ) : sProp 𝕄 :=
  iprop(R m c ∗ (semVal (copyCell c) 0 ∗ ∃ f, pt (F := F) c bM f) ∗ pt c aM (A m c n) ∗ bigSep Finset.univ (snd m c n) ∗ bigSep Finset.univ (rcv m c n))

/-- The invariant before point `n`. -/
def Φat (c : Dev nD) (n : ℕ) : sProp 𝕄 := if n = 0 then Φ₀ m c else Φ₁ m c n
theorem Φat_zero (c : Dev nD) : Φat m c 0 = Φ₀ m c := if_pos rfl
theorem Φat_pos (c : Dev nD) (n : ℕ) (h : n ≠ 0) : Φat m c n = Φ₁ m c n := if_neg h

/-! ## The invariant's steps -/

omit [FloatOps F] in
/-- One member taken out of a family, and put back changed. -/
theorem change (j : Fin 4) (Φ Ψ : Fin 4 → sProp 𝕄) (h : ∀ k, k ≠ j → Φ k = Ψ k) : bigSep Finset.univ Φ ⊢ iprop(Φ j ∗ (Ψ j -∗ bigSep Finset.univ Ψ)) := by
  have e : ∀ Θ : Fin 4 → sProp 𝕄, bigSep Finset.univ Θ = iprop(Θ j ∗ bigSep (Finset.univ.erase j) Θ) := fun Θ => BI.bigSep_erase (Finset.mem_univ j)
  rw [e Φ, e Ψ, bigSep_congr (s := Finset.univ.erase j) (Φ := Φ) (Ψ := Ψ) fun k hk => h k (Finset.ne_of_mem_erase hk)]
  iintro ⟨Hj, Hr⟩
  isplitl [Hj]; · iexact Hj
  iintro H
  isplitl [H]; · iexact H
  iexact Hr

theorem snd_same (c : Dev nD) (n : ℕ) (k : Fin 4) (h : n ≠ 3 * k.val + 2) (h' : n < 19) : snd m c n k = snd m c (n + 1) k := by
  unfold snd
  by_cases h1 : n ≤ 3 * k.val + 2
  · rw [if_pos h1, if_pos (by omega)]
  · rw [if_neg h1, if_neg (show ¬ n + 1 ≤ 3 * k.val + 2 by omega), if_pos (show n < 20 by omega), if_pos (show n + 1 < 20 by omega)]
theorem rcv_same (c : Dev nD) (n : ℕ) (k : Fin 4) (h : n ≠ 12 + 4 * (1 - c.val / 4) + k.val) : rcv m c n k = rcv m c (n + 1) k := by
  unfold rcv
  by_cases h1 : n ≤ 12 + 4 * (1 - c.val / 4) + k.val
  · rw [if_pos h1, if_pos (by omega)]
  · rw [if_neg h1, if_neg (by omega)]

/-! ## The proof data -/

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => O m c t.val
  Φ t := Φat m c t.val
  q _ := fullShare
  owed t := Ow c t.val

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

end Cert.GatherProof
end
-- ==== Proof.GatherBody.lean ====
/-
# The gathering call: the body at every grid point

The runs of the body put together: at every point of the grid the body takes the invariant, the staged blocks and what
the device owes to those of the next point.
-/
module

public import proofs.«01_k».proof.Proof.GatherDats

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records inv_at reached_at duties_cell amount_cell payload_cell expect_cell rest_cell owes' L lv mayWait)

variable {F : FTy → Type} [FloatOps F]

local notation "𝕄" => MT nD τ sig Unit (Elt F) ℕ UU ℕ

variable (m : (ℓ : Loc nD τ sig) → Buf (Elt F) ℓ)

/-! ## What a device owes -/

/-- What a device owes before point `n`. -/
def owesN (c : Dev nD) (n : ℕ) : sProp 𝕄 := iprop(∃ W, owes (c : Thread nD τ) (Ow c n) W)

theorem owes_at (c : Dev nD) (t : Fin cfg0.N) : (dats m 0 c).owesAt () t.castSucc ⊢ owesN (F := F) c t.val := by
  unfold Dat.owesAt Pipeline.owesWithin owesN
  show iprop(∃ W, _ ∗ owes (c : Thread nD τ) (Ow c t.val) W) ⊢ _
  iintro ⟨%W, -, H⟩
  iexists W; iexact H
theorem owes_to (c : Dev nD) (t : Fin cfg0.N) : owesN (F := F) c (t.val + 1) ⊢ (dats m 0 c).owesAt () t.succ := by
  unfold Dat.owesAt Pipeline.owesWithin owesN
  show _ ⊢ iprop(∃ W, _ ∗ owes (c : Thread nD τ) (Ow c (t.val + 1)) W)
  iintro ⟨%W, H⟩
  iexists W; isplitr; · ipureintro; exact fun _ _ => Or.inl trivial
  iexact H
theorem N_20 : cfg0.N = 20 := N_0
/-- A point that pays nothing. -/
theorem owes_same (c : Dev nD) (t : Fin cfg0.N) (h : t.val ≠ 0) (h' : t.val % 3 ≠ 2 ∨ 12 ≤ t.val) : (dats m 0 c).owesAt () t.castSucc ⊢ (dats m 0 c).owesAt () t.succ := by
  refine (owes_at m c t).trans ((Entails.of_eq ?_).trans (owes_to m c t))
  have ht : t.val < 20 := N_20 ▸ t.isLt
  unfold owesN Ow
  rw [owing_same ⟨t.val, ht⟩ h h']

/-! ## One point -/

/-- The output block as a point finds it; -/
def outPre (c : Dev nD) (t : Fin cfg0.N) : sProp 𝕄 := iprop(∃ d, owns (c : Thread nD τ) (st0_3 t) fullShare ((dats m 0 c).before 3 t d))
/-- as a point leaves it. -/
def outPost (c : Dev nD) (t : Fin cfg0.N) : sProp 𝕄 :=
  if t.val < 12 then outPre m c t else owns (c : Thread nD τ) (st0_3 t) fullShare (O m c t.val)

def pre (c : Dev nD) (t : Fin cfg0.N) : sProp 𝕄 :=
  iprop(Φat m c t.val ∗ (dats m 0 c).owesAt () t.castSucc ∗ owns (c : Thread nD τ) (st0_0 t) fullShare (iblk m c 0 t)
    ∗ owns (c : Thread nD τ) (st0_1 t) fullShare (iblk m c 1 t) ∗ owns (c : Thread nD τ) (st0_2 t) fullShare (iblk m c 2 t) ∗ outPre m c t)
def post (c : Dev nD) (t : Fin cfg0.N) : sProp 𝕄 :=
  iprop(Φat m c (t.val + 1) ∗ (dats m 0 c).owesAt () t.succ ∗ owns (c : Thread nD τ) (st0_0 t) fullShare (iblk m c 0 t)
    ∗ owns (c : Thread nD τ) (st0_1 t) fullShare (iblk m c 1 t) ∗ owns (c : Thread nD τ) (st0_2 t) fullShare (iblk m c 2 t) ∗ outPost m c t)

/-- What is to be shown of a point. -/
abbrev Runs (c : Dev nD) (t : Fin cfg0.N) : Prop :=
  pre m c t ⊢ wp frame (wpE (defs₀ (F := F)) Variants.none c none) Set.univ (bodyAt0 t) fun _ => post m c t

theorem hs1 (t : Fin cfg0.N) : (st0_0 t).IsWhole := hstage0_0 ((cfg0.slots t 0).cast nbuf0_0)
theorem hs2 (t : Fin cfg0.N) : (st0_1 t).IsWhole := hstage0_1 ((cfg0.slots t 1).cast nbuf0_1)
theorem hs3 (t : Fin cfg0.N) : (st0_2 t).IsWhole := hstage0_2 ((cfg0.slots t 2).cast nbuf0_2)
theorem hs4 (t : Fin cfg0.N) : (st0_3 t).IsWhole := hstage0_3 ((cfg0.slots t 3).cast nbuf0_3)

omit [FloatOps F] in
/-- A device's dealt tokens, by kind. -/
theorem dealt_eq (c : Dev nD) : (Exchange.dealt plan c : sProp 𝕄) ⊢ iprop(atPos ER (barCell c) 0 ∅ 0 ∗ dutyTok ER (barCell (xflip c)) 0 ()
      ∗ (bigSep Finset.univ fun k : Fin 4 => atPos ER (sendCell c k) 0 ∅ 0) ∗ (bigSep Finset.univ fun k : Fin 4 => atPos ER (recvCell c k) 0 ∅ 0)
      ∗ (bigSep Finset.univ fun k : Fin 4 => dutyTok ER (sendCell c k) 0 ()) ∗ (bigSep Finset.univ fun k : Fin 4 => dutyTok ER (recvCell (xflip c) k) 0 ())) := by
  unfold Exchange.dealt
  rw [bigSep_univ_eq_bigSepL [none, some (false, 0), some (false, 1), some (false, 2), some (false, 3), some (true, 0), some (true, 1), some (true, 2), some (true, 3)] (by decide) (by decide),
    bigSep_univ_eq_bigSepL [none, some (false, 0), some (false, 1), some (false, 2), some (false, 3), some (true, 0), some (true, 1), some (true, 2), some (true, 3)] (by decide) (by decide),
    bigSep_univ_eq_bigSepL [0, 1, 2, 3] (by decide) (by decide), bigSep_univ_eq_bigSepL [0, 1, 2, 3] (by decide) (by decide),
    bigSep_univ_eq_bigSepL [0, 1, 2, 3] (by decide) (by decide), bigSep_univ_eq_bigSepL [0, 1, 2, 3] (by decide) (by decide)]
  show iprop((atPos ER (barCell c) 0 ∅ 0 ∗ atPos ER (sendCell c 0) 0 ∅ 0 ∗ atPos ER (sendCell c 1) 0 ∅ 0 ∗ atPos ER (sendCell c 2) 0 ∅ 0 ∗ atPos ER (sendCell c 3) 0 ∅ 0
      ∗ atPos ER (recvCell c 0) 0 ∅ 0 ∗ atPos ER (recvCell c 1) 0 ∅ 0 ∗ atPos ER (recvCell c 2) 0 ∅ 0 ∗ atPos ER (recvCell c 3) 0 ∅ 0)
    ∗ (dutyTok ER (barCell (xflip c)) 0 () ∗ dutyTok ER (sendCell c 0) 0 () ∗ dutyTok ER (sendCell c 1) 0 () ∗ dutyTok ER (sendCell c 2) 0 () ∗ dutyTok ER (sendCell c 3) 0 ()
      ∗ dutyTok ER (recvCell (xflip c) 0) 0 () ∗ dutyTok ER (recvCell (xflip c) 1) 0 () ∗ dutyTok ER (recvCell (xflip c) 2) 0 () ∗ dutyTok ER (recvCell (xflip c) 3) 0 ()))
    ⊢ iprop(atPos ER (barCell c) 0 ∅ 0 ∗ dutyTok ER (barCell (xflip c)) 0 ()
      ∗ (atPos ER (sendCell c 0) 0 ∅ 0 ∗ atPos ER (sendCell c 1) 0 ∅ 0 ∗ atPos ER (sendCell c 2) 0 ∅ 0 ∗ atPos ER (sendCell c 3) 0 ∅ 0)
      ∗ (atPos ER (recvCell c 0) 0 ∅ 0 ∗ atPos ER (recvCell c 1) 0 ∅ 0 ∗ atPos ER (recvCell c 2) 0 ∅ 0 ∗ atPos ER (recvCell c 3) 0 ∅ 0)
      ∗ (dutyTok ER (sendCell c 0) 0 () ∗ dutyTok ER (sendCell c 1) 0 () ∗ dutyTok ER (sendCell c 2) 0 () ∗ dutyTok ER (sendCell c 3) 0 ())
      ∗ (dutyTok ER (recvCell (xflip c) 0) 0 () ∗ dutyTok ER (recvCell (xflip c) 1) 0 () ∗ dutyTok ER (recvCell (xflip c) 2) 0 () ∗ dutyTok ER (recvCell (xflip c) 3) 0 ()))
  iintro ⟨⟨B, S0, S1, S2, S3, R0, R1, R2, R3⟩, TB, TS0, TS1, TS2, TS3, TR⟩
  isplitl [B]; · iexact B
  isplitl [TB]; · iexact TB
  isplitl [S0 S1 S2 S3]
  · isplitl [S0]; · iexact S0
    isplitl [S1]; · iexact S1
    isplitl [S2] <;> iassumption
  isplitl [R0 R1 R2 R3]
  · isplitl [R0]; · iexact R0
    isplitl [R1]; · iexact R1
    isplitl [R2] <;> iassumption
  isplitr [TR]; swap; · iexact TR
  isplitl [TS0]; · iexact TS0
  isplitl [TS1]; · iexact TS1
  isplitl [TS2] <;> iassumption

omit [FloatOps F] in
/-- What sending takes, gathered chunk by chunk. -/
theorem toSend_all (c : Dev nD) : iprop((bigSep Finset.univ fun k : Fin 4 => iprop(∃ v : Vec F S512x2048 .bf16, owns (c : Thread nD τ) (hC k) fullShare v)) ∗ landing (F := F) (xflip c)
      ∗ (bigSep Finset.univ fun k : Fin 4 => dutyTok ER (sendCell c k) 0 ()) ∗ (bigSep Finset.univ fun k : Fin 4 => dutyTok ER (recvCell (xflip c) k) 0 ())
      ∗ (bigSep Finset.univ fun k : Fin 4 => atPos ER (sendCell c k) 0 ∅ 0)) ⊢ (bigSep Finset.univ (toSend (F := F) c) : sProp 𝕄) := by
  unfold landing
  rw [← bigSep_sep', ← bigSep_sep', ← bigSep_sep', ← bigSep_sep']
  exact Entails.of_eq rfl
omit [FloatOps F] in
theorem toCome_all (c : Dev nD) : iprop((bigSep Finset.univ fun k : Fin 4 => atPos ER (recvCell c k) 0 ∅ 0) ∗ (bigSep Finset.univ fun k : Fin 4 => cred (tallyAt (recvCell c k) () N)))
    ⊢ (bigSep Finset.univ (toCome (F := F) c) : sProp 𝕄) := by
  rw [← bigSep_sep']
  exact Entails.of_eq rfl

theorem snd_one (c : Dev nD) : snd m c 1 = toSend c := funext fun k => by unfold snd; rw [if_pos (by omega)]
theorem rcv_one (c : Dev nD) : rcv m c 1 = toCome c := funext fun k => by unfold rcv; rw [if_pos (by omega)]

section Shapes
variable (c : Dev nD) (t : Fin cfg0.N)

theorem runs_start (h : t.val = 0) : Runs m c t := by
  unfold Runs pre post outPost
  rw [if_pos (by omega), h, Φat_zero, Φat_pos m c (0 + 1) (by decide)]
  unfold Φ₀ Φ₁ R begins Exchange.start
  rw [show 0 + 1 = 1 from rfl, snd_one, rcv_one]
  iintro ⟨⟨⟨⟨%K, #HR, Hdealt⟩, Hd⟩, HcB, HcV, #Hlev, ⟨%fr, Hr⟩, ⟨%fh, Hh⟩, ⟨%fa, Ha⟩, ⟨%fb, Hb⟩⟩, Ho, H1, H2, H3, H4⟩
  ihave Ho' := (owes_at m c t) $$ Ho
  unfold owesN
  rw [h]
  icases Ho' with ⟨%W, HO⟩
  ihave Hdealt' := (dealt_eq c) $$ Hdealt
  icases Hdealt' with ⟨HaB, HtB, HaS, HaV, HtS, HtV⟩
  ihave Hhc := (split_chunks c hM fh) $$ Hh
  iapply (run_head (hv m) c (grid0.coords t) (st0_0 t) (hs1 t) (st0_1 t) (hs2 t) (st0_2 t) (hs3 t) (st0_3 t) (hs4 t) K
    ((cond1_at t).mpr (by omega)) ((cond2_at t).mpr (by omega)) ((c3_at t).mpr (by omega)) (fun h' => by have := (cond4_at t).mp h'; omega) (fun h' => by have := (cond5_at t).mp h'; omega) (fun h' => by have := (c8_at t).mp h'; omega)
    fr fa (iblk m c 0 t) (iblk m c 1 t) W)
  isplitr; · iexact HR
  isplitr; · iexact Hlev
  isplitl [HaB]; · iexact HaB
  isplitl [HtB]; · iexact HtB
  isplitl [HcB]; · iexact HcB
  isplitl [HO]; · iexact HO
  isplitl [Hr]; · iexact Hr
  isplitl [Ha]; · iexact Ha
  isplitl [H1]; · iexact H1
  isplitl [H2]; · iexact H2
  iintro ⟨Hl, HzB, Ha, H1, H2, ⟨%W', HO⟩⟩
  have eA : A m c 1 = aStep (grid0.coords t) (iblk m c 0 t) (iblk m c 1 t) fa := by
    have e := A_next m c t
    rw [h] at e
    rw [e, aStep_starts t (by omega) (by omega) _ _ _ fa]
  rw [eA]
  isplitl [HzB Hd Hb Ha Hhc Hl HtS HtV HaS HaV HcV]
  · isplitl [HzB]
    · isplitr; · iexists K; iexact HR
      iexact HzB
    isplitl [Hd Hb]
    · isplitl [Hd]; · iexact Hd
      iexists fb; iexact Hb
    isplitl [Ha]; · iexact Ha
    isplitr [HaV HcV]
    · iapply (toSend_all c)
      isplitl [Hhc]; · iexact Hhc
      isplitl [Hl]; · iexact Hl
      isplitl [HtS]; · iexact HtS
      isplitl [HtV]; · iexact HtV
      iexact HaS
    · iapply (toCome_all c)
      isplitl [HaV]; · iexact HaV
      iexact HcV
  isplitl [HO]; · iapply (owes_to m c t); unfold owesN; rw [h]; iexists W'; iexact HO
  isplitl [H1]; · iexact H1
  isplitl [H2]; · iexact H2
  isplitl [H3]; · iexact H3
  iexact H4

/-- The families that a gathering point that sends nothing leaves alone. -/
theorem kept (h : t.val < 12) (h' : t.val % 3 ≠ 2) : snd m c (t.val + 1) = snd m c t.val ∧ rcv m c (t.val + 1) = rcv m c t.val :=
  ⟨funext fun k => (snd_same m c t.val k (by omega) (by omega)).symm, funext fun k => (rcv_same m c t.val k (by omega)).symm⟩

theorem runs_first (h : t.val < 12) (h0 : t.val ≠ 0) (h' : t.val % 3 = 0) : Runs m c t := by
  obtain ⟨es, er⟩ := kept m c t h (by omega)
  unfold Runs pre post outPost
  rw [if_pos (by omega), Φat_pos m c _ h0, Φat_pos m c (t.val + 1) (Nat.succ_ne_zero _)]
  unfold Φ₁
  rw [es, er, A_next]
  iintro ⟨⟨HK, Hd, Ha, HS⟩, Ho, H1, H2, H3, H4⟩
  iapply (run_first c (grid0.coords t) (st0_0 t) (hs1 t) (st0_1 t) (hs2 t) (st0_2 t) (hs3 t) (st0_3 t) (hs4 t)
    (fun h' => by have := (cond1_at t).mp h'; omega) ((cond2_at t).mpr (by omega)) ((c3_at t).mpr (by omega)) (fun h' => by have := (cond4_at t).mp h'; omega) (fun h' => by have := (cond5_at t).mp h'; omega) (fun h' => by have := (c8_at t).mp h'; omega)
    (A m c t.val) (iblk m c 0 t) (iblk m c 1 t))
  isplitl [Ha]; · iexact Ha
  isplitl [H1]; · iexact H1
  isplitl [H2]; · iexact H2
  iintro ⟨Ha, H1, H2⟩
  isplitl [HK Hd Ha HS]
  · isplitl [HK]; · iexact HK
    isplitl [Hd]; · iexact Hd
    isplitl [Ha]; · iexact Ha
    iexact HS
  isplitl [Ho]; · iapply (owes_same m c t h0 (Or.inl (by omega))); iexact Ho
  isplitl [H1]; · iexact H1
  isplitl [H2]; · iexact H2
  isplitl [H3]; · iexact H3
  iexact H4

theorem runs_more (h : t.val < 12) (h0 : t.val ≠ 0) (h' : t.val % 3 = 1) : Runs m c t := by
  obtain ⟨es, er⟩ := kept m c t h (by omega)
  unfold Runs pre post outPost
  rw [if_pos (by omega), Φat_pos m c _ h0, Φat_pos m c (t.val + 1) (Nat.succ_ne_zero _)]
  unfold Φ₁
  rw [es, er, A_next]
  iintro ⟨⟨HK, Hd, Ha, HS⟩, Ho, H1, H2, H3, H4⟩
  iapply (run_more c (grid0.coords t) (st0_0 t) (hs1 t) (st0_1 t) (hs2 t) (st0_2 t) (hs3 t) (st0_3 t) (hs4 t)
    (fun h' => by have := (cond1_at t).mp h'; omega) ((cond2_at t).mpr (by omega)) (fun h' => by have := (c3_at t).mp h'; omega) (fun h' => by have := (cond4_at t).mp h'; omega) (fun h' => by have := (cond5_at t).mp h'; omega) (fun h' => by have := (c8_at t).mp h'; omega)
    (A m c t.val) (iblk m c 0 t) (iblk m c 1 t))
  isplitl [Ha]; · iexact Ha
  isplitl [H1]; · iexact H1
  isplitl [H2]; · iexact H2
  iintro ⟨Ha, H1, H2⟩
  isplitl [HK Hd Ha HS]
  · isplitl [HK]; · iexact HK
    isplitl [Hd]; · iexact Hd
    isplitl [Ha]; · iexact Ha
    iexact HS
  isplitl [Ho]; · iapply (owes_same m c t h0 (Or.inl (by omega))); iexact Ho
  isplitl [H1]; · iexact H1
  isplitl [H2]; · iexact H2
  isplitl [H3]; · iexact H3
  iexact H4

theorem runs_send (h : t.val < 12) (h' : t.val % 3 = 2) : Runs m c t := by
  have ej : 3 * (chunk t.val).val + 2 = t.val := by show 3 * (t.val / 3 % 4) + 2 = t.val; omega
  have er : rcv m c (t.val + 1) = rcv m c t.val := funext fun k => (rcv_same m c t.val k (by omega)).symm
  have hch := change (chunk t.val) (snd m c t.val) (snd m c (t.val + 1)) fun k hk => snd_same m c t.val k (fun e => hk (Fin.ext (by omega))) (by omega)
  rw [show snd m c t.val (chunk t.val) = toSend c (chunk t.val) from if_pos (by omega),
    show snd m c (t.val + 1) (chunk t.val) = onWay m c (chunk t.val) from (if_neg (by omega)).trans (if_pos (by omega))] at hch
  unfold Runs pre post outPost
  rw [if_pos (by omega), Φat_pos m c _ (by omega), Φat_pos m c (t.val + 1) (Nat.succ_ne_zero _)]
  unfold Φ₁ R
  rw [er, A_next]
  iintro ⟨⟨⟨⟨%K, #HR⟩, HzB⟩, Hd, Ha, HS, HV⟩, Ho, H1, H2, H3, H4⟩
  ihave Ho' := (owes_at m c t) $$ Ho
  unfold owesN
  icases Ho' with ⟨%W, HO⟩
  ihave HS' := hch $$ HS
  unfold toSend onWay sent
  icases HS' with ⟨⟨⟨%vh, Hh⟩, ⟨%vr, Hr⟩, Hts, Htr, Hat⟩, Hback⟩
  have hrun := run_send c (grid0.coords t) (st0_0 t) (hs1 t) (st0_1 t) (hs2 t) (st0_2 t) (hs3 t) (st0_3 t) (hs4 t) (hv m) K (chunk t.val)
    (off2_at t h h') (off3_at t h h') (off4_at t h h')
    (fun h' => by have := (cond1_at t).mp h'; omega) ((cond2_at t).mpr (by omega)) (fun h' => by have := (c3_at t).mp h'; omega) ((cond4_at t).mpr (by omega)) (fun h' => by have := (cond5_at t).mp h'; omega) (fun h' => by have := (c8_at t).mp h'; omega)
    (A m c t.val) (iblk m c 0 t) (iblk m c 1 t) (iblk m c 2 t) (hv_at m c t h h') vh vr W
  rw [show 3 * (chunk t.val).val + 3 = t.val + 1 by omega, ej] at hrun
  iapply (hrun _)
  isplitr; · iexact HR
  isplitl [Ha]; · iexact Ha
  isplitl [H1]; · iexact H1
  isplitl [H2]; · iexact H2
  isplitl [H3]; · iexact H3
  isplitl [Hh]; · iexact Hh
  isplitl [Hr]; · iexact Hr
  isplitl [HO]; · iexact HO
  isplitl [Hts]; · iexact Hts
  isplitl [Htr]; · iexact Htr
  iintro ⟨Ha, H1, H2, H3, Hh, Hc, HO⟩
  isplitl [HzB Hd Ha Hh Hc Hat Hback HV]
  · isplitl [HzB]
    · isplitr; · iexists K; iexact HR
      iexact HzB
    isplitl [Hd]; · iexact Hd
    isplitl [Ha]; · iexact Ha
    isplitr [HV]; swap; · iexact HV
    iapply Hback
    isplitl [Hh]; · iexact Hh
    isplitl [Hat]; · iexact Hat
    iexact Hc
  isplitl [HO]; · iapply (owes_to m c t); unfold owesN; iexists W; iexact HO
  isplitl [H1]; · iexact H1
  isplitl [H2]; · iexact H2
  isplitl [H3]; · iexact H3
  iexact H4

/-! ## The writing points -/

theorem writes_own (h : 12 ≤ t.val) (hx : (t.val - 12) / 4 = c.val / 4) : O m c t.val = k0_pay3 (hv m c (outChunk t.val)) := by
  unfold O who; rw [if_pos hx]
theorem writes_got (h : 12 ≤ t.val) (hx : (t.val - 12) / 4 ≠ c.val / 4) : O m c t.val = k0_pay4 (hv m (xflip c) (outChunk t.val)) := by
  unfold O who; rw [if_neg hx]; rfl

/-- Every chunk is on its way. -/
theorem snd_way (n : ℕ) (h : 12 ≤ n) (h' : n < 20) : snd m c n = onWay m c := funext fun k => by
  unfold snd; rw [if_neg (by omega), if_pos h']
theorem snd_back : snd m c 20 = isBack m c := funext fun k => by
  unfold snd; rw [if_neg (by omega), if_neg (by omega)]
/-- Owed nothing, a device has nothing to pay before any later point. -/
theorem owes_late (h : 12 ≤ t.val) : (dats m 0 c).owesAt () t.castSucc ⊢ iprop(∃ W, owes (c : Thread nD τ) 0 W) := by
  have ht : t.val < 20 := N_20 ▸ t.isLt
  refine (owes_at m c t).trans ?_
  unfold owesN; rw [Ow_late c _ h (by omega)]
theorem owes_last (h : 12 ≤ t.val) : iprop(∃ W, owes (c : Thread nD τ) 0 W) ⊢ (dats m 0 c).owesAt () t.succ := by
  have ht : t.val < 20 := N_20 ▸ t.isLt
  refine BI.Entails.trans ?_ (owes_to m c t)
  unfold owesN; rw [Ow_late c _ (by omega) (by omega)]
  exact BI.Entails.refl _

/-- The chunks on their way, split into what stays and what the waits need; -/
theorem way_split : bigSep Finset.univ (onWay m c) ⊢ iprop((bigSep Finset.univ fun k : Fin 4 => owns (c : Thread nD τ) (hC k) fullShare.left (hv m c k)) ∗ bigSep Finset.univ fun k : Fin 4 => sent c k) :=
  Entails.of_eq (bigSep_sep' Finset.univ (fun k : Fin 4 => owns (c : Thread nD τ) (hC k) fullShare.left (hv m c k)) (fun k : Fin 4 => sent c k))
theorem back_one (k : Fin 4) : iprop(owns (c : Thread nD τ) (hC k) fullShare.left (hv m c k) ∗ back (hv m) c k) ⊢ isBack m c k := by
  unfold back isBack
  iintro ⟨Hl, Hr, Hz⟩
  isplitr [Hz]; swap; · iexact Hz
  iapply (owns_share (c : Thread nD τ) (hC k) (PosShare.mem_left_op_right fullShare) (hv m c k)).2
  isplitl [Hl] <;> iassumption
/-- and put together again after them. -/
theorem back_join : iprop((bigSep Finset.univ fun k : Fin 4 => owns (c : Thread nD τ) (hC k) fullShare.left (hv m c k)) ∗ bigSep Finset.univ fun k : Fin 4 => back (hv m) c k) ⊢ bigSep Finset.univ (isBack m c) :=
  (Entails.of_eq (bigSep_sep' Finset.univ (fun k : Fin 4 => owns (c : Thread nD τ) (hC k) fullShare.left (hv m c k)) (fun k : Fin 4 => back (hv m) c k)).symm).trans
    (bigSep_mono fun k _ => back_one m c k)

theorem runs_own (h : 12 ≤ t.val) (h' : t.val < 19) (hx : (t.val - 12) / 4 = c.val / 4) : Runs m c t := by
  have h12 : 12 ≤ t.val := by omega
  have er : rcv m c (t.val + 1) = rcv m c t.val := funext fun k => (rcv_same m c t.val k (by omega)).symm
  have hch := change (outChunk t.val) (onWay m c) (onWay m c) fun k _ => rfl
  unfold Runs pre post outPost outPre
  rw [if_neg (by omega), Φat_pos m c _ (by omega), Φat_pos m c (t.val + 1) (Nat.succ_ne_zero _), writes_own m c t h12 hx]
  unfold Φ₁ R
  rw [er, A_keeps m c t h12, snd_way m c t.val h12 (by omega), snd_way m c (t.val + 1) (by omega) (by omega)]
  iintro ⟨⟨⟨⟨%K, #HR⟩, HzB⟩, ⟨Hd, ⟨%fb, Hb⟩⟩, Ha, HS, HV⟩, Ho, H1, H2, H3, ⟨%d, H4⟩⟩
  ihave HS' := hch $$ HS
  unfold onWay
  icases HS' with ⟨⟨Hh, Hs⟩, Hback⟩
  iapply (run_own c (grid0.coords t) (st0_0 t) (hs1 t) (st0_1 t) (hs2 t) (st0_2 t) (hs3 t) (st0_3 t) (hs4 t) (outChunk t.val) (off5_at t h12)
    (fun h' => by have := (cond1_at t).mp h'; omega) (fun h' => by have := (cond2_at t).mp h'; omega) ((cond5_at t).mpr (by omega)) ((cond6_at t c h12).mpr hx) (fun h' => (cond7_at t c h12).mp h' hx) (fun h' => by have := (c8_at t).mp h'; omega)
    ((dats m 0 c).before 3 t d) (hv m c (outChunk t.val)) fullShare.left)
  isplitl [Hh]; · iexact Hh
  isplitl [H4]; · iexact H4
  iintro ⟨Hh, H4⟩
  isplitl [HzB Hd Hb Ha Hh Hs Hback HV]
  · isplitl [HzB]
    · isplitr; · iexists K; iexact HR
      iexact HzB
    isplitl [Hd Hb]
    · isplitl [Hd]; · iexact Hd
      iexists _; iexact Hb
    isplitl [Ha]; · iexact Ha
    isplitr [HV]; swap; · iexact HV
    iapply Hback
    isplitl [Hh]; · iexact Hh
    iexact Hs
  isplitl [Ho]; · iapply (owes_same m c t (by omega) (Or.inr h12)); iexact Ho
  isplitl [H1]; · iexact H1
  isplitl [H2]; · iexact H2
  isplitl [H3]; · iexact H3
  iexact H4

theorem runs_own_last (h : t.val = 19) (hx : (t.val - 12) / 4 = c.val / 4) : Runs m c t := by
  have h12 : 12 ≤ t.val := by omega
  have er : rcv m c (t.val + 1) = rcv m c t.val := funext fun k => (rcv_same m c t.val k (by omega)).symm
  have hch := change (outChunk t.val) (fun k : Fin 4 => owns (c : Thread nD τ) (hC k) fullShare.left (hv m c k)) (fun k : Fin 4 => owns (c : Thread nD τ) (hC k) fullShare.left (hv m c k)) fun k _ => rfl
  unfold Runs pre post outPost outPre
  rw [if_neg (by omega), Φat_pos m c _ (by omega), Φat_pos m c (t.val + 1) (Nat.succ_ne_zero _), writes_own m c t h12 hx]
  unfold Φ₁ R
  rw [er, A_keeps m c t h12, snd_way m c t.val h12 (by omega), show t.val + 1 = 20 by omega, snd_back]
  iintro ⟨⟨⟨⟨%K, #HR⟩, HzB⟩, ⟨Hd, ⟨%fb, Hb⟩⟩, Ha, HS, HV⟩, Ho, H1, H2, H3, ⟨%d, H4⟩⟩
  ihave Ho' := (owes_late m c t h12) $$ Ho
  icases Ho' with ⟨%W, HO⟩
  ihave HS' := (way_split m c) $$ HS
  icases HS' with ⟨HL, HS⟩
  ihave HS' := hch $$ HL
  icases HS' with ⟨Hh, Hback⟩
  iapply (run_own_last (hv m) c (grid0.coords t) (st0_0 t) (hs1 t) (st0_1 t) (hs2 t) (st0_2 t) (hs3 t) (st0_3 t) (hs4 t) K (outChunk t.val) (off5_at t h12)
    (fun h' => by have := (cond1_at t).mp h'; omega) (fun h' => by have := (cond2_at t).mp h'; omega) ((cond5_at t).mpr (by omega)) ((cond6_at t c h12).mpr hx) (fun h' => (cond7_at t c h12).mp h' hx) ((c8_at t).mpr (by omega))
    ((dats m 0 c).before 3 t d) (hv m c (outChunk t.val)) fullShare.left W)
  isplitr; · iexact HR
  isplitl [HS]; · iexact HS
  isplitl [HO]; · iexact HO
  isplitl [Hh]; · iexact Hh
  isplitl [H4]; · iexact H4
  iintro ⟨Hh, H4, HB, HO⟩
  ihave HL := Hback $$ Hh
  isplitl [HzB Hd Hb Ha HL HB HV]
  · isplitl [HzB]
    · isplitr; · iexists K; iexact HR
      iexact HzB
    isplitl [Hd Hb]
    · isplitl [Hd]; · iexact Hd
      iexists _; iexact Hb
    isplitl [Ha]; · iexact Ha
    isplitr [HV]; swap; · iexact HV
    iapply (back_join m c)
    isplitl [HL]; · iexact HL
    iexact HB
  isplitl [HO]; · iapply (owes_last m c t h12); iexact HO
  isplitl [H1]; · iexact H1
  isplitl [H2]; · iexact H2
  isplitl [H3]; · iexact H3
  iexact H4

theorem runs_got (h : 12 ≤ t.val) (h' : t.val < 19) (hx : (t.val - 12) / 4 ≠ c.val / 4) : Runs m c t := by
  have h12 : 12 ≤ t.val := by omega
  have ht : t.val < 20 := N_20 ▸ t.isLt
  have hc : c.val < 8 := c.isLt
  have ej : 12 + 4 * (1 - c.val / 4) + (outChunk t.val).val = t.val := by show 12 + 4 * (1 - c.val / 4) + t.val % 4 = t.val; omega
  have hch := change (outChunk t.val) (rcv m c t.val) (rcv m c (t.val + 1)) fun k hk => rcv_same m c t.val k (fun e => hk (Fin.ext (by omega)))
  rw [show rcv m c t.val (outChunk t.val) = toCome c (outChunk t.val) from if_pos (by omega),
    show rcv m c (t.val + 1) (outChunk t.val) = hasCome m c (outChunk t.val) from if_neg (by omega)] at hch
  unfold Runs pre post outPost outPre
  rw [if_neg (by omega), Φat_pos m c _ (by omega), Φat_pos m c (t.val + 1) (Nat.succ_ne_zero _), writes_got m c t h12 hx]
  unfold Φ₁ R
  rw [A_keeps m c t h12, snd_way m c t.val h12 (by omega), snd_way m c (t.val + 1) (by omega) (by omega)]
  iintro ⟨⟨⟨⟨%K, #HR⟩, HzB⟩, ⟨Hd, ⟨%fb, Hb⟩⟩, Ha, HS, HV⟩, Ho, H1, H2, H3, ⟨%d, H4⟩⟩
  ihave Ho' := (owes_late m c t h12) $$ Ho
  icases Ho' with ⟨%W, HO⟩
  ihave HV' := hch $$ HV
  unfold toCome hasCome
  icases HV' with ⟨⟨Hat, Hcr⟩, Hback⟩
  iapply (run_got (hv m) c (grid0.coords t) (st0_0 t) (hs1 t) (st0_1 t) (hs2 t) (st0_2 t) (hs3 t) (st0_3 t) (hs4 t) K (outChunk t.val) (off6_at t h12) (off7_at t h12)
    (fun h' => by have := (cond1_at t).mp h'; omega) (fun h' => by have := (cond2_at t).mp h'; omega) ((cond5_at t).mpr (by omega)) (fun h' => hx ((cond6_at t c h12).mp h')) ((cond7_at t c h12).mpr hx) (fun h' => by have := (c8_at t).mp h'; omega)
    ((dats m 0 c).before 3 t d) fb W)
  isplitr; · iexact HR
  isplitl [Hat]; · iexact Hat
  isplitl [Hcr]; · iexact Hcr
  isplitl [HO]; · iexact HO
  isplitl [Hb]; · iexact Hb
  isplitl [Hd]; · iexact Hd
  isplitl [H4]; · iexact H4
  iintro ⟨Hr, Hz, Hb, Hd, H4, HO⟩
  isplitl [HzB Hd Hb Ha Hr Hz Hback HS]
  · isplitl [HzB]
    · isplitr; · iexists K; iexact HR
      iexact HzB
    isplitl [Hd Hb]
    · isplitl [Hd]; · iexact Hd
      iexists _; iexact Hb
    isplitl [Ha]; · iexact Ha
    isplitl [HS]; · iexact HS
    iapply Hback
    isplitl [Hr]; · iexact Hr
    iexact Hz
  isplitl [HO]; · iapply (owes_last m c t h12); iexact HO
  isplitl [H1]; · iexact H1
  isplitl [H2]; · iexact H2
  isplitl [H3]; · iexact H3
  iexact H4

theorem runs_got_last (h : t.val = 19) (hx : (t.val - 12) / 4 ≠ c.val / 4) : Runs m c t := by
  have h12 : 12 ≤ t.val := by omega
  have ht : t.val < 20 := N_20 ▸ t.isLt
  have hc : c.val < 8 := c.isLt
  have ej : 12 + 4 * (1 - c.val / 4) + (outChunk t.val).val = t.val := by show 12 + 4 * (1 - c.val / 4) + t.val % 4 = t.val; omega
  have hch := change (outChunk t.val) (rcv m c t.val) (rcv m c (t.val + 1)) fun k hk => rcv_same m c t.val k (fun e => hk (Fin.ext (by omega)))
  rw [show rcv m c t.val (outChunk t.val) = toCome c (outChunk t.val) from if_pos (by omega),
    show rcv m c (t.val + 1) (outChunk t.val) = hasCome m c (outChunk t.val) from if_neg (by omega)] at hch
  rw [show t.val + 1 = 20 by omega] at hch
  unfold Runs pre post outPost outPre
  rw [if_neg (by omega), Φat_pos m c _ (by omega), Φat_pos m c (t.val + 1) (Nat.succ_ne_zero _), writes_got m c t h12 hx]
  unfold Φ₁ R
  rw [A_keeps m c t h12, snd_way m c t.val h12 (by omega), show t.val + 1 = 20 by omega, snd_back]
  iintro ⟨⟨⟨⟨%K, #HR⟩, HzB⟩, ⟨Hd, ⟨%fb, Hb⟩⟩, Ha, HS, HV⟩, Ho, H1, H2, H3, ⟨%d, H4⟩⟩
  ihave Ho' := (owes_late m c t h12) $$ Ho
  icases Ho' with ⟨%W, HO⟩
  ihave HS' := (way_split m c) $$ HS
  icases HS' with ⟨HL, HS⟩
  ihave HV' := hch $$ HV
  unfold toCome hasCome
  icases HV' with ⟨⟨Hat, Hcr⟩, Hback⟩
  iapply (run_got_last (hv m) c (grid0.coords t) (st0_0 t) (hs1 t) (st0_1 t) (hs2 t) (st0_2 t) (hs3 t) (st0_3 t) (hs4 t) K (outChunk t.val) (off6_at t h12) (off7_at t h12)
    (fun h' => by have := (cond1_at t).mp h'; omega) (fun h' => by have := (cond2_at t).mp h'; omega) ((cond5_at t).mpr (by omega)) (fun h' => hx ((cond6_at t c h12).mp h')) ((cond7_at t c h12).mpr hx) ((c8_at t).mpr (by omega))
    ((dats m 0 c).before 3 t d) fb W)
  isplitr; · iexact HR
  isplitl [HS]; · iexact HS
  isplitl [Hat]; · iexact Hat
  isplitl [Hcr]; · iexact Hcr
  isplitl [HO]; · iexact HO
  isplitl [Hb]; · iexact Hb
  isplitl [Hd]; · iexact Hd
  isplitl [H4]; · iexact H4
  iintro ⟨Hr, Hz, Hb, Hd, H4, HB, HO⟩
  isplitl [HzB Hd Hb Ha Hr Hz Hback HL HB]
  · isplitl [HzB]
    · isplitr; · iexists K; iexact HR
      iexact HzB
    isplitl [Hd Hb]
    · isplitl [Hd]; · iexact Hd
      iexists _; iexact Hb
    isplitl [Ha]; · iexact Ha
    isplitl [HL HB]
    · iapply (back_join m c)
      isplitl [HL]; · iexact HL
      iexact HB
    iapply Hback
    isplitl [Hr]; · iexact Hr
    iexact Hz
  isplitl [HO]; · iapply (owes_last m c t h12); iexact HO
  isplitl [H1]; · iexact H1
  isplitl [H2]; · iexact H2
  isplitl [H3]; · iexact H3
  iexact H4

theorem runs : Runs m c t := by
  have ht : t.val < 20 := N_20 ▸ t.isLt
  by_cases h0 : t.val = 0; · exact runs_start m c t h0
  by_cases h12 : t.val < 12
  · by_cases hf : t.val % 3 = 0; · exact runs_first m c t h12 h0 hf
    by_cases hm : t.val % 3 = 1; · exact runs_more m c t h12 h0 hm
    exact runs_send m c t h12 (by omega)
  by_cases hx : (t.val - 12) / 4 = c.val / 4
  · by_cases hl : t.val = 19; · exact runs_own_last m c t hl hx
    exact runs_own m c t (by omega) (by omega) hx
  · by_cases hl : t.val = 19; · exact runs_got_last m c t hl hx
    exact runs_got m c t (by omega) (by omega) hx

end Shapes

/-- The library's body obligation. -/
theorem body_obligation (c : Dev nD) : BodyObligation (dats m 0 c) (defs₀ (F := F)) Variants.none () Set.univ := fun t => by
  rw [bigSep_W0, bigSep_W0]
  have e2 : (match cfg0.idle 3 (cfg0.grid.coords t) with
      | true =>
        match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t)) = outPost m c t := by
    unfold outPost
    rw [show cfg0.idle 3 (cfg0.grid.coords t) = _ from idle_at t, flush_at t]
    by_cases h : t.val < 12
    · rw [decide_eq_true h, decide_eq_false (by omega), if_pos h]; rfl
    · rw [decide_eq_false h, if_neg h]; rfl
  have hr := runs m c t
  unfold Runs pre post outPre at hr
  rw [← e2] at hr
  simp only [before_0, before_1, before_2]
  show iprop(Φat m c t.val ∗ _) ⊢ _
  iintro ⟨HΦ, Ho, ⟨%d0, H0⟩, ⟨%d1, H1⟩, ⟨%d2, H2⟩, H3⟩
  iapply hr
  isplitl [HΦ]; · iexact HΦ
  isplitl [Ho]; · iexact Ho
  isplitl [H0]; · iexact H0
  isplitl [H1]; · iexact H1
  isplitl [H2]; · iexact H2
  iexact H3

end Cert.GatherProof
end
-- ==== Proof.GatherLaunch.lean ====
/-
# The gathering call: the run of the whole program

From any memory with zero counters every execution of the program terminates with the arrays as the proof data says,
the arguments unchanged and every semaphore at zero.
-/
module

public import proofs.«01_k».proof.Proof.GatherBody
public import Idealize.ShloMosaic.Adequacy
public import Idealize.ShloMosaic.Init
public import Idealize.ShloMosaic.Lib.Pipeline.CollectiveSegs

@[expose] public section

noncomputable section

namespace Cert.GatherProof

open Cert.GatherIdeal Cert.GatherIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records owes' L lv)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at the launch -/

/-- The call's own semaphores. -/
abbrev osem : Fin 9 → SemLoc sig := fun | 0 => .dma (sendS 0) | 1 => .dma (sendS 1) | 2 => .dma (sendS 2) | 3 => .dma (sendS 3) | 4 => .dma (recvS 0) | 5 => .dma (recvS 1) | 6 => .dma (recvS 2) | 7 => .dma (recvS 3) | 8 => .dma copyS
theorem ownSemFacts : Pipeline.OwnSemFacts cfg0.spec osem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), (initOf (Exchange.cells plan) (Exchange.toks plan), 1))

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0 ∗ semVal (copyCell c) 0) := by
  rw [Pipeline.ownSems0_eq_of_list c osem [0, 1, 2, 3, 4, 5, 6, 7, 8] (by decide) (by decide)]; rfl
omit [FloatOps F] in
/-- The barrier semaphore is the one that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at the launch. -/
def sems (c : Dev nD) : sProp 𝕄 :=
  iprop(Pipeline.ownSems0 (Ix := Unit) (Name := ℕ) (U := UU) (Lvl := ℕ) (Val := Elt F) (τ := τ) osem c ∗ unscopedSems0 c)

omit [FloatOps F] in
/-- The exchange's nine and the copies' one. -/
theorem sems_eq (c : Dev nD) : (sems c : sProp 𝕄) ⊢ iprop((bigSep Finset.univ fun k : I => semVal (plan.cell (c, k)) 0) ∗ semVal (copyCell c) 0) := by
  unfold sems
  rw [ownSems0_eq, unscopedSems0_eq, bigSep_univ_eq_bigSepL [none, some (false, 0), some (false, 1), some (false, 2), some (false, 3), some (true, 0), some (true, 1), some (true, 2), some (true, 3)] (by decide) (by decide)]
  show _ ⊢ iprop((semVal (barCell c) 0 ∗ semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) ∗ semVal (copyCell c) 0)
  iintro ⟨⟨H0, H1, H2, H3, H4, H5, H6, H7, HC⟩, HB⟩
  isplitr [HC]; swap; · iexact HC
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6] <;> iassumption

theorem assoc (c : Dev nD) : iprop(Pipeline.ownSems0 (Ix := Unit) (Name := ℕ) (U := UU) (Lvl := ℕ) (Val := Elt F) (τ := τ) osem c ∗ unscopedSems0 c ∗ Exchange.G plan (pay (hv m)) c)
    ⊢ iprop(sems c ∗ Exchange.G plan (pay (hv m)) c) := by
  unfold sems
  iintro ⟨H1, H2, H3⟩
  isplitr [H3]; swap; · iexact H3
  isplitl [H1] <;> iassumption

/-- The step all devices take at once. -/
theorem glob : (bigSep Finset.univ fun c => iprop(Pipeline.ownSems0 (Ix := Unit) (Name := ℕ) (U := UU) (Lvl := ℕ) (Val := Elt F) (τ := τ) osem c ∗ unscopedSems0 c ∗ Exchange.G plan (pay (hv m)) c) : sProp 𝕄)
    ⊢ |={Set.univ}=> bigSep Finset.univ (begins m) :=
  (bigSep_mono fun c _ => assoc m c).trans (Exchange.glob plan (pay (hv m)) sems (fun c => semVal (copyCell c) 0) sems_eq)

/-- What a device owes at the launch. -/
abbrev O₀ (c : Dev nD) : CellTallies nD τ sig Unit := owes' plan (owing 0) c

omit [FloatOps F] in
theorem creds (c : Dev nD) : (Pipeline.launchCred O₀ c : sProp 𝕄) ⊢ iprop(cred (tallyAt (barCell c) () 1) ∗ bigSep Finset.univ fun k : Fin 4 => cred (tallyAt (recvCell c k) () N)) := by
  have h := Exchange.creds (τ := τ) (Val := Elt F) plan (owing 0) c
  rw [bigSep_eq_bigSepL_of_eq [none, some (true, 0), some (true, 1), some (true, 2), some (true, 3)] (by decide +kernel) (by decide)] at h
  rw [bigSep_univ_eq_bigSepL [0, 1, 2, 3] (by decide) (by decide)]
  exact h

theorem staging_other : ∀ (w : Fin cfg0.W) (s : Fin (cfg0.win w).nbuf) (k : I), plan.sem k ≠ .dma ((cfg0.win w).sem s) := by decide +kernel

/-- Everything owed is of a higher level than the staging semaphores. -/
theorem owing_level (n : ℕ) (k : I) (h : k ∈ owing n) : 0 < plan.level k := by
  unfold owing at h
  rw [Finset.mem_filter] at h
  rcases k with _ | ⟨_ | _, k⟩
  · decide
  · exact absurd h.2 Bool.false_ne_true
  · show 0 < 2; decide

/-- While it owes, a device may wait on the staging semaphores. -/
theorem waits (c : Dev nD) : (levAts L (lv plan) : sProp 𝕄) ⊢ Pipeline.cellsWaits cfgs (dats m) () 0 c :=
  Pipeline.cellsWaits_intro cfgs (dats m) () 0 c fun w s t => by
    rw [show (dats m 0 c).owed t = owes' plan (owing t.val) c from rfl]
    refine Exchange.mayWait plan c _ (owing t.val) fun k hk => ?_
    rw [Exchange.lv_other plan _ (staging_other w s)]
    exact owing_level t.val k hk

/-! ## From the launch to the region's invariant, and back -/

/-- What a device enters the region with, the scratch buffers apart. -/
def enters (c : Dev nD) : sProp 𝕄 :=
  iprop(begins m c ∗ cred (tallyAt (barCell c) () 1) ∗ (bigSep Finset.univ fun k : Fin 4 => cred (tallyAt (recvCell c k) () N)) ∗ levAts L (lv plan)
    ∗ (∃ f : Vec F S2048x2048 .bf16, owns (c : Thread nD τ) rM fullShare f))

theorem enters_intro (c : Dev nD) :
    iprop(Pipeline.unscopedRestP Pipeline.Prefetch.none cfg0.spec c (fun b => m ((c : Thread nD τ).loc b)) ∗ levAts L (lv plan)
        ∗ Pipeline.launchCred O₀ c ∗ prngReg c (ρ c) ∗ begins m c)
      ⊢ |={Set.univ}=> iprop(enters m c ∗ emp) := by
  rw [Pipeline.unscopedRestP_none, unscopedRest0_eq, ← owns_whole (c : Thread nD τ) main_v1_1]
  iintro ⟨Hr, Hlev, Hcr, -, HG⟩
  ihave Hc := (creds (F := F) c) $$ Hcr
  icases Hc with ⟨H1, HN⟩
  imodintro
  unfold enters
  isplitl
  · isplitl [HG]; · iexact HG
    isplitl [H1]; · iexact H1
    isplitl [HN]; · iexact HN
    isplitl [Hlev]; · iexact Hlev
    iexists _; iexact Hr
  · iempintro

theorem phi_intro (c : Dev nD) :
    iprop(enters m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from Φat_zero m c, scopedRest0_eq]
  unfold enters Φ₀
  iintro ⟨⟨H1, H2, H3, H4, H5⟩, -, ⟨⟨%fh, Hh⟩, ⟨%fa, Ha⟩, ⟨%fb, Hb⟩⟩⟩
  ihave Hh' := (Entails.of_eq (owns_whole (c : Thread nD τ) cc0_scratch0 fullShare fh).symm) $$ Hh
  isplitl [H1]; · iexact H1
  isplitl [H2]; · iexact H2
  isplitl [H3]; · iexact H3
  isplitl [H4]; · iexact H4
  isplitl [H5]; · iexact H5
  isplitl [Hh']; · iexists _; iexact Hh'
  isplitl [Ha]; · iexists _; iexact Ha
  iexists _; iexact Hb

/-- What a device leaves the region with. -/
def leaves (c : Dev nD) : sProp 𝕄 := unscopedSems0 c

theorem back_all (c : Dev nD) : bigSep Finset.univ (isBack m c) ⊢ iprop(owns (c : Thread nD τ) hM fullShare (glue (hv m c)) ∗ bigSep Finset.univ fun k : Fin 4 => semVal (sendCell c k) 0) := by
  rw [show bigSep Finset.univ (isBack m c) = _ from bigSep_sep' Finset.univ (fun k : Fin 4 => owns (c : Thread nD τ) (hC k) fullShare (hv m c k)) (fun k : Fin 4 => semVal (sendCell c k) 0)]
  iintro ⟨H, Hz⟩
  isplitl [H]
  · iapply (join_chunks c hM (hv m c)); iexact H
  iexact Hz
theorem come_all (c : Dev nD) : bigSep Finset.univ (hasCome m c) ⊢ (bigSep Finset.univ fun k : Fin 4 => semVal (recvCell c k) 0 : sProp 𝕄) := by
  refine bigSep_mono fun k _ => ?_
  show hasCome m c k ⊢ (semVal (recvCell c k) 0 : sProp 𝕄)
  unfold hasCome
  iintro ⟨-, Hz⟩
  iexact Hz
theorem rcv_last (c : Dev nD) : rcv m c 20 = hasCome m c := funext fun k => by
  have hk : k.val < 4 := k.isLt
  unfold rcv; rw [if_neg (by omega)]

theorem phi_exit (c : Dev nD) :
    (dats m 0 c).Φ (Fin.last cfg0.N) ⊢ iprop(leaves (F := F) c ∗ Pipeline.ownSems0 osem c ∗ Pipeline.scopedRest cfg0.spec c) := by
  rw [show (dats m 0 c).Φ (Fin.last cfg0.N) = Φ₁ m c 20 from Φat_pos m c 20 (by decide), scopedRest0_eq, ownSems0_eq]
  unfold leaves Φ₁ R
  rw [unscopedSems0_eq, snd_back, rcv_last]
  iintro ⟨⟨-, HB⟩, ⟨HC, Hb⟩, Ha, HS, HV⟩
  ihave HS' := (back_all m c) $$ HS
  icases HS' with ⟨Hh, HS⟩
  ihave HV' := (come_all m c) $$ HV
  have eS : (bigSep Finset.univ fun k : Fin 4 => semVal (sendCell c k) 0 : sProp 𝕄) = iprop(semVal (sendCell c 0) 0 ∗ semVal (sendCell c 1) 0 ∗ semVal (sendCell c 2) 0 ∗ semVal (sendCell c 3) 0) :=
    bigSep_univ_eq_bigSepL [0, 1, 2, 3] (by decide) (by decide) _
  have eV : (bigSep Finset.univ fun k : Fin 4 => semVal (recvCell c k) 0 : sProp 𝕄) = iprop(semVal (recvCell c 0) 0 ∗ semVal (recvCell c 1) 0 ∗ semVal (recvCell c 2) 0 ∗ semVal (recvCell c 3) 0) :=
    bigSep_univ_eq_bigSepL [0, 1, 2, 3] (by decide) (by decide) _
  ihave HS2 := (Entails.of_eq eS) $$ HS
  ihave HV2 := (Entails.of_eq eV) $$ HV'
  icases HS2 with ⟨S0, S1, S2, S3⟩
  icases HV2 with ⟨V0, V1, V2, V3⟩
  ihave Hh' := (Entails.of_eq (owns_whole (c : Thread nD τ) cc0_scratch0 fullShare (glue (hv m c)))) $$ Hh
  isplitl [HB]; · iexact HB
  isplitl [S0 S1 S2 S3 V0 V1 V2 V3 HC]
  · isplitl [S0]; · iexact S0
    isplitl [S1]; · iexact S1
    isplitl [S2]; · iexact S2
    isplitl [S3]; · iexact S3
    isplitl [V0]; · iexact V0
    isplitl [V1]; · iexact V1
    isplitl [V2]; · iexact V2
    isplitl [V3]; · iexact V3
    iexact HC
  isplitl [Hh']; · iexists _; iexact Hh'
  isplitl [Ha]; · iexists _; iexact Ha
  iexact Hb

omit [FloatOps F] in
/-- The final memory read at what a device leaves with. -/
theorem read_final (c : Dev nD) (s' : Phys nD τ sig (Elt F)) : iprop(leaves (F := F) c ∗ emp ∗ SI s')
    ⊢ |={Set.univ}=> iprop(⌜∀ sm : SemLoc sig, sm.isScoped .tc = false → s'.mem.sem ((c : Thread nD τ), sm) = 0⌝ ∗ SI s') := by
  unfold leaves
  iintro ⟨Hu, -, HSI⟩
  imod (Pipeline.unscopedSems0_read (X := unscopedSems0 c) (c := c) fupd_intro s') $$ [Hu HSI] with ⟨%hs, HSI⟩
  · isplitl [Hu] <;> iassumption
  imodintro
  isplitr; · ipureintro; exact hs
  iexact HSI

/-! ## The run -/

/-- Every array a window stages ends as the proof data says. -/
def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with zero counters every weakly fair execution terminates, with `QC` and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) embL defs₀ Variants.none m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun c => Ow_late c 20 (by decide) (by decide))
    (L := L) (lv := lv plan) (hL := Exchange.L_of_ne) (hwaits := waits m)
    (G := Exchange.G plan (pay (hv m))) (G' := begins m) (u₀ := u₀)
    (hu₀ := by
      unfold u₀
      iintro Hu
      ihave H := (Exchange.ownU_split _ _) $$ Hu
      icases H with ⟨HP, HX⟩
      imod (Exchange.fund_cells plan (pay (hv m))) $$ HX with HG
      imodintro
      isplitl [HP] <;> iassumption)
    (hglob := glob m)
    (hA := fun _ _ => rfl) (hpf := fun _ k => k.elim0)
    (X := enters m) (Y := leaves) (Z := fun _ => iprop(emp))
    (hX := enters_intro m ρ) (hin := phi_intro m) (hout := phi_exit m)
    (QY := fun c s => ∀ sm : SemLoc sig, sm.isScoped .tc = false → s.sem ((c.tc : Thread nD τ), sm) = 0)
    (hY := read_final)
    (hQ := fun _ h hs => ⟨fun c => (h c).1, sem_eq_zero hs fun c => (h c).2.2⟩)

/-- The claim's frame: arguments unchanged, semaphores at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c 1).trans ((dats m 0 c).arrAt_in 1 rfl _), (h.1 c 0).trans ((dats m 0 c).arrAt_in 0 rfl _), (h.1 c 2).trans ((dats m 0 c).arrAt_in 2 rfl _)⟩, h.2⟩)
    (run_main m ρ)

end Cert.GatherProof
end
-- ==== Proof.GatherValue.lean ====
/-
# The gathering call: what it computes

A point adds to a chunk the rows of its block of expert outputs that the chunk's tokens name: the mask has at most one 1
in a row. After three blocks each token holds the row it names, if there is one, and the local part is added to it.
-/
module

public import proofs.«01_k».proof.Proof.GatherDats
public import Idealize.ShloMosaic.Lib.Pointwise
public import Idealize.ShloMosaic.Lib.Pipeline.ValueKit

@[expose] public section

set_option maxRecDepth 16384

noncomputable section

namespace Cert.GatherProof

open Cert.GatherIdeal Cert.GatherIdeal.Gen
open Idealize.ShloMosaic Idealize.ShloMosaic.TcCoe
open scoped BigOperators

/-! ## The payloads at an index -/

/-- An entry of the mask: 1 where the two words are equal, 0 elsewhere. -/
theorem mask_at (u v : BitVec 32) : (FloatOps.sitofp FTy.f32 (BitVec.setWidth 32 (IntOp.cmpi CmpIPredicate.eq u v)) : Ideal .f32) = if u = v then (1 : EReal) else 0 := by
  by_cases h : u = v
  · rw [if_pos h]; subst h
    rw [show IntOp.cmpi CmpIPredicate.eq u u = 1#1 by simp [IntOp.cmpi]]
    show (((BitVec.setWidth 32 1#1).toInt : ℝ) : EReal) = 1
    rw [show (BitVec.setWidth 32 1#1).toInt = 1 by decide]; norm_num
  · rw [if_neg h]
    rw [show IntOp.cmpi CmpIPredicate.eq u v = 0#1 by show BitVec.ofBool (u == v) = 0#1; rw [beq_eq_false_iff_ne.mpr h]; rfl]
    show (((BitVec.setWidth 32 0#1).toInt : ℝ) : EReal) = 0
    rw [show (BitVec.setWidth 32 0#1).toInt = 0 by decide]; norm_num

/-- A point adds the block's rows, each times its mask entry. -/
theorem pay6_at (w : BitVec 32) (v : Vec Ideal S1x512 .i32) (a : Vec Ideal S512x2048 .f32) (x : Vec Ideal S512x2048 .bf16) (r : Fin 512) (d : Fin 2048) :
    k0_pay6 w v a x (ix2 r d) = a (ix2 r d) + ∑ k : Fin 512, (if v (ix2 0 r) = BitVec.ofNat 32 k.val + Scalar.remsi w 3#32 * 512#32 then (1 : EReal) else 0) * x (ix2 k d) := by
  pointwise [k0_pay6]
  refine congrArg (a (ix2 r d) + ·) (Finset.sum_congr rfl fun k _ => congrArg (· * x (ix2 k d)) ?_)
  exact mask_at _ _
theorem pay1_at (x : FVec Ideal S512x2048 .f32) (r : Fin 512) (d : Fin 2048) : k0_pay1 x (ix2 r d) = x (ix2 r d) := by
  pointwise [k0_pay1]
theorem pay2_at (a : Vec Ideal S512x2048 .f32) (x : Vec Ideal S512x2048 .bf16) (r : Fin 512) (d : Fin 2048) :
    k0_pay2 a x (ix2 r d) = a (ix2 r d) + x (ix2 r d) := by
  pointwise [k0_pay2]
theorem pay3_at (x : Vec Ideal S512x2048 .bf16) (r : Fin 512) (d : Fin 2048) : k0_pay3 x (ix2 r d) = x (ix2 r d) := by
  pointwise [k0_pay3]
theorem pay5_at (r : Fin 512) (d : Fin 2048) : k0_pay5 (F := Ideal) (ix2 r d) = (0 : EReal) := by
  pointwise [k0_pay5]

/-! ## The offsets and block indices at each point -/

theorem off1_at : ∀ t : Fin grid0.N, t.val < 12 → k0_off1 (grid0.coords t) = ![0, 512 * (t.val / 3)] := by decide +kernel
theorem index0_at : ∀ t : Fin grid0.N, win0_0.index t = ![0, 0] := by decide +kernel
theorem index1_at : ∀ t : Fin grid0.N, t.val < 12 → win0_1.index t = ![t.val % 3, 0] := by decide +kernel
theorem index2_at : ∀ t : Fin grid0.N, t.val < 12 → win0_2.index t = ![t.val / 3, 0] := by decide +kernel
theorem index3_at : ∀ t : Fin grid0.N, 12 ≤ t.val → win0_3.index t = ![t.val - 12, 0] := by decide +kernel
theorem word_at : ∀ t : Fin grid0.N, Scalar.remsi (BitVec.ofNat 32 (grid0.coords t 0).val) 3#32 * 512#32 = BitVec.ofNat 32 (512 * (t.val % 3)) := by decide +kernel

/-- A coordinate of a unit rectangle: the offset plus the coordinate within. -/
theorem unit_val {s : Shape} {off size : Fin s.rank → ℕ} (inb : ∀ a, off a + size a ≤ s.size a) (x : (⟨s.rank, size⟩ : Shape).Idx)
    (a : Fin s.rank) {off' : Fin s.rank → ℕ} (h : off = off') : ((Rect.unit off size inb).idx x a).val = off' a + (x a).val := by
  subst h
  show off a + 1 * (x a).val = _
  rw [Nat.one_mul]

/-- The tokens of the point's chunk. -/
theorem rowsAt_at (t : Fin grid0.N) (h : t.val < 12) (h2 : k0_cond2 (grid0.coords t) = 1#1) (x : Vec Ideal S1x2048 .i32) (r : Fin 512) (r' : Fin 2048)
    (hr : r'.val = 512 * (t.val / 3) + r.val) : rowsAt (F := Ideal) (grid0.coords t) h2 x (ix2 0 r) = x (ix2 0 r') := by
  refine congrArg x (funext fun a => Fin.ext ((unit_val (s := S1x2048) (size := S1x512.size) (k0_off1_inb _ h2) (ix2 0 r) a (off1_at t h)).trans ?_))
  match a with
  | ⟨0, _⟩ => rfl
  | ⟨1, _⟩ => exact hr.symm

/-! ## The windows' blocks -/

variable (m : (ℓ : Loc nD τ sig) → Buf (Elt Ideal) ℓ)

theorem w0_at (c : Dev nD) (t : Fin grid0.N) (r : Fin 2048) : iblk m c 0 t (ix2 0 r) = m ((c : Thread nD τ).loc main_arg1) (ix2 0 r) := by
  have e0 := index0_at t
  blk_ext [iblk, e0]
theorem w1_at (c : Dev nD) (t : Fin grid0.N) (h : t.val < 12) (k : Fin 512) (d : Fin 2048) (k' : Fin 1536) (hk : k'.val = 512 * (t.val % 3) + k.val) :
    iblk m c 1 t (ix2 k d) = m ((c : Thread nD τ).loc main_arg0) (ix2 k' d) := by
  have e0 := index1_at t h
  blk_ext [iblk, e0]
theorem w2_at (c : Dev nD) (t : Fin grid0.N) (h : t.val < 12) (r : Fin 512) (d : Fin 2048) (r' : Fin 2048) (hr : r'.val = 512 * (t.val / 3) + r.val) :
    iblk m c 2 t (ix2 r d) = m ((c : Thread nD τ).loc main_arg2) (ix2 r' d) := by
  have e0 := index2_at t h
  blk_ext [iblk, e0]

/-! ## The quantities gathered -/

/-- The row that token `n` of device `c` names, as a number. -/
def row (c : Dev nD) (n : ℕ) : ℕ := (show BitVec 32 from m ((c : Thread nD τ).loc main_arg1) (ix2 0 (Fin.ofNat 2048 n))).toNat
/-- Row `u` of device `c`'s expert outputs, at column `d`. -/
def out (c : Dev nD) (u : ℕ) (d : Fin 2048) : EReal := m ((c : Thread nD τ).loc main_arg0) (ix2 (Fin.ofNat 1536 u) d)
/-- Token `n`'s local part. -/
def loc (c : Dev nD) (n : ℕ) (d : Fin 2048) : EReal := m ((c : Thread nD τ).loc main_arg2) (ix2 (Fin.ofNat 2048 n) d)
/-- Token `n`'s half: its local part with the row it names added, if there is such a row. -/
def half (c : Dev nD) (n : ℕ) (d : Fin 2048) : EReal := (if row m c n < 1536 then out m c (row m c n) d else 0) + loc m c n d

/-- A masked sum over one block picks the named row if it lies in the block. -/
theorem pick (u : BitVec 32) (q : ℕ) (hq : q < 3) (f : ℕ → EReal) :
    ∑ k : Fin 512, (if u = BitVec.ofNat 32 k.val + BitVec.ofNat 32 (512 * q) then (1 : EReal) else 0) * f (512 * q + k.val)
      = if 512 * q ≤ u.toNat ∧ u.toNat < 512 * q + 512 then f u.toNat else 0 := by
  have key : ∀ k : Fin 512, (u = BitVec.ofNat 32 k.val + BitVec.ofNat 32 (512 * q)) ↔ u.toNat = 512 * q + k.val := fun k => by
    have hk := k.isLt
    rw [← BitVec.toNat_inj, BitVec.toNat_add, BitVec.toNat_ofNat, BitVec.toNat_ofNat]
    omega
  by_cases h : 512 * q ≤ u.toNat ∧ u.toNat < 512 * q + 512
  · rw [if_pos h, Finset.sum_eq_single (⟨u.toNat - 512 * q, by omega⟩ : Fin 512)]
    · rw [if_pos ((key _).mpr (by show u.toNat = 512 * q + (u.toNat - 512 * q); omega)), one_mul]
      exact congrArg f (by show 512 * q + (u.toNat - 512 * q) = u.toNat; omega)
    · intro k _ hk
      rw [if_neg (fun e => hk (Fin.ext (by have := (key k).mp e; show k.val = u.toNat - 512 * q; omega))), zero_mul]
    · exact fun h => absurd (Finset.mem_univ _) h
  · rw [if_neg h]
    refine Finset.sum_eq_zero fun k _ => ?_
    have hk := k.isLt
    rw [if_neg (fun e => h (by have := (key k).mp e; omega)), zero_mul]

/-- What one point adds. -/
theorem adds (c : Dev nD) (t : Fin grid0.N) (h : t.val < 12) (a : Vec Ideal S512x2048 .f32) (h2 : k0_cond2 (grid0.coords t) = 1#1) (r : Fin 512) (d : Fin 2048) :
    k0_pay1 (k0_pay6 (BitVec.ofNat 32 (grid0.coords t 0).val) (rowsAt (grid0.coords t) h2 (iblk m c 0 t)) a (iblk m c 1 t)) (ix2 r d)
      = a (ix2 r d) + if 512 * (t.val % 3) ≤ row m c (512 * (t.val / 3) + r.val) ∧ row m c (512 * (t.val / 3) + r.val) < 512 * (t.val % 3) + 512
          then out m c (row m c (512 * (t.val / 3) + r.val)) d else 0 := by
  have hr := r.isLt
  have hn : Fin.ofNat 2048 (512 * (t.val / 3) + r.val) = ⟨512 * (t.val / 3) + r.val, by omega⟩ := Fin.ext (Nat.mod_eq_of_lt (by omega))
  rw [pay1_at, pay6_at, word_at t, rowsAt_at t h h2 _ r ⟨512 * (t.val / 3) + r.val, by omega⟩ rfl, w0_at]
  refine congrArg (a (ix2 r d) + ·) (Eq.trans (Finset.sum_congr rfl fun k _ => ?_) (pick (m ((c : Thread nD τ).loc main_arg1) (ix2 0 (Fin.ofNat 2048 (512 * (t.val / 3) + r.val)))) (t.val % 3) (Nat.mod_lt _ (by decide)) (fun u => out m c u d)))
  have hk := k.isLt
  rw [hn]
  refine congrArg _ ((w1_at m c t h k d (Fin.ofNat 1536 (512 * (t.val % 3) + k.val)) ?_))
  show (512 * (t.val % 3) + k.val) % 1536 = _
  omega

/-- A chunk's sum over its blocks. -/
theorem A_at (c : Dev nD) (j : ℕ) (hj : j < 4) (r : Fin 512) (d : Fin 2048) : ∀ q < 3,
    A m c (3 * j + q + 1) (ix2 r d) = if row m c (512 * j + r.val) < 512 * (q + 1) then out m c (row m c (512 * j + r.val)) d else 0 := by
  intro q
  induction q with
  | zero =>
    intro _
    have hN : 3 * j + 0 < grid0.N := by rw [N_0]; omega
    let t : Fin grid0.N := ⟨3 * j + 0, hN⟩
    have ht : t.val = 3 * j + 0 := rfl
    rw [show 3 * j + 0 + 1 = t.val + 1 from rfl, A_next]
    unfold aStep
    rw [dif_pos ((cond2_at t).mpr (by omega)), if_pos ((c3_at t).mpr (by omega)), adds m c t (by omega), pay5_at, zero_add,
      show t.val / 3 = j by omega, show t.val % 3 = 0 by omega]
    exact if_congr (by omega) rfl rfl
  | succ q ih =>
    intro hq
    have hN : 3 * j + (q + 1) < grid0.N := by rw [N_0]; omega
    let t : Fin grid0.N := ⟨3 * j + (q + 1), hN⟩
    have ht : t.val = 3 * j + (q + 1) := rfl
    rw [show 3 * j + (q + 1) + 1 = t.val + 1 from rfl, A_next]
    unfold aStep
    rw [dif_pos ((cond2_at t).mpr (by omega)), if_neg (fun h => absurd ((c3_at t).mp h) (by omega)), adds m c t (by omega), show t.val / 3 = j by omega, show t.val % 3 = q + 1 by omega,
      show t.val = 3 * j + q + 1 from rfl, ih (by omega)]
    by_cases h1 : row m c (512 * j + r.val) < 512 * (q + 1)
    · rw [if_pos h1, if_neg (by omega), if_pos (by omega), add_zero]
    · rw [if_neg h1, zero_add]
      exact if_congr (by omega) rfl rfl

/-- A chunk of the halves. -/
theorem hv_half (c : Dev nD) (k : Fin 4) (r : Fin 512) (d : Fin 2048) : hv m c k (ix2 r d) = half m c (512 * k.val + r.val) d := by
  have hk := k.isLt
  have hr := r.isLt
  have hN : 3 * k.val + 2 < grid0.N := by rw [N_0]; omega
  let t : Fin grid0.N := ⟨3 * k.val + 2, hN⟩
  have ht : t.val = 3 * k.val + 2 := rfl
  unfold hv half
  rw [pay2_at, show 3 * k.val + 3 = 3 * k.val + 2 + 1 from rfl, A_at m c k.val hk r d 2 (by omega)]
  refine congrArg _ ?_
  rw [show 3 * k.val + 2 = t.val from rfl]
  unfold w2
  rw [pn_val]
  refine w2_at m c t (by omega) r d (Fin.ofNat 2048 (512 * k.val + r.val)) ?_
  show (512 * k.val + r.val) % 2048 = _
  omega

/-! ## The result array -/

/-- What the call leaves in its result: the halves of the pair, the device with the lower first coordinate first. -/
def result (c : Dev nD) : S4096x2048.Idx → EReal := fun i => half m (if (i 0).val / 2048 = c.val / 4 then c else xflip c) ((i 0).val % 2048) (i 1)

/-- The array after the run is `result`. -/
theorem result_eq (c : Dev nD) : (dats m 0 c).arrAt 3 cfg0.N = result m c := by
  refine (dats m 0 c).arrAt_eq_of_covers 3 _ (by decide +kernel) fun t hf y => ?_
  have ht : t.val < 20 := lt_of_lt_of_eq t.isLt N_0
  have hf' : 12 ≤ t.val := by rw [flush_at t] at hf; exact of_decide_eq_true hf
  have e2 := index3_at t hf'
  change S512x2048.Idx at y
  obtain ⟨r, d, rfl⟩ : ∃ (r : Fin 512) (d : Fin 2048), y = ix2 r d := ⟨y 0, y 1, eq_ix2 y⟩
  have hr := r.isLt
  blk_simp [e2]
  show O m c t.val (ix2 r d) = half m (if ((win0_3.blk t).view.emb (ix2 r d) 0).val / 2048 = c.val / 4 then c else xflip c)
    (((win0_3.blk t).view.emb (ix2 r d) 0).val % 2048) ((win0_3.blk t).view.emb (ix2 r d) 1)
  have h0 : ((win0_3.blk t).view.emb (ix2 r d) 0).val = 512 * (t.val - 12) + r.val := by blk_simp [e2]; omega
  have h1 : ((win0_3.blk t).view.emb (ix2 r d) 1 : Fin 2048) = d := Fin.ext (by blk_simp [e2])
  rw [h0]
  refine Eq.trans ?_ (congrArg (half m _ _) h1).symm
  unfold O
  rw [pay3_at, hv_half]
  refine congrArg₂ (fun x n => half m x n d) ?_ ?_
  · unfold who
    exact if_congr (by omega) rfl rfl
  · show 512 * (t.val % 4) + r.val = _
    omega

end Cert.GatherProof
end
-- ==== Proof.GatherRef.lean ====
/-
# The gathering call: the reference at an index

The reference takes of every token's named row the whole table, masks it where no row is named, and adds the local part.
-/
module

public import proofs.«01_k».proof.Proof.Gen.GatherRefIdeal.Read
public import proofs.«01_k».proof.Proof.Gen.GatherRefIdeal.Run
public import Idealize.ShloMosaic.Lib.Pointwise
public import Idealize.ShloMosaic.Lib.WordCmp

@[expose] public section

set_option maxRecDepth 16384

noncomputable section

namespace Cert.GatherProof.Ref

open Cert.GatherRefIdeal Cert.GatherRefIdeal.Gen Cert.GatherRefIdeal.Read
open Idealize.ShloMosaic
open scoped BigOperators

variable (x0 : (⟨S12288x2048, .bf16⟩ : BufTy).Contents (Elt Ideal)) (x1 : (⟨S8x2048, .i32⟩ : BufTy).Contents (Elt Ideal))
  (x2 : (⟨S16384x2048, .bf16⟩ : BufTy).Contents (Elt Ideal))

/-- The dimension numbers of the reference's gather. -/
abbrev gd : GatherDims S8x1536x2048 S8x2048x1 S8x2048x2048 := gather_S8x1536x2048_S8x2048x1_S8x2048x2048_2_1_0_0_1_2_112048

/-- A batch's row by its index, clamped into the table. -/
theorem gather_at {α : Type} (x : S8x1536x2048.Idx → α) (idx : IVec S8x2048x1 32) (b : Fin 8) (r d : Fin 2048) :
    Host.gather gd x idx (ix3 b r d) = x (ix3 b ⟨min (idx (ix3 b r 0)).toInt.toNat 1535, by omega⟩ d) := by
  unfold Host.gather
  refine congrArg x (funext fun a => Fin.ext ?_)
  show gd.start (ix3 b r d) idx a + gd.batchCoord (ix3 b r d) a + gd.offCoord (ix3 b r d) a = _
  have h : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching gd _ _ (0 : Fin 3) (List.mem_singleton.mpr rfl),
      GatherDims.offCoord_eq_zero gd _ (0 : Fin 3) (fun h => ((GatherDims.mem_sKept _ _).mp h).2 (List.mem_singleton.mpr rfl))]
    unfold GatherDims.batchCoord
    rw [dif_pos (show (0 : Fin 3) ∈ gd.operandBatchingDims from List.mem_singleton.mpr rfl)]
    simp only [Nat.zero_add, Nat.add_zero]
    rfl
  · rw [GatherDims.batchCoord_eq_zero gd _ (1 : Fin 3) (fun h => absurd (List.mem_singleton.mp h) (by decide)),
      GatherDims.offCoord_eq_zero gd _ (1 : Fin 3) (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 b r d) ⟨List.idxOf (1 : Fin 3) gd.startIndexMap, List.idxOf_lt_length_iff.2 (List.mem_singleton.mpr rfl)⟩ = ix3 b r 0 := by
      funext e; refine Fin.ext ?_
      match e with
      | ⟨0, _⟩ => rfl
      | ⟨1, _⟩ => rfl
      | ⟨2, _⟩ => rfl
    exact congrArg (fun i => min (idx i).toInt.toNat 1535) hsi
  · have hb : (2 : Fin 3) ∉ gd.operandBatchingDims := fun h => absurd (List.mem_singleton.mp h) (by decide)
    have hc : (2 : Fin 3) ∉ gd.collapsedSliceDims := fun h => absurd (List.mem_singleton.mp h) (by decide)
    have hs : (2 : Fin 3) ∉ gd.startIndexMap := fun h => absurd (List.mem_singleton.mp h) (by decide)
    rw [GatherDims.batchCoord_eq_zero gd _ (2 : Fin 3) hb]
    unfold GatherDims.start GatherDims.offCoord
    rw [dif_neg hs, dif_pos ((GatherDims.mem_sKept gd (2 : Fin 3)).mpr ⟨hc, hb⟩)]
    simp only [Nat.zero_add, Nat.add_zero]
    rfl

/-- A word below the table's height is its own clip. -/
theorem clip_small (v : BitVec 32) (h : v.toNat < 1536) : IntOp.minsi 1535#32 (IntOp.maxsi 0#32 v) = v := by
  have hi : v.toInt = v.toNat := BitVec.toInt_eq_toNat_of_lt (by omega)
  have h1 : v.slt 0#32 = false := by
    rw [BitVec.slt_eq_decide, hi]; exact decide_eq_false (by rw [show (0#32).toInt = 0 by decide]; omega)
  unfold IntOp.maxsi
  rw [h1, if_neg (by decide)]
  unfold IntOp.minsi
  by_cases h2 : (1535#32).slt v = true
  · rw [BitVec.slt_eq_decide, hi, show (1535#32).toInt = 1535 by decide, decide_eq_true_eq] at h2; omega
  · rw [if_neg h2]

/-- The index the gather is given, of a token that names a row: that row. -/
theorem idx_at (b : Fin 8) (r : Fin 2048) (h : (show BitVec 32 from x1 (ix2 b r)).toNat < 1536) : val_main_call1_v4 (F := Ideal) x1 (ix3 b r 0) = x1 (ix2 b r) := by
  pointwise [val_main_call1_v4, val_main_call1_v3, val_main_call1_v2, val_main_call1_c_0, val_main_call1_v1, val_main_call1_v0, val_main_call1_c,
    val_main_v10, val_main_v9, val_main_call0_v4, val_main_call0_v3, val_main_call0_v2, val_main_call0_v1, val_main_call0_v0, val_main_c_1, val_main_c_2]
  have e : IntOp.minsi (id (constantI S_ 32 1535#32) ix0) (IntOp.maxsi (id (constantI S_ 32 0#32) ix0) (x1 (ix2 b r))) = x1 (ix2 b r) := clip_small _ h
  rw [e, Idealize.ShloMosaic.WordCmp.cmpi_slt_zero, decide_eq_false (by have h' : BitVec.toNat (x1 (ix2 b r)) < 1536 := h; omega)]
  rfl

/-- What a token takes from the table: the row it names, or nothing. -/
theorem taken_at (b : Fin 8) (r d : Fin 2048) : val_main_v13 (F := Ideal) x0 x1 (ix3 b r d)
    = if (show BitVec 32 from x1 (ix2 b r)).toNat < 1536 then x0 (ix2 (Fin.ofNat 12288 (b.val * 1536 + (show BitVec 32 from x1 (ix2 b r)).toNat)) d) else (0 : EReal) := by
  pointwise [val_main_v13, val_main_call2_v2, val_main_call2_v1, val_main_call2_v0, val_main_cst, val_main_v12, val_main_v8, val_main_v7, val_main_v6, val_main_v5, val_main_v4, val_main_c, val_main_c_0]
  rw [Idealize.ShloMosaic.WordCmp.andi_sge_zero_slt_ofNat (by decide)]
  by_cases h : (show BitVec 32 from x1 (ix2 b r)).toNat < 1536
  · rw [decide_eq_true h, if_pos h]
    show val_main_v11 (F := Ideal) x0 x1 (ix3 b r d) = _
    unfold val_main_v11
    rw [gather_at]
    pointwise [val_main_v1, val_main_v0]
    refine congrArg (fun n => x0 (ix2 n d)) (Fin.ext ?_)
    have hi : (show BitVec 32 from x1 (ix2 b r)).toInt.toNat = (show BitVec 32 from x1 (ix2 b r)).toNat := by
      rw [BitVec.toInt_eq_toNat_of_lt (by omega)]; rfl
    show b.val * 1536 + min (show BitVec 32 from val_main_call1_v4 (F := Ideal) x1 (ix3 b r 0)).toInt.toNat 1535 = (b.val * 1536 + (show BitVec 32 from x1 (ix2 b r)).toNat) % 12288
    rw [idx_at x1 b r h]
    have hb := b.isLt
    rw [hi]
    omega
  · rw [decide_eq_false h, if_neg h]
    show constant (F := Ideal) S_ FTy.f32 0x00000000#32 ix0 = (0 : EReal)
    pointwise []

/-- Half a device's result: a token's local part and the row it names. -/
def half (b : Fin 8) (r d : Fin 2048) : EReal := x2 (ix2 (Fin.ofNat 16384 (b.val * 2048 + r.val)) d)
  + if (show BitVec 32 from x1 (ix2 b r)).toNat < 1536 then x0 (ix2 (Fin.ofNat 12288 (b.val * 1536 + (show BitVec 32 from x1 (ix2 b r)).toNat)) d) else (0 : EReal)

/-- A row of the reference's result. -/
theorem row_at (n : Fin 32768) (d : Fin 2048) : val_main_v24 (F := Ideal) x0 x1 x2 (ix2 n d)
    = half x0 x1 x2 ⟨n.val % 4096 / 2048 * 4 + n.val / 4096 % 4, by omega⟩ ⟨n.val % 2048, by omega⟩ d := by
  pointwise [val_main_v24, val_main_v23, val_main_v22, val_main_v21, val_main_v20, val_main_v19, val_main_v18, val_main_v17, val_main_v16, val_main_v15, val_main_v14, val_main_v3, val_main_v2, val_main_v1, val_main_v0]
  have key : ∀ (b : Fin 8) (r : Fin 2048) (k : Fin 16384), b.val = n.val % 4096 / 2048 * 4 + n.val / 4096 % 4 → r.val = n.val % 2048 → k.val = b.val * 2048 + r.val →
      (x2 (ix2 k d) : EReal) + val_main_v13 (F := Ideal) x0 x1 (ix3 b r d) = half x0 x1 x2 ⟨n.val % 4096 / 2048 * 4 + n.val / 4096 % 4, by omega⟩ ⟨n.val % 2048, by omega⟩ d := by
    intro b r k hb hr hk
    have eb : (⟨n.val % 4096 / 2048 * 4 + n.val / 4096 % 4, by omega⟩ : Fin 8) = b := Fin.ext hb.symm
    have er : (⟨n.val % 2048, by omega⟩ : Fin 2048) = r := Fin.ext hr.symm
    have ek : k = Fin.ofNat 16384 (b.val * 2048 + r.val) := Fin.ext (by show k.val = (b.val * 2048 + r.val) % 16384; omega)
    rw [eb, er, ek, taken_at]; rfl
  have hn := n.isLt
  split
  · split
    · exact key _ _ _ (by show n.val / 4096 = _; omega) (by show n.val % 4096 = _; omega) (by rfl)
    · exact key _ _ _ (by show 4 + n.val / 4096 = _; omega) (by show n.val % 4096 - 2048 = _; omega) (by rfl)
  · split
    · exact key _ _ _ (by show n.val / 4096 - 4 = _; omega) (by show n.val % 4096 = _; omega) (by rfl)
    · exact key _ _ _ (by show 4 + (n.val / 4096 - 4) = _; omega) (by show n.val % 4096 - 2048 = _; omega) (by rfl)

end Cert.GatherProof.Ref
end
-- ==== Proof.GatherMatch.lean ====
/-
# The gathering call: the two results agree

The arrays of the several devices cut out of whole ones, the call's result on a device is that device's block of the
reference's result over the whole arrays.
-/
module

public import proofs.«01_k».proof.Proof.GatherValue
public import proofs.«01_k».proof.Proof.GatherRef
public import Idealize.ShloMosaic.Lib.Layout

@[expose] public section

set_option maxRecDepth 16384

noncomputable section

namespace Cert.GatherProof

open Cert.GatherIdeal Cert.GatherIdeal.Gen
open Idealize.ShloMosaic Idealize.ShloMosaic.TcCoe
open scoped BigOperators

variable (m : (ℓ : Loc nD τ sig) → Buf (Elt Ideal) ℓ)
variable (x0 : (⟨2, ![12288, 2048]⟩ : Shape).Idx → EReal) (x1 : (⟨2, ![8, 2048]⟩ : Shape).Idx → BitVec 32) (x2 : (⟨2, ![16384, 2048]⟩ : Shape).Idx → EReal)

/-- The partner of device `c` has the other first coordinate. -/
theorem xflip_pair : ∀ c : Dev nD, (xflip c).val = (1 - c.val / 4) * 4 + c.val % 4 := by decide +kernel

/-- Device `c`'s part of the expert outputs; -/
abbrev part0 (c : Dev nD) : (⟨2, ![1536, 2048]⟩ : Shape).Idx → EReal := Layout.block ⟨2, ![1536, 2048]⟩ ⟨2, ![12288, 2048]⟩ 0 8 c x0
/-- of the named rows; -/
abbrev part1 (c : Dev nD) : (⟨2, ![1, 2048]⟩ : Shape).Idx → BitVec 32 := Layout.block ⟨2, ![1, 2048]⟩ ⟨2, ![8, 2048]⟩ 0 8 c x1
/-- of the local part; -/
abbrev part2 (c : Dev nD) : (⟨2, ![2048, 2048]⟩ : Shape).Idx → EReal := Layout.block ⟨2, ![2048, 2048]⟩ ⟨2, ![16384, 2048]⟩ 0 8 c x2
/-- of the result. -/
abbrev part3 (y : (⟨2, ![32768, 2048]⟩ : Shape).Idx → EReal) (c : Dev nD) : (⟨2, ![4096, 2048]⟩ : Shape).Idx → EReal := Layout.block ⟨2, ![4096, 2048]⟩ ⟨2, ![32768, 2048]⟩ 0 8 c y

/-- An entry of device `c`'s block of the expert outputs; -/
theorem part0_at (c : Dev nD) (r : Fin 1536) (d : Fin 2048) (n : Fin 12288) (hn : n.val = c.val * 1536 + r.val) : part0 x0 c (ix2 r d) = x0 (ix2 n d) := by
  unfold part0
  rw [Layout.block_apply]
  refine congrArg x0 (funext fun a => Fin.ext ((Layout.Tiles.idx_val _ _ _ a).trans ?_))
  match a with
  | ⟨0, _⟩ => exact hn.symm
  | ⟨1, _⟩ => rfl
/-- of the named rows; -/
theorem part1_at (c : Dev nD) (r : Fin 2048) (b : Fin 8) (hb : b.val = c.val) : part1 x1 c (ix2 0 r) = x1 (ix2 b r) := by
  unfold part1
  rw [Layout.block_apply]
  refine congrArg x1 (funext fun a => Fin.ext ((Layout.Tiles.idx_val _ _ _ a).trans ?_))
  match a with
  | ⟨0, _⟩ => show c.val * 1 + 0 = b.val; omega
  | ⟨1, _⟩ => rfl
/-- of the local part; -/
theorem part2_at (c : Dev nD) (r : Fin 2048) (d : Fin 2048) (n : Fin 16384) (hn : n.val = c.val * 2048 + r.val) : part2 x2 c (ix2 r d) = x2 (ix2 n d) := by
  unfold part2
  rw [Layout.block_apply]
  refine congrArg x2 (funext fun a => Fin.ext ((Layout.Tiles.idx_val _ _ _ a).trans ?_))
  match a with
  | ⟨0, _⟩ => exact hn.symm
  | ⟨1, _⟩ => rfl
/-- of the result. -/
theorem part3_at (y : (⟨2, ![32768, 2048]⟩ : Shape).Idx → EReal) (c : Dev nD) (r : Fin 4096) (d : Fin 2048) (n : Fin 32768) (hn : n.val = c.val * 4096 + r.val) :
    part3 y c (ix2 r d) = y (ix2 n d) := by
  unfold part3
  rw [Layout.block_apply]
  refine congrArg y (funext fun a => Fin.ext ((Layout.Tiles.idx_val _ _ _ a).trans ?_))
  match a with
  | ⟨0, _⟩ => exact hn.symm
  | ⟨1, _⟩ => rfl

/-- A token's half, out of the whole arrays. -/
theorem half_eq (h0 : ∀ c : Dev nD, m ((c : Thread nD τ).loc main_arg0) = part0 x0 c)
    (h1 : ∀ c : Dev nD, m ((c : Thread nD τ).loc main_arg1) = part1 x1 c)
    (h2 : ∀ c : Dev nD, m ((c : Thread nD τ).loc main_arg2) = part2 x2 c) (c : Dev nD) (r d : Fin 2048) (b : Fin 8) (hb : b.val = c.val) :
    half m c r.val d = Ref.half x0 x1 x2 b r d := by
  have hc : c.val < 8 := c.isLt
  have hr := Fin.ext (a := Fin.ofNat 2048 r.val) (b := r) (Nat.mod_eq_of_lt r.isLt)
  have hrow : row m c r.val = (x1 (ix2 b r)).toNat := by
    unfold row
    rw [hr, h1 c]
    exact congrArg BitVec.toNat (part1_at x1 c r b hb)
  have hloc : loc m c r.val d = x2 (ix2 (Fin.ofNat 16384 (b.val * 2048 + r.val)) d) := by
    unfold loc
    rw [hr, h2 c]
    exact part2_at x2 c r d _ (by show (b.val * 2048 + r.val) % 16384 = _; have := r.isLt; omega)
  unfold half Ref.half
  rw [hrow, hloc, add_comm]
  refine congrArg (x2 (ix2 (Fin.ofNat 16384 (b.val * 2048 + r.val)) d) + ·) ?_
  by_cases h : (x1 (ix2 b r)).toNat < 1536
  · refine (if_pos h).trans (Eq.trans ?_ (if_pos h).symm)
    unfold out
    rw [h0 c]
    refine part0_at x0 c _ d _ ?_
    show (b.val * 1536 + (x1 (ix2 b r)).toNat) % 12288 = c.val * 1536 + (x1 (ix2 b r)).toNat % 1536
    omega
  · exact (if_neg h).trans (if_neg h).symm

/-- The call's result on device `c` is block `c` of the reference's. -/
theorem result_block (h0 : ∀ c : Dev nD, m ((c : Thread nD τ).loc main_arg0) = part0 x0 c)
    (h1 : ∀ c : Dev nD, m ((c : Thread nD τ).loc main_arg1) = part1 x1 c)
    (h2 : ∀ c : Dev nD, m ((c : Thread nD τ).loc main_arg2) = part2 x2 c) (c : Dev nD) :
    result m c = part3 (Cert.GatherRefIdeal.Read.val_main_v24 (F := Ideal) x0 x1 x2) c := by
  funext i
  obtain ⟨r, d, rfl⟩ : ∃ (r : Fin 4096) (d : Fin 2048), i = ix2 r d := ⟨i 0, i 1, eq_ix2 i⟩
  have hc : c.val < 8 := c.isLt
  have hr := r.isLt
  rw [part3_at _ c r d ⟨c.val * 4096 + r.val, by omega⟩ rfl, Ref.row_at]
  show half m (if r.val / 2048 = c.val / 4 then c else xflip c) (r.val % 2048) d = _
  have e : r.val % 2048 = (⟨(c.val * 4096 + r.val) % 2048, by omega⟩ : Fin 2048).val := by show _ = (c.val * 4096 + r.val) % 2048; omega
  rw [e]
  refine half_eq m x0 x1 x2 h0 h1 h2 _ _ d _ ?_
  show (c.val * 4096 + r.val) % 4096 / 2048 * 4 + (c.val * 4096 + r.val) / 4096 % 4 = _
  have hx := xflip_pair c
  split <;> omega

end Cert.GatherProof
end
-- ==== Proof.SwapStep.lean ====
/-
# The local-part call: what one grid point does to the carried block

Points `3t, 3t + 1, 3t + 2` add, to a block of 512 sums (zero at first), the rows that chunk `t` of the row numbers
picks out of the three blocks of the device's first slab; the last of the three rounds the sums into the output block.
-/
module

public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import Idealize.ShloMosaic.Lib.Tactic
public import Idealize.ShloMosaic.Lib.Pipeline.Kit
public import Idealize.ShloMosaic.Lib.Pipeline.TableIdle
public import Idealize.ShloMosaic.Lib.VecWindow
public import Idealize.ShloMosaic.Lib.StableHlo.CollectiveRules
public import proofs.«01_k».proof.Proof.Exchange

@[expose] public section

noncomputable section

namespace Cert.SwapProof

open Cert.SwapIdeal Cert.SwapIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources and memrefs -/

/-- The exchange's copy of the rounds algebra. -/
abbrev UB : Type := Exchange.XB nD τ sig
/-- The user algebra: the pipeline's rounds, the exchange's rounds, the counters of local copies. -/
abbrev UU : Type := Exchange.XU nD τ sig

local notation "𝕄" => MT nD τ sig Unit (Elt F) ℕ UU ℕ

abbrev pM : Memref sig .tc .hbm S2x1536x2048 .bf16 := Memref.whole main_arg0
abbrev rM : Memref sig .tc .hbm S1536x2048 .bf16 := Memref.whole main_v1_1
abbrev aM : Memref sig .tc .vmem S512x2048 .f32 := Memref.whole cc0_scratch0
/-- The second slab of the device's expert outputs, which it sends. -/
abbrev slabM : Memref sig .tc .hbm S1536x2048 .bf16 :=
  (pM.slice (Rect.unit (s := S2x1536x2048) ![1, 0, 0] S1x1536x2048.size inb_S2x1536x2048_S1x1536x2048_1_0_0) (fun _ => rfl)).squeeze S1536x2048 squeezes_S1x1536x2048_S1536x2048

/-- A memref's whole buffer, held at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## The point's conditions that the body states inline -/

/-- The chunk's first block. -/
def c2 (i : grid0.Coords) : BitVec 1 :=
  Scalar.cmpi .ne (Scalar.extui (Scalar.cmpi .eq (BitVec.ofNat 32 (i 1).val) 0#32)) 0#32
/-- The last point. -/
def c4 (i : grid0.Coords) : BitVec 1 :=
  Scalar.cmpi .ne (Scalar.extui (Scalar.andi (Scalar.cmpi .eq (BitVec.ofNat 32 (i 0).val) 3#32) (Scalar.cmpi .eq (BitVec.ofNat 32 (i 1).val) 2#32))) 0#32

/-! ## The steps -/

/-- The 512 row numbers a point reads. -/
def rowsAt (i : grid0.Coords) (r : Vec F S1x2048 .i32) : Vec F S1x512 .i32 :=
  fun y => r ((Rect.unit (s := S1x2048) (k0_off1 i) S1x512.size (k0_off1_inb i)).emb y)

/-- The sums after point `i`: one block's rows added (to zero at the chunk's first block). -/
def aStep (i : grid0.Coords) (r : Vec F S1x2048 .i32) (x : Vec F S1x512x2048 .bf16) (a : Vec F S512x2048 .f32) : Vec F S512x2048 .f32 :=
  k0_pay2 i (rowsAt i r) (if c2 i = 1#1 then k0_pay1 else a) x

/-! ## Loads and stores of whole buffers -/

theorem z2 : (![0, 0] : Fin 2 → Nat) = fun _ => 0 := funext fun a => by fin_cases a <;> rfl
theorem z3 : (![0, 0, 0] : Fin 3 → Nat) = fun _ => 0 := funext fun a => by fin_cases a <;> rfl

omit [FloatOps F] in
/-- One store of the whole block of sums leaves the stored value. -/
theorem a_stored (f v : (cc0_scratch0 : Ref sig .tc).ty.Contents (Elt F)) (L : List (View.Piece (Elt F) S512x2048 .f32)) :
    aM.view.writes (Elt F) f ((⟨Rect.unit (s := S512x2048) ![0, 0] S512x2048.size inb_S512x2048_S512x2048_0_0, v⟩ : View.Piece (Elt F) S512x2048 .f32) :: L) = v := by
  rw [View.writes_cons]
  exact Memref.write_access_unit_zero_univ (Elt F) cc0_scratch0 z2 inb_S512x2048_S512x2048_0_0 _ v
omit [FloatOps F] in
/-- One load of the whole block reads its contents. -/
theorem a_loaded (f : Vec F S512x2048 .f32) :
    aM.view.readAt (Elt F) (Rect.unit (s := S512x2048) ![0, 0] S512x2048.size inb_S512x2048_S512x2048_0_0).toLoadRect f = f :=
  Memref.readAt_unit_zero (Elt F) cc0_scratch0 z2 _ f
omit [FloatOps F] in
/-- One store of a whole output block reads back as the stored value. -/
theorem o_stored (M : Memref sig .tc .vmem S512x2048 .bf16) (f : M.view.ty.Contents (Elt F)) (v : Vec F S512x2048 .bf16) :
    M.view.read (Elt F) (M.view.writes (Elt F) f [⟨Rect.unit (s := S512x2048) ![0, 0] S512x2048.size inb_S512x2048_S512x2048_0_0, v⟩]) = v := by
  funext y
  exact View.read_writes_cons_unit_of_mem M.view f inb_S512x2048_S512x2048_0_0 v [] y y z2 (fun a => (Nat.zero_add _).symm)

/-! ## The body's runs, away from the exchange -/

variable (c : Dev nD) (i : grid0.Coords) (M3 : Memref sig .tc .vmem S1x2048 .i32) (h3 : M3.IsWhole) (M4 : Memref sig .tc .vmem S1x512x2048 .bf16) (h4 : M4.IsWhole)
  (M5 : Memref sig .tc .vmem S512x2048 .bf16) (h5 : M5.IsWhole)

/-- The body at point `i` over the three staging memrefs. -/
abbrev body : Prog (TpuEff nD τ sig (Elt F) Λ₀ .tc) PUnit :=
  cc0_body i pM (Memref.isWhole_whole _) M3 h3 M4 h4 M5 h5 rM (Memref.isWhole_whole _) aM (Memref.isWhole_whole _) cc0_scratch1 cc0_scratch2

theorem rows_loaded (X : Vec F S1x2048 .i32) :
    M3.view.readAt (Elt F) (Rect.unit (s := S1x2048) (k0_off1 i) S1x512.size (k0_off1_inb i)).toLoadRect (M3.view.rep X) = rowsAt i X := View.readAt_rep _ _ _

/-- A point that starts a chunk. -/
theorem run_first (hc1 : ¬ k0_cond1 i = 1#1) (hc2 : c2 i = 1#1) (hc3 : ¬ k0_cond3 i = 1#1) (hc4 : ¬ c4 i = 1#1)
    (fa : Vec F S512x2048 .f32) (X3 : Vec F S1x2048 .i32) (X4 : Vec F S1x512x2048 .bf16) (Q : PUnit → sProp 𝕄) :
    iprop(pt c aM fa ∗ owns (c : Thread nD τ) M3 fullShare X3 ∗ owns (c : Thread nD τ) M4 fullShare X4
      ∗ (iprop(pt c aM (aStep i X3 X4 fa) ∗ owns (c : Thread nD τ) M3 fullShare X3 ∗ owns (c : Thread nD τ) M4 fullShare X4) -∗ Q ⟨⟩))
    ⊢ wp frame (wpE (defs₀ (F := F)) Variants.none c none) Set.univ (body i M3 h3 M4 h4 M5 h5) Q := by
  rw [owns_eq_rep (c : Thread nD τ) M3, owns_eq_rep (c : Thread nD τ) M4,
    show aStep i X3 X4 fa = k0_pay2 i (rowsAt i X3) k0_pay1 X4 from by unfold aStep; rw [if_pos hc2]]
  unfold body
  rw [cc0_body_eq_skeleton]; unfold cc0_body_skel
  rw [k0_part2_eq_skeleton]; unfold k0_part2_skel
  unfold c2 at hc2; unfold c4 at hc4
  iintro ⟨Ha, H3, H4, Hk⟩
  sl_exec! (disch := assumption)
  sl_step
  delta run_first.sl.Ha_2 run_first.sl.v22 run_first.sl.Ha_1
  rw [rows_loaded, View.readCov_cons_toLoadRect, View.readAt_rep_full, a_stored]
  iapply Hk
  isplitl [Ha]; · iexact Ha
  isplitl [H3]; · iexact H3
  iexact H4

/-- A point that goes on with a chunk. -/
theorem run_more (hc1 : ¬ k0_cond1 i = 1#1) (hc2 : ¬ c2 i = 1#1) (hc3 : ¬ k0_cond3 i = 1#1) (hc4 : ¬ c4 i = 1#1)
    (fa : Vec F S512x2048 .f32) (X3 : Vec F S1x2048 .i32) (X4 : Vec F S1x512x2048 .bf16) (Q : PUnit → sProp 𝕄) :
    iprop(pt c aM fa ∗ owns (c : Thread nD τ) M3 fullShare X3 ∗ owns (c : Thread nD τ) M4 fullShare X4
      ∗ (iprop(pt c aM (aStep i X3 X4 fa) ∗ owns (c : Thread nD τ) M3 fullShare X3 ∗ owns (c : Thread nD τ) M4 fullShare X4) -∗ Q ⟨⟩))
    ⊢ wp frame (wpE (defs₀ (F := F)) Variants.none c none) Set.univ (body i M3 h3 M4 h4 M5 h5) Q := by
  rw [owns_eq_rep (c : Thread nD τ) M3, owns_eq_rep (c : Thread nD τ) M4,
    show aStep i X3 X4 fa = k0_pay2 i (rowsAt i X3) fa X4 from by unfold aStep; rw [if_neg hc2]]
  unfold body
  rw [cc0_body_eq_skeleton]; unfold cc0_body_skel
  rw [k0_part2_eq_skeleton]; unfold k0_part2_skel
  unfold c2 at hc2; unfold c4 at hc4
  iintro ⟨Ha, H3, H4, Hk⟩
  sl_exec! (disch := assumption)
  sl_step
  delta run_more.sl.Ha_1
  rw [rows_loaded, a_loaded, View.readAt_rep_full, a_stored]
  iapply Hk
  isplitl [Ha]; · iexact Ha
  isplitl [H3]; · iexact H3
  iexact H4

/-- A point that finishes a chunk. -/
theorem run_store (hc1 : ¬ k0_cond1 i = 1#1) (hc2 : ¬ c2 i = 1#1) (hc3 : k0_cond3 i = 1#1) (hc4 : ¬ c4 i = 1#1)
    (fa : Vec F S512x2048 .f32) (X3 : Vec F S1x2048 .i32) (X4 : Vec F S1x512x2048 .bf16) (X5 : Vec F S512x2048 .bf16) (Q : PUnit → sProp 𝕄) :
    iprop(pt c aM fa ∗ owns (c : Thread nD τ) M3 fullShare X3 ∗ owns (c : Thread nD τ) M4 fullShare X4 ∗ owns (c : Thread nD τ) M5 fullShare X5
      ∗ (iprop(pt c aM (aStep i X3 X4 fa) ∗ owns (c : Thread nD τ) M3 fullShare X3 ∗ owns (c : Thread nD τ) M4 fullShare X4
          ∗ owns (c : Thread nD τ) M5 fullShare (k0_pay3 (aStep i X3 X4 fa))) -∗ Q ⟨⟩))
    ⊢ wp frame (wpE (defs₀ (F := F)) Variants.none c none) Set.univ (body i M3 h3 M4 h4 M5 h5) Q := by
  rw [owns_eq_rep (c : Thread nD τ) M3, owns_eq_rep (c : Thread nD τ) M4, owns_eq_rep (c : Thread nD τ) M5 fullShare X5,
    show aStep i X3 X4 fa = k0_pay2 i (rowsAt i X3) fa X4 from by unfold aStep; rw [if_neg hc2]]
  unfold body
  rw [cc0_body_eq_skeleton]; unfold cc0_body_skel
  rw [k0_part2_eq_skeleton]; unfold k0_part2_skel
  unfold c2 at hc2; unfold c4 at hc4
  iintro ⟨Ha, H3, H4, H5, Hk⟩
  sl_exec! (disch := assumption)
  sl_step
  delta run_store.sl.Ha_1
  rw [rows_loaded, a_loaded, View.readAt_rep_full, a_stored]
  iapply Hk
  isplitl [Ha]; · iexact Ha
  isplitl [H3]; · iexact H3
  isplitl [H4]; · iexact H4
  unfold owns; iexists _; isplitr; swap; · iexact H5
  ipureintro
  delta run_store.sl.H5_1 run_store.sl.v38 run_store.sl.Ha_1
  rw [o_stored, View.readCov_cons_toLoadRect, rows_loaded, a_loaded, View.readAt_rep_full]

end Cert.SwapProof
end
-- ==== Proof.SwapProto.lean ====
/-
# The local-part call: the exchange between partners

Devices `c` and `flip c` differ in the last coordinate of the mesh. Each hands the other, by a signal of its barrier
semaphore, its own landing buffer, and that its receive semaphore's cell is open; waits for the other's signal; and
sends the second slab of its expert outputs there. The send semaphore gives the sent slab back (at the share that was
lent), the receive semaphore the landing buffer holding the partner's slab.
-/
module

public import proofs.«01_k».proof.Proof.SwapStep

@[expose] public section

noncomputable section

namespace Cert.SwapProof

open Cert.SwapIdeal Cert.SwapIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

/-! ## The partners -/

/-- The device that differs in the last mesh coordinate. -/
def flip (c : Dev nD) : Dev nD := ⟨4 * (c.val / 4) + 2 * ((c.val / 2) % 2) + 1 - c.val % 2, by have := c.isLt; unfold nD at *; omega⟩
theorem flip_flip (c : Dev nD) : flip (flip c) = c := by revert c; decide
def flips : Dev nD ≃ Dev nD := ⟨flip, flip, flip_flip, flip_flip⟩

theorem dev1_eq (i : grid0.Coords) (c : Dev nD) (h : k0_cond1 i = 1#1) : (⟨k0_dev1 c, k0_dev1_lt i c h⟩ : Dev nD) = flip c := Fin.ext (k0_dev1_eq c)
theorem dev2_eq (i : grid0.Coords) (c : Dev nD) (h : k0_cond1 i = 1#1) : (⟨k0_dev2 c, k0_dev2_lt i c h⟩ : Dev nD) = flip c := Fin.ext (k0_dev2_eq c)

/-! ## The semaphores -/

abbrev barS : Sem sig := (SemArray.scalar (sig.barrier 1 rfl) : Sems sig S_).sem
abbrev sendS : DmaSem sig := (cc0_scratch1 : DmaSems sig S_).sem
abbrev recvS : DmaSem sig := (cc0_scratch2 : DmaSems sig S_).sem

abbrev barCell (c : Dev nD) : GSem nD τ sig := ((c : Thread nD τ), .reg barS)
abbrev sendCell (c : Dev nD) : GSem nD τ sig := ((c : Thread nD τ), .dma sendS)
abbrev recvCell (c : Dev nD) : GSem nD τ sig := ((c : Thread nD τ), .dma recvS)

/-- The units of a whole slab. -/
abbrev N : ℕ := rM.view.dmaCredit
theorem N_pos : 0 < N := View.dmaCredit_pos _ (by decide)

/-- Barrier, send, receive. -/
def plan : Plan nD sig (Fin 3) where
  sem := fun | 0 => .reg barS | 1 => .dma sendS | 2 => .dma recvS
  inj := by intro a b h; fin_cases a <;> fin_cases b <;> first | rfl | exact absurd h (by decide)
  amt := fun | 0 => 1 | 1 => N | 2 => N
  pos := fun k => by fin_cases k; exacts [Nat.one_pos, N_pos, N_pos]
  payer := fun | 0 => flips | 1 => Equiv.refl _ | 2 => flips
  level := fun | 0 => 1 | 1 => 0 | 2 => 2

/-! ## What the cells hand over -/

variable (m : (ℓ : Loc nD τ sig) → Buf (Elt F) ℓ)

/-- Device `c`'s expert outputs; -/
def own (c : Dev nD) : Vec F S2x1536x2048 .bf16 := m ((c : Thread nD τ).loc main_arg0)
/-- what its partner sends it: the second slab of the partner's. -/
def got (c : Dev nD) : Vec F S1536x2048 .bf16 := slabM.view.read (Elt F) (own m (flip c))

/-- A landing buffer holding `f`; -/
def landPts (c : Dev nD) (f : Vec F S1536x2048 .bf16) : sProp 𝕄 :=
  rM.view.loc (c : Thread nD τ) ↦[rM.view.set]{fullShare} f
/-- the lent share of the sent slab. -/
def slabPts (c : Dev nD) : sProp 𝕄 :=
  slabM.view.loc (c : Thread nD τ) ↦[slabM.view.set]{fullShare.right} own m c

omit [FloatOps F] in
theorem landPts_eq (c : Dev nD) (f : Vec F S1536x2048 .bf16) : landPts c f = pt c rM f := by unfold landPts; rw [View.set_whole]

omit [FloatOps F] in
/-- A transfer of the whole slab leaves what was sent. -/
theorem landed_eq (f : Vec F S1536x2048 .bf16) (v : Vec F S1536x2048 .bf16) : rM.view.write (Elt F) f v Finset.univ = v := View.write_whole_univ _ _ _

/-- What a device hands over with its signal: its landing buffer, and that its receive cell is open. -/
def handed (c : Dev nD) : sProp 𝕄 := iprop((∃ f, landPts (F := F) c f) ∗ reached ER (recvCell c) 0)

/-- What each cell's units hand its owner. -/
def pay (x : Dev nD × Fin 3) : sProp 𝕄 := match x.2 with
  | 0 => handed (flip x.1)
  | 1 => slabPts m x.1
  | 2 => landPts x.1 (got m x.1)

omit [FloatOps F] in
instance pay_storable (x : Dev nD × Fin 3) : BI.Storable (upEmb : UEmb _ 𝕄) (pay m x) := by
  obtain ⟨c, k⟩ := x
  unfold pay handed landPts slabPts
  fin_cases k <;> (dsimp only; infer_instance)

/-- The exchange's schedule. -/
abbrev rd : Rounds.Schedule (GSem nD τ sig) Unit 𝕄 := sched plan (pay m)

omit [FloatOps F] in
theorem rest_bar (c : Dev nD) : bigSep ((rd m).duties (barCell c) 0 \ ∅) (fun d => (rd m).payload (barCell c) 0 d) = handed (F := F) (flip c) :=
  rest_cell plan (pay m) (c, 0)
omit [FloatOps F] in
theorem rest_send (c : Dev nD) : bigSep ((rd m).duties (sendCell c) 0 \ ∅) (fun d => (rd m).payload (sendCell c) 0 d) = slabPts m c :=
  rest_cell plan (pay m) (c, 1)
omit [FloatOps F] in
theorem rest_recv (c : Dev nD) : bigSep ((rd m).duties (recvCell c) 0 \ ∅) (fun d => (rd m).payload (recvCell c) 0 d) = landPts c (got m c) :=
  rest_cell plan (pay m) (c, 2)
omit [FloatOps F] in
theorem mem_bar (c : Dev nD) : () ∈ (rd m).duties (barCell c) 0 := by
  rw [show (rd m).duties (barCell c) 0 = {()} from duties_cell plan (pay m) (c, 0)]; exact Finset.mem_singleton_self _
omit [FloatOps F] in
theorem mem_send (c : Dev nD) : () ∈ (rd m).duties (sendCell c) 0 := by
  rw [show (rd m).duties (sendCell c) 0 = {()} from duties_cell plan (pay m) (c, 1)]; exact Finset.mem_singleton_self _
omit [FloatOps F] in
theorem mem_recv (c : Dev nD) : () ∈ (rd m).duties (recvCell c) 0 := by
  rw [show (rd m).duties (recvCell c) 0 = {()} from duties_cell plan (pay m) (c, 2)]; exact Finset.mem_singleton_self _
omit [FloatOps F] in
theorem amt_bar (c : Dev nD) : (rd m).amount (barCell c) 0 () = 1 := amount_cell plan (pay m) (c, 0) ()
omit [FloatOps F] in
theorem amt_send (c : Dev nD) : (rd m).amount (sendCell c) 0 () = N := amount_cell plan (pay m) (c, 1) ()
omit [FloatOps F] in
theorem amt_recv (c : Dev nD) : (rd m).amount (recvCell c) 0 () = N := amount_cell plan (pay m) (c, 2) ()
omit [FloatOps F] in
theorem pay_bar (c : Dev nD) : (rd m).payload (barCell c) 0 () = handed (F := F) (flip c) := payload_cell plan (pay m) (c, 0) ()
omit [FloatOps F] in
theorem pay_send (c : Dev nD) : (rd m).payload (sendCell c) 0 () = slabPts m c := payload_cell plan (pay m) (c, 1) ()
omit [FloatOps F] in
theorem pay_recv (c : Dev nD) : (rd m).payload (recvCell c) 0 () = landPts c (got m c) := payload_cell plan (pay m) (c, 2) ()
omit [FloatOps F] in
theorem exp_bar (c : Dev nD) : (rd m).expect (barCell c) 0 = 1 := expect_cell plan (pay m) (c, 0)
omit [FloatOps F] in
theorem exp_send (c : Dev nD) : (rd m).expect (sendCell c) 0 = N := expect_cell plan (pay m) (c, 1)
omit [FloatOps F] in
theorem exp_recv (c : Dev nD) : (rd m).expect (recvCell c) 0 = N := expect_cell plan (pay m) (c, 2)

/-- What a device owes at the launch: its partner's signal and its partner's slab. -/
def O₀ (c : Dev nD) : CellTallies nD τ sig Unit := owes' plan {0, 2} c
/-- After the signal it owes the slab. -/
def O₁ (c : Dev nD) : CellTallies nD τ sig Unit := owes' plan {2} c
theorem O₀_eq (c : Dev nD) : O₀ c = O₁ c + tallyAt (barCell (flip c)) () 1 := Exchange.owes'_insert plan (S := {2}) (k := 0) (by decide) c
theorem O₁_eq (c : Dev nD) : O₁ c = 0 + tallyAt (recvCell (flip c)) () N := by
  unfold O₁; rw [← insert_empty_eq, Exchange.owes'_insert plan (by decide), Exchange.owes'_empty]; rfl

omit [FloatOps F] in
/-- A device may wait for its partner's signal while it owes the slab. -/
theorem mayWait_bar (c : Dev nD) : (levAts L (lv plan) : sProp 𝕄) ⊢ MayWait (c : Thread nD τ) (.reg barS) () (O₁ c) :=
  mayWait plan c (.reg barS) {2} fun k hk => by
    rw [Finset.mem_singleton.mp hk, show lv plan ((c : Thread nD τ), SemLoc.reg barS) () = 1 from Exchange.lv_cell plan (c, 0) ()]
    decide

/-! ## The records -/

/-- The invariants of every cell, under the names `K`, and that every barrier cell is open. -/
def known (K : Dev nD × Fin 3 → ℕ) : sProp 𝕄 :=
  iprop((bigSep Finset.univ fun x : Dev nD × Fin 3 => cellInv ER (rd m) (K x) (plan.cell x)) ∗ bigSep Finset.univ fun c : Dev nD => reached ER (barCell c) 0)
omit [FloatOps F] in
instance known_persistent (K : Dev nD × Fin 3 → ℕ) : BI.Persistent (known m K) := by unfold known; infer_instance
omit [FloatOps F] in
theorem inv_of (K : Dev nD × Fin 3 → ℕ) (x : Dev nD × Fin 3) : known m K ⊢ cellInv ER (rd m) (K x) (plan.cell x) := by
  unfold known
  iintro ⟨H, -⟩
  iapply (Exchange.all_elim (fun x : Dev nD × Fin 3 => cellInv ER (rd m) (K x) (plan.cell x)) x); iexact H
omit [FloatOps F] in
theorem bar_elim (c : Dev nD) : (bigSep Finset.univ fun c : Dev nD => (reached ER (barCell c) 0 : sProp 𝕄)) ⊢ reached ER (barCell c) 0 := bigSep_elim (Finset.mem_univ c)
omit [FloatOps F] in
theorem open_of (K : Dev nD × Fin 3 → ℕ) (c : Dev nD) : known m K ⊢ reached ER (barCell c) 0 := by
  unfold known
  iintro ⟨-, H⟩
  iapply (bar_elim (F := F) c); iexact H

/-- The transfer of the slab to the partner. -/
theorem wp_send_slab (K : Dev nD × Fin 3 → ℕ) (c n : Dev nD) (hn : n = flip c) {hsc : (rM : Memref sig (Dev.tc n : Thread nD τ).2.kind .hbm S1536x2048 .bf16).view.ref.isScScratch = false}
    {hsrc : slabM.view.WordExact} {hdst : (rM : Memref sig .tc .hbm S1536x2048 .bf16).view.WordExact}
    {hsem : DmaTarget.Typed .hbm (.dma recvS) (.remote (Dev.tc n : Thread nD τ) (rM : Memref sig .tc .hbm S1536x2048 .bf16) (.dma sendS) hsc)}
    {α : Type} {Q : α → sProp 𝕄} {k : PUnit → Prog (TpuEff nD τ sig (Elt F) Λ₀ .tc) α}
    (f : Vec F S1536x2048 .bf16) (W : Waits sig Unit) :
    iprop(known m K ∗ reached ER (sendCell c) 0 ∗ reached ER (recvCell (flip c)) 0 ∗ slabPts m c ∗ landPts (flip c) f ∗ owes (c : Thread nD τ) (O₁ c) W
        ∗ dutyTok ER (sendCell c) 0 () ∗ dutyTok ER (recvCell (flip c)) 0 ())
      ⊢ iprop(((cred (tallyAt (sendCell c) () N) ∗ owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ
              (.op (.enqueueDma slabM (.remote (Dev.tc n : Thread nD τ) rM (.dma sendS) hsc) (.dma recvS) hsrc hdst hsem) k) Q) := by
  subst hn
  iintro ⟨#HR, #HrS, #HrV, Hs, Hl, HO, Hts, Htr⟩
  unfold slabPts landPts
  iapply (Rounds.wp_send_pointsTo Variants.none ER (rd m) (c : Thread nD τ) none (κ₁ := K (c, 1)) (κ₂ := K (flip c, 2))
    (r₁ := 0) (r₂ := 0) (d₁ := ()) (d₂ := ()) (fs := own m c) (fd := f) (mem_send m c) (mem_recv m (flip c))
    () () N rfl (amt_send m c) (amt_recv m (flip c)) 0 (O₁_eq c) (W := W)
    (by rw [pay_send]; exact BI.Entails.refl _)
    (by rw [pay_recv]; unfold landPts got; rw [flip_flip, landed_eq])) $$ [Hs Hl HO Hts Htr]
  isplitr; · iapply (inv_of m K (c, 1)); iexact HR
  isplitr; · iapply (inv_of m K (flip c, 2)); iexact HR
  isplitl [Hs]; · iexact Hs
  isplitl [Hl]; · iexact Hl
  isplitl [HO]; · iexact HO
  isplitl [Hts]; · iexact Hts
  isplitr; · iexact HrS
  isplitl [Htr]; · iexact Htr
  iexact HrV

end Cert.SwapProof
end
-- ==== Proof.SwapHeads.lean ====
/-
# The local-part call: the two points that exchange

The first grid point signals, waits for the partner's signal and sends the slab before it goes on as any point that
starts a chunk; the last point finishes its chunk and waits for both ends of the transfer.
-/
module

public import proofs.«01_k».proof.Proof.SwapProto

@[expose] public section

noncomputable section

namespace Cert.SwapProof

open Cert.SwapIdeal Cert.SwapIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Exchange (Plan ER sched records inv_at reached_at duties_cell amount_cell payload_cell expect_cell rest_cell owes' L lv mayWait)

variable {F : FTy → Type} [FloatOps F]

local notation "𝕄" => MT nD τ sig Unit (Elt F) ℕ UU ℕ

variable (m : (ℓ : Loc nD τ sig) → Buf (Elt F) ℓ)

/-- The share of the expert outputs that the exchange uses; -/
def rightPts (c : Dev nD) : sProp 𝕄 := pM.view.loc (c : Thread nD τ) ↦{fullShare.right} own m c
/-- that share of all but the sent slab. -/
def restPts (c : Dev nD) : sProp 𝕄 := slabM.view.loc (c : Thread nD τ) ↦[Finset.univ \ slabM.view.set]{fullShare.right} own m c

omit [FloatOps F] in
theorem right_split (c : Dev nD) : rightPts m c ⊢ iprop(slabPts m c ∗ restPts m c) := by
  unfold rightPts slabPts restPts
  exact (pointsTo_split_subset (Finset.subset_univ _)).1
omit [FloatOps F] in
theorem right_join (c : Dev nD) : iprop(slabPts m c ∗ restPts m c) ⊢ rightPts m c := by
  unfold rightPts slabPts restPts
  exact (pointsTo_split_subset (Finset.subset_univ _)).2

variable (c : Dev nD) (i : grid0.Coords) (M3 : Memref sig .tc .vmem S1x2048 .i32) (h3 : M3.IsWhole) (M4 : Memref sig .tc .vmem S1x512x2048 .bf16) (h4 : M4.IsWhole)
  (M5 : Memref sig .tc .vmem S512x2048 .bf16) (h5 : M5.IsWhole)

set_option maxHeartbeats 1600000 in
/-- The first grid point. -/
theorem run_start (K : Dev nD × Fin 3 → ℕ) (hc1 : k0_cond1 i = 1#1) (hc2 : c2 i = 1#1) (hc3 : ¬ k0_cond3 i = 1#1) (hc4 : ¬ c4 i = 1#1)
    (fr : Vec F S1536x2048 .bf16) (fa : Vec F S512x2048 .f32) (X3 : Vec F S1x2048 .i32) (X4 : Vec F S1x512x2048 .bf16) (W : Waits sig Unit) (Q : PUnit → sProp 𝕄) :
    iprop(known m K ∗ levAts L (lv plan) ∗ reached ER (sendCell c) 0 ∗ reached ER (recvCell c) 0 ∗ atPos ER (barCell c) 0 ∅ 0
      ∗ dutyTok ER (barCell (flip c)) 0 () ∗ dutyTok ER (sendCell c) 0 () ∗ dutyTok ER (recvCell (flip c)) 0 ()
      ∗ cred (tallyAt (barCell c) () 1) ∗ owes (c : Thread nD τ) (O₀ c) W
      ∗ pt c rM fr ∗ rightPts m c ∗ pt c aM fa ∗ owns (c : Thread nD τ) M3 fullShare X3 ∗ owns (c : Thread nD τ) M4 fullShare X4
      ∗ (iprop(cred (tallyAt (sendCell c) () N) ∗ semVal (barCell c) 0 ∗ restPts m c
          ∗ pt c aM (aStep i X3 X4 fa) ∗ owns (c : Thread nD τ) M3 fullShare X3 ∗ owns (c : Thread nD τ) M4 fullShare X4
          ∗ ∃ W, owes (c : Thread nD τ) 0 W) -∗ Q ⟨⟩))
    ⊢ wp frame (wpE (defs₀ (F := F)) Variants.none c none) Set.univ (body i M3 h3 M4 h4 M5 h5) Q := by
  rw [owns_eq_rep (c : Thread nD τ) M3, owns_eq_rep (c : Thread nD τ) M4,
    show aStep i X3 X4 fa = k0_pay2 i (rowsAt i X3) k0_pay1 X4 from by unfold aStep; rw [if_pos hc2]]
  unfold body
  rw [cc0_body_eq_skeleton]; unfold cc0_body_skel
  rw [k0_part2_eq_skeleton]; unfold k0_part2_skel
  unfold c2 at hc2; unfold c4 at hc4
  rw [dif_pos hc1, k0_part1_eq_skeleton]; unfold k0_part1_skel
  simp only [semSignalWord, semWaitWord, Prog.lift, Prog.bind_op, Prog.bind_ret, Prog.pure_eq_ret, wp_deviceId, dev1_eq i c hc1]
  iintro ⟨#HR, #Hlev, #HrS, #HrV, HaB, HtB, HtS, HtV, HcB, HO, Hr, Hp, Ha, H3, H4, Hk⟩
  rw [O₀_eq c]
  iapply (Rounds.wp_signal Variants.none ER (rd m) (c : Thread nD τ) none (dst := (flip c : Thread nD τ)) (κ := K (flip c, 0))
      (d := ()) (mem_bar m (flip c)) ((amt_bar m (flip c)).trans (by decide)) () (O₁ c) rfl) $$ [HO HtB Hr]
  · isplitr; · iapply (inv_of m K (flip c, 0)); iexact HR
    isplitl [HO]; · iexact HO
    isplitl [HtB]; · iexact HtB
    isplitl [Hr]
    · rw [pay_bar, flip_flip]; unfold handed
      isplitl [Hr]; · iexists fr; rw [landPts_eq]; iexact Hr
      iexact HrV
    · iapply (open_of m K (flip c)); iexact HR
  iintro HO
  iapply (Rounds.wp_wait_rest_token Variants.none ER (rd m) (c : Thread nD τ) none (κ := K (c, 0))
      (wpE_semWait_eq Variants.none (c : Thread nD τ) none Set.univ) (Set.mem_univ _) () (O := O₁ c) (W := W) (R := 0) (m := 0) (T := ∅)
      (by rw [exp_bar]; decide)) $$ [HcB HO HaB]
  · isplitr; · iapply (inv_of m K (c, 0)); iexact HR
    isplitl [HcB]; · iexact HcB
    isplitl [HO]; · iexact HO
    isplitr; · iapply (mayWait_bar c); iexact Hlev
    iexact HaB
  iintro ⟨HO, HaB, -, Hpay⟩
  ihave Hl := (Entails.of_eq (rest_bar m c)) $$ Hpay
  unfold handed
  icases Hl with ⟨⟨%fl, Hl⟩, #HrF⟩
  imod (Rounds.cell_close ER (rd m) (Set.mem_univ (K (c, 0))) (fun h => h) (R := 0 + 1) (Exchange.duties_later plan (pay m) (barCell c))) $$ [HaB] with HzB
  · isplitr; · iapply (inv_of m K (c, 0)); iexact HR
    iexact HaB
  ihave Hp' := (right_split m c) $$ Hp
  icases Hp' with ⟨Hslab, Hrest⟩
  iapply (wp_send_slab m K c _ (dev2_eq i c hc1) fl (insert (SemLoc.reg barS, ()) W)) $$ [Hslab Hl HO HtS HtV]
  · isplitr; · iexact HR
    isplitr; · iexact HrS
    isplitr; · iexact HrF
    isplitl [Hslab]; · iexact Hslab
    isplitl [Hl]; · iexact Hl
    isplitl [HO]; · iexact HO
    isplitl [HtS]; · iexact HtS
    iexact HtV
  iintro ⟨HcS, HO⟩
  sl_exec! (disch := assumption)
  sl_step
  delta run_start.sl.Ha_2 run_start.sl.v22 run_start.sl.v23 run_start.sl.Ha_1
  rw [rows_loaded, View.readCov_cons_toLoadRect, View.readAt_rep_full, a_stored]
  iapply Hk
  isplitl [HcS]; · iexact HcS
  isplitl [HzB]; · iexact HzB
  isplitl [Hrest]; · iexact Hrest
  isplitl [Ha]; · iexact Ha
  isplitl [H3]; · iexact H3
  isplitl [H4]; · iexact H4
  iexists _; iexact HO

set_option maxHeartbeats 1600000 in
/-- The last grid point. -/
theorem run_last (K : Dev nD × Fin 3 → ℕ) (hc1 : ¬ k0_cond1 i = 1#1) (hc2 : ¬ c2 i = 1#1) (hc3 : k0_cond3 i = 1#1) (hc4 : c4 i = 1#1)
    (fa : Vec F S512x2048 .f32) (X3 : Vec F S1x2048 .i32) (X4 : Vec F S1x512x2048 .bf16) (X5 : Vec F S512x2048 .bf16) (W : Waits sig Unit) (Q : PUnit → sProp 𝕄) :
    iprop(known m K ∗ atPos ER (sendCell c) 0 ∅ 0 ∗ atPos ER (recvCell c) 0 ∅ 0
      ∗ cred (tallyAt (sendCell c) () N) ∗ cred (tallyAt (recvCell c) () N) ∗ owes (c : Thread nD τ) 0 W
      ∗ restPts m c ∗ pt c aM fa ∗ owns (c : Thread nD τ) M3 fullShare X3 ∗ owns (c : Thread nD τ) M4 fullShare X4 ∗ owns (c : Thread nD τ) M5 fullShare X5
      ∗ (iprop(semVal (sendCell c) 0 ∗ semVal (recvCell c) 0 ∗ rightPts m c ∗ pt c rM (got m c)
          ∗ pt c aM (aStep i X3 X4 fa) ∗ owns (c : Thread nD τ) M3 fullShare X3 ∗ owns (c : Thread nD τ) M4 fullShare X4
          ∗ owns (c : Thread nD τ) M5 fullShare (k0_pay3 (aStep i X3 X4 fa)) ∗ ∃ W, owes (c : Thread nD τ) 0 W) -∗ Q ⟨⟩))
    ⊢ wp frame (wpE (defs₀ (F := F)) Variants.none c none) Set.univ (body i M3 h3 M4 h4 M5 h5) Q := by
  rw [owns_eq_rep (c : Thread nD τ) M3, owns_eq_rep (c : Thread nD τ) M4, owns_eq_rep (c : Thread nD τ) M5 fullShare X5,
    show aStep i X3 X4 fa = k0_pay2 i (rowsAt i X3) fa X4 from by unfold aStep; rw [if_neg hc2]]
  unfold body
  rw [cc0_body_eq_skeleton]; unfold cc0_body_skel
  rw [k0_part2_eq_skeleton]; unfold k0_part2_skel
  unfold c2 at hc2; unfold c4 at hc4
  iintro ⟨#HR, HaS, HaV, HcS, HcV, HO, Hrest, Ha, H3, H4, H5, Hk⟩
  sl_exec (disch := assumption)
  simp only [Prog.lift, Prog.bind_op, Prog.bind_ret, Prog.pure_eq_ret]
  iapply (Rounds.wp_wait_rest_token Variants.none ER (rd m) (c : Thread nD τ) none (κ := K (c, 1))
      (wpE_waitDma2_eq Variants.none (c : Thread nD τ) none Set.univ) (Set.mem_univ _) () (O := 0) (W := W) (R := 0) (m := 0) (T := ∅)
      (by rw [Nat.zero_add, exp_send])) $$ [HcS HO HaS]
  · isplitr; · iapply (inv_of m K (c, 1)); iexact HR
    isplitl [HcS]; · iexact HcS
    isplitl [HO]; · iexact HO
    isplitr; · rw [MayWait_zero]; iempintro
    iexact HaS
  iintro ⟨HO, HaS, -, Hpay⟩
  ihave Hslab := (Entails.of_eq (rest_send m c)) $$ Hpay
  imod (Rounds.cell_close ER (rd m) (Set.mem_univ (K (c, 1))) (fun h => h) (R := 0 + 1) (Exchange.duties_later plan (pay m) (sendCell c))) $$ [HaS] with HzS
  · isplitr; · iapply (inv_of m K (c, 1)); iexact HR
    iexact HaS
  iapply (Rounds.wp_wait_rest_token Variants.none ER (rd m) (c : Thread nD τ) none (κ := K (c, 2))
      (wpE_waitDma2_eq Variants.none (c : Thread nD τ) none Set.univ) (Set.mem_univ _) () (O := 0) (R := 0) (m := 0) (T := ∅)
      (by rw [Nat.zero_add, exp_recv])) $$ [HcV HO HaV]
  · isplitr; · iapply (inv_of m K (c, 2)); iexact HR
    isplitl [HcV]; · iexact HcV
    isplitl [HO]; · iexact HO
    isplitr; · rw [MayWait_zero]; iempintro
    iexact HaV
  iintro ⟨HO, HaV, -, Hpay⟩
  ihave Hl := (Entails.of_eq ((rest_recv m c).trans (landPts_eq c _))) $$ Hpay
  imod (Rounds.cell_close ER (rd m) (Set.mem_univ (K (c, 2))) (fun h => h) (R := 0 + 1) (Exchange.duties_later plan (pay m) (recvCell c))) $$ [HaV] with HzV
  · isplitr; · iapply (inv_of m K (c, 2)); iexact HR
    iexact HaV
  ihave Hp := (right_join m c) $$ [Hslab Hrest]
  · isplitl [Hslab] <;> iassumption
  sl_step
  delta run_last.sl.Ha_1
  rw [rows_loaded, a_loaded, View.readAt_rep_full, a_stored]
  iapply Hk
  isplitl [HzS]; · iexact HzS
  isplitl [HzV]; · iexact HzV
  isplitl [Hp]; · iexact Hp
  isplitl [Hl]; · iexact Hl
  isplitl [Ha]; · iexact Ha
  isplitl [H3]; · iexact H3
  isplitl [H4]; · iexact H4
  isplitl [H5]
  · unfold owns; iexists _; isplitr; swap; · iexact H5
    ipureintro
    delta run_last.sl.v38 run_last.sl.Ha_1
    rw [o_stored, View.readCov_cons_toLoadRect, rows_loaded, a_loaded, View.readAt_rep_full]
  iexists _; iexact HO

end Cert.SwapProof
end
-- ==== Proof.SwapDats.lean ====
/-
# The local-part call: the states along the grid, the proof data

The sums after each grid point are a plain recursion over the points. The region's invariant has three stages: before
the first point the exchange is untouched; up to the last point the slab is under way; after it both ends of the
transfer are there. The array of the expert outputs is staged at one share and sent at the other.
-/
module

public import proofs.«01_k».proof.Proof.SwapHeads
public import proofs.«01_k».proof.Proof.Gen.SwapIdeal.Frame

@[expose] public section

noncomputable section

namespace Cert.SwapProof

open Cert.SwapIdeal Cert.SwapIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records inv_at reached_at duties_cell amount_cell payload_cell expect_cell rest_cell owes' L lv mayWait)

variable {F : FTy → Type} [FloatOps F]

local notation "𝕄" => MT nD τ sig Unit (Elt F) ℕ UU ℕ

/-! ## Which point does what -/

theorem cond1_at : ∀ t : Fin grid0.N, k0_cond1 (grid0.coords t) = 1#1 ↔ t.val = 0 := by decide +kernel
theorem c2_at : ∀ t : Fin grid0.N, c2 (grid0.coords t) = 1#1 ↔ t.val % 3 = 0 := by decide +kernel
theorem cond3_at : ∀ t : Fin grid0.N, k0_cond3 (grid0.coords t) = 1#1 ↔ t.val % 3 = 2 := by decide +kernel
theorem c4_at : ∀ t : Fin grid0.N, c4 (grid0.coords t) = 1#1 ↔ t.val = 11 := by decide +kernel
/-- The points that leave the output block alone. -/
theorem idle_at : ∀ t : Fin grid0.N, cfg0.idle 2 (grid0.coords t) = decide (t.val % 3 ≠ 2) := by decide +kernel
theorem flush_at : ∀ t : Fin grid0.N, (cfg0.win 2).flush t = decide (t.val % 3 = 2) := by decide +kernel

/-! ## The states -/

variable (m : (ℓ : Loc nD τ sig) → Buf (Elt F) ℓ)

/-- Point `n`, for any natural number (past the grid: counted from the start again). -/
def pn (n : ℕ) : Fin grid0.N := ⟨n % grid0.N, Nat.mod_lt _ (by rw [N_0]; decide)⟩
theorem pn_val (t : Fin grid0.N) : pn t.val = t := Fin.ext (Nat.mod_eq_of_lt t.isLt)

def w0 (c : Dev nD) (n : ℕ) : Vec F S1x2048 .i32 := iblk m c 0 (pn n)
def w1 (c : Dev nD) (n : ℕ) : Vec F S1x512x2048 .bf16 := iblk m c 1 (pn n)

/-- The sums before point `n`. -/
def A (c : Dev nD) : ℕ → Vec F S512x2048 .f32
  | 0 => k0_pay1
  | n + 1 => aStep (grid0.coords (pn n)) (w0 m c n) (w1 m c n) (A c n)
/-- The output block after a point that finishes a chunk. -/
def O (c : Dev nD) (n : ℕ) : Vec F S512x2048 .bf16 := k0_pay3 (A m c (n + 1))

theorem A_next (c : Dev nD) (t : Fin grid0.N) : A m c (t.val + 1) = aStep (grid0.coords t) (iblk m c 0 t) (iblk m c 1 t) (A m c t.val) := by
  conv_lhs => unfold A
  unfold w0 w1; rw [pn_val]
/-- A point that starts a chunk finds nothing it uses in the sums. -/
theorem aStep_starts (t : Fin grid0.N) (h : t.val % 3 = 0) (r : Vec F S1x2048 .i32) (x : Vec F S1x512x2048 .bf16) (a a' : Vec F S512x2048 .f32) :
    aStep (grid0.coords t) r x a = aStep (grid0.coords t) r x a' := by
  unfold aStep
  rw [if_pos ((c2_at t).mpr h), if_pos ((c2_at t).mpr h)]

/-! ## The invariant -/

/-- A device's ghost state of the exchange, all its cells open. -/
def begins (c : Dev nD) : sProp 𝕄 :=
  iprop(∃ K, known m K ∗ reached ER (sendCell c) 0 ∗ reached ER (recvCell c) 0
    ∗ atPos ER (barCell c) 0 ∅ 0 ∗ atPos ER (sendCell c) 0 ∅ 0 ∗ atPos ER (recvCell c) 0 ∅ 0
    ∗ dutyTok ER (barCell (flip c)) 0 () ∗ dutyTok ER (sendCell c) 0 () ∗ dutyTok ER (recvCell (flip c)) 0 ())
/-- Before the first point. -/
def Φ₀ (c : Dev nD) : sProp 𝕄 :=
  iprop(begins m c ∗ cred (tallyAt (barCell c) () 1) ∗ cred (tallyAt (recvCell c) () N) ∗ levAts L (lv plan) ∗ rightPts m c
    ∗ (∃ f, pt (F := F) c rM f) ∗ (∃ f, pt (F := F) c aM f))
/-- While the slab is under way: what no point but the last touches; -/
def R₁ (c : Dev nD) : sProp 𝕄 :=
  iprop((∃ K, known m K) ∗ atPos ER (sendCell c) 0 ∅ 0 ∗ atPos ER (recvCell c) 0 ∅ 0
    ∗ cred (tallyAt (sendCell c) () N) ∗ cred (tallyAt (recvCell c) () N) ∗ semVal (barCell c) 0 ∗ restPts m c)
/-- that, with the sums. -/
def Φ₁ (c : Dev nD) (n : ℕ) : sProp 𝕄 := iprop(R₁ m c ∗ pt c aM (A m c n))
/-- After the last point. -/
def Φ₂ (c : Dev nD) (n : ℕ) : sProp 𝕄 :=
  iprop((semVal (barCell c) 0 ∗ semVal (sendCell c) 0 ∗ semVal (recvCell c) 0 ∗ rightPts m c ∗ pt c rM (got m c)) ∗ pt c aM (A m c n))

/-- The invariant before point `n`. -/
def Φat (c : Dev nD) (n : ℕ) : sProp 𝕄 := if n = 0 then Φ₀ m c else if n ≤ 11 then Φ₁ m c n else Φ₂ m c n
theorem Φat_zero (c : Dev nD) : Φat m c 0 = Φ₀ m c := if_pos rfl
theorem Φat_early (c : Dev nD) (n : ℕ) (h : n ≠ 0) (h' : n ≤ 11) : Φat m c n = Φ₁ m c n := by unfold Φat; rw [if_neg h, if_pos h']
theorem Φat_late (c : Dev nD) (n : ℕ) (h : 11 < n) : Φat m c n = Φ₂ m c n := by unfold Φat; rw [if_neg (by omega), if_neg (by omega)]

/-! ## The proof data -/

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => O m c t.val
  Φ t := Φat m c t.val
  q w := match w with
    | ⟨0, _⟩ => fullShare
    | ⟨1, _⟩ => fullShare.left
    | ⟨2, _⟩ => fullShare
  owed t := if t.val = 0 then O₀ c else 0

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

end Cert.SwapProof
end
-- ==== Proof.SwapBody.lean ====
/-
# The local-part call: the body obligation

Every grid point, by its shape: from the invariant before it and its staged blocks, the body leaves the invariant after
it and the output block as the state sequence says.
-/
module

public import proofs.«01_k».proof.Proof.SwapDats

@[expose] public section

noncomputable section

namespace Cert.SwapProof

open Cert.SwapIdeal Cert.SwapIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records inv_at reached_at duties_cell amount_cell payload_cell expect_cell rest_cell owes' L lv mayWait)

variable {F : FTy → Type} [FloatOps F]

local notation "𝕄" => MT nD τ sig Unit (Elt F) ℕ UU ℕ

variable (m : (ℓ : Loc nD τ sig) → Buf (Elt F) ℓ)

/-! ## What a device owes -/

/-- A device that owes nothing. -/
def owesZ (c : Dev nD) : sProp 𝕄 := iprop(∃ W, owes (c : Thread nD τ) 0 W)

theorem owes_start (c : Dev nD) (t : Fin cfg0.N) (h : t.val = 0) : (dats m 0 c).owesAt () t.castSucc ⊢ iprop(∃ W, owes (c : Thread nD τ) (O₀ c) W) := by
  unfold Dat.owesAt Pipeline.owesWithin
  rw [show (dats m 0 c).owed t.castSucc = O₀ c from if_pos h]
  iintro ⟨%W, -, H⟩
  iexists W; iexact H
theorem owes_later (c : Dev nD) (t : Fin cfg0.N) (h : t.val ≠ 0) : (dats m 0 c).owesAt () t.castSucc ⊢ owesZ (F := F) c := by
  unfold Dat.owesAt Pipeline.owesWithin owesZ
  rw [show (dats m 0 c).owed t.castSucc = 0 from if_neg h]
  iintro ⟨%W, -, H⟩
  iexists W; iexact H
theorem owes_next (c : Dev nD) (t : Fin cfg0.N) : owesZ (F := F) c ⊢ (dats m 0 c).owesAt () t.succ := by
  unfold Dat.owesAt Pipeline.owesWithin owesZ
  rw [show (dats m 0 c).owed t.succ = 0 from (if_neg (Nat.succ_ne_zero t.val) : (if t.val + 1 = 0 then O₀ c else 0) = 0)]
  iintro ⟨%W, H⟩
  iexists W; isplitr; · ipureintro; exact fun _ _ => Or.inl trivial
  iexact H

/-! ## One point -/

/-- The output block as a point finds it; -/
def outPre (c : Dev nD) (t : Fin cfg0.N) : sProp 𝕄 := iprop(∃ d, owns (c : Thread nD τ) (st0_2 t) fullShare ((dats m 0 c).before 2 t d))
/-- as a point leaves it. -/
def outPost (c : Dev nD) (t : Fin cfg0.N) : sProp 𝕄 :=
  if t.val % 3 = 2 then owns (c : Thread nD τ) (st0_2 t) fullShare (O m c t.val) else outPre m c t

def pre (c : Dev nD) (t : Fin cfg0.N) : sProp 𝕄 :=
  iprop(Φat m c t.val ∗ (dats m 0 c).owesAt () t.castSucc ∗ owns (c : Thread nD τ) (st0_0 t) fullShare (iblk m c 0 t)
    ∗ owns (c : Thread nD τ) (st0_1 t) fullShare (iblk m c 1 t) ∗ outPre m c t)
def post (c : Dev nD) (t : Fin cfg0.N) : sProp 𝕄 :=
  iprop(Φat m c (t.val + 1) ∗ (dats m 0 c).owesAt () t.succ ∗ owns (c : Thread nD τ) (st0_0 t) fullShare (iblk m c 0 t)
    ∗ owns (c : Thread nD τ) (st0_1 t) fullShare (iblk m c 1 t) ∗ outPost m c t)

/-- What is to be shown of a point. -/
abbrev Runs (c : Dev nD) (t : Fin cfg0.N) : Prop :=
  pre m c t ⊢ wp frame (wpE (defs₀ (F := F)) Variants.none c none) Set.univ (bodyAt0 t) fun _ => post m c t

theorem hs3 (t : Fin cfg0.N) : (st0_0 t).IsWhole := hstage0_0 ((cfg0.slots t 0).cast nbuf0_0)
theorem hs4 (t : Fin cfg0.N) : (st0_1 t).IsWhole := hstage0_1 ((cfg0.slots t 1).cast nbuf0_1)
theorem hs5 (t : Fin cfg0.N) : (st0_2 t).IsWhole := hstage0_2 ((cfg0.slots t 2).cast nbuf0_2)

section Shapes
variable (c : Dev nD) (t : Fin cfg0.N)

theorem runs_start (h : t.val = 0) : Runs m c t := by
  unfold Runs pre post outPost
  rw [if_neg (by omega), h, Φat_zero, Φat_early m c (0 + 1) (by decide) (by decide)]
  unfold Φ₀ Φ₁ R₁ begins
  iintro ⟨⟨⟨%K, #HR, #HrS, #HrV, HaB, HaS, HaV, HtB, HtS, HtV⟩, HcB, HcV, #Hlev, Hp, ⟨%fr, Hr⟩, ⟨%fa, Ha⟩⟩, Ho, H3, H4, H5⟩
  ihave Ho' := (owes_start m c t h) $$ Ho
  icases Ho' with ⟨%W, HO⟩
  iapply (run_start m c (grid0.coords t) (st0_0 t) (hs3 t) (st0_1 t) (hs4 t) (st0_2 t) (hs5 t) K
    ((cond1_at t).mpr (by omega)) ((c2_at t).mpr (by omega)) (fun h' => by have := (cond3_at t).mp h'; omega) (fun h' => by have := (c4_at t).mp h'; omega)
    fr fa (iblk m c 0 t) (iblk m c 1 t) W)
  isplitr; · iexact HR
  isplitr; · iexact Hlev
  isplitr; · iexact HrS
  isplitr; · iexact HrV
  isplitl [HaB]; · iexact HaB
  isplitl [HtB]; · iexact HtB
  isplitl [HtS]; · iexact HtS
  isplitl [HtV]; · iexact HtV
  isplitl [HcB]; · iexact HcB
  isplitl [HO]; · iexact HO
  isplitl [Hr]; · iexact Hr
  isplitl [Hp]; · iexact Hp
  isplitl [Ha]; · iexact Ha
  isplitl [H3]; · iexact H3
  isplitl [H4]; · iexact H4
  iintro ⟨HcS, HzB, Hrest, Ha, H3, H4, HO⟩
  have eA : A m c (0 + 1) = aStep (grid0.coords t) (iblk m c 0 t) (iblk m c 1 t) fa := by
    rw [← h, A_next, aStep_starts t (by omega) _ _ _ fa]
  rw [eA]
  isplitl [HaS HaV HcS HcV HzB Hrest Ha]
  · isplitr [Ha]; swap; · iexact Ha
    isplitr; · iexists K; iexact HR
    isplitl [HaS]; · iexact HaS
    isplitl [HaV]; · iexact HaV
    isplitl [HcS]; · iexact HcS
    isplitl [HcV]; · iexact HcV
    isplitl [HzB]; · iexact HzB
    iexact Hrest
  isplitl [HO]; · iapply (owes_next m c t); unfold owesZ; iexact HO
  isplitl [H3]; · iexact H3
  isplitl [H4]; · iexact H4
  iexact H5

theorem runs_last (h : t.val = 11) : Runs m c t := by
  unfold Runs pre post outPost outPre
  rw [if_pos (by omega), Φat_early m c t.val (by omega) (by omega), Φat_late m c (t.val + 1) (by omega)]
  unfold Φ₁ R₁ Φ₂ O
  iintro ⟨⟨⟨⟨%K, #HR⟩, HaS, HaV, HcS, HcV, HzB, Hrest⟩, Ha⟩, Ho, H3, H4, ⟨%d, H5⟩⟩
  ihave Ho' := (owes_later m c t (by omega)) $$ Ho
  unfold owesZ
  icases Ho' with ⟨%W, HO⟩
  iapply (run_last m c (grid0.coords t) (st0_0 t) (hs3 t) (st0_1 t) (hs4 t) (st0_2 t) (hs5 t) K
    (fun h' => by have := (cond1_at t).mp h'; omega) (fun h' => by have := (c2_at t).mp h'; omega) ((cond3_at t).mpr (by omega)) ((c4_at t).mpr (by omega))
    (A m c t.val) (iblk m c 0 t) (iblk m c 1 t) ((dats m 0 c).before 2 t d) W)
  isplitr; · iexact HR
  isplitl [HaS]; · iexact HaS
  isplitl [HaV]; · iexact HaV
  isplitl [HcS]; · iexact HcS
  isplitl [HcV]; · iexact HcV
  isplitl [HO]; · iexact HO
  isplitl [Hrest]; · iexact Hrest
  isplitl [Ha]; · iexact Ha
  isplitl [H3]; · iexact H3
  isplitl [H4]; · iexact H4
  isplitl [H5]; · iexact H5
  iintro ⟨HzS, HzV, Hp, Hr, Ha, H3, H4, H5, HO⟩
  rw [A_next]
  isplitl [HzB HzS HzV Hp Hr Ha]
  · isplitr [Ha]; swap; · iexact Ha
    isplitl [HzB]; · iexact HzB
    isplitl [HzS]; · iexact HzS
    isplitl [HzV]; · iexact HzV
    isplitl [Hp]; · iexact Hp
    iexact Hr
  isplitl [HO]; · iapply (owes_next m c t); unfold owesZ; iexact HO
  isplitl [H3]; · iexact H3
  isplitl [H4]; · iexact H4
  iexact H5

theorem runs_first (h : t.val % 3 = 0) (h0 : t.val ≠ 0) (hN : t.val < 12) : Runs m c t := by
  unfold Runs pre post outPost
  rw [if_neg (by omega), Φat_early m c t.val (by omega) (by omega), Φat_early m c (t.val + 1) (by omega) (by omega)]
  unfold Φ₁
  iintro ⟨⟨HK, Ha⟩, Ho, H3, H4, H5⟩
  iapply (run_first c (grid0.coords t) (st0_0 t) (hs3 t) (st0_1 t) (hs4 t) (st0_2 t) (hs5 t)
    (fun h' => by have := (cond1_at t).mp h'; omega) ((c2_at t).mpr (by omega)) (fun h' => by have := (cond3_at t).mp h'; omega) (fun h' => by have := (c4_at t).mp h'; omega)
    (A m c t.val) (iblk m c 0 t) (iblk m c 1 t))
  isplitl [Ha]; · iexact Ha
  isplitl [H3]; · iexact H3
  isplitl [H4]; · iexact H4
  iintro ⟨Ha, H3, H4⟩
  rw [A_next]
  isplitl [HK Ha]
  · isplitl [HK]; · iexact HK
    iexact Ha
  isplitl [Ho]; · iapply (owes_next m c t); iapply (owes_later m c t (by omega)); iexact Ho
  isplitl [H3]; · iexact H3
  isplitl [H4]; · iexact H4
  iexact H5

theorem runs_more (h : t.val % 3 = 1) (hN : t.val < 12) : Runs m c t := by
  unfold Runs pre post outPost
  rw [if_neg (by omega), Φat_early m c t.val (by omega) (by omega), Φat_early m c (t.val + 1) (by omega) (by omega)]
  unfold Φ₁
  iintro ⟨⟨HK, Ha⟩, Ho, H3, H4, H5⟩
  iapply (run_more c (grid0.coords t) (st0_0 t) (hs3 t) (st0_1 t) (hs4 t) (st0_2 t) (hs5 t)
    (fun h' => by have := (cond1_at t).mp h'; omega) (fun h' => by have := (c2_at t).mp h'; omega) (fun h' => by have := (cond3_at t).mp h'; omega) (fun h' => by have := (c4_at t).mp h'; omega)
    (A m c t.val) (iblk m c 0 t) (iblk m c 1 t))
  isplitl [Ha]; · iexact Ha
  isplitl [H3]; · iexact H3
  isplitl [H4]; · iexact H4
  iintro ⟨Ha, H3, H4⟩
  rw [A_next]
  isplitl [HK Ha]
  · isplitl [HK]; · iexact HK
    iexact Ha
  isplitl [Ho]; · iapply (owes_next m c t); iapply (owes_later m c t (by omega)); iexact Ho
  isplitl [H3]; · iexact H3
  isplitl [H4]; · iexact H4
  iexact H5

theorem runs_store (h : t.val % 3 = 2) (hN : t.val < 11) : Runs m c t := by
  unfold Runs pre post outPost outPre
  rw [if_pos (by omega), Φat_early m c t.val (by omega) (by omega), Φat_early m c (t.val + 1) (by omega) (by omega)]
  unfold Φ₁ O
  iintro ⟨⟨HK, Ha⟩, Ho, H3, H4, ⟨%d, H5⟩⟩
  iapply (run_store c (grid0.coords t) (st0_0 t) (hs3 t) (st0_1 t) (hs4 t) (st0_2 t) (hs5 t)
    (fun h' => by have := (cond1_at t).mp h'; omega) (fun h' => by have := (c2_at t).mp h'; omega) ((cond3_at t).mpr (by omega)) (fun h' => by have := (c4_at t).mp h'; omega)
    (A m c t.val) (iblk m c 0 t) (iblk m c 1 t) ((dats m 0 c).before 2 t d))
  isplitl [Ha]; · iexact Ha
  isplitl [H3]; · iexact H3
  isplitl [H4]; · iexact H4
  isplitl [H5]; · iexact H5
  iintro ⟨Ha, H3, H4, H5⟩
  rw [A_next]
  isplitl [HK Ha]
  · isplitl [HK]; · iexact HK
    iexact Ha
  isplitl [Ho]; · iapply (owes_next m c t); iapply (owes_later m c t (by omega)); iexact Ho
  isplitl [H3]; · iexact H3
  isplitl [H4]; · iexact H4
  iexact H5

theorem runs : Runs m c t := by
  have hN : t.val < 12 := lt_of_lt_of_eq t.isLt N_0
  by_cases h0 : t.val = 0; · exact runs_start m c t h0
  by_cases hl : t.val = 11; · exact runs_last m c t hl
  by_cases h : t.val % 3 = 0; · exact runs_first m c t h h0 hN
  by_cases h1 : t.val % 3 = 1; · exact runs_more m c t h1 hN
  exact runs_store m c t (by omega) (by omega)

end Shapes

/-- The library's body obligation. -/
theorem body_obligation (c : Dev nD) : BodyObligation (dats m 0 c) (defs₀ (F := F)) Variants.none () Set.univ := fun t => by
  rw [bigSep_W0, bigSep_W0]
  have e2 : (match cfg0.idle 2 (cfg0.grid.coords t) with
      | true =>
        match (cfg0.win 2).flush t with
        | false => iprop(∃ d, owns (c : Thread nD τ) (st0_2 t) fullShare ((dats m 0 c).before 2 t d))
        | true => owns (c : Thread nD τ) (st0_2 t) fullShare ((dats m 0 c).after 2 t)
      | false => owns (c : Thread nD τ) (st0_2 t) fullShare ((dats m 0 c).after 2 t)) = outPost m c t := by
    unfold outPost
    rw [show cfg0.idle 2 (cfg0.grid.coords t) = _ from idle_at t, flush_at t]
    by_cases h : t.val % 3 = 2
    · rw [decide_eq_false (fun h' => h' h), if_pos h]; rfl
    · rw [decide_eq_true h, decide_eq_false h, if_neg h]; rfl
  have hr := runs m c t
  unfold Runs pre post outPre at hr
  rw [← e2] at hr
  simp only [before_0, before_1]
  show iprop(Φat m c t.val ∗ _) ⊢ _
  iintro ⟨HΦ, Ho, ⟨%d0, H0⟩, ⟨%d1, H1⟩, H2⟩
  iapply hr
  isplitl [HΦ]; · iexact HΦ
  isplitl [Ho]; · iexact Ho
  isplitl [H0]; · iexact H0
  isplitl [H1]; · iexact H1
  iexact H2

end Cert.SwapProof
end
-- ==== Proof.SwapLaunch.lean ====
/-
# The local-part call: the run of the whole program

From any memory with zero counters every execution of the program terminates with the arrays as the proof data says,
the partner's slab in the receive buffer and every semaphore at zero. The array of the expert outputs is both staged
and sent, so the region is entered with that array divided into two shares. The send and receive cells get their
invariants before the region, closed; the region's entry opens them with the semaphores' zeros.
-/
module

public import proofs.«01_k».proof.Proof.SwapBody
public import Idealize.ShloMosaic.Adequacy
public import Idealize.ShloMosaic.Init
public import Idealize.ShloMosaic.Lib.Pipeline.CollectiveSegs
public import Idealize.ShloMosaic.Lib.Pipeline.Regions
public import Idealize.ShloMosaic.Lib.Pipeline.Kit
public import Idealize.ShloMosaic.Lib.Pipeline.TalkSched
public import Idealize.ShloMosaic.Lib.Pipeline.RegionArrays

@[expose] public section

noncomputable section

namespace Cert.SwapProof

open Cert.SwapIdeal Cert.SwapIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Exchange (Plan ER sched records L lv)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores at the launch -/

/-- The call's own semaphores. -/
abbrev osem : Fin 2 → SemLoc sig := fun | 0 => .dma sendS | 1 => .dma recvS
theorem ownSemFacts : Pipeline.OwnSemFacts cfg0.spec osem := by decide

abbrev adm : (p : Fin 1) → (pcfgs (F := F) p).Adm := fun p => (cfgs p).toPCfg_adm

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- The barrier semaphore is the one that outlives the call. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem creds (c : Dev nD) : (Pipeline.launchCred O₀ c : sProp 𝕄) ⊢ iprop(cred (tallyAt (barCell c) () 1) ∗ cred (tallyAt (recvCell c) () N)) := by
  have h := Exchange.creds (τ := τ) (Val := Elt F) plan {0, 2} c
  rw [bigSep_eq_bigSepL_of_eq [0, 2] (by decide) (by decide)] at h
  exact h

theorem staging_other : ∀ (w : Fin cfg0.W) (s : Fin (cfg0.win w).nbuf) (k : Fin 3), plan.sem k ≠ .dma ((cfg0.win w).sem s) := by decide

/-- While it owes, a device may wait on the staging semaphores. -/
theorem waits (c : Dev nD) : (levAts L (lv plan) : sProp 𝕄) ⊢ Pipeline.cellsWaits (Pipeline.pin (pcfgs (F := F)) adm) (dats m) () 0 c :=
  Pipeline.cellsWaits_intro (Pipeline.pin (pcfgs (F := F)) adm) (dats m) () 0 c fun w s t => by
    by_cases h : t.val = 0
    · rw [show (dats m 0 c).owed t = O₀ c from if_pos h]
      refine Exchange.mayWait plan c _ {0, 2} fun k hk => ?_
      rw [Exchange.lv_other plan _ (staging_other w s)]
      fin_cases k
      · decide
      · exact absurd hk (by decide)
      · decide
    · rw [show (dats m 0 c).owed t = 0 from if_neg h, MayWait_zero]; iintro -; iempintro

/-! ## The exchange's cells at the launch -/

def barEmb : Dev nD ↪ GSem nD τ sig := ⟨fun c => barCell c, fun _ _ h => congrArg (fun g : GSem nD τ sig => g.1.1) h⟩
def ownEmb : Dev nD × Fin 2 ↪ GSem nD τ sig :=
  ⟨fun x => ((x.1 : Thread nD τ), osem x.2), fun _ _ h =>
    Prod.ext (congrArg (fun g : GSem nD τ sig => g.1.1) h) (ownSemFacts.inj (congrArg Prod.snd h))⟩
/-- The barrier cells, in use from the start; -/
abbrev barCells : Finset (GSem nD τ sig) := Finset.univ.map barEmb
/-- the send and receive cells, closed until the region is entered. -/
abbrev ownCells : Finset (GSem nD τ sig) := Finset.univ.map ownEmb

theorem osem_ne_bar : ∀ k : Fin 2, osem k ≠ .reg barS := by decide
theorem cells_disjoint : Disjoint barCells ownCells := by
  rw [Finset.disjoint_left]
  intro g h₁ h₂
  obtain ⟨c, -, rfl⟩ := Finset.mem_map.mp h₁
  obtain ⟨x, -, h⟩ := Finset.mem_map.mp h₂
  exact osem_ne_bar x.2 (congrArg Prod.snd h)
theorem cell_mem (x : Dev nD × Fin 3) : plan.cell x ∈ barCells ∪ ownCells := by
  obtain ⟨c, k⟩ := x
  fin_cases k
  · exact Finset.mem_union_left _ (Finset.mem_map_of_mem barEmb (Finset.mem_univ c))
  · exact Finset.mem_union_right _ (Finset.mem_map_of_mem ownEmb (Finset.mem_univ (c, (0 : Fin 2))))
  · exact Finset.mem_union_right _ (Finset.mem_map_of_mem ownEmb (Finset.mem_univ (c, (1 : Fin 2))))

/-- What the launch puts into the exchange. -/
abbrev start₀ : UB := launchOf barCells ownCells (Exchange.toks plan)
def u₀ : UU := (initOf (Pipeline.cells (Pipeline.pin (pcfgs (F := F)) adm) cellOf_inj) (Pipeline.launchToks (Pipeline.pin (pcfgs (F := F)) adm) cellOf_inj), (start₀, 1))

/-- All of it lies with device 0 until the step all devices take at once. -/
def G (c : Dev nD) : sProp 𝕄 := if c = 0 then BI.own ((ER : Emb UB 𝕄) start₀) else iprop(emp)
omit [FloatOps F] in
theorem G_all : bigSep Finset.univ (G (F := F)) = BI.own ((ER : Emb UB 𝕄) start₀) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem inv_elim (κ : GSem nD τ sig → ℕ) (g : GSem nD τ sig) (hg : g ∈ barCells ∪ ownCells) :
    (bigSep (barCells ∪ ownCells) fun g => (cellInv ER (rd m) (κ g) g : sProp 𝕄)) ⊢ cellInv ER (rd m) (κ g) g := bigSep_elim hg
omit [FloatOps F] in
theorem known_intro (κ : GSem nD τ sig → ℕ) :
    iprop((bigSep (barCells ∪ ownCells) fun g => cellInv ER (rd m) (κ g) g) ∗ bigSep barCells fun g => reached ER g 0) ⊢ known m fun x => κ (plan.cell x) := by
  have e : (bigSep barCells fun g => (reached ER g 0 : sProp 𝕄)) = bigSep Finset.univ fun c : Dev nD => reached ER (barCell c) 0 := bigSep_map ..
  have h : (bigSep (barCells ∪ ownCells) fun g => (cellInv ER (rd m) (κ g) g : sProp 𝕄))
      ⊢ bigSep Finset.univ fun x : Dev nD × Fin 3 => cellInv ER (rd m) (κ (plan.cell x)) (plan.cell x) :=
    BI.bigSep_intro_persistent fun x _ => inv_elim m κ _ (cell_mem x)
  unfold known; rw [e]
  iintro ⟨HI, HR⟩
  isplitl [HI]
  · iapply h; iexact HI
  · iexact HR

/-- A device's part of the exchange: its barrier's position, its two rights to open, the duties it pays. -/
def part (c : Dev nD) : sProp 𝕄 :=
  iprop(atPos ER (barCell c) 0 ∅ 0 ∗ (openTok ER (sendCell c) ∗ openTok ER (recvCell c))
    ∗ (dutyTok ER (barCell (flip c)) 0 () ∗ dutyTok ER (sendCell c) 0 () ∗ dutyTok ER (recvCell (flip c)) 0 ()))

omit [FloatOps F] in
theorem duties_dealt : bigSep (Exchange.toks plan) (fun x => (dutyTok ER x.1 x.2.1 x.2.2 : sProp 𝕄))
    ⊢ bigSep Finset.univ fun c : Dev nD => iprop(dutyTok ER (barCell (flip c)) 0 () ∗ dutyTok ER (sendCell c) 0 () ∗ dutyTok ER (recvCell (flip c)) 0 ()) := by
  have e : bigSep (Exchange.toks plan) (fun x => (dutyTok ER x.1 x.2.1 x.2.2 : sProp 𝕄))
      = bigSep Finset.univ fun c : Dev nD => bigSep Finset.univ fun k : Fin 3 => dutyTok ER (plan.cell (c, k)) 0 () := by
    unfold Exchange.toks; rw [bigSep_map, bigSep_univ_prod]; rfl
  rw [e]
  refine (Exchange.toks_around plan).trans (bigSep_mono fun c _ => ?_)
  rw [bigSep_univ_eq_bigSepL [0, 1, 2] (by decide) (by decide)]
  exact BI.Entails.refl _

/-! ## What the region is entered with, and left with -/

/-- A device's buffers at the launch; -/
def bufs (c : Dev nD) : sProp 𝕄 :=
  iprop((((c : Thread nD τ).loc main_arg1) ↦{fullShare} m ((c : Thread nD τ).loc main_arg1))
    ∗ (((c : Thread nD τ).loc main_arg0) ↦{fullShare} m ((c : Thread nD τ).loc main_arg0))
    ∗ (((c : Thread nD τ).loc main_v1_0) ↦{fullShare} m ((c : Thread nD τ).loc main_v1_0))
    ∗ (((c : Thread nD τ).loc main_v1_1) ↦{fullShare} m ((c : Thread nD τ).loc main_v1_1)))
/-- with what it is owed and owes. -/
def rest (c : Dev nD) : sProp 𝕄 :=
  iprop(bufs m c ∗ cred (tallyAt (barCell c) () 1) ∗ cred (tallyAt (recvCell c) () N) ∗ owes (c : Thread nD τ) (O₀ c) ∅)
/-- The state the region is entered from. -/
def enters (c : Dev nD) : sProp 𝕄 := iprop((∃ K, known m K ∗ part c) ∗ rest m c)

omit [FloatOps F] in
theorem bufs_intro (c : Dev nD) : (unscopedBufs c (fun b => m ((c : Thread nD τ).loc b)) : sProp 𝕄) ⊢ bufs m c := by
  rw [Pipeline.unscopedBufs_split cfgs 0 winFacts0.arr_unscoped winFacts0.arr_inj c, unscopedRest0_eq]
  have e := bigSep_W0 (M := 𝕄) fun w => (((c.tc : Thread nD τ).loc (Pipeline.arrRef (cfgs 0).spec w)) ↦{fullShare} m ((c : Thread nD τ).loc (Pipeline.arrRef (cfgs 0).spec w)) : sProp 𝕄)
  unfold bufs
  iintro ⟨H, Hr⟩
  ihave H2 := (Entails.of_eq e) $$ H
  icases H2 with ⟨H1, H2, H3⟩
  isplitl [H1]; · iexact H1
  isplitl [H2]; · iexact H2
  isplitl [H3]; · iexact H3
  iexact Hr

/-- The arrays the region stages, each at its share. -/
theorem arrays_eq (c : Dev nD) (f : (w : Fin cfg0.W) → Buf (Elt F) ((cfg0.spec w).arr.view.loc (c : Thread nD τ))) :
    ((dats m 0 c).arrays f : sProp 𝕄)
      = iprop((((c : Thread nD τ).loc main_arg1) ↦{fullShare} f 0) ∗ (((c : Thread nD τ).loc main_arg0) ↦{fullShare.left} f 1)
        ∗ (((c : Thread nD τ).loc main_v1_0) ↦{fullShare} f 2)) := by
  rw [Pipeline.Dat.arrays_arrShares _ arr_whole0]
  unfold Pipeline.arrShares
  exact bigSep_W0 _

/-- What enters the region's invariant. -/
def into (c : Dev nD) : sProp 𝕄 :=
  iprop(begins m c ∗ cred (tallyAt (barCell c) () 1) ∗ cred (tallyAt (recvCell c) () N) ∗ levAts L (lv plan) ∗ rightPts m c ∗ (∃ f, pt (F := F) c rM f))
/-- What leaves it. -/
def outOf (c : Dev nD) : sProp 𝕄 := iprop(semVal (barCell c) 0 ∗ rightPts m c ∗ pt c rM (got m c))
/-- What a device ends with, -/
def final (c : Dev nD) : sProp 𝕄 := iprop((dats m 0 c).arrays ((dats m 0 c).arrAt · cfg0.N) ∗ outOf m c)
/-- owing nothing. -/
def ends (c : Dev nD) : sProp 𝕄 := iprop(final m c ∗ ∃ W, owes (c : Thread nD τ) (0 : CellTallies nD τ sig Unit) W)

/-- Entering: both scoped cells opened, the expert outputs divided. -/
theorem entry (c : Dev nD) : iprop(enters m c ∗ Pipeline.ownSems0 osem c ∗ levAts L (lv plan))
    ⊢ |={Set.univ}=> iprop((dats m 0 c).arrays ((dats m 0 c).arrAt · 0) ∗ Pipeline.prefHeld (pcfgs (F := F) 0).pre c (fun _ => fullShare) (adm (F := F) 0).1
        ∗ (dats m 0 c).owesAt () 0 ∗ into m c ∗ emp) := by
  rw [ownSems0_eq, arrays_eq, Pipeline.prefHeld_of_none _ rfl]
  unfold enters rest part bufs into begins rightPts
  iintro ⟨⟨⟨%K, #HK, HB, ⟨HoS, HoV⟩, HtB, HtS, HtV⟩, ⟨H1, H0, H2, Hr⟩, HcB, HcV, HO⟩, ⟨Hs, Hv⟩, #Hlev⟩
  ihave #HIs := (inv_of m K (c, 1)) $$ HK
  ihave #HIv := (inv_of m K (c, 2)) $$ HK
  imod (Rounds.cell_open ER (rd m) (κ := K (c, 1)) (g := sendCell c) (Set.mem_univ _)) $$ [HoS Hs] with ⟨HatS, #HrS⟩
  · isplitr; · iexact HIs
    isplitl [HoS] <;> iassumption
  imod (Rounds.cell_open ER (rd m) (κ := K (c, 2)) (g := recvCell c) (Set.mem_univ _)) $$ [HoV Hv] with ⟨HatV, #HrV⟩
  · isplitr; · iexact HIv
    isplitl [HoV] <;> iassumption
  ihave H0' := (pointsTo_share (PosShare.mem_left_op_right fullShare)).1 $$ H0
  icases H0' with ⟨HL, HR⟩
  imodintro
  isplitl [H1 HL H2]
  · isplitl [H1]; · iexact H1
    isplitl [HL]; · iexact HL
    iexact H2
  isplitr; · iempintro
  isplitl [HO]; · iapply (TalkSites.owesAt_intro (dats m 0 c) () 0 (O₀ c) rfl rfl ∅); iexact HO
  isplitl
  · isplitl [HB HatS HatV HtB HtS HtV]
    · iexists K
      isplitr; · iexact HK
      isplitr; · iexact HrS
      isplitr; · iexact HrV
      isplitl [HB]; · iexact HB
      isplitl [HatS]; · iexact HatS
      isplitl [HatV]; · iexact HatV
      isplitl [HtB]; · iexact HtB
      isplitl [HtS] <;> iassumption
    isplitl [HcB]; · iexact HcB
    isplitl [HcV]; · iexact HcV
    isplitr; · iexact Hlev
    isplitl [HR]; · iexact HR
    iexists _; iexact Hr
  · iempintro

theorem phi_intro (c : Dev nD) :
    iprop(into m c ∗ Pipeline.prefHeld (pcfgs (F := F) 0).pre c (fun _ => fullShare) (adm (F := F) 0).1 ∗ Pipeline.scopedRest cfg0.spec c)
      ⊢ (dats m 0 c).Φ 0 := by
  rw [show (dats m 0 c).Φ 0 = Φ₀ m c from Φat_zero m c, scopedRest0_eq]
  unfold into Φ₀
  iintro ⟨⟨H1, H2, H3, H4, H5, H6⟩, -, Ha⟩
  isplitl [H1]; · iexact H1
  isplitl [H2]; · iexact H2
  isplitl [H3]; · iexact H3
  isplitl [H4]; · iexact H4
  isplitl [H5]; · iexact H5
  isplitl [H6]; · iexact H6
  iexact Ha

theorem phi_exit (c : Dev nD) :
    (dats m 0 c).Φ (Fin.last cfg0.N) ⊢ iprop(outOf m c ∗ Pipeline.ownSems0 osem c ∗ Pipeline.scopedRest cfg0.spec c) := by
  rw [show (dats m 0 c).Φ (Fin.last cfg0.N) = Φ₂ m c 12 from Φat_late m c 12 (by decide), scopedRest0_eq, ownSems0_eq]
  unfold outOf Φ₂
  iintro ⟨⟨HB, HS, HV, Hp, Hr⟩, Ha⟩
  isplitl [HB Hp Hr]
  · isplitl [HB]; · iexact HB
    isplitl [Hp] <;> iassumption
  isplitl [HS HV]
  · isplitl [HS] <;> iassumption
  iexists _; iexact Ha

/-- Leaving. -/
theorem exit (c : Dev nD) : iprop((dats m 0 c).arrays ((dats m 0 c).arrAt · cfg0.N) ∗ (dats m 0 c).owesAt () (Fin.last cfg0.N) ∗ outOf m c ∗ emp)
    ⊢ |={Set.univ}=> ends m c := by
  unfold ends final
  iintro ⟨Ha, HO, HY, -⟩
  imodintro
  isplitl [Ha HY]
  · isplitl [Ha] <;> iassumption
  iapply (TalkSites.owesAt_elim (dats m 0 c) () (Fin.last cfg0.N) 0 rfl); iexact HO

/-- The kernel's region. -/
def region : Pipeline.RegionSeg (pcfgs (F := F)) adm (dats m) () defs₀ Variants.none L (lv plan) 0 where
  win := winFacts0.to₀
  block_pos := block_pos0
  stage_whole := stage_whole0
  K := Fin 2
  osem := osem
  ho := ownSemFacts
  hbody c := (body_obligation m c).loose
  hwaits := waits m
  pre := enters m
  post := ends m
  X := into m
  Y := outOf m
  Z _ := iprop(emp)
  hentry := entry m
  hin := phi_intro m
  hout := phi_exit m
  hexit := exit m

/-! ## The launch -/

omit [FloatOps F] in
theorem enters_intro (κ : GSem nD τ sig → ℕ) (c : Dev nD) :
    iprop(iprop((bigSep (barCells ∪ ownCells) fun g => cellInv ER (rd m) (κ g) g) ∗ bigSep barCells fun g => reached ER g 0) ∗ (part c ∗ rest m c)) ⊢ enters m c := by
  unfold enters
  iintro ⟨H, Hp, Hr⟩
  isplitr [Hr]; swap; · iexact Hr
  iexists _
  isplitl [H]; · iapply (known_intro m κ); iexact H
  iexact Hp

omit [FloatOps F] in
/-- The step all devices take at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L (lv plan))
      ⊢ (|={Set.univ}=> bigSep Finset.univ (enters m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [unscopedSems0_eq]
    unfold rest
    iintro ⟨Hb, Hs, HO, Hcr, -, HG⟩
    ihave Hc := (creds (F := F) c) $$ Hcr
    icases Hc with ⟨H1, HN⟩
    isplitr [Hs HG]
    · isplitl [Hb]; · iapply (bufs_intro m c); iexact Hb
      isplitl [H1]; · iexact H1
      isplitl [HN] <;> iassumption
    isplitl [Hs] <;> iassumption
  have hall : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (rest m) ∗ ((bigSep Finset.univ fun c => semVal (barCell c) 0) ∗ bigSep Finset.univ G)) : sProp 𝕄) := by
    refine (bigSep_mono fun c _ => hcore c).trans ?_
    rw [bigSep_sep', bigSep_sep']
    exact BI.Entails.refl _
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => iprop(openTok ER (sendCell c) ∗ openTok ER (recvCell c))) :=
    Entails.of_eq (by
      rw [bigSep_map, bigSep_univ_prod]
      exact bigSep_congr fun c _ => BI.bigSep_fin_two (fun k : Fin 2 => (openTok ER ((c : Thread nD τ), osem k) : sProp 𝕄)))
  iintro ⟨H, -⟩
  ihave H1 := hall $$ H
  icases H1 with ⟨HB, Hv, HG⟩
  ihave Hu := (Entails.of_eq (G_all (F := F))) $$ HG
  imod (Rounds.fund_launch ER (rd m) cells_disjoint (fun g _ h => h) (Exchange.toks plan)) $$ [Hv Hu] with ⟨%κ, -, #HI, #HR, Hat, Hop, Htok⟩
  · isplitl [Hv]
    · iapply hv $$ Hv
    · iexact Hu
  imodintro
  iapply (bigSep_with_persistent (R := iprop((bigSep (barCells ∪ ownCells) fun g => cellInv ER (rd m) (κ g) g) ∗ bigSep barCells fun g => reached ER g 0))
    (Φ := fun c => iprop(part c ∗ rest m c)) fun c _ => enters_intro m κ c)
  isplitr
  · isplitr; · iexact HI
    iexact HR
  unfold part
  simp only [bigSep_sep']
  isplitr [HB]; swap; · iexact HB
  ihave Hop' := hop $$ Hop
  ihave Htok' := (duties_dealt (F := F)) $$ Htok
  simp only [bigSep_sep']
  isplitl [Hat]; · iapply hat $$ Hat
  isplitl [Hop']; · iexact Hop'
  iexact Htok'

/-! ## The run -/

/-- Both inputs end as they were, the windows' output as the proof data says, the receive buffer with the partner's slab. -/
def QC : PUnit × MemSt nD τ sig (Elt F) → Prop := fun r => ∀ c : Dev nD,
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_v1_0) = (dats m 0 c).arrAt 2 cfg0.N
    ∧ r.2.mem ((c : Thread nD τ).loc main_v1_1) = got m c

/-- The final memory read at what a device ends with. -/
theorem read_final (c : Dev nD) (s' : Phys nD τ sig (Elt F)) : iprop(final m c ∗ SI s')
    ⊢ |={Set.univ}=> iprop(⌜(s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_v1_0) = (dats m 0 c).arrAt 2 cfg0.N
        ∧ s'.mem.mem ((c : Thread nD τ).loc main_v1_1) = got m c)
        ∧ ∀ sm : SemLoc sig, sm.isScoped .tc = false → s'.mem.sem ((c : Thread nD τ), sm) = 0⌝ ∗ SI s') := by
  unfold final outOf rightPts
  rw [arrays_eq, ← unscopedSems0_eq]
  iintro ⟨⟨⟨H1, -, H2⟩, Hu, H0, Hr⟩, HSI⟩
  icombine HSI H1 gives %h1
  icombine HSI H2 gives %h2
  icombine HSI H0 gives %h0
  icombine HSI Hr gives %hr
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun i => h0 i (Finset.mem_univ i), (funext fun i => h1 i (Finset.mem_univ i)).trans ((dats m 0 c).arrAt_in 0 rfl _),
      funext fun i => h2 i (Finset.mem_univ i), funext fun i => hr i (Finset.mem_univ i)⟩, hs⟩
  iexact HSI

set_option maxRecDepth 8000 in
/-- From any memory with zero counters every weakly fair execution terminates, with `QC` and every semaphore at zero. -/
theorem run_main : θ_run defs (onTc (τ := τ) (main (F := F))) (s₀ m ρ) (fun r => QC m r ∧ r.2.sem = fun _ => 0) :=
  Pipeline.θ_run_regions_kit_sems (pcfgs (F := F)) adm (dats m) () cellOf_inj embL defs₀ Variants.none L (lv plan) m ρ main
    [.region (region m)] (fun c Q => by rw [main_segs adm (dats m) () Variants.none L (lv plan) (region m) c])
    (by simp only [Pipeline.Seg.pipes_region, Pipeline.Seg.pipes_nil]; decide)
    (O₀ := O₀) (hL := Exchange.L_of_ne) (G := G) (u₀ := u₀ (F := F))
    (hu₀ := by
      unfold u₀
      iintro Hu
      ihave H := (Exchange.ownU_split _ _) $$ Hu
      icases H with ⟨HP, HX⟩
      imodintro
      isplitl [HP]; · iexact HP
      rw [G_all]; iexact HX)
    (T₀ := enters m) (Tₙ := final m)
    (hch := ⟨fun c => BI.Entails.refl _, fun c => BI.Entails.refl _⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v1_0) = (dats m 0 c).arrAt 2 cfg0.N
        ∧ s.mem ((c : Thread nD τ).loc main_v1_1) = got m c)
      ∧ ∀ sm : SemLoc sig, sm.isScoped .tc = false → s.sem ((c.tc : Thread nD τ), sm) = 0)
    (hfin := read_final m)
    (hQ := fun _ h hs => ⟨fun c => (h c).1, sem_eq_zero hs fun c => (h c).2⟩)

/-- The claim's frame: arguments unchanged, semaphores at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_main m ρ)

end Cert.SwapProof
end
-- ==== Proof.SwapValue.lean ====
/-
# The local-part call: what it computes

A point adds to a chunk the rows of its block of expert outputs that the chunk's tokens name: the mask has at most one 1
in a row. After three blocks each token holds the row it names, or zero. The exchange leaves the partner's second slab.
-/
module

public import proofs.«01_k».proof.Proof.SwapDats
public import Idealize.ShloMosaic.Lib.Pointwise
public import Idealize.ShloMosaic.Lib.Pipeline.ValueKit

@[expose] public section

set_option maxRecDepth 16384

noncomputable section

namespace Cert.SwapProof

open Cert.SwapIdeal Cert.SwapIdeal.Gen
open Idealize.ShloMosaic Idealize.ShloMosaic.TcCoe
open scoped BigOperators

/-! ## The payloads at an index -/

/-- An entry of the mask: 1 where the two words are equal, 0 elsewhere. -/
theorem mask_at (u v : BitVec 32) : (FloatOps.sitofp FTy.f32 (BitVec.setWidth 32 (IntOp.cmpi CmpIPredicate.eq u v)) : Ideal .f32) = if u = v then (1 : EReal) else 0 := by
  by_cases h : u = v
  · rw [if_pos h]; subst h
    rw [show IntOp.cmpi CmpIPredicate.eq u u = 1#1 by simp [IntOp.cmpi]]
    show (((BitVec.setWidth 32 1#1).toInt : ℝ) : EReal) = 1
    rw [show (BitVec.setWidth 32 1#1).toInt = 1 by decide]; norm_num
  · rw [if_neg h]
    rw [show IntOp.cmpi CmpIPredicate.eq u v = 0#1 by show BitVec.ofBool (u == v) = 0#1; rw [beq_eq_false_iff_ne.mpr h]; rfl]
    show (((BitVec.setWidth 32 0#1).toInt : ℝ) : EReal) = 0
    rw [show (BitVec.setWidth 32 0#1).toInt = 0 by decide]; norm_num

/-- A point adds the block's rows, each times its mask entry. -/
theorem pay2_at (i : grid0.Coords) (v : Vec Ideal S1x512 .i32) (a : Vec Ideal S512x2048 .f32) (x : Vec Ideal S1x512x2048 .bf16) (r : Fin 512) (d : Fin 2048) :
    k0_pay2 i v a x (ix2 r d) = a (ix2 r d) + ∑ k : Fin 512, (if v (ix2 0 r) = BitVec.ofNat 32 k.val + BitVec.ofNat 32 (i 1).val * 512#32 then (1 : EReal) else 0) * x (ix3 0 k d) := by
  pointwise [k0_pay2]
  refine congrArg (a (ix2 r d) + ·) (Finset.sum_congr rfl fun k _ => congrArg (· * x (ix3 0 k d)) ?_)
  exact mask_at _ _
theorem pay1_at (r : Fin 512) (d : Fin 2048) : k0_pay1 (F := Ideal) (ix2 r d) = (0 : EReal) := by
  pointwise [k0_pay1]
theorem pay3_at (x : Vec Ideal S512x2048 .f32) (r : Fin 512) (d : Fin 2048) : k0_pay3 x (ix2 r d) = x (ix2 r d) := by
  pointwise [k0_pay3]

/-! ## The offsets and block indices at each point -/

theorem off1_at : ∀ t : Fin grid0.N, k0_off1 (grid0.coords t) = ![0, 512 * (t.val / 3)] := by decide +kernel
theorem index0_at : ∀ t : Fin grid0.N, win0_0.index t = ![0, 0] := by decide +kernel
theorem index1_at : ∀ t : Fin grid0.N, win0_1.index t = ![0, t.val % 3, 0] := by decide +kernel
theorem index2_at : ∀ t : Fin grid0.N, t.val % 3 = 2 → win0_2.index t = ![t.val / 3, 0] := by decide +kernel
theorem word_at : ∀ t : Fin grid0.N, BitVec.ofNat 32 (grid0.coords t 1).val * 512#32 = BitVec.ofNat 32 (512 * (t.val % 3)) := by decide +kernel

/-- A coordinate of a unit rectangle: the offset plus the coordinate within. -/
theorem unit_val {s : Shape} {off size : Fin s.rank → ℕ} (inb : ∀ a, off a + size a ≤ s.size a) (x : (⟨s.rank, size⟩ : Shape).Idx)
    (a : Fin s.rank) {off' : Fin s.rank → ℕ} (h : off = off') : ((Rect.unit off size inb).idx x a).val = off' a + (x a).val := by
  subst h
  show off a + 1 * (x a).val = _
  rw [Nat.one_mul]

/-- The tokens of the point's chunk. -/
theorem rowsAt_at (t : Fin grid0.N) (x : Vec Ideal S1x2048 .i32) (r : Fin 512) (r' : Fin 2048)
    (hr : r'.val = 512 * (t.val / 3) + r.val) : rowsAt (F := Ideal) (grid0.coords t) x (ix2 0 r) = x (ix2 0 r') := by
  refine congrArg x (funext fun a => Fin.ext ((unit_val (s := S1x2048) (size := S1x512.size) (k0_off1_inb _) (ix2 0 r) a (off1_at t)).trans ?_))
  match a with
  | ⟨0, _⟩ => rfl
  | ⟨1, _⟩ => exact hr.symm

/-- The slab that is sent is the second one. -/
theorem slab_at (x : Vec Ideal S2x1536x2048 .bf16) (r : Fin 1536) (d : Fin 2048) : slabM.view.read (Elt Ideal) x (ix2 r d) = x (ix3 1 r d) := by
  show x ((Rect.unit _ _ inb_S2x1536x2048_S1x1536x2048_1_0_0).idx (Shape.reshapeEquiv squeezes_S1x1536x2048_S1536x2048.numel_eq (ix2 r d))) = _
  rw [show (Shape.reshapeEquiv squeezes_S1x1536x2048_S1536x2048.numel_eq (ix2 r d) : S1x1536x2048.Idx) = ix3 0 r d from by pointwise]
  refine congrArg x (funext fun a => Fin.ext ((unit_val inb_S2x1536x2048_S1x1536x2048_1_0_0 (ix3 0 r d) a rfl).trans ?_))
  match a with
  | ⟨0, _⟩ => rfl
  | ⟨1, _⟩ => exact Nat.zero_add _
  | ⟨2, _⟩ => exact Nat.zero_add _

/-! ## The windows' blocks -/

variable (m : (ℓ : Loc nD τ sig) → Buf (Elt Ideal) ℓ)

theorem w0_at (c : Dev nD) (t : Fin grid0.N) (r : Fin 2048) : iblk m c 0 t (ix2 0 r) = m ((c : Thread nD τ).loc main_arg1) (ix2 0 r) := by
  have e0 := index0_at t
  blk_ext [iblk, e0]
theorem w1_at (c : Dev nD) (t : Fin grid0.N) (k : Fin 512) (d : Fin 2048) (k' : Fin 1536) (hk : k'.val = 512 * (t.val % 3) + k.val) :
    iblk m c 1 t (ix3 0 k d) = m ((c : Thread nD τ).loc main_arg0) (ix3 0 k' d) := by
  have e0 := index1_at t
  blk_ext [iblk, e0]

/-! ## The quantities gathered -/

/-- The row that token `n` of device `c` names, as a number. -/
def row (c : Dev nD) (n : ℕ) : ℕ := (show BitVec 32 from m ((c : Thread nD τ).loc main_arg1) (ix2 0 (Fin.ofNat 2048 n))).toNat
/-- Row `u` of the first slab of device `c`'s expert outputs, at column `d`. -/
def out (c : Dev nD) (u : ℕ) (d : Fin 2048) : EReal := m ((c : Thread nD τ).loc main_arg0) (ix3 0 (Fin.ofNat 1536 u) d)

/-- A masked sum over one block picks the named row if it lies in the block. -/
theorem pick (u : BitVec 32) (q : ℕ) (hq : q < 3) (f : ℕ → EReal) :
    ∑ k : Fin 512, (if u = BitVec.ofNat 32 k.val + BitVec.ofNat 32 (512 * q) then (1 : EReal) else 0) * f (512 * q + k.val)
      = if 512 * q ≤ u.toNat ∧ u.toNat < 512 * q + 512 then f u.toNat else 0 := by
  have key : ∀ k : Fin 512, (u = BitVec.ofNat 32 k.val + BitVec.ofNat 32 (512 * q)) ↔ u.toNat = 512 * q + k.val := fun k => by
    have hk := k.isLt
    rw [← BitVec.toNat_inj, BitVec.toNat_add, BitVec.toNat_ofNat, BitVec.toNat_ofNat]
    omega
  by_cases h : 512 * q ≤ u.toNat ∧ u.toNat < 512 * q + 512
  · rw [if_pos h, Finset.sum_eq_single (⟨u.toNat - 512 * q, by omega⟩ : Fin 512)]
    · rw [if_pos ((key _).mpr (by show u.toNat = 512 * q + (u.toNat - 512 * q); omega)), one_mul]
      exact congrArg f (by show 512 * q + (u.toNat - 512 * q) = u.toNat; omega)
    · intro k _ hk
      rw [if_neg (fun e => hk (Fin.ext (by have := (key k).mp e; show k.val = u.toNat - 512 * q; omega))), zero_mul]
    · exact fun h => absurd (Finset.mem_univ _) h
  · rw [if_neg h]
    refine Finset.sum_eq_zero fun k _ => ?_
    have hk := k.isLt
    rw [if_neg (fun e => h (by have := (key k).mp e; omega)), zero_mul]

/-- What one point adds. -/
theorem adds (c : Dev nD) (t : Fin grid0.N) (a : Vec Ideal S512x2048 .f32) (r : Fin 512) (d : Fin 2048) :
    k0_pay2 (grid0.coords t) (rowsAt (grid0.coords t) (iblk m c 0 t)) a (iblk m c 1 t) (ix2 r d)
      = a (ix2 r d) + if 512 * (t.val % 3) ≤ row m c (512 * (t.val / 3) + r.val) ∧ row m c (512 * (t.val / 3) + r.val) < 512 * (t.val % 3) + 512
          then out m c (row m c (512 * (t.val / 3) + r.val)) d else 0 := by
  have hr := r.isLt
  have ht : t.val < 12 := lt_of_lt_of_eq t.isLt N_0
  have hn : Fin.ofNat 2048 (512 * (t.val / 3) + r.val) = ⟨512 * (t.val / 3) + r.val, by omega⟩ := Fin.ext (Nat.mod_eq_of_lt (by omega))
  rw [pay2_at, word_at t, rowsAt_at t _ r ⟨512 * (t.val / 3) + r.val, by omega⟩ rfl, w0_at]
  refine congrArg (a (ix2 r d) + ·) (Eq.trans (Finset.sum_congr rfl fun k _ => ?_) (pick (m ((c : Thread nD τ).loc main_arg1) (ix2 0 (Fin.ofNat 2048 (512 * (t.val / 3) + r.val)))) (t.val % 3) (Nat.mod_lt _ (by decide)) (fun u => out m c u d)))
  have hk := k.isLt
  rw [hn]
  refine congrArg _ ((w1_at m c t k d (Fin.ofNat 1536 (512 * (t.val % 3) + k.val)) ?_))
  show (512 * (t.val % 3) + k.val) % 1536 = _
  omega

/-- A chunk's sum over its blocks. -/
theorem A_at (c : Dev nD) (j : ℕ) (hj : j < 4) (r : Fin 512) (d : Fin 2048) : ∀ q < 3,
    A m c (3 * j + q + 1) (ix2 r d) = if row m c (512 * j + r.val) < 512 * (q + 1) then out m c (row m c (512 * j + r.val)) d else 0 := by
  intro q
  induction q with
  | zero =>
    intro _
    have hN : 3 * j + 0 < grid0.N := by rw [N_0]; omega
    let t : Fin grid0.N := ⟨3 * j + 0, hN⟩
    have ht : t.val = 3 * j + 0 := rfl
    rw [show 3 * j + 0 + 1 = t.val + 1 from rfl, A_next]
    unfold aStep
    rw [if_pos ((c2_at t).mpr (by omega)), adds m c t, pay1_at, zero_add, show t.val / 3 = j by omega, show t.val % 3 = 0 by omega]
    exact if_congr (by omega) rfl rfl
  | succ q ih =>
    intro hq
    have hN : 3 * j + (q + 1) < grid0.N := by rw [N_0]; omega
    let t : Fin grid0.N := ⟨3 * j + (q + 1), hN⟩
    have ht : t.val = 3 * j + (q + 1) := rfl
    rw [show 3 * j + (q + 1) + 1 = t.val + 1 from rfl, A_next]
    unfold aStep
    rw [if_neg (fun h => absurd ((c2_at t).mp h) (by omega)), adds m c t, show t.val / 3 = j by omega, show t.val % 3 = q + 1 by omega,
      show t.val = 3 * j + q + 1 from rfl, ih (by omega)]
    by_cases h1 : row m c (512 * j + r.val) < 512 * (q + 1)
    · rw [if_pos h1, if_neg (by omega), if_pos (by omega), add_zero]
    · rw [if_neg h1, zero_add]
      exact if_congr (by omega) rfl rfl

/-! ## The result arrays -/

/-- A token's local part: the row it names, or zero if it names none. -/
def piece (c : Dev nD) (n : ℕ) (d : Fin 2048) : EReal := if row m c n < 1536 then out m c (row m c n) d else 0
/-- What the call leaves in its first result. -/
def result (c : Dev nD) : S2048x2048.Idx → EReal := fun i => piece m c (i 0).val (i 1)

/-- The array after the run is `result`. -/
theorem result_eq (c : Dev nD) : (dats m 0 c).arrAt 2 cfg0.N = result m c := by
  refine (dats m 0 c).arrAt_eq_of_covers 2 _ (by decide +kernel) fun t hf y => ?_
  have ht : t.val < 12 := lt_of_lt_of_eq t.isLt N_0
  have hf' : t.val % 3 = 2 := by rw [flush_at t] at hf; exact of_decide_eq_true hf
  have e2 := index2_at t hf'
  change S512x2048.Idx at y
  obtain ⟨r, d, rfl⟩ : ∃ (r : Fin 512) (d : Fin 2048), y = ix2 r d := ⟨y 0, y 1, eq_ix2 y⟩
  have hr := r.isLt
  blk_simp [e2]
  show O m c t.val (ix2 r d) = piece m c ((win0_2.blk t).view.emb (ix2 r d) 0).val ((win0_2.blk t).view.emb (ix2 r d) 1)
  have h0 : ((win0_2.blk t).view.emb (ix2 r d) 0).val = 512 * (t.val / 3) + r.val := by blk_simp [e2]; omega
  have h1 : ((win0_2.blk t).view.emb (ix2 r d) 1 : Fin 2048) = d := Fin.ext (by blk_simp [e2])
  rw [h0]
  refine Eq.trans ?_ (congrArg (piece m _ _) h1).symm
  unfold O piece
  rw [pay3_at, show t.val + 1 = 3 * (t.val / 3) + 2 + 1 by omega, A_at m c (t.val / 3) (by omega) r d 2 (by omega)]

/-- The second result: the second slab of the partner's expert outputs. -/
theorem got_at (c : Dev nD) (r : Fin 1536) (d : Fin 2048) : got m c (ix2 r d) = m ((flip c : Thread nD τ).loc main_arg0) (ix3 1 r d) := slab_at _ r d

end Cert.SwapProof
end
-- ==== Proof.SwapRef.lean ====
/-
# The local-part call: the reference at an index

The reference takes every token's named row out of its device's first slab, with zero where no row is named; and it
swaps the second slabs of the devices that differ in the last coordinate.
-/
module

public import proofs.«01_k».proof.Proof.Gen.SwapRefIdeal.Read
public import proofs.«01_k».proof.Proof.Gen.SwapRefIdeal.Run
public import Idealize.ShloMosaic.Lib.Pointwise
public import Idealize.ShloMosaic.Lib.WordCmp

@[expose] public section

set_option maxRecDepth 16384

noncomputable section

namespace Cert.SwapProof.Ref

open Cert.SwapRefIdeal Cert.SwapRefIdeal.Gen Cert.SwapRefIdeal.Read
open Idealize.ShloMosaic
open scoped BigOperators

variable (x0 : (⟨S16x1536x2048, .bf16⟩ : BufTy).Contents (Elt Ideal)) (x1 : (⟨S8x2048, .i32⟩ : BufTy).Contents (Elt Ideal))

/-- The dimension numbers of the reference's gather. -/
abbrev gd : GatherDims S8x1536x2048 S8x2048x1 S8x2048x2048 := gather_S8x1536x2048_S8x2048x1_S8x2048x2048_2_1_0_0_1_2_112048

/-- A batch's row by its index, clamped into the table. -/
theorem gather_at {α : Type} (x : S8x1536x2048.Idx → α) (idx : IVec S8x2048x1 32) (b : Fin 8) (r d : Fin 2048) :
    Host.gather gd x idx (ix3 b r d) = x (ix3 b ⟨min (idx (ix3 b r 0)).toInt.toNat 1535, by omega⟩ d) := by
  unfold Host.gather
  refine congrArg x (funext fun a => Fin.ext ?_)
  show gd.start (ix3 b r d) idx a + gd.batchCoord (ix3 b r d) a + gd.offCoord (ix3 b r d) a = _
  have h : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.start_batching gd _ _ (0 : Fin 3) (List.mem_singleton.mpr rfl),
      GatherDims.offCoord_eq_zero gd _ (0 : Fin 3) (fun h => ((GatherDims.mem_sKept _ _).mp h).2 (List.mem_singleton.mpr rfl))]
    unfold GatherDims.batchCoord
    rw [dif_pos (show (0 : Fin 3) ∈ gd.operandBatchingDims from List.mem_singleton.mpr rfl)]
    simp only [Nat.zero_add, Nat.add_zero]
    rfl
  · rw [GatherDims.batchCoord_eq_zero gd _ (1 : Fin 3) (fun h => absurd (List.mem_singleton.mp h) (by decide)),
      GatherDims.offCoord_eq_zero gd _ (1 : Fin 3) (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi : gd.siIdx (ix3 b r d) ⟨List.idxOf (1 : Fin 3) gd.startIndexMap, List.idxOf_lt_length_iff.2 (List.mem_singleton.mpr rfl)⟩ = ix3 b r 0 := by
      funext e; refine Fin.ext ?_
      match e with
      | ⟨0, _⟩ => rfl
      | ⟨1, _⟩ => rfl
      | ⟨2, _⟩ => rfl
    exact congrArg (fun i => min (idx i).toInt.toNat 1535) hsi
  · have hb : (2 : Fin 3) ∉ gd.operandBatchingDims := fun h => absurd (List.mem_singleton.mp h) (by decide)
    have hc : (2 : Fin 3) ∉ gd.collapsedSliceDims := fun h => absurd (List.mem_singleton.mp h) (by decide)
    have hs : (2 : Fin 3) ∉ gd.startIndexMap := fun h => absurd (List.mem_singleton.mp h) (by decide)
    rw [GatherDims.batchCoord_eq_zero gd _ (2 : Fin 3) hb]
    unfold GatherDims.start GatherDims.offCoord
    rw [dif_neg hs, dif_pos ((GatherDims.mem_sKept gd (2 : Fin 3)).mpr ⟨hc, hb⟩)]
    simp only [Nat.zero_add, Nat.add_zero]
    rfl

/-- A word below the table's height is its own clip. -/
theorem clip_small (v : BitVec 32) (h : v.toNat < 1536) : IntOp.minsi 1535#32 (IntOp.maxsi 0#32 v) = v := by
  have hi : v.toInt = v.toNat := BitVec.toInt_eq_toNat_of_lt (by omega)
  have h1 : v.slt 0#32 = false := by
    rw [BitVec.slt_eq_decide, hi]; exact decide_eq_false (by rw [show (0#32).toInt = 0 by decide]; omega)
  unfold IntOp.maxsi
  rw [h1, if_neg (by decide)]
  unfold IntOp.minsi
  by_cases h2 : (1535#32).slt v = true
  · rw [BitVec.slt_eq_decide, hi, show (1535#32).toInt = 1535 by decide, decide_eq_true_eq] at h2; omega
  · rw [if_neg h2]

/-- The index the gather is given, of a token that names a row: that row. -/
theorem idx_at (b : Fin 8) (r : Fin 2048) (h : (show BitVec 32 from x1 (ix2 b r)).toNat < 1536) : val_main_call1_v4 (F := Ideal) x1 (ix3 b r 0) = x1 (ix2 b r) := by
  pointwise [val_main_call1_v4, val_main_call1_v3, val_main_call1_v2, val_main_call1_c_0, val_main_call1_v1, val_main_call1_v0, val_main_call1_c,
    val_main_v10, val_main_v9, val_main_call0_v4, val_main_call0_v3, val_main_call0_v2, val_main_call0_v1, val_main_call0_v0, val_main_c_1, val_main_c_2]
  have e : IntOp.minsi (id (constantI S_ 32 1535#32) ix0) (IntOp.maxsi (id (constantI S_ 32 0#32) ix0) (x1 (ix2 b r))) = x1 (ix2 b r) := clip_small _ h
  rw [e, Idealize.ShloMosaic.WordCmp.cmpi_slt_zero, decide_eq_false (by have h' : BitVec.toNat (x1 (ix2 b r)) < 1536 := h; omega)]
  rfl

/-- A token's local part: the row it names of its device's first slab, or zero. -/
def piece (b : Fin 8) (r d : Fin 2048) : EReal :=
  if (show BitVec 32 from x1 (ix2 b r)).toNat < 1536
    then x0 (ix3 ⟨b.val * 2, by omega⟩ (Fin.ofNat 1536 (show BitVec 32 from x1 (ix2 b r)).toNat) d) else (0 : EReal)

/-- What a token takes from the table. -/
theorem taken_at (b : Fin 8) (r d : Fin 2048) : val_main_v13 (F := Ideal) x0 x1 (ix3 b r d) = piece x0 x1 b r d := by
  unfold piece
  pointwise [val_main_v13, val_main_call2_v1, val_main_call2_v0, val_main_cst, val_main_v12, val_main_v5, val_main_v4, val_main_v3, val_main_v2, val_main_v1, val_main_c, val_main_c_0]
  rw [Idealize.ShloMosaic.WordCmp.andi_sge_zero_slt_ofNat (by decide)]
  by_cases h : (show BitVec 32 from x1 (ix2 b r)).toNat < 1536
  · rw [decide_eq_true h, if_pos h]
    show val_main_v11 (F := Ideal) x0 x1 (ix3 b r d) = _
    unfold val_main_v11
    rw [gather_at]
    pointwise [val_main_v8, val_main_v7, val_main_v6, val_main_v0]
    have hi : (show BitVec 32 from x1 (ix2 b r)).toInt.toNat = (show BitVec 32 from x1 (ix2 b r)).toNat := by
      rw [BitVec.toInt_eq_toNat_of_lt (by omega)]; rfl
    have hb := b.isLt
    refine congrArg₂ (fun n k => x0 (ix3 n k d)) (Fin.ext ?_) (Fin.ext ?_)
    · show b.val / 2 * 4 + b.val % 2 * 2 = b.val * 2
      omega
    · show min (show BitVec 32 from val_main_call1_v4 (F := Ideal) x1 (ix3 b r 0)).toInt.toNat 1535 = (show BitVec 32 from x1 (ix2 b r)).toNat % 1536
      rw [idx_at x1 b r h, hi]
      omega
  · rw [decide_eq_false h, if_neg h]
    rfl

/-- A row of the reference's first result. -/
theorem row_at (n : Fin 16384) (d : Fin 2048) : val_main_v14 (F := Ideal) x0 x1 (ix2 n d) = piece x0 x1 ⟨n.val / 2048, by omega⟩ ⟨n.val % 2048, by omega⟩ d := by
  pointwise [val_main_v14]
  exact taken_at x0 x1 _ _ d

/-- A row of the reference's second result. -/
theorem swapped_at (n : Fin 12288) (d : Fin 2048) : val_main_v18 (F := Ideal) x0 (ix2 n d)
    = x0 (ix3 ⟨n.val / 1536 / 2 * 4 + (1 - n.val / 1536 % 2) * 2 + 1, by omega⟩ ⟨n.val % 1536, by omega⟩ d) := by
  pointwise [val_main_v18, val_main_v17, val_main_v16, val_main_v15, val_main_v0]
  have h0 : ∀ v : Fin 4, (if (0 : Fin 5) ∈ [(1 : Fin 5)] then v.rev else v) = v := fun v => if_neg (by decide)
  have h1 : ∀ v : Fin 2, (if (1 : Fin 5) ∈ [(1 : Fin 5)] then v.rev else v).val = 1 - v.val := fun v => by
    rw [if_pos (by decide), Fin.val_rev]; omega
  have h3 : ∀ v : Fin 1536, (if (3 : Fin 5) ∈ [(1 : Fin 5)] then v.rev else v) = v := fun v => if_neg (by decide)
  have h4 : ∀ v : Fin 2048, (if (4 : Fin 5) ∈ [(1 : Fin 5)] then v.rev else v) = v := fun v => if_neg (by decide)
  refine congrArg x0 (funext fun a => Fin.ext ?_)
  match a with
  | ⟨0, _⟩ =>
    refine (congrArg₂ (fun u v : ℕ => u * 4 + v * 2 + 1) (congrArg Fin.val (h0 ⟨n.val / 3072, by omega⟩)) (h1 ⟨n.val / 1536 % 2, by omega⟩)).trans ?_
    show n.val / 3072 * 4 + (1 - n.val / 1536 % 2) * 2 + 1 = n.val / 1536 / 2 * 4 + (1 - n.val / 1536 % 2) * 2 + 1
    omega
  | ⟨1, _⟩ => exact congrArg Fin.val (h3 ⟨n.val % 1536, by omega⟩)
  | ⟨2, _⟩ => exact congrArg Fin.val (h4 d)

end Cert.SwapProof.Ref
end
-- ==== Proof.SwapMatch.lean ====
/-
# The local-part call: the results agree

The arrays of the several devices cut out of whole ones, each of the call's two results on a device is that device's
block of the reference's result over the whole arrays.
-/
module

public import proofs.«01_k».proof.Proof.SwapValue
public import proofs.«01_k».proof.Proof.SwapRef
public import Idealize.ShloMosaic.Lib.Layout

@[expose] public section

set_option maxRecDepth 16384

noncomputable section

namespace Cert.SwapProof

open Cert.SwapIdeal Cert.SwapIdeal.Gen
open Idealize.ShloMosaic Idealize.ShloMosaic.TcCoe
open scoped BigOperators

variable (m : (ℓ : Loc nD τ sig) → Buf (Elt Ideal) ℓ)
variable (x0 : (⟨3, ![16, 1536, 2048]⟩ : Shape).Idx → EReal) (x1 : (⟨2, ![8, 2048]⟩ : Shape).Idx → BitVec 32)

/-- The partner of device `c` has the other last coordinate. -/
theorem flip_pair : ∀ c : Dev nD, (flip c).val = c.val / 2 * 2 + (1 - c.val % 2) := by decide +kernel

/-- Device `c`'s part of the expert outputs; -/
abbrev part0 (c : Dev nD) : (⟨3, ![2, 1536, 2048]⟩ : Shape).Idx → EReal := Layout.block ⟨3, ![2, 1536, 2048]⟩ ⟨3, ![16, 1536, 2048]⟩ 0 8 c x0
/-- of the named rows; -/
abbrev part1 (c : Dev nD) : (⟨2, ![1, 2048]⟩ : Shape).Idx → BitVec 32 := Layout.block ⟨2, ![1, 2048]⟩ ⟨2, ![8, 2048]⟩ 0 8 c x1
/-- of the first result; -/
abbrev part2 (y : (⟨2, ![16384, 2048]⟩ : Shape).Idx → EReal) (c : Dev nD) : (⟨2, ![2048, 2048]⟩ : Shape).Idx → EReal := Layout.block ⟨2, ![2048, 2048]⟩ ⟨2, ![16384, 2048]⟩ 0 8 c y
/-- of the second. -/
abbrev part3 (y : (⟨2, ![12288, 2048]⟩ : Shape).Idx → EReal) (c : Dev nD) : (⟨2, ![1536, 2048]⟩ : Shape).Idx → EReal := Layout.block ⟨2, ![1536, 2048]⟩ ⟨2, ![12288, 2048]⟩ 0 8 c y

/-- An entry of device `c`'s block of the expert outputs; -/
theorem part0_at (c : Dev nD) (s : Fin 2) (r : Fin 1536) (d : Fin 2048) (b : Fin 16) (hb : b.val = c.val * 2 + s.val) : part0 x0 c (ix3 s r d) = x0 (ix3 b r d) := by
  unfold part0
  rw [Layout.block_apply]
  refine congrArg x0 (funext fun a => Fin.ext ((Layout.Tiles.idx_val _ _ _ a).trans ?_))
  match a with
  | ⟨0, _⟩ => exact hb.symm
  | ⟨1, _⟩ => rfl
  | ⟨2, _⟩ => rfl
/-- of the named rows; -/
theorem part1_at (c : Dev nD) (r : Fin 2048) (b : Fin 8) (hb : b.val = c.val) : part1 x1 c (ix2 0 r) = x1 (ix2 b r) := by
  unfold part1
  rw [Layout.block_apply]
  refine congrArg x1 (funext fun a => Fin.ext ((Layout.Tiles.idx_val _ _ _ a).trans ?_))
  match a with
  | ⟨0, _⟩ => show c.val * 1 + 0 = b.val; omega
  | ⟨1, _⟩ => rfl
/-- of the first result; -/
theorem part2_at (y : (⟨2, ![16384, 2048]⟩ : Shape).Idx → EReal) (c : Dev nD) (r : Fin 2048) (d : Fin 2048) (n : Fin 16384) (hn : n.val = c.val * 2048 + r.val) :
    part2 y c (ix2 r d) = y (ix2 n d) := by
  unfold part2
  rw [Layout.block_apply]
  refine congrArg y (funext fun a => Fin.ext ((Layout.Tiles.idx_val _ _ _ a).trans ?_))
  match a with
  | ⟨0, _⟩ => exact hn.symm
  | ⟨1, _⟩ => rfl
/-- of the second. -/
theorem part3_at (y : (⟨2, ![12288, 2048]⟩ : Shape).Idx → EReal) (c : Dev nD) (r : Fin 1536) (d : Fin 2048) (n : Fin 12288) (hn : n.val = c.val * 1536 + r.val) :
    part3 y c (ix2 r d) = y (ix2 n d) := by
  unfold part3
  rw [Layout.block_apply]
  refine congrArg y (funext fun a => Fin.ext ((Layout.Tiles.idx_val _ _ _ a).trans ?_))
  match a with
  | ⟨0, _⟩ => exact hn.symm
  | ⟨1, _⟩ => rfl

/-- A token's local part, out of the whole arrays. -/
theorem part_eq (h0 : ∀ c : Dev nD, m ((c : Thread nD τ).loc main_arg0) = part0 x0 c)
    (h1 : ∀ c : Dev nD, m ((c : Thread nD τ).loc main_arg1) = part1 x1 c) (c : Dev nD) (r d : Fin 2048) (b : Fin 8) (hb : b.val = c.val) :
    piece m c r.val d = Ref.piece x0 x1 b r d := by
  have hr := Fin.ext (a := Fin.ofNat 2048 r.val) (b := r) (Nat.mod_eq_of_lt r.isLt)
  have hrow : row m c r.val = (x1 (ix2 b r)).toNat := by
    unfold row
    rw [hr, h1 c]
    exact congrArg BitVec.toNat (part1_at x1 c r b hb)
  unfold piece Ref.piece
  rw [hrow]
  by_cases h : (x1 (ix2 b r)).toNat < 1536
  · refine (if_pos h).trans (Eq.trans ?_ (if_pos h).symm)
    unfold out
    rw [h0 c]
    refine part0_at x0 c 0 _ d _ ?_
    show b.val * 2 = c.val * 2 + 0
    omega
  · exact (if_neg h).trans (if_neg h).symm

/-- The call's first result on device `c` is block `c` of the reference's. -/
theorem result_block (h0 : ∀ c : Dev nD, m ((c : Thread nD τ).loc main_arg0) = part0 x0 c)
    (h1 : ∀ c : Dev nD, m ((c : Thread nD τ).loc main_arg1) = part1 x1 c) (c : Dev nD) :
    result m c = part2 (Cert.SwapRefIdeal.Read.val_main_v14 (F := Ideal) x0 x1) c := by
  funext i
  obtain ⟨r, d, rfl⟩ : ∃ (r : Fin 2048) (d : Fin 2048), i = ix2 r d := ⟨i 0, i 1, eq_ix2 i⟩
  have hc : c.val < 8 := c.isLt
  have hr := r.isLt
  rw [part2_at _ c r d ⟨c.val * 2048 + r.val, by omega⟩ rfl, Ref.row_at]
  show piece m c r.val d = _
  have e : r.val = (⟨(c.val * 2048 + r.val) % 2048, by omega⟩ : Fin 2048).val := by show _ = (c.val * 2048 + r.val) % 2048; omega
  rw [show piece m c r.val d = piece m c (⟨(c.val * 2048 + r.val) % 2048, by omega⟩ : Fin 2048).val d from congrArg (fun n => piece m c n d) e]
  refine part_eq m x0 x1 h0 h1 _ _ d _ ?_
  show (c.val * 2048 + r.val) / 2048 = _
  omega

/-- Its second result is block `c` of the reference's second. -/
theorem got_block (h0 : ∀ c : Dev nD, m ((c : Thread nD τ).loc main_arg0) = part0 x0 c) (c : Dev nD) :
    got m c = part3 (Cert.SwapRefIdeal.Read.val_main_v18 (F := Ideal) x0) c := by
  funext i
  obtain ⟨r, d, rfl⟩ : ∃ (r : Fin 1536) (d : Fin 2048), i = ix2 r d := ⟨i 0, i 1, eq_ix2 i⟩
  have hc : c.val < 8 := c.isLt
  have hr := r.isLt
  rw [part3_at _ c r d ⟨c.val * 1536 + r.val, by omega⟩ rfl, Ref.swapped_at, got_at, h0 (flip c)]
  have hx := flip_pair c
  have e : (⟨(c.val * 1536 + r.val) % 1536, by omega⟩ : Fin 1536) = r := Fin.ext (by show (c.val * 1536 + r.val) % 1536 = _; omega)
  refine Eq.trans (part0_at x0 (flip c) 1 r d ⟨(c.val * 1536 + r.val) / 1536 / 2 * 4 + (1 - (c.val * 1536 + r.val) / 1536 % 2) * 2 + 1, by omega⟩ ?_) ?_
  · show (c.val * 1536 + r.val) / 1536 / 2 * 4 + (1 - (c.val * 1536 + r.val) / 1536 % 2) * 2 + 1 = (flip c).val * 2 + 1
    omega
  · exact congrArg (fun k => x0 (ix3 _ k d)) e.symm

end Cert.SwapProof
end
-- ==== Proof.lean ====
/-
# The claims, put together

A call's frames come from its run (Proof/FfnLaunch.lean, Proof/SwapLaunch.lean, Proof/GatherLaunch.lean), which holds over
any float values; its value claim joins the run over the extended reals with the reference's generated run by
`result_block` (Proof/FfnMatch.lean, Proof/SwapMatch.lean, Proof/GatherMatch.lean). The packing call sends nothing, so its
frames are the generated ones, and its value claim needs only the result array (Proof/PackMatch.lean); so with the routing
lines and the packing call taken together (Proof/RouteMatch.lean).
-/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.GatherRefIdeal.Read
public import proofs.«01_k».proof.Proof.Gen.Swap
public import proofs.«01_k».proof.Proof.Gen.Swap.Skeleton
public import proofs.«01_k».proof.Proof.Gen.Swap.Launch
public import proofs.«01_k».proof.Proof.Gen.Swap.Points
public import proofs.«01_k».proof.Proof.Gen.Swap.Frame
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapIdeal.Frame
public import proofs.«01_k».proof.Proof.Gen.SwapRefIdeal
public import proofs.«01_k».proof.Proof.Gen.SwapRefIdeal.Run
public import proofs.«01_k».proof.Proof.Gen.SwapRefIdeal.Read
public import proofs.«01_k».proof.Proof.Gen.Pack
public import proofs.«01_k».proof.Proof.Gen.Pack.Skeleton
public import proofs.«01_k».proof.Proof.Gen.Pack.Launch
public import proofs.«01_k».proof.Proof.Gen.Pack.Points
public import proofs.«01_k».proof.Proof.Gen.Pack.Frame
public import proofs.«01_k».proof.Proof.Gen.PackIdeal
public import proofs.«01_k».proof.Proof.Gen.PackIdeal.Skeleton
public import proofs.«01_k».proof.Proof.Gen.PackIdeal.Launch
public import proofs.«01_k».proof.Proof.Gen.PackIdeal.Points
public import proofs.«01_k».proof.Proof.Gen.PackIdeal.Frame
public import proofs.«01_k».proof.Proof.Gen.PackRefIdeal
public import proofs.«01_k».proof.Proof.Gen.PackRefIdeal.Run
public import proofs.«01_k».proof.Proof.Gen.PackRefIdeal.Read
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.RouteRefIdeal.Run
public import proofs.«01_k».proof.Proof.Gen.RouteRefIdeal.Read
public import proofs.«01_k».proof.Proof.FfnLaunch
public import proofs.«01_k».proof.Proof.PackMatch
public import proofs.«01_k».proof.Proof.RouteMatch
public import proofs.«01_k».proof.Proof.FfnMatch
public import proofs.«01_k».proof.Proof.GatherLaunch
public import proofs.«01_k».proof.Proof.GatherMatch
public import proofs.«01_k».proof.Proof.SwapLaunch
public import proofs.«01_k».proof.Proof.SwapMatch
public import Idealize.ShloMosaic.Lib.Quiescent
public import Idealize.ShloMosaic.Adequacy
public import Idealize.ShloMosaic.Init

@[expose] public section

noncomputable section

namespace Cert.Proof

open Idealize.ShloMosaic Idealize.SL.Sem

/-- The two printed programs have the same body: the text of one is the text of the other. -/
theorem body_eq (i : Cert.Ffn.grid0.Coords) a3 h3 a4 h4 a5 h5 a6 h6 a7 h7 a8 h8 a9 h9 s1 s2 s3 :
    Cert.Ffn.cc0_body (F := Bits) i a3 h3 a4 h4 a5 h5 a6 h6 a7 h7 a8 h8 a9 h9 s1 s2 s3
      = Cert.FfnIdeal.cc0_body (F := Bits) i a3 h3 a4 h4 a5 h5 a6 h6 a7 h7 a8 h8 a9 h9 s1 s2 s3 := rfl

/-- They have the same table of bodies: label by label, the same body. -/
theorem bodies_eq : Cert.Ffn.defs₀ (F := Bits) = Cert.FfnIdeal.defs₀ (F := Bits) := by
  unfold Cert.Ffn.defs₀ Cert.FfnIdeal.defs₀
  refine congrArg (f := Defs.onTc (nD := Cert.FfnIdeal.nD) (τ := Cert.FfnIdeal.τ) (sig := Cert.FfnIdeal.sig)
    (Λ := Cert.FfnIdeal.Λ₀)) ?_
  funext l a
  match l, a with
  | 0, (t, s) => exact body_eq _ _ _ _ _ _ _ _ _ _ _ _ _ _ _ _ _ _
  | ⟨_ + 1, h⟩, _ => exact absurd h (Nat.not_lt.2 (Nat.le_add_left _ _))

/-- They have the same table with the pipeline's region added. -/
theorem table_eq : Cert.Ffn.defs (F := Bits) = Cert.FfnIdeal.defs (F := Bits) :=
  congrArg (Pipeline.defs (Cert.FfnIdeal.pcfgs (F := Bits))) bodies_eq

/-- The kernel's frame over bit patterns: the run over any float values, at them. -/
theorem frame_ffn : Cert.quiescent_Ffn := by
  intro m ρ _
  rw [table_eq]
  exact (θ_run Cert.FfnIdeal.defs _ _).mono (fun _ h => h) (Cert.FfnProof.run_frame (F := Bits) m ρ)

/-- The kernel's frame over the extended reals. -/
theorem frame_ffnIdeal : Cert.quiescent_FfnIdeal := fun m ρ _ => Cert.FfnProof.run_frame (F := Ideal) m ρ

/-- The reference's frame: it has no semaphore. -/
theorem frame_ffnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The value claim: each device's result is its block of the reference's. -/
theorem algebraic_ffn : Cert.algebraic_FfnIdeal_FfnRefIdeal := fun m ρ m' ρ' _ hm =>
  ⟨Cert.FfnRefIdeal.Read.val_main_v21 (F := Ideal) (m' (((0 : Dev Cert.FfnRefIdeal.nD).tc : Thread Cert.FfnRefIdeal.nD Cert.FfnRefIdeal.τ).loc Cert.FfnRefIdeal.main_arg0))
      (m' (((0 : Dev Cert.FfnRefIdeal.nD).tc : Thread Cert.FfnRefIdeal.nD Cert.FfnRefIdeal.τ).loc Cert.FfnRefIdeal.main_arg1))
      (m' (((0 : Dev Cert.FfnRefIdeal.nD).tc : Thread Cert.FfnRefIdeal.nD Cert.FfnRefIdeal.τ).loc Cert.FfnRefIdeal.main_arg2)),
    (θ_run Cert.FfnIdeal.defs _ _).mono (fun _ h c =>
      ⟨(((h.1 c).1 2).trans (Cert.FfnProof.result_eq m c)).trans
          (Cert.FfnProof.result_block m _ _ _ (fun c => (hm c).1) (fun c => (hm c).2.1) (fun c => (hm c).2.2) c),
        (h.1 c).2,
        ((h.1 c).1 0).trans ((Cert.FfnProof.dats m 0 c).arrAt_in 0 rfl _),
        ((h.1 c).1 1).trans ((Cert.FfnProof.dats m 0 c).arrAt_in 1 rfl _)⟩)
      (Cert.FfnProof.run_main (F := Ideal) m ρ),
    (θ_run Cert.FfnRefIdeal.defs _ _).mono (fun _ h => h 0) (Cert.FfnRefIdeal.Value.run (F := Ideal) m' ρ')⟩

/-! ## The gathering call -/

/-- The two printed programs have the same body. -/
theorem gather_body_eq (i : Cert.Gather.grid0.Coords) a1 h1 a2 h2 a3 h3 a4 h4 a5 h5 a6 h6 a7 h7 a8 h8 s1 s2 s3 :
    Cert.Gather.cc0_body (F := Bits) i a1 h1 a2 h2 a3 h3 a4 h4 a5 h5 a6 h6 a7 h7 a8 h8 s1 s2 s3
      = Cert.GatherIdeal.cc0_body (F := Bits) i a1 h1 a2 h2 a3 h3 a4 h4 a5 h5 a6 h6 a7 h7 a8 h8 s1 s2 s3 := rfl

/-- They have the same table of bodies. -/
theorem gather_bodies_eq : Cert.Gather.defs₀ (F := Bits) = Cert.GatherIdeal.defs₀ (F := Bits) := by
  unfold Cert.Gather.defs₀ Cert.GatherIdeal.defs₀
  refine congrArg (f := Defs.onTc (nD := Cert.GatherIdeal.nD) (τ := Cert.GatherIdeal.τ) (sig := Cert.GatherIdeal.sig)
    (Λ := Cert.GatherIdeal.Λ₀)) ?_
  funext l a
  match l, a with
  | 0, (t, s) => exact gather_body_eq _ _ _ _ _ _ _ _ _ _ _ _ _ _ _ _ _ _ _ _
  | ⟨_ + 1, h⟩, _ => exact absurd h (Nat.not_lt.2 (Nat.le_add_left _ _))

/-- They have the same table with the pipeline's region added. -/
theorem gather_table_eq : Cert.Gather.defs (F := Bits) = Cert.GatherIdeal.defs (F := Bits) :=
  congrArg (Pipeline.defs (Cert.GatherIdeal.pcfgs (F := Bits))) gather_bodies_eq

/-- The kernel's frame over bit patterns: the run over any float values, at them. -/
theorem frame_gather : Cert.quiescent_Gather := by
  intro m ρ _
  rw [gather_table_eq]
  exact (θ_run Cert.GatherIdeal.defs _ _).mono (fun _ h => h) (Cert.GatherProof.run_frame (F := Bits) m ρ)

/-- The kernel's frame over the extended reals. -/
theorem frame_gatherIdeal : Cert.quiescent_GatherIdeal := fun m ρ _ => Cert.GatherProof.run_frame (F := Ideal) m ρ

/-- The reference's frame: it has no semaphore. -/
theorem frame_gatherRefIdeal : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

/-- The value claim: each device's result is its block of the reference's. -/
theorem algebraic_gather : Cert.algebraic_GatherIdeal_GatherRefIdeal := fun m ρ m' ρ' _ hm =>
  ⟨Cert.GatherRefIdeal.Read.val_main_v24 (F := Ideal) (m' (((0 : Dev Cert.GatherRefIdeal.nD).tc : Thread Cert.GatherRefIdeal.nD Cert.GatherRefIdeal.τ).loc Cert.GatherRefIdeal.main_arg0))
      (m' (((0 : Dev Cert.GatherRefIdeal.nD).tc : Thread Cert.GatherRefIdeal.nD Cert.GatherRefIdeal.τ).loc Cert.GatherRefIdeal.main_arg1))
      (m' (((0 : Dev Cert.GatherRefIdeal.nD).tc : Thread Cert.GatherRefIdeal.nD Cert.GatherRefIdeal.τ).loc Cert.GatherRefIdeal.main_arg2)),
    (θ_run Cert.GatherIdeal.defs _ _).mono (fun _ h c =>
      ⟨((h.1 c 3).trans (Cert.GatherProof.result_eq m c)).trans
          (Cert.GatherProof.result_block m _ _ _ (fun c => (hm c).1) (fun c => (hm c).2.1) (fun c => (hm c).2.2) c),
        (h.1 c 1).trans ((Cert.GatherProof.dats m 0 c).arrAt_in 1 rfl _),
        (h.1 c 0).trans ((Cert.GatherProof.dats m 0 c).arrAt_in 0 rfl _),
        (h.1 c 2).trans ((Cert.GatherProof.dats m 0 c).arrAt_in 2 rfl _)⟩)
      (Cert.GatherProof.run_main (F := Ideal) m ρ),
    (θ_run Cert.GatherRefIdeal.defs _ _).mono (fun _ h => h 0) (Cert.GatherRefIdeal.Value.run (F := Ideal) m' ρ')⟩

/-! ## The local-part call -/

/-- The two printed programs have the same body. -/
theorem swap_body_eq (i : Cert.Swap.grid0.Coords) a2 h2 a3 h3 a4 h4 a5 h5 a6 h6 a7 h7 s1 s2 :
    Cert.Swap.cc0_body (F := Bits) i a2 h2 a3 h3 a4 h4 a5 h5 a6 h6 a7 h7 s1 s2
      = Cert.SwapIdeal.cc0_body (F := Bits) i a2 h2 a3 h3 a4 h4 a5 h5 a6 h6 a7 h7 s1 s2 := rfl

/-- They have the same table of bodies. -/
theorem swap_bodies_eq : Cert.Swap.defs₀ (F := Bits) = Cert.SwapIdeal.defs₀ (F := Bits) := by
  unfold Cert.Swap.defs₀ Cert.SwapIdeal.defs₀
  refine congrArg (f := Defs.onTc (nD := Cert.SwapIdeal.nD) (τ := Cert.SwapIdeal.τ) (sig := Cert.SwapIdeal.sig)
    (Λ := Cert.SwapIdeal.Λ₀)) ?_
  funext l a
  match l, a with
  | 0, (t, s) => exact swap_body_eq _ _ _ _ _ _ _ _ _ _ _ _ _ _ _
  | ⟨_ + 1, h⟩, _ => exact absurd h (Nat.not_lt.2 (Nat.le_add_left _ _))

/-- They have the same table with the pipeline's region added. -/
theorem swap_table_eq : Cert.Swap.defs (F := Bits) = Cert.SwapIdeal.defs (F := Bits) :=
  congrArg (Pipeline.defs (Cert.SwapIdeal.pcfgs (F := Bits))) swap_bodies_eq

/-- The kernel's frame over bit patterns: the run over any float values, at them. -/
theorem frame_swap : Cert.quiescent_Swap := by
  intro m ρ _
  rw [swap_table_eq]
  exact (θ_run Cert.SwapIdeal.defs _ _).mono (fun _ h => h) (Cert.SwapProof.run_frame (F := Bits) m ρ)

/-- The kernel's frame over the extended reals. -/
theorem frame_swapIdeal : Cert.quiescent_SwapIdeal := fun m ρ _ => Cert.SwapProof.run_frame (F := Ideal) m ρ

/-- The reference's frame: it has no semaphore. -/
theorem frame_swapRefIdeal : Cert.quiescent_SwapRefIdeal := fun m ρ _ =>
  (θ_run Cert.SwapRefIdeal.defs _ _).mono (fun r h => ⟨fun c => (h c).2.2, sem_eq_zero_of_no_sems (by decide) r.2⟩)
    (Cert.SwapRefIdeal.Value.run (F := Ideal) m ρ)

/-- The value claim: each device's two results are its blocks of the reference's two. -/
theorem algebraic_swap : Cert.algebraic_SwapIdeal_SwapRefIdeal := fun m ρ m' ρ' _ hm =>
  ⟨Cert.SwapRefIdeal.Read.val_main_v14 (F := Ideal) (m' (((0 : Dev Cert.SwapRefIdeal.nD).tc : Thread Cert.SwapRefIdeal.nD Cert.SwapRefIdeal.τ).loc Cert.SwapRefIdeal.main_arg0))
      (m' (((0 : Dev Cert.SwapRefIdeal.nD).tc : Thread Cert.SwapRefIdeal.nD Cert.SwapRefIdeal.τ).loc Cert.SwapRefIdeal.main_arg1)),
    Cert.SwapRefIdeal.Read.val_main_v18 (F := Ideal) (m' (((0 : Dev Cert.SwapRefIdeal.nD).tc : Thread Cert.SwapRefIdeal.nD Cert.SwapRefIdeal.τ).loc Cert.SwapRefIdeal.main_arg0)),
    (θ_run Cert.SwapIdeal.defs _ _).mono (fun _ h c =>
      ⟨((h.1 c).2.2.1.trans (Cert.SwapProof.result_eq m c)).trans
          (Cert.SwapProof.result_block m _ _ (fun c => (hm c).1) (fun c => (hm c).2) c),
        (h.1 c).2.2.2.trans (Cert.SwapProof.got_block m _ (fun c => (hm c).1) c),
        (h.1 c).1, (h.1 c).2.1⟩)
      (Cert.SwapProof.run_main (F := Ideal) m ρ),
    (θ_run Cert.SwapRefIdeal.defs _ _).mono (fun _ h => h 0) (Cert.SwapRefIdeal.Value.run (F := Ideal) m' ρ')⟩

/-! ## The packing call -/

/-- The kernel's frame over bit patterns: the generated run leaves the arguments and every semaphore as they were. -/
theorem frame_pack : Cert.quiescent_Pack := fun m ρ _ => Cert.Pack.Gen.frame m ρ

/-- The kernel's frame over the extended reals. -/
theorem frame_packIdeal : Cert.quiescent_PackIdeal := fun m ρ _ => Cert.PackIdeal.Gen.frame m ρ

/-- The reference's frame: it has no semaphore. -/
theorem frame_packRefIdeal : Cert.quiescent_PackRefIdeal := fun m ρ _ =>
  (θ_run Cert.PackRefIdeal.defs _ _).mono (fun r h => ⟨fun c => (h c).2, sem_eq_zero_of_no_sems (by decide) r.2⟩)
    (Cert.PackRefIdeal.Value.run (F := Ideal) m ρ)

/-- The value claim: the call's result is the reference's. -/
theorem algebraic_pack : Cert.algebraic_PackIdeal_PackRefIdeal := fun m ρ m' ρ' _ hm =>
  ⟨Cert.PackProof.result m,
    Cert.PackProof.run_result m ρ,
    (θ_run Cert.PackRefIdeal.defs _ _).mono (fun _ h c =>
      ⟨(h c).1.trans (Cert.PackProof.result_ref m c _ _ (hm c).1 (hm c).2).symm, (h c).2⟩)
      (Cert.PackRefIdeal.Value.run (F := Ideal) m' ρ')⟩

/-! ## The routing lines and the packing call -/

/-- The kernel's frame over bit patterns. -/
theorem frame_route : Cert.quiescent_Route := fun m ρ _ => Cert.Route.Gen.frame m ρ

/-- The kernel's frame over the extended reals. -/
theorem frame_routeIdeal : Cert.quiescent_RouteIdeal := fun m ρ _ => Cert.RouteIdeal.Gen.frame m ρ

/-- The reference's frame: it has no semaphore. -/
theorem frame_routeRefIdeal : Cert.quiescent_RouteRefIdeal := fun m ρ _ =>
  (θ_run Cert.RouteRefIdeal.defs _ _).mono (fun r h => ⟨fun c => (h c).2.2.2, sem_eq_zero_of_no_sems (by decide) r.2⟩)
    (Cert.RouteRefIdeal.Value.run (F := Ideal) m ρ)

/-- The same two frames under the condition on the arguments. -/
theorem frame_routeIdeal_pre : Cert.quiescent_RouteIdeal_pre_routable (hPre_routable := Cert.RouteProof.routable_facts) :=
  fun m ρ _ => frame_routeIdeal m ρ trivial

theorem frame_routeRefIdeal_pre : Cert.quiescent_RouteRefIdeal_pre_routable (hPre_routable := Cert.RouteProof.routable_facts) :=
  fun m ρ _ => frame_routeRefIdeal m ρ trivial

/-- The value claim: where every expert of the device's part is one of the eight and the two coordinates are 0 or 1, the results are the
    reference's. -/
theorem algebraic_route : Cert.algebraic_RouteIdeal_RouteRefIdeal_pre_routable (hPre_routable := Cert.RouteProof.routable_facts) :=
  fun m ρ m' ρ' hpre hm =>
  ⟨Cert.RouteProof.result m, fun c => Cert.RouteIdeal.Gen.V m c Cert.RouteIdeal.main_v38, fun c => Cert.RouteIdeal.Gen.V m c Cert.RouteIdeal.main_v44,
    Cert.RouteProof.run_result m ρ,
    (θ_run Cert.RouteRefIdeal.defs _ _).mono (fun _ h c => by
      letI := Cert.RouteProof.routable_facts
      obtain ⟨hq, he, hz⟩ := Cert.RouteProof.routable_iff _ _ _ _ (hpre c)
      obtain ⟨e0, e1, e2, e3⟩ := hm c
      rw [← e2] at hq he
      rw [← e1] at he
      rw [← e3] at hz
      exact ⟨((h c).1.trans (Cert.RouteRefIdeal.Read.val_main_v54_eq m' c)).trans (Cert.RouteProof.result_ref m _ _ _ _ c e0 e1 e2 e3 hq he hz).symm,
        ((h c).2.1.trans (Cert.RouteRefIdeal.Read.val_main_v55_eq m' c)).trans (Cert.RouteProof.local_ref m _ _ _ c e1 e2 e3 hq he hz).symm,
        ((h c).2.2.1.trans (Cert.RouteRefIdeal.Read.val_main_v56_eq m' c)).trans (Cert.RouteProof.sent_ref m _ _ _ c e1 e2 e3 hq he hz).symm,
        (h c).2.2.2⟩)
      (Cert.RouteRefIdeal.Value.run (F := Ideal) m' ρ')⟩

/-- Everything that is claimed. -/
theorem claim : Cert.Claim := ⟨Cert.Ffn.Gen.facts, Cert.FfnIdeal.Gen.facts, Cert.FfnRefIdeal.Gen.facts,
  Cert.Gather.Gen.facts, Cert.GatherIdeal.Gen.facts, Cert.GatherRefIdeal.Gen.facts,
  Cert.Swap.Gen.facts, Cert.SwapIdeal.Gen.facts, Cert.SwapRefIdeal.Gen.facts,
  Cert.Pack.Gen.facts, Cert.PackIdeal.Gen.facts, Cert.PackRefIdeal.Gen.facts,
  Cert.Route.Gen.facts, Cert.RouteIdeal.Gen.facts, Cert.RouteRefIdeal.Gen.facts, Cert.RouteProof.routable_facts,
  frame_ffn, frame_ffnIdeal, frame_ffnRefIdeal, frame_gather, frame_gatherIdeal, frame_gatherRefIdeal,
  frame_swap, frame_swapIdeal, frame_swapRefIdeal,
  frame_pack, frame_packIdeal, frame_packRefIdeal,
  frame_route, frame_routeIdeal, frame_routeIdeal_pre, frame_routeRefIdeal, frame_routeRefIdeal_pre,
  trivial, algebraic_ffn, trivial, algebraic_gather, trivial, algebraic_swap,
  trivial, algebraic_pack, trivial, algebraic_route⟩

end Cert.Proof

end
